-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v94) = v0 c
          ∧ r.2.mem ((c.tc : Thread Cert.Reference8Ideal.nD Cert.Reference8Ideal.τ).loc Cert.Reference8Ideal.main_v95) = v1 c
          ∧ r.2.mem ((c.tc : Thread Cert.Reference8Ideal.nD Cert.Reference8Ideal.τ).loc Cert.Reference8Ideal.main_v99) = v2 c
          ∧ r.2.mem ((c.tc : Thread Cert.Reference8Ideal.nD Cert.Reference8Ideal.τ).loc Cert.Reference8Ideal.main_v102) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v34) = v1 c
          ∧ r.2.mem ((c.tc : Thread Cert.Reference10Ideal.nD Cert.Reference10Ideal.τ).loc Cert.Reference10Ideal.main_v35) = v2 c
          ∧ r.2.mem ((c.tc : Thread Cert.Reference10Ideal.nD Cert.Reference10Ideal.τ).loc Cert.Reference10Ideal.main_v40) = v3 c
          ∧ r.2.mem ((c.tc : Thread Cert.Reference10Ideal.nD Cert.Reference10Ideal.τ).loc Cert.Reference10Ideal.main_v37) = v4 c
          ∧ r.2.mem ((c.tc : Thread Cert.Reference10Ideal.nD Cert.Reference10Ideal.τ).loc Cert.Reference10Ideal.main_v41) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v25) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v48) = v0 c
          ∧ r.2.mem ((c.tc : Thread Cert.Reference12Ideal.nD Cert.Reference12Ideal.τ).loc Cert.Reference12Ideal.main_v49) = v1 c
          ∧ r.2.mem ((c.tc : Thread Cert.Reference12Ideal.nD Cert.Reference12Ideal.τ).loc Cert.Reference12Ideal.main_v50) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_v51) = v2 c
          ∧ r.2.mem ((c.tc : Thread Cert.Reference13Ideal.nD Cert.Reference13Ideal.τ).loc Cert.Reference13Ideal.main_v52) = v3 c
          ∧ r.2.mem ((c.tc : Thread Cert.Reference13Ideal.nD Cert.Reference13Ideal.τ).loc Cert.Reference13Ideal.main_v55) = v4 c
          ∧ r.2.mem ((c.tc : Thread Cert.Reference13Ideal.nD Cert.Reference13Ideal.τ).loc Cert.Reference13Ideal.main_v58) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite3 : Cert.Pre_finite3.Facts) (hPre_finite8 : Cert.Pre_finite8.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S2x4352x1024 : Shape := ⟨3, ![2, 4352, 1024]⟩
abbrev S_ : Shape := ⟨0, ![]⟩

class Facts : Prop where
  bcast_S_S2x4352x1024 : S_.BroadcastsInDim S2x4352x1024 (![] : Fin 0 → Fin S2x4352x1024.rank)
  reducesTo_S2x4352x1024_S_d0_1_2 : S2x4352x1024.ReducesTo [0, 1, 2] S_
  h_S_ : 0 < S_.numel

variable [Facts]

def fn {F : FTy → Type} [FloatOps F] (main_arg0 : FVec F S2x4352x1024 .f32) : IVec S_ 1 :=
  let main_v0 : FVec F S2x4352x1024 .f32 := Host.absf main_arg0
  let main_cst : FVec F S_ .f32 := constant S_ .f32 0x7F800000#32
  let main_v1 : FVec F S2x4352x1024 .f32 := broadcastInDim S2x4352x1024 ![] bcast_S_S2x4352x1024 main_cst
  let main_v2 : IVec S2x4352x1024 1 := cmpf .olt main_v0 main_v1
  let main_c : IVec S_ 1 := constantI S_ 1 1#1
  let main_v3 : IVec S_ 1 := (fun x v => Host.reduce IntOp.andi x v reducesTo_S2x4352x1024_S_d0_1_2 h_S_) main_v2 main_c
  main_v3
-- ==== Pre_finite13.lean ====
abbrev S2x4352x1024 : Shape := ⟨3, ![2, 4352, 1024]⟩
abbrev S2x2x8x1024 : Shape := ⟨4, ![2, 2, 8, 1024]⟩
abbrev S4x256x256 : Shape := ⟨3, ![4, 256, 256]⟩
abbrev S1x1024 : Shape := ⟨2, ![1, 1024]⟩
abbrev S1024x1024 : Shape := ⟨2, ![1024, 1024]⟩
abbrev S_ : Shape := ⟨0, ![]⟩
abbrev S2x2x1x1024 : Shape := ⟨4, ![2, 2, 1, 1024]⟩
abbrev S2x2x1024 : Shape := ⟨3, ![2, 2, 1024]⟩

class Facts : Prop where
  bitsLt_bf16_f32 : FTy.bits .bf16 < FTy.bits .f32
  bcast_S_S2x4352x1024 : S_.BroadcastsInDim S2x4352x1024 (![] : Fin 0 → Fin S2x4352x1024.rank)
  reducesTo_S2x4352x1024_S_d0_1_2 : S2x4352x1024.ReducesTo [0, 1, 2] S_
  h_S_ : 0 < S_.numel
  slices_S2x2x8x1024_S2x2x1x1024_0_0_2_0 : S2x2x8x1024.Slices ![0, 0, 2, 0] S2x2x1x1024
  shapeCasts_S2x2x1x1024_S2x2x1024 : S2x2x1x1024.ShapeCasts S2x2x1024
  bcast_S_S2x2x1024 : S_.BroadcastsInDim S2x2x1024 (![] : Fin 0 → Fin S2x2x1024.rank)
  reducesTo_S2x2x1024_S_d0_1_2 : S2x2x1024.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1x1024 .f32) (main_v1 : FVec F S4x256x256 .f32) (main_v2 : FVec F S1024x1024 .f32) (main_v13 : IVec S_ 1) (main_v17 : IVec S_ 1) : IVec S_ 1 :=
  let main_v18 : IVec S_ 1 := andi main_v13 main_v17
  let main_v19 : FVec F S4x256x256 .f32 := Host.absf main_v1
  let main_cst_4 : FVec F S_ .f32 := constant S_ .f32 0x7F800000#32
  let main_v20 : FVec F S4x256x256 .f32 := broadcastInDim S4x256x256 ![] bcast_S_S4x256x256 main_cst_4
  let main_v21 : IVec S4x256x256 1 := cmpf .olt main_v19 main_v20
  let main_c_5 : IVec S_ 1 := constantI S_ 1 1#1
  let main_v22 : IVec S_ 1 := (fun x v => Host.reduce IntOp.andi x v reducesTo_S4x256x256_S_d0_1_2 h_S_) main_v21 main_c_5
  let main_v23 : IVec S_ 1 := andi main_v18 main_v22
  let main_v24 : FVec F S1x1024 .f32 := Host.absf main_arg5
  let main_cst_6 : FVec F S_ .f32 := constant S_ .f32 0x7F800000#32
  let main_v25 : FVec F S1x1024 .f32 := broadcastInDim S1x1024 ![] bcast_S_S1x1024 main_cst_6
  let main_v26 : IVec S1x1024 1 := cmpf .olt main_v24 main_v25
  let main_c_7 : IVec S_ 1 := constantI S_ 1 1#1
  let main_v27 : IVec S_ 1 := (fun x v => Host.reduce IntOp.andi x v reducesTo_S1x1024_S_d0_1 h_S_) main_v26 main_c_7
  let main_v28 : IVec S_ 1 := andi main_v23 main_v27
  let main_v29 : FVec F S1024x1024 .f32 := Host.absf main_v2
  let main_cst_8 : FVec F S_ .f32 := constant S_ .f32 0x7F800000#32
  let main_v30 : FVec F S1024x1024 .f32 := broadcastInDim S1024x1024 ![] bcast_S_S1024x1024 main_cst_8
  let main_v31 : IVec S1024x1024 1 := cmpf .olt main_v29 main_v30
  let main_c_9 : IVec S_ 1 := constantI S_ 1 1#1
  let main_v32 : IVec S_ 1 := (fun x v => Host.reduce IntOp.andi x v reducesTo_S1024x1024_S_d0_1 h_S_) main_v31 main_c_9
  let main_v33 : IVec S_ 1 := andi main_v28 main_v32
  main_v33

def fn {F : FTy → Type} [FloatOps F] (main_arg0 : FVec F S2x4352x1024 .f32) (main_arg1 : FVec F S2x2x8x1024 .f32) (main_arg2 : FVec F S2x4352x1024 .bf16) (main_arg3 : FVec F S2x4352x1024 .bf16) (main_arg4 : FVec F S4x256x256 .bf16) (main_arg5 : FVec F S1x1024 .f32) (main_arg6 : FVec F S1024x1024 .bf16) (main_arg7 : FVec F S2x4352x1024 .bf16) : IVec S_ 1 :=
  let main_v0 : FVec F S2x4352x1024 .f32 := (extf .f32 · bitsLt_bf16_f32) main_arg2
  let main_v1 : FVec F S4x256x256 .f32 := (extf .f32 · bitsLt_bf16_f32) main_arg4
  let main_v2 : FVec F S1024x1024 .f32 := (extf .f32 · bitsLt_bf16_f32) main_arg6
  let main_v3 : FVec F S2x4352x1024 .f32 := Host.absf main_arg0
  let main_cst : FVec F S_ .f32 := constant S_ .f32 0x7F800000#32
  let main_v4 : FVec F S2x4352x1024 .f32 := broadcastInDim S2x4352x1024 ![] bcast_S_S2x4352x1024 main_cst
  let main_v5 : IVec S2x4352x1024 1 := cmpf .olt main_v3 main_v4
  let main_c : IVec S_ 1 := constantI S_ 1 1#1
  let main_v6 : IVec S_ 1 := (fun x v => Host.reduce IntOp.andi x v reducesTo_S2x4352x1024_S_d0_1_2 h_S_) main_v5 main_c
  let main_v7 : FVec F S2x2x1x1024 .f32 := (extractStridedSlice S2x2x1x1024 ![0, 0, 2, 0] · slices_S2x2x8x1024_S2x2x1x1024_0_0_2_0) main_arg1
  let main_v8 : FVec F S2x2x1024 .f32 := shapeCast S2x2x1024 main_v7 shapeCasts_S2x2x1x1024_S2x2x1024
  let main_v9 : FVec F S2x2x1024 .f32 := Host.absf main_v8
  let main_cst_0 : FVec F S_ .f32 := constant S_ .f32 0x7F800000#32
  let main_v10 : FVec F S2x2x1024 .f32 := broadcastInDim S2x2x1024 ![] bcast_S_S2x2x1024 main_cst_0
  let main_v11 : IVec S2x2x1024 1 := cmpf .olt main_v9 main_v10
  let main_c_1 : IVec S_ 1 := constantI S_ 1 1#1
  let main_v12 : IVec S_ 1 := (fun x v => Host.reduce IntOp.andi x v reducesTo_S2x2x1024_S_d0_1_2 h_S_) main_v11 main_c_1
  let main_v13 : IVec S_ 1 := andi main_v6 main_v12
  let main_v14 : FVec F S2x4352x1024 .f32 := Host.absf main_v0
  let main_cst_2 : FVec F S_ .f32 := constant S_ .f32 0x7F800000#32
  let main_v15 : FVec F S2x4352x1024 .f32 := broadcastInDim S2x4352x1024 ![] bcast_S_S2x4352x1024 main_cst_2
  let main_v16 : IVec S2x4352x1024 1 := cmpf .olt main_v14 main_v15
  let main_c_3 : IVec S_ 1 := constantI S_ 1 1#1
  let main_v17 : IVec S_ 1 := (fun x v => Host.reduce IntOp.andi x v reducesTo_S2x4352x1024_S_d0_1_2 h_S_) main_v16 main_c_3
  fn_part1 (F := F) main_arg5 main_v1 main_v2 main_v13 main_v17
-- ==== Pre_finite3.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2048 : Shape := ⟨2, ![1024, 2048]⟩
abbrev S_ : Shape := ⟨0, ![]⟩
abbrev S2x2x1x1024 : Shape := ⟨4, ![2, 2, 1, 1024]⟩
abbrev S2x2x1024 : Shape := ⟨3, ![2, 2, 1024]⟩

class Facts : Prop where
  bitsLt_bf16_f32 : FTy.bits .bf16 < FTy.bits .f32
  bcast_S_S2x4352x1024 : S_.BroadcastsInDim S2x4352x1024 (![] : Fin 0 → Fin S2x4352x1024.rank)
  reducesTo_S2x4352x1024_S_d0_1_2 : S2x4352x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  slices_S2x2x8x1024_S2x2x1x1024_0_0_1_0 : S2x2x8x1024.Slices ![0, 0, 1, 0] S2x2x1x1024
  shapeCasts_S2x2x1x1024_S2x2x1024 : S2x2x1x1024.ShapeCasts S2x2x1024
  bcast_S_S2x2x1024 : S_.BroadcastsInDim S2x2x1024 (![] : Fin 0 → Fin S2x2x1024.rank)
  reducesTo_S2x2x1024_S_d0_1_2 : S2x2x1024.ReducesTo [0, 1, 2] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg5 : FVec F S2x2x8x1024 .f32) (main_v2 : FVec F S1024x2048 .f32) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S2x2x1x1024 .f32 := (extractStridedSlice S2x2x1x1024 ![0, 0, 1, 0] · slices_S2x2x8x1024_S2x2x1x1024_0_0_1_0) main_arg5
  let main_v23 : FVec F S2x2x1024 .f32 := shapeCast S2x2x1024 main_v22 shapeCasts_S2x2x1x1024_S2x2x1024
  let main_v24 : FVec F S2x2x1024 .f32 := Host.absf main_v23
  let main_cst_6 : FVec F S_ .f32 := constant S_ .f32 0x7F800000#32
  let main_v25 : FVec F S2x2x1024 .f32 := broadcastInDim S2x2x1024 ![] bcast_S_S2x2x1024 main_cst_6
  let main_v26 : IVec S2x2x1024 1 := cmpf .olt main_v24 main_v25
  let main_c_7 : IVec S_ 1 := constantI S_ 1 1#1
  let main_v27 : IVec S_ 1 := (fun x v => Host.reduce IntOp.andi x v reducesTo_S2x2x1024_S_d0_1_2 h_S_) main_v26 main_c_7
  let main_v28 : IVec S_ 1 := andi main_v21 main_v27
  let main_v29 : FVec F S1024x2048 .f32 := Host.absf main_v2
  let main_cst_8 : FVec F S_ .f32 := constant S_ .f32 0x7F800000#32
  let main_v30 : FVec F S1024x2048 .f32 := broadcastInDim S1024x2048 ![] bcast_S_S1024x2048 main_cst_8
  let main_v31 : IVec S1024x2048 1 := cmpf .olt main_v29 main_v30
  let main_c_9 : IVec S_ 1 := constantI S_ 1 1#1
  let main_v32 : IVec S_ 1 := (fun x v => Host.reduce IntOp.andi x v reducesTo_S1024x2048_S_d0_1 h_S_) main_v31 main_c_9
  let main_v33 : IVec S_ 1 := andi main_v28 main_v32
  main_v33

def fn {F : FTy → Type} [FloatOps F] (main_arg0 : FVec F S2x4352x1024 .bf16) (main_arg1 : FVec F S2x4352x1024 .bf16) (main_arg2 : FVec F S2x4352x1024 .f32) (main_arg3 : FVec F S2x4352x1024 .f32) (main_arg4 : FVec F S1x1024 .f32) (main_arg5 : FVec F S2x2x8x1024 .f32) (main_arg6 : FVec F S1024x2048 .bf16) : IVec S_ 1 :=
  let main_v0 : FVec F S2x4352x1024 .f32 := (extf .f32 · bitsLt_bf16_f32) main_arg0
  let main_v1 : FVec F S2x4352x1024 .f32 := (extf .f32 · bitsLt_bf16_f32) main_arg1
  let main_v2 : FVec F S1024x2048 .f32 := (extf .f32 · bitsLt_bf16_f32) main_arg6
  let main_v3 : FVec F S2x4352x1024 .f32 := Host.absf main_v0
  let main_cst : FVec F S_ .f32 := constant S_ .f32 0x7F800000#32
  let main_v4 : FVec F S2x4352x1024 .f32 := broadcastInDim S2x4352x1024 ![] bcast_S_S2x4352x1024 main_cst
  let main_v5 : IVec S2x4352x1024 1 := cmpf .olt main_v3 main_v4
  let main_c : IVec S_ 1 := constantI S_ 1 1#1
  let main_v6 : IVec S_ 1 := (fun x v => Host.reduce IntOp.andi x v reducesTo_S2x4352x1024_S_d0_1_2 h_S_) main_v5 main_c
  let main_v7 : FVec F S2x4352x1024 .f32 := Host.absf main_v1
  let main_cst_0 : FVec F S_ .f32 := constant S_ .f32 0x7F800000#32
  let main_v8 : FVec F S2x4352x1024 .f32 := broadcastInDim S2x4352x1024 ![] bcast_S_S2x4352x1024 main_cst_0
  let main_v9 : IVec S2x4352x1024 1 := cmpf .olt main_v7 main_v8
  let main_c_1 : IVec S_ 1 := constantI S_ 1 1#1
  let main_v10 : IVec S_ 1 := (fun x v => Host.reduce IntOp.andi x v reducesTo_S2x4352x1024_S_d0_1_2 h_S_) main_v9 main_c_1
  let main_v11 : IVec S_ 1 := andi main_v6 main_v10
  let main_v12 : FVec F S2x4352x1024 .f32 := Host.absf main_arg3
  let main_cst_2 : FVec F S_ .f32 := constant S_ .f32 0x7F800000#32
  let main_v13 : FVec F S2x4352x1024 .f32 := broadcastInDim S2x4352x1024 ![] bcast_S_S2x4352x1024 main_cst_2
  let main_v14 : IVec S2x4352x1024 1 := cmpf .olt main_v12 main_v13
  let main_c_3 : IVec S_ 1 := constantI S_ 1 1#1
  let main_v15 : IVec S_ 1 := (fun x v => Host.reduce IntOp.andi x v reducesTo_S2x4352x1024_S_d0_1_2 h_S_) main_v14 main_c_3
  let main_v16 : IVec S_ 1 := andi main_v11 main_v15
  let main_v17 : FVec F S1x1024 .f32 := Host.absf main_arg4
  fn_part1 (F := F) main_arg5 main_v2 main_v16 main_v17
-- ==== Pre_finite8.lean ====
abbrev S2x4352x512 : Shape := ⟨3, ![2, 4352, 512]⟩
abbrev S2x4352x256 : Shape := ⟨3, ![2, 4352, 256]⟩
abbrev S1x512 : Shape := ⟨2, ![1, 512]⟩
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2304 : Shape := ⟨2, ![1024, 2304]⟩
abbrev S_ : Shape := ⟨0, ![]⟩
abbrev S2x2x1x1024 : Shape := ⟨4, ![2, 2, 1, 1024]⟩
abbrev S2x2x1024 : Shape := ⟨3, ![2, 2, 1024]⟩

class Facts : Prop where
  bitsLt_bf16_f32 : FTy.bits .bf16 < FTy.bits .f32
  bcast_S_S2x4352x512 : S_.BroadcastsInDim S2x4352x512 (![] : Fin 0 → Fin S2x4352x512.rank)
  reducesTo_S2x4352x512_S_d0_1_2 : S2x4352x512.ReducesTo [0, 1, 2] S_
  h_S_ : 0 < S_.numel
  bcast_S_S2x4352x256 : S_.BroadcastsInDim S2x4352x256 (![] : Fin 0 → Fin S2x4352x256.rank)
  reducesTo_S2x4352x256_S_d0_1_2 : S2x4352x256.ReducesTo [0, 1, 2] S_
  bcast_S_S1x512 : S_.BroadcastsInDim S1x512 (![] : Fin 0 → Fin S1x512.rank)
  reducesTo_S1x512_S_d0_1 : S1x512.ReducesTo [0, 1] S_
  bcast_S_S2x4352x1024 : S_.BroadcastsInDim S2x4352x1024 (![] : Fin 0 → Fin S2x4352x1024.rank)
  reducesTo_S2x4352x1024_S_d0_1_2 : S2x4352x1024.ReducesTo [0, 1, 2] S_
  bcast_S_S1x1024 : S_.BroadcastsInDim S1x1024 (![] : Fin 0 → Fin S1x1024.rank)
  reducesTo_S1x1024_S_d0_1 : S1x1024.ReducesTo [0, 1] S_
  slices_S2x2x8x1024_S2x2x1x1024_0_0_1_0 : S2x2x8x1024.Slices ![0, 0, 1, 0] S2x2x1x1024
  shapeCasts_S2x2x1x1024_S2x2x1024 : S2x2x1x1024.ShapeCasts S2x2x1024
  bcast_S_S2x2x1024 : S_.BroadcastsInDim S2x2x1024 (![] : Fin 0 → Fin S2x2x1024.rank)
  reducesTo_S2x2x1024_S_d0_1_2 : S2x2x1024.ReducesTo [0, 1, 2] S_
  bcast_S_S1024x2304 : S_.BroadcastsInDim S1024x2304 (![] : Fin 0 → Fin S1024x2304.rank)
  reducesTo_S1024x2304_S_d0_1 : S1024x2304.ReducesTo [0, 1] S_

variable [Facts]

def fn_part3 {F : FTy → Type} [FloatOps F] (main_v3 : FVec F S1024x2304 .f32) (main_v47 : IVec S_ 1) (main_v52 : IVec S2x2x1024 1) : IVec S_ 1 :=
  let main_c_17 : IVec S_ 1 := constantI S_ 1 1#1
  let main_v53 : IVec S_ 1 := (fun x v => Host.reduce IntOp.andi x v reducesTo_S2x2x1024_S_d0_1_2 h_S_) main_v52 main_c_17
  let main_v54 : IVec S_ 1 := andi main_v47 main_v53
  let main_v55 : FVec F S1024x2304 .f32 := Host.absf main_v3
  let main_cst_18 : FVec F S_ .f32 := constant S_ .f32 0x7F800000#32
  let main_v56 : FVec F S1024x2304 .f32 := broadcastInDim S1024x2304 ![] bcast_S_S1024x2304 main_cst_18
  let main_v57 : IVec S1024x2304 1 := cmpf .olt main_v55 main_v56
  let main_c_19 : IVec S_ 1 := constantI S_ 1 1#1
  let main_v58 : IVec S_ 1 := (fun x v => Host.reduce IntOp.andi x v reducesTo_S1024x2304_S_d0_1 h_S_) main_v57 main_c_19
  let main_v59 : IVec S_ 1 := andi main_v54 main_v58
  main_v59

def fn_part2 {F : FTy → Type} [FloatOps F] (main_arg8 : FVec F S2x4352x1024 .f32) (main_arg9 : FVec F S1x1024 .f32) (main_arg10 : FVec F S2x2x8x1024 .f32) (main_v3 : FVec F S1024x2304 .f32) (main_v32 : IVec S_ 1) (main_v33 : FVec F S1x512 .f32) (main_v34 : FVec F S1x512 .f32) : IVec S_ 1 :=
  let main_v35 : IVec S1x512 1 := cmpf .olt main_v33 main_v34
  let main_c_11 : IVec S_ 1 := constantI S_ 1 1#1
  let main_v36 : IVec S_ 1 := (fun x v => Host.reduce IntOp.andi x v reducesTo_S1x512_S_d0_1 h_S_) main_v35 main_c_11
  let main_v37 : IVec S_ 1 := andi main_v32 main_v36
  let main_v38 : FVec F S2x4352x1024 .f32 := Host.absf main_arg8
  let main_cst_12 : FVec F S_ .f32 := constant S_ .f32 0x7F800000#32
  let main_v39 : FVec F S2x4352x1024 .f32 := broadcastInDim S2x4352x1024 ![] bcast_S_S2x4352x1024 main_cst_12
  let main_v40 : IVec S2x4352x1024 1 := cmpf .olt main_v38 main_v39
  let main_c_13 : IVec S_ 1 := constantI S_ 1 1#1
  let main_v41 : IVec S_ 1 := (fun x v => Host.reduce IntOp.andi x v reducesTo_S2x4352x1024_S_d0_1_2 h_S_) main_v40 main_c_13
  let main_v42 : IVec S_ 1 := andi main_v37 main_v41
  let main_v43 : FVec F S1x1024 .f32 := Host.absf main_arg9
  let main_cst_14 : FVec F S_ .f32 := constant S_ .f32 0x7F800000#32
  let main_v44 : FVec F S1x1024 .f32 := broadcastInDim S1x1024 ![] bcast_S_S1x1024 main_cst_14
  let main_v45 : IVec S1x1024 1 := cmpf .olt main_v43 main_v44
  let main_c_15 : IVec S_ 1 := constantI S_ 1 1#1
  let main_v46 : IVec S_ 1 := (fun x v => Host.reduce IntOp.andi x v reducesTo_S1x1024_S_d0_1 h_S_) main_v45 main_c_15
  let main_v47 : IVec S_ 1 := andi main_v42 main_v46
  let main_v48 : FVec F S2x2x1x1024 .f32 := (extractStridedSlice S2x2x1x1024 ![0, 0, 1, 0] · slices_S2x2x8x1024_S2x2x1x1024_0_0_1_0) main_arg10
  let main_v49 : FVec F S2x2x1024 .f32 := shapeCast S2x2x1024 main_v48 shapeCasts_S2x2x1x1024_S2x2x1024
  let main_v50 : FVec F S2x2x1024 .f32 := Host.absf main_v49
  let main_cst_16 : FVec F S_ .f32 := constant S_ .f32 0x7F800000#32
  let main_v51 : FVec F S2x2x1024 .f32 := broadcastInDim S2x2x1024 ![] bcast_S_S2x2x1024 main_cst_16
  let main_v52 : IVec S2x2x1024 1 := cmpf .olt main_v50 main_v51
  fn_part3 (F := F) main_v3 main_v47 main_v52

def fn_part1 {F : FTy → Type} [FloatOps F] (main_arg3 : FVec F S2x4352x512 .f32) (main_arg5 : FVec F S2x4352x512 .f32) (main_arg6 : FVec F S1x512 .f32) (main_arg8 : FVec F S2x4352x1024 .f32) (main_arg9 : FVec F S1x1024 .f32) (main_arg10 : FVec F S2x2x8x1024 .f32) (main_v2 : FVec F S2x4352x512 .f32) (main_v3 : FVec F S1024x2304 .f32) (main_v17 : IVec S_ 1) : IVec S_ 1 :=
  let main_v18 : FVec F S2x4352x512 .f32 := Host.absf main_arg3
  let main_cst_4 : FVec F S_ .f32 := constant S_ .f32 0x7F800000#32
  let main_v19 : FVec F S2x4352x512 .f32 := broadcastInDim S2x4352x512 ![] bcast_S_S2x4352x512 main_cst_4
  let main_v20 : IVec S2x4352x512 1 := cmpf .olt main_v18 main_v19
  let main_c_5 : IVec S_ 1 := constantI S_ 1 1#1
  let main_v21 : IVec S_ 1 := (fun x v => Host.reduce IntOp.andi x v reducesTo_S2x4352x512_S_d0_1_2 h_S_) main_v20 main_c_5
  let main_v22 : IVec S_ 1 := andi main_v17 main_v21
  let main_v23 : FVec F S2x4352x512 .f32 := Host.absf main_v2
  let main_cst_6 : FVec F S_ .f32 := constant S_ .f32 0x7F800000#32
  let main_v24 : FVec F S2x4352x512 .f32 := broadcastInDim S2x4352x512 ![] bcast_S_S2x4352x512 main_cst_6
  let main_v25 : IVec S2x4352x512 1 := cmpf .olt main_v23 main_v24
  let main_c_7 : IVec S_ 1 := constantI S_ 1 1#1
  let main_v26 : IVec S_ 1 := (fun x v => Host.reduce IntOp.andi x v reducesTo_S2x4352x512_S_d0_1_2 h_S_) main_v25 main_c_7
  let main_v27 : IVec S_ 1 := andi main_v22 main_v26
  let main_v28 : FVec F S2x4352x512 .f32 := Host.absf main_arg5
  let main_cst_8 : FVec F S_ .f32 := constant S_ .f32 0x7F800000#32
  let main_v29 : FVec F S2x4352x512 .f32 := broadcastInDim S2x4352x512 ![] bcast_S_S2x4352x512 main_cst_8
  let main_v30 : IVec S2x4352x512 1 := cmpf .olt main_v28 main_v29
  let main_c_9 : IVec S_ 1 := constantI S_ 1 1#1
  let main_v31 : IVec S_ 1 := (fun x v => Host.reduce IntOp.andi x v reducesTo_S2x4352x512_S_d0_1_2 h_S_) main_v30 main_c_9
  let main_v32 : IVec S_ 1 := andi main_v27 main_v31
  let main_v33 : FVec F S1x512 .f32 := Host.absf main_arg6
  let main_cst_10 : FVec F S_ .f32 := constant S_ .f32 0x7F800000#32
  let main_v34 : FVec F S1x512 .f32 := broadcastInDim S1x512 ![] bcast_S_S1x512 main_cst_10
  fn_part2 (F := F) main_arg8 main_arg9 main_arg10 main_v3 main_v32 main_v33 main_v34

def fn {F : FTy → Type} [FloatOps F] (main_arg0 : FVec F S2x4352x512 .bf16) (main_arg1 : FVec F S2x4352x256 .f32) (main_arg2 : FVec F S2x4352x512 .bf16) (main_arg3 : FVec F S2x4352x512 .f32) (main_arg4 : FVec F S2x4352x512 .bf16) (main_arg5 : FVec F S2x4352x512 .f32) (main_arg6 : FVec F S1x512 .f32) (main_arg7 : FVec F S2x4352x1024 .f32) (main_arg8 : FVec F S2x4352x1024 .f32) (main_arg9 : FVec F S1x1024 .f32) (main_arg10 : FVec F S2x2x8x1024 .f32) (main_arg11 : FVec F S1024x2304 .bf16) : IVec S_ 1 :=
  let main_v0 : FVec F S2x4352x512 .f32 := (extf .f32 · bitsLt_bf16_f32) main_arg0
  let main_v1 : FVec F S2x4352x512 .f32 := (extf .f32 · bitsLt_bf16_f32) main_arg2
  let main_v2 : FVec F S2x4352x512 .f32 := (extf .f32 · bitsLt_bf16_f32) main_arg4
  let main_v3 : FVec F S1024x2304 .f32 := (extf .f32 · bitsLt_bf16_f32) main_arg11
  let main_v4 : FVec F S2x4352x512 .f32 := Host.absf main_v0
  let main_cst : FVec F S_ .f32 := constant S_ .f32 0x7F800000#32
  let main_v5 : FVec F S2x4352x512 .f32 := broadcastInDim S2x4352x512 ![] bcast_S_S2x4352x512 main_cst
  let main_v6 : IVec S2x4352x512 1 := cmpf .olt main_v4 main_v5
  let main_c : IVec S_ 1 := constantI S_ 1 1#1
  let main_v7 : IVec S_ 1 := (fun x v => Host.reduce IntOp.andi x v reducesTo_S2x4352x512_S_d0_1_2 h_S_) main_v6 main_c
  let main_v8 : FVec F S2x4352x256 .f32 := Host.absf main_arg1
  let main_cst_0 : FVec F S_ .f32 := constant S_ .f32 0x7F800000#32
  let main_v9 : FVec F S2x4352x256 .f32 := broadcastInDim S2x4352x256 ![] bcast_S_S2x4352x256 main_cst_0
  let main_v10 : IVec S2x4352x256 1 := cmpf .olt main_v8 main_v9
  let main_c_1 : IVec S_ 1 := constantI S_ 1 1#1
  let main_v11 : IVec S_ 1 := (fun x v => Host.reduce IntOp.andi x v reducesTo_S2x4352x256_S_d0_1_2 h_S_) main_v10 main_c_1
  let main_v12 : IVec S_ 1 := andi main_v7 main_v11
  let main_v13 : FVec F S2x4352x512 .f32 := Host.absf main_v1
  let main_cst_2 : FVec F S_ .f32 := constant S_ .f32 0x7F800000#32
  let main_v14 : FVec F S2x4352x512 .f32 := broadcastInDim S2x4352x512 ![] bcast_S_S2x4352x512 main_cst_2
  let main_v15 : IVec S2x4352x512 1 := cmpf .olt main_v13 main_v14
  let main_c_3 : IVec S_ 1 := constantI S_ 1 1#1
  let main_v16 : IVec S_ 1 := (fun x v => Host.reduce IntOp.andi x v reducesTo_S2x4352x512_S_d0_1_2 h_S_) main_v15 main_c_3
  let main_v17 : IVec S_ 1 := andi main_v12 main_v16
  fn_part1 (F := F) main_arg3 main_arg5 main_arg6 main_arg8 main_arg9 main_arg10 main_v2 main_v3 main_v17
-- ==== Kernel.lean ====
abbrev S2x4352x1024 : Shape := ⟨3, ![2, 4352, 1024]⟩
abbrev S1x8x1024 : Shape := ⟨3, ![1, 8, 1024]⟩
abbrev S1x256x1024 : Shape := ⟨3, ![1, 256, 1024]⟩
abbrev S256x1024 : Shape := ⟨2, ![256, 1024]⟩
abbrev S8x1024 : Shape := ⟨2, ![8, 1024]⟩
abbrev S272x1024 : Shape := ⟨2, ![272, 1024]⟩
abbrev S256x1 : Shape := ⟨2, ![256, 1]⟩
abbrev S1x272 : Shape := ⟨2, ![1, 272]⟩
abbrev S272x1 : Shape := ⟨2, ![272, 1]⟩
abbrev S256x272 : Shape := ⟨2, ![256, 272]⟩
abbrev S272x256 : Shape := ⟨2, ![272, 256]⟩
abbrev S256x256 : Shape := ⟨2, ![256, 256]⟩

abbrev nBuf : Space → Nat
  | .hbm => 2
  | .vmem => 8
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .bf16⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x256x1024, .bf16⟩
  | .local _ .vmem, ⟨7, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4352x1024 : Shape := ⟨3, ![2, 4352, 1024]⟩
abbrev S_ : Shape := ⟨0, ![]⟩
abbrev S2x256x1024 : Shape := ⟨3, ![2, 256, 1024]⟩
abbrev S2x1x1024 : Shape := ⟨3, ![2, 1, 1024]⟩
abbrev S2x257x1024 : Shape := ⟨3, ![2, 257, 1024]⟩
abbrev S256 : Shape := ⟨1, ![256]⟩
abbrev S1x256x1 : Shape := ⟨3, ![1, 256, 1]⟩
abbrev S2x257x256 : Shape := ⟨3, ![2, 257, 256]⟩
abbrev S256x1 : Shape := ⟨2, ![256, 1]⟩
abbrev S2x256x256 : Shape := ⟨3, ![2, 256, 256]⟩
abbrev S2x4096x1024 : Shape := ⟨3, ![2, 4096, 1024]⟩
abbrev S2x4097x1024 : Shape := ⟨3, ![2, 4097, 1024]⟩
abbrev S4096 : Shape := ⟨1, ![4096]⟩
abbrev S1x4096x1 : Shape := ⟨3, ![1, 4096, 1]⟩
abbrev S2x4097x256 : Shape := ⟨3, ![2, 4097, 256]⟩
abbrev S4096x1 : Shape := ⟨2, ![4096, 1]⟩
abbrev S2x4096x256 : Shape := ⟨3, ![2, 4096, 256]⟩

abbrev nBuf : Space → Nat
  | .hbm => 628
  | .vmem => 0
  | .smem => 0
  | _ => 0

abbrev hbmTy0_0 (i : Nat) : BufTy := match i % 128 with
  | 0 => ⟨S2x4352x1024, .f32⟩
  | 1 => ⟨S_, .f32⟩
  | 2 => ⟨S2x4352x1024, .f32⟩
  | 3 => ⟨S2x256x1024, .f32⟩
  | 4 => ⟨S2x1x1024, .f32⟩
  | 5 => ⟨S_, .f32⟩
  | 6 => ⟨S2x1x1024, .f32⟩
  | 7 => ⟨S_, .f32⟩
  | 8 => ⟨S_, .f32⟩
  | 9 => ⟨S2x256x1024, .f32⟩
  | 10 => ⟨S2x257x1024, .f32⟩
  | 11 => ⟨S_, .f32⟩
  | 12 => ⟨S2x1x1024, .f32⟩
  | 13 => ⟨S256, .i32⟩
  | 14 => ⟨S_, .i32⟩
  | 15 => ⟨S256, .i32⟩
  | 16 => ⟨S256, .i32⟩
  | 17 => ⟨S_, .i32⟩
  | 18 => ⟨S_, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S_, .i32⟩
  | 32 => ⟨S_, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S256, .i32⟩
  | 40 => ⟨S256, .f32⟩
  | 41 => ⟨S_, .f32⟩
  | 42 => ⟨S256, .f32⟩
  | 43 => ⟨S256, .f32⟩
  | 44 => ⟨S1x256x1, .f32⟩
  | 45 => ⟨S2x257x256, .f32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S2x256x256, .f32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S2x256x256, .f32⟩
  | 64 => ⟨S2x256x256, .f32⟩
  | 65 => ⟨S2x256x256, .f32⟩
  | 66 => ⟨S2x256x256, .f32⟩
  | 67 => ⟨S2x256x256, .f32⟩
  | 68 => ⟨S2x256x256, .f32⟩
  | 69 => ⟨S_, .i32⟩
  | 70 => ⟨S256, .i32⟩
  | 71 => ⟨S256, .i32⟩
  | 72 => ⟨S_, .i32⟩
  | 73 => ⟨S_, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S_, .i32⟩
  | 81 => ⟨S256, .i32⟩
  | 82 => ⟨S256, .i32⟩
  | 83 => ⟨S_, .i32⟩
  | 84 => ⟨S256, .i32⟩
  | 85 => ⟨S256, .i32⟩
  | 86 => ⟨S_, .i32⟩
  | 87 => ⟨S_, .i32⟩
  | 88 => ⟨S_, .i32⟩
  | 89 => ⟨S256, .i32⟩
  | 90 => ⟨S256, .i32⟩
  | 91 => ⟨S_, .i32⟩
  | 92 => ⟨S256, .i32⟩
  | 93 => ⟨S256, .i32⟩
  | 94 => ⟨S256, .i32⟩
  | 95 => ⟨S256, .f32⟩
  | 96 => ⟨S_, .f32⟩
  | 97 => ⟨S256, .f32⟩
  | 98 => ⟨S256, .f32⟩
  | 99 => ⟨S1x256x1, .f32⟩
  | 100 => ⟨S2x257x256, .f32⟩
  | 101 => ⟨S_, .i32⟩
  | 102 => ⟨S256, .i32⟩
  | 103 => ⟨S256, .i1⟩
  | 104 => ⟨S_, .i32⟩
  | 105 => ⟨S256, .i32⟩
  | 106 => ⟨S256, .i32⟩
  | 107 => ⟨S256, .i32⟩
  | 108 => ⟨S256x1, .i32⟩
  | 109 => ⟨S2x256x256, .f32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S2x256x256, .f32⟩
  | 119 => ⟨S2x256x256, .f32⟩
  | 120 => ⟨S2x256x256, .f32⟩
  | 121 => ⟨S2x256x256, .f32⟩
  | 122 => ⟨S2x256x256, .f32⟩
  | 123 => ⟨S2x256x256, .f32⟩
  | 124 => ⟨S_, .i32⟩
  | 125 => ⟨S256, .i32⟩
  | 126 => ⟨S256, .i32⟩
  | 127 => ⟨S_, .i32⟩
  | _ => ⟨S2x4352x1024, .f32⟩

abbrev hbmTy0_1 (i : Nat) : BufTy := match i % 128 with
  | 0 => ⟨S_, .i32⟩
  | 1 => ⟨S_, .i32⟩
  | 2 => ⟨S256, .i32⟩
  | 3 => ⟨S256, .i32⟩
  | 4 => ⟨S_, .i32⟩
  | 5 => ⟨S256, .i32⟩
  | 6 => ⟨S256, .i32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S_, .i32⟩
  | 14 => ⟨S_, .i32⟩
  | 15 => ⟨S_, .i32⟩
  | 16 => ⟨S256, .i32⟩
  | 17 => ⟨S256, .i32⟩
  | 18 => ⟨S_, .i32⟩
  | 19 => ⟨S256, .i32⟩
  | 20 => ⟨S256, .i32⟩
  | 21 => ⟨S256, .i32⟩
  | 22 => ⟨S256, .f32⟩
  | 23 => ⟨S_, .f32⟩
  | 24 => ⟨S256, .f32⟩
  | 25 => ⟨S256, .f32⟩
  | 26 => ⟨S1x256x1, .f32⟩
  | 27 => ⟨S2x257x256, .f32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S2x256x256, .f32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S2x256x256, .f32⟩
  | 46 => ⟨S2x256x256, .f32⟩
  | 47 => ⟨S2x256x256, .f32⟩
  | 48 => ⟨S2x256x256, .f32⟩
  | 49 => ⟨S2x256x256, .f32⟩
  | 50 => ⟨S2x256x256, .f32⟩
  | 51 => ⟨S_, .i32⟩
  | 52 => ⟨S256, .i32⟩
  | 53 => ⟨S256, .i32⟩
  | 54 => ⟨S_, .i32⟩
  | 55 => ⟨S_, .i32⟩
  | 56 => ⟨S_, .i32⟩
  | 57 => ⟨S256, .i32⟩
  | 58 => ⟨S256, .i32⟩
  | 59 => ⟨S_, .i32⟩
  | 60 => ⟨S256, .i32⟩
  | 61 => ⟨S256, .i32⟩
  | 62 => ⟨S_, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S_, .i32⟩
  | 70 => ⟨S_, .i32⟩
  | 71 => ⟨S256, .i32⟩
  | 72 => ⟨S256, .i32⟩
  | 73 => ⟨S_, .i32⟩
  | 74 => ⟨S256, .i32⟩
  | 75 => ⟨S256, .i32⟩
  | 76 => ⟨S256, .i32⟩
  | 77 => ⟨S256, .f32⟩
  | 78 => ⟨S_, .f32⟩
  | 79 => ⟨S256, .f32⟩
  | 80 => ⟨S256, .f32⟩
  | 81 => ⟨S1x256x1, .f32⟩
  | 82 => ⟨S2x257x256, .f32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S2x256x256, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S2x256x256, .f32⟩
  | 101 => ⟨S2x256x256, .f32⟩
  | 102 => ⟨S2x256x256, .f32⟩
  | 103 => ⟨S2x256x256, .f32⟩
  | 104 => ⟨S2x256x256, .f32⟩
  | 105 => ⟨S2x256x256, .f32⟩
  | 106 => ⟨S2x256x1024, .f32⟩
  | 107 => ⟨S2x4096x1024, .f32⟩
  | 108 => ⟨S2x1x1024, .f32⟩
  | 109 => ⟨S_, .f32⟩
  | 110 => ⟨S2x1x1024, .f32⟩
  | 111 => ⟨S_, .f32⟩
  | 112 => ⟨S_, .f32⟩
  | 113 => ⟨S2x4096x1024, .f32⟩
  | 114 => ⟨S2x4097x1024, .f32⟩
  | 115 => ⟨S_, .f32⟩
  | 116 => ⟨S2x1x1024, .f32⟩
  | 117 => ⟨S4096, .i32⟩
  | 118 => ⟨S_, .i32⟩
  | 119 => ⟨S4096, .i32⟩
  | 120 => ⟨S4096, .i32⟩
  | 121 => ⟨S_, .i32⟩
  | 122 => ⟨S_, .i32⟩
  | 123 => ⟨S_, .i32⟩
  | 124 => ⟨S4096, .i32⟩
  | 125 => ⟨S4096, .i32⟩
  | 126 => ⟨S_, .i32⟩
  | 127 => ⟨S4096, .i32⟩
  | _ => ⟨S2x4352x1024, .f32⟩

abbrev hbmTy0_2 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096, .i32⟩
  | 16 => ⟨S4096, .f32⟩
  | 17 => ⟨S_, .f32⟩
  | 18 => ⟨S4096, .f32⟩
  | 19 => ⟨S4096, .f32⟩
  | 20 => ⟨S1x4096x1, .f32⟩
  | 21 => ⟨S2x4097x256, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S2x4096x256, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S2x4096x256, .f32⟩
  | 40 => ⟨S2x4096x256, .f32⟩
  | 41 => ⟨S2x4096x256, .f32⟩
  | 42 => ⟨S2x4096x256, .f32⟩
  | 43 => ⟨S2x4096x256, .f32⟩
  | 44 => ⟨S2x4096x256, .f32⟩
  | 45 => ⟨S_, .i32⟩
  | 46 => ⟨S4096, .i32⟩
  | 47 => ⟨S4096, .i32⟩
  | 48 => ⟨S_, .i32⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S_, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .i32⟩
  | 71 => ⟨S4096, .f32⟩
  | 72 => ⟨S_, .f32⟩
  | 73 => ⟨S4096, .f32⟩
  | 74 => ⟨S4096, .f32⟩
  | 75 => ⟨S1x4096x1, .f32⟩
  | 76 => ⟨S2x4097x256, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S2x4096x256, .f32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S2x4096x256, .f32⟩
  | 95 => ⟨S2x4096x256, .f32⟩
  | 96 => ⟨S2x4096x256, .f32⟩
  | 97 => ⟨S2x4096x256, .f32⟩
  | 98 => ⟨S2x4096x256, .f32⟩
  | 99 => ⟨S2x4096x256, .f32⟩
  | 100 => ⟨S_, .i32⟩
  | 101 => ⟨S4096, .i32⟩
  | 102 => ⟨S4096, .i32⟩
  | 103 => ⟨S_, .i32⟩
  | 104 => ⟨S_, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S_, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S4096, .f32⟩
  | 127 => ⟨S_, .f32⟩
  | _ => ⟨S2x4352x1024, .f32⟩

abbrev hbmTy0_3 (i : Nat) : BufTy := match i % 128 with
  | 0 => ⟨S4096, .f32⟩
  | 1 => ⟨S4096, .f32⟩
  | 2 => ⟨S1x4096x1, .f32⟩
  | 3 => ⟨S2x4097x256, .f32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S2x4096x256, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S2x4096x256, .f32⟩
  | 22 => ⟨S2x4096x256, .f32⟩
  | 23 => ⟨S2x4096x256, .f32⟩
  | 24 => ⟨S2x4096x256, .f32⟩
  | 25 => ⟨S2x4096x256, .f32⟩
  | 26 => ⟨S2x4096x256, .f32⟩
  | 27 => ⟨S_, .i32⟩
  | 28 => ⟨S4096, .i32⟩
  | 29 => ⟨S4096, .i32⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S_, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096, .i32⟩
  | 53 => ⟨S4096, .f32⟩
  | 54 => ⟨S_, .f32⟩
  | 55 => ⟨S4096, .f32⟩
  | 56 => ⟨S4096, .f32⟩
  | 57 => ⟨S1x4096x1, .f32⟩
  | 58 => ⟨S2x4097x256, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S2x4096x256, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S2x4096x256, .f32⟩
  | 77 => ⟨S2x4096x256, .f32⟩
  | 78 => ⟨S2x4096x256, .f32⟩
  | 79 => ⟨S2x4096x256, .f32⟩
  | 80 => ⟨S2x4096x256, .f32⟩
  | 81 => ⟨S2x4096x256, .f32⟩
  | 82 => ⟨S2x4096x1024, .f32⟩
  | 83 => ⟨S2x4352x1024, .f32⟩
  | 84 => ⟨S2x256x1024, .f32⟩
  | 85 => ⟨S2x4096x1024, .f32⟩
  | 86 => ⟨S2x4096x256, .f32⟩
  | 87 => ⟨S2x4096x256, .f32⟩
  | 88 => ⟨S2x4096x256, .f32⟩
  | 89 => ⟨S2x4096x256, .f32⟩
  | 90 => ⟨S2x4096x256, .f32⟩
  | 91 => ⟨S_, .f32⟩
  | 92 => ⟨S2x4096x1024, .f32⟩
  | 93 => ⟨S2x4096x256, .f32⟩
  | 94 => ⟨S2x4096x256, .f32⟩
  | 95 => ⟨S2x4096x256, .f32⟩
  | 96 => ⟨S_, .f32⟩
  | 97 => ⟨S2x4097x256, .f32⟩
  | 98 => ⟨S2x4097x256, .f32⟩
  | 99 => ⟨S_, .f32⟩
  | 100 => ⟨S2x4097x256, .f32⟩
  | 101 => ⟨S2x4097x256, .f32⟩
  | 102 => ⟨S2x4097x256, .f32⟩
  | 103 => ⟨S_, .f32⟩
  | 104 => ⟨S2x4097x1024, .f32⟩
  | 105 => ⟨S2x4096x256, .f32⟩
  | 106 => ⟨S_, .f32⟩
  | 107 => ⟨S2x4096x1024, .f32⟩
  | 108 => ⟨S2x4096x1024, .f32⟩
  | 109 => ⟨S2x4096x256, .f32⟩
  | 110 => ⟨S2x4096x256, .f32⟩
  | 111 => ⟨S2x4096x256, .f32⟩
  | 112 => ⟨S_, .f32⟩
  | 113 => ⟨S2x4097x256, .f32⟩
  | 114 => ⟨S2x4097x256, .f32⟩
  | 115 => ⟨S_, .f32⟩
  | 116 => ⟨S2x4097x256, .f32⟩
  | 117 => ⟨S2x4097x256, .f32⟩
  | 118 => ⟨S2x4097x256, .f32⟩
  | 119 => ⟨S_, .f32⟩
  | 120 => ⟨S2x4097x1024, .f32⟩
  | 121 => ⟨S2x4097x1024, .f32⟩
  | 122 => ⟨S2x4096x256, .f32⟩
  | 123 => ⟨S_, .f32⟩
  | 124 => ⟨S2x4096x1024, .f32⟩
  | 125 => ⟨S2x4096x1024, .f32⟩
  | 126 => ⟨S2x4096x256, .f32⟩
  | 127 => ⟨S2x4096x256, .f32⟩
  | _ => ⟨S2x4352x1024, .f32⟩

abbrev hbmTy0_4 (i : Nat) : BufTy := match i % 128 with
  | 0 => ⟨S2x4096x256, .f32⟩
  | 1 => ⟨S_, .f32⟩
  | 2 => ⟨S2x4097x256, .f32⟩
  | 3 => ⟨S2x4097x256, .f32⟩
  | 4 => ⟨S_, .f32⟩
  | 5 => ⟨S2x4097x256, .f32⟩
  | 6 => ⟨S2x4097x256, .f32⟩
  | 7 => ⟨S2x4097x256, .f32⟩
  | 8 => ⟨S_, .f32⟩
  | 9 => ⟨S2x4097x1024, .f32⟩
  | 10 => ⟨S2x4097x1024, .f32⟩
  | 11 => ⟨S2x4096x256, .f32⟩
  | 12 => ⟨S_, .f32⟩
  | 13 => ⟨S2x4096x1024, .f32⟩
  | 14 => ⟨S2x4096x1024, .f32⟩
  | 15 => ⟨S2x4096x256, .f32⟩
  | 16 => ⟨S2x4096x256, .f32⟩
  | 17 => ⟨S2x4096x256, .f32⟩
  | 18 => ⟨S_, .f32⟩
  | 19 => ⟨S2x4097x256, .f32⟩
  | 20 => ⟨S2x4097x256, .f32⟩
  | 21 => ⟨S_, .f32⟩
  | 22 => ⟨S2x4097x256, .f32⟩
  | 23 => ⟨S2x4097x256, .f32⟩
  | 24 => ⟨S2x4097x256, .f32⟩
  | 25 => ⟨S_, .f32⟩
  | 26 => ⟨S2x4097x1024, .f32⟩
  | 27 => ⟨S2x4097x1024, .f32⟩
  | 28 => ⟨S2x1x1024, .f32⟩
  | 29 => ⟨S2x4096x1024, .f32⟩
  | 30 => ⟨S_, .f32⟩
  | 31 => ⟨S_, .f32⟩
  | 32 => ⟨S2x4096x1024, .f32⟩
  | 33 => ⟨S2x4096x1024, .f32⟩
  | 34 => ⟨S_, .f32⟩
  | 35 => ⟨S2x4352x1024, .f32⟩
  | 36 => ⟨S2x256x256, .f32⟩
  | 37 => ⟨S2x256x256, .f32⟩
  | 38 => ⟨S2x256x256, .f32⟩
  | 39 => ⟨S2x256x256, .f32⟩
  | 40 => ⟨S2x256x256, .f32⟩
  | 41 => ⟨S_, .f32⟩
  | 42 => ⟨S2x256x1024, .f32⟩
  | 43 => ⟨S2x256x256, .f32⟩
  | 44 => ⟨S2x256x256, .f32⟩
  | 45 => ⟨S2x256x256, .f32⟩
  | 46 => ⟨S_, .f32⟩
  | 47 => ⟨S2x257x256, .f32⟩
  | 48 => ⟨S2x257x256, .f32⟩
  | 49 => ⟨S_, .f32⟩
  | 50 => ⟨S2x257x256, .f32⟩
  | 51 => ⟨S2x257x256, .f32⟩
  | 52 => ⟨S2x257x256, .f32⟩
  | 53 => ⟨S_, .f32⟩
  | 54 => ⟨S2x257x1024, .f32⟩
  | 55 => ⟨S2x256x256, .f32⟩
  | 56 => ⟨S_, .f32⟩
  | 57 => ⟨S2x256x1024, .f32⟩
  | 58 => ⟨S2x256x1024, .f32⟩
  | 59 => ⟨S2x256x256, .f32⟩
  | 60 => ⟨S2x256x256, .f32⟩
  | 61 => ⟨S2x256x256, .f32⟩
  | 62 => ⟨S_, .f32⟩
  | 63 => ⟨S2x257x256, .f32⟩
  | 64 => ⟨S2x257x256, .f32⟩
  | 65 => ⟨S_, .f32⟩
  | 66 => ⟨S2x257x256, .f32⟩
  | 67 => ⟨S2x257x256, .f32⟩
  | 68 => ⟨S2x257x256, .f32⟩
  | 69 => ⟨S_, .f32⟩
  | 70 => ⟨S2x257x1024, .f32⟩
  | 71 => ⟨S2x257x1024, .f32⟩
  | 72 => ⟨S2x256x256, .f32⟩
  | 73 => ⟨S_, .f32⟩
  | 74 => ⟨S2x256x1024, .f32⟩
  | 75 => ⟨S2x256x1024, .f32⟩
  | 76 => ⟨S2x256x256, .f32⟩
  | 77 => ⟨S2x256x256, .f32⟩
  | 78 => ⟨S2x256x256, .f32⟩
  | 79 => ⟨S_, .f32⟩
  | 80 => ⟨S2x257x256, .f32⟩
  | 81 => ⟨S2x257x256, .f32⟩
  | 82 => ⟨S_, .f32⟩
  | 83 => ⟨S2x257x256, .f32⟩
  | 84 => ⟨S2x257x256, .f32⟩
  | 85 => ⟨S2x257x256, .f32⟩
  | 86 => ⟨S_, .f32⟩
  | 87 => ⟨S2x257x1024, .f32⟩
  | 88 => ⟨S2x257x1024, .f32⟩
  | 89 => ⟨S2x256x256, .f32⟩
  | 90 => ⟨S_, .f32⟩
  | 91 => ⟨S2x256x1024, .f32⟩
  | 92 => ⟨S2x256x1024, .f32⟩
  | 93 => ⟨S2x256x256, .f32⟩
  | 94 => ⟨S2x256x256, .f32⟩
  | 95 => ⟨S2x256x256, .f32⟩
  | 96 => ⟨S_, .f32⟩
  | 97 => ⟨S2x257x256, .f32⟩
  | 98 => ⟨S2x257x256, .f32⟩
  | 99 => ⟨S_, .f32⟩
  | 100 => ⟨S2x257x256, .f32⟩
  | 101 => ⟨S2x257x256, .f32⟩
  | 102 => ⟨S2x257x256, .f32⟩
  | 103 => ⟨S_, .f32⟩
  | 104 => ⟨S2x257x1024, .f32⟩
  | 105 => ⟨S2x257x1024, .f32⟩
  | 106 => ⟨S2x1x1024, .f32⟩
  | 107 => ⟨S2x256x1024, .f32⟩
  | 108 => ⟨S_, .f32⟩
  | 109 => ⟨S_, .f32⟩
  | 110 => ⟨S2x256x1024, .f32⟩
  | 111 => ⟨S2x256x1024, .f32⟩
  | 112 => ⟨S_, .f32⟩
  | 113 => ⟨S2x4352x1024, .f32⟩
  | 114 => ⟨S2x4352x1024, .f32⟩
  | 115 => ⟨S2x4352x1024, .bf16⟩
  | _ => ⟨S2x4352x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x4352x1024, .f32⟩

abbrev bufTy : (tb : Table) → Fin (tcTables nBuf tb) → BufTy
  | .hbm, ⟨i, _⟩ => hbmTy i
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_c_7 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_8 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_9 : Ref sig .tc := ⟨.hbm, 46, rfl⟩
abbrev main_v22 : Ref sig .tc := ⟨.hbm, 47, rfl⟩
abbrev main_v23 : Ref sig .tc := ⟨.hbm, 48, rfl⟩
abbrev main_c_10 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_11 : Ref sig .tc := ⟨.hbm, 55, rfl⟩
abbrev main_v29 : Ref sig .tc := ⟨.hbm, 56, rfl⟩
abbrev main_v30 : Ref sig .tc := ⟨.hbm, 57, rfl⟩
abbrev main_c_12 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_c_15 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v43 : Ref sig .tc := ⟨.hbm, 79, rfl⟩
abbrev main_c_16 : Ref sig .tc := ⟨.hbm, 80, rfl⟩
abbrev main_v44 : Ref sig .tc := ⟨.hbm, 81, rfl⟩
abbrev main_v45 : Ref sig .tc := ⟨.hbm, 82, rfl⟩
abbrev main_c_17 : Ref sig .tc := ⟨.hbm, 83, rfl⟩
abbrev main_v46 : Ref sig .tc := ⟨.hbm, 84, rfl⟩
abbrev main_v47 : Ref sig .tc := ⟨.hbm, 85, rfl⟩
abbrev main_c_18 : Ref sig .tc := ⟨.hbm, 86, rfl⟩
abbrev main_c_19 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_20 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_21 : Ref sig .tc := ⟨.hbm, 101, rfl⟩
abbrev main_v55 : Ref sig .tc := ⟨.hbm, 102, rfl⟩
abbrev main_v56 : Ref sig .tc := ⟨.hbm, 103, rfl⟩
abbrev main_c_22 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_23 : Ref sig .tc := ⟨.hbm, 110, rfl⟩
abbrev main_v62 : Ref sig .tc := ⟨.hbm, 111, rfl⟩
abbrev main_v63 : Ref sig .tc := ⟨.hbm, 112, rfl⟩
abbrev main_c_24 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_25 : Ref sig .tc := ⟨.hbm, 124, rfl⟩
abbrev main_v74 : Ref sig .tc := ⟨.hbm, 125, rfl⟩
abbrev main_v75 : Ref sig .tc := ⟨.hbm, 126, rfl⟩
abbrev main_c_26 : Ref sig .tc := ⟨.hbm, 127, rfl⟩
abbrev main_c_27 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v76 : Ref sig .tc := ⟨.hbm, 134, rfl⟩
abbrev main_c_28 : Ref sig .tc := ⟨.hbm, 135, rfl⟩
abbrev main_v77 : Ref sig .tc := ⟨.hbm, 136, rfl⟩
abbrev main_v78 : Ref sig .tc := ⟨.hbm, 137, rfl⟩
abbrev main_c_29 : Ref sig .tc := ⟨.hbm, 138, rfl⟩
abbrev main_v79 : Ref sig .tc := ⟨.hbm, 139, rfl⟩
abbrev main_v80 : Ref sig .tc := ⟨.hbm, 140, rfl⟩
abbrev main_c_30 : Ref sig .tc := ⟨.hbm, 141, rfl⟩
abbrev main_c_31 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_32 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_c_33 : Ref sig .tc := ⟨.hbm, 156, rfl⟩
abbrev main_v88 : Ref sig .tc := ⟨.hbm, 157, rfl⟩
abbrev main_v89 : Ref sig .tc := ⟨.hbm, 158, rfl⟩
abbrev main_c_34 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_c_35 : Ref sig .tc := ⟨.hbm, 165, rfl⟩
abbrev main_v95 : Ref sig .tc := ⟨.hbm, 166, rfl⟩
abbrev main_v96 : Ref sig .tc := ⟨.hbm, 167, rfl⟩
abbrev main_c_36 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_c_37 : Ref sig .tc := ⟨.hbm, 179, rfl⟩
abbrev main_v107 : Ref sig .tc := ⟨.hbm, 180, rfl⟩
abbrev main_v108 : Ref sig .tc := ⟨.hbm, 181, rfl⟩
abbrev main_c_38 : Ref sig .tc := ⟨.hbm, 182, rfl⟩
abbrev main_c_39 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_v109 : Ref sig .tc := ⟨.hbm, 189, rfl⟩
abbrev main_c_40 : Ref sig .tc := ⟨.hbm, 190, rfl⟩
abbrev main_v110 : Ref sig .tc := ⟨.hbm, 191, rfl⟩
abbrev main_v111 : Ref sig .tc := ⟨.hbm, 192, rfl⟩
abbrev main_c_41 : Ref sig .tc := ⟨.hbm, 193, rfl⟩
abbrev main_v112 : Ref sig .tc := ⟨.hbm, 194, rfl⟩
abbrev main_v113 : Ref sig .tc := ⟨.hbm, 195, rfl⟩
abbrev main_c_42 : Ref sig .tc := ⟨.hbm, 196, rfl⟩
abbrev main_c_43 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_cst_44 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_c_45 : Ref sig .tc := ⟨.hbm, 211, rfl⟩
abbrev main_v121 : Ref sig .tc := ⟨.hbm, 212, rfl⟩
abbrev main_v122 : Ref sig .tc := ⟨.hbm, 213, rfl⟩
abbrev main_c_46 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_c_47 : Ref sig .tc := ⟨.hbm, 220, rfl⟩
abbrev main_v128 : Ref sig .tc := ⟨.hbm, 221, rfl⟩
abbrev main_v129 : Ref sig .tc := ⟨.hbm, 222, rfl⟩
abbrev main_c_48 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_cst_49 : Ref sig .tc := ⟨.hbm, 237, rfl⟩
abbrev main_v143 : Ref sig .tc := ⟨.hbm, 238, rfl⟩
abbrev main_call9_call0_cst : Ref sig .tc := ⟨.hbm, 239, rfl⟩
abbrev main_call9_call0_v0 : Ref sig .tc := ⟨.hbm, 240, rfl⟩
abbrev main_v144 : Ref sig .tc := ⟨.hbm, 241, rfl⟩
abbrev main_v145 : Ref sig .tc := ⟨.hbm, 242, rfl⟩
abbrev main_cst_50 : Ref sig .tc := ⟨.hbm, 243, rfl⟩
abbrev main_v146 : Ref sig .tc := ⟨.hbm, 244, rfl⟩
abbrev main_v147 : Ref sig .tc := ⟨.hbm, 245, rfl⟩
abbrev main_c_51 : Ref sig .tc := ⟨.hbm, 246, rfl⟩
abbrev main_v148 : Ref sig .tc := ⟨.hbm, 247, rfl⟩
abbrev main_v149 : Ref sig .tc := ⟨.hbm, 248, rfl⟩
abbrev main_c_52 : Ref sig .tc := ⟨.hbm, 249, rfl⟩
abbrev main_c_53 : Ref sig .tc := ⟨.hbm, 250, rfl⟩
abbrev main_call10_v0 : Ref sig .tc := ⟨.hbm, 251, rfl⟩
abbrev main_call10_v1 : Ref sig .tc := ⟨.hbm, 252, rfl⟩
abbrev main_call10_v2 : Ref sig .tc := ⟨.hbm, 253, rfl⟩
abbrev main_call10_v3 : Ref sig .tc := ⟨.hbm, 254, rfl⟩
abbrev main_call10_v4 : Ref sig .tc := ⟨.hbm, 255, rfl⟩
abbrev main_v150 : Ref sig .tc := ⟨.hbm, 256, rfl⟩
abbrev main_c_54 : Ref sig .tc := ⟨.hbm, 257, rfl⟩
abbrev main_v151 : Ref sig .tc := ⟨.hbm, 258, rfl⟩
abbrev main_v152 : Ref sig .tc := ⟨.hbm, 259, rfl⟩
abbrev main_c_55 : Ref sig .tc := ⟨.hbm, 260, rfl⟩
abbrev main_v153 : Ref sig .tc := ⟨.hbm, 261, rfl⟩
abbrev main_v154 : Ref sig .tc := ⟨.hbm, 262, rfl⟩
abbrev main_c_56 : Ref sig .tc := ⟨.hbm, 263, rfl⟩
abbrev main_c_57 : Ref sig .tc := ⟨.hbm, 264, rfl⟩
abbrev main_call11_v0 : Ref sig .tc := ⟨.hbm, 265, rfl⟩
abbrev main_call11_v1 : Ref sig .tc := ⟨.hbm, 266, rfl⟩
abbrev main_call11_v2 : Ref sig .tc := ⟨.hbm, 267, rfl⟩
abbrev main_call11_v3 : Ref sig .tc := ⟨.hbm, 268, rfl⟩
abbrev main_call11_v4 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_cst_58 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_c_59 : Ref sig .tc := ⟨.hbm, 278, rfl⟩
abbrev main_v162 : Ref sig .tc := ⟨.hbm, 279, rfl⟩
abbrev main_v163 : Ref sig .tc := ⟨.hbm, 280, rfl⟩
abbrev main_c_60 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_c_61 : Ref sig .tc := ⟨.hbm, 287, rfl⟩
abbrev main_v169 : Ref sig .tc := ⟨.hbm, 288, rfl⟩
abbrev main_v170 : Ref sig .tc := ⟨.hbm, 289, rfl⟩
abbrev main_c_62 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_c_63 : Ref sig .tc := ⟨.hbm, 301, rfl⟩
abbrev main_v181 : Ref sig .tc := ⟨.hbm, 302, rfl⟩
abbrev main_v182 : Ref sig .tc := ⟨.hbm, 303, rfl⟩
abbrev main_c_64 : Ref sig .tc := ⟨.hbm, 304, rfl⟩
abbrev main_c_65 : Ref sig .tc := ⟨.hbm, 305, rfl⟩
abbrev main_call12_v0 : Ref sig .tc := ⟨.hbm, 306, rfl⟩
abbrev main_call12_v1 : Ref sig .tc := ⟨.hbm, 307, rfl⟩
abbrev main_call12_v2 : Ref sig .tc := ⟨.hbm, 308, rfl⟩
abbrev main_call12_v3 : Ref sig .tc := ⟨.hbm, 309, rfl⟩
abbrev main_call12_v4 : Ref sig .tc := ⟨.hbm, 310, rfl⟩
abbrev main_v183 : Ref sig .tc := ⟨.hbm, 311, rfl⟩
abbrev main_c_66 : Ref sig .tc := ⟨.hbm, 312, rfl⟩
abbrev main_v184 : Ref sig .tc := ⟨.hbm, 313, rfl⟩
abbrev main_v185 : Ref sig .tc := ⟨.hbm, 314, rfl⟩
abbrev main_c_67 : Ref sig .tc := ⟨.hbm, 315, rfl⟩
abbrev main_v186 : Ref sig .tc := ⟨.hbm, 316, rfl⟩
abbrev main_v187 : Ref sig .tc := ⟨.hbm, 317, rfl⟩
abbrev main_c_68 : Ref sig .tc := ⟨.hbm, 318, rfl⟩
abbrev main_c_69 : Ref sig .tc := ⟨.hbm, 319, rfl⟩
abbrev main_call13_v0 : Ref sig .tc := ⟨.hbm, 320, rfl⟩
abbrev main_call13_v1 : Ref sig .tc := ⟨.hbm, 321, rfl⟩
abbrev main_call13_v2 : Ref sig .tc := ⟨.hbm, 322, rfl⟩
abbrev main_call13_v3 : Ref sig .tc := ⟨.hbm, 323, rfl⟩
abbrev main_call13_v4 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_cst_70 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_c_71 : Ref sig .tc := ⟨.hbm, 333, rfl⟩
abbrev main_v195 : Ref sig .tc := ⟨.hbm, 334, rfl⟩
abbrev main_v196 : Ref sig .tc := ⟨.hbm, 335, rfl⟩
abbrev main_c_72 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_c_73 : Ref sig .tc := ⟨.hbm, 342, rfl⟩
abbrev main_v202 : Ref sig .tc := ⟨.hbm, 343, rfl⟩
abbrev main_v203 : Ref sig .tc := ⟨.hbm, 344, rfl⟩
abbrev main_c_74 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_c_75 : Ref sig .tc := ⟨.hbm, 356, rfl⟩
abbrev main_v214 : Ref sig .tc := ⟨.hbm, 357, rfl⟩
abbrev main_v215 : Ref sig .tc := ⟨.hbm, 358, rfl⟩
abbrev main_c_76 : Ref sig .tc := ⟨.hbm, 359, rfl⟩
abbrev main_c_77 : Ref sig .tc := ⟨.hbm, 360, rfl⟩
abbrev main_call14_v0 : Ref sig .tc := ⟨.hbm, 361, rfl⟩
abbrev main_call14_v1 : Ref sig .tc := ⟨.hbm, 362, rfl⟩
abbrev main_call14_v2 : Ref sig .tc := ⟨.hbm, 363, rfl⟩
abbrev main_call14_v3 : Ref sig .tc := ⟨.hbm, 364, rfl⟩
abbrev main_call14_v4 : Ref sig .tc := ⟨.hbm, 365, rfl⟩
abbrev main_v216 : Ref sig .tc := ⟨.hbm, 366, rfl⟩
abbrev main_c_78 : Ref sig .tc := ⟨.hbm, 367, rfl⟩
abbrev main_v217 : Ref sig .tc := ⟨.hbm, 368, rfl⟩
abbrev main_v218 : Ref sig .tc := ⟨.hbm, 369, rfl⟩
abbrev main_c_79 : Ref sig .tc := ⟨.hbm, 370, rfl⟩
abbrev main_v219 : Ref sig .tc := ⟨.hbm, 371, rfl⟩
abbrev main_v220 : Ref sig .tc := ⟨.hbm, 372, rfl⟩
abbrev main_c_80 : Ref sig .tc := ⟨.hbm, 373, rfl⟩
abbrev main_c_81 : Ref sig .tc := ⟨.hbm, 374, rfl⟩
abbrev main_call15_v0 : Ref sig .tc := ⟨.hbm, 375, rfl⟩
abbrev main_call15_v1 : Ref sig .tc := ⟨.hbm, 376, rfl⟩
abbrev main_call15_v2 : Ref sig .tc := ⟨.hbm, 377, rfl⟩
abbrev main_call15_v3 : Ref sig .tc := ⟨.hbm, 378, rfl⟩
abbrev main_call15_v4 : Ref sig .tc := ⟨.hbm, 379, rfl⟩
abbrev main_v221 : Ref sig .tc := ⟨.hbm, 380, rfl⟩
abbrev main_v222 : Ref sig .tc := ⟨.hbm, 381, rfl⟩
abbrev main_v223 : Ref sig .tc := ⟨.hbm, 382, rfl⟩
abbrev main_cst_82 : Ref sig .tc := ⟨.hbm, 383, rfl⟩
abbrev main_v224 : Ref sig .tc := ⟨.hbm, 384, rfl⟩
abbrev main_v225 : Ref sig .tc := ⟨.hbm, 385, rfl⟩
abbrev main_v226 : Ref sig .tc := ⟨.hbm, 386, rfl⟩
abbrev main_v227 : Ref sig .tc := ⟨.hbm, 387, rfl⟩
abbrev main_c_83 : Ref sig .tc := ⟨.hbm, 388, rfl⟩
abbrev main_v228 : Ref sig .tc := ⟨.hbm, 389, rfl⟩
abbrev main_v229 : Ref sig .tc := ⟨.hbm, 390, rfl⟩
abbrev main_c_84 : Ref sig .tc := ⟨.hbm, 391, rfl⟩
abbrev main_v230 : Ref sig .tc := ⟨.hbm, 392, rfl⟩
abbrev main_v231 : Ref sig .tc := ⟨.hbm, 393, rfl⟩
abbrev main_v232 : Ref sig .tc := ⟨.hbm, 394, rfl⟩
abbrev main_v233 : Ref sig .tc := ⟨.hbm, 395, rfl⟩
abbrev main_v234 : Ref sig .tc := ⟨.hbm, 396, rfl⟩
abbrev main_c_85 : Ref sig .tc := ⟨.hbm, 397, rfl⟩
abbrev main_v235 : Ref sig .tc := ⟨.hbm, 398, rfl⟩
abbrev main_v236 : Ref sig .tc := ⟨.hbm, 399, rfl⟩
abbrev main_c_86 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_v245 : Ref sig .tc := ⟨.hbm, 409, rfl⟩
abbrev main_v246 : Ref sig .tc := ⟨.hbm, 410, rfl⟩
abbrev main_c_87 : Ref sig .tc := ⟨.hbm, 411, rfl⟩
abbrev main_v247 : Ref sig .tc := ⟨.hbm, 412, rfl⟩
abbrev main_v248 : Ref sig .tc := ⟨.hbm, 413, rfl⟩
abbrev main_c_88 : Ref sig .tc := ⟨.hbm, 414, rfl⟩
abbrev main_c_89 : Ref sig .tc := ⟨.hbm, 415, rfl⟩
abbrev main_call16_v0 : Ref sig .tc := ⟨.hbm, 416, rfl⟩
abbrev main_call16_v1 : Ref sig .tc := ⟨.hbm, 417, rfl⟩
abbrev main_call16_v2 : Ref sig .tc := ⟨.hbm, 418, rfl⟩
abbrev main_call16_v3 : Ref sig .tc := ⟨.hbm, 419, rfl⟩
abbrev main_call16_v4 : Ref sig .tc := ⟨.hbm, 420, rfl⟩
abbrev main_v249 : Ref sig .tc := ⟨.hbm, 421, rfl⟩
abbrev main_c_90 : Ref sig .tc := ⟨.hbm, 422, rfl⟩
abbrev main_v250 : Ref sig .tc := ⟨.hbm, 423, rfl⟩
abbrev main_v251 : Ref sig .tc := ⟨.hbm, 424, rfl⟩
abbrev main_c_91 : Ref sig .tc := ⟨.hbm, 425, rfl⟩
abbrev main_v252 : Ref sig .tc := ⟨.hbm, 426, rfl⟩
abbrev main_v253 : Ref sig .tc := ⟨.hbm, 427, rfl⟩
abbrev main_c_92 : Ref sig .tc := ⟨.hbm, 428, rfl⟩
abbrev main_c_93 : Ref sig .tc := ⟨.hbm, 429, rfl⟩
abbrev main_call17_v0 : Ref sig .tc := ⟨.hbm, 430, rfl⟩
abbrev main_call17_v1 : Ref sig .tc := ⟨.hbm, 431, rfl⟩
abbrev main_call17_v2 : Ref sig .tc := ⟨.hbm, 432, rfl⟩
abbrev main_call17_v3 : Ref sig .tc := ⟨.hbm, 433, rfl⟩
abbrev main_call17_v4 : Ref sig .tc := ⟨.hbm, 434, rfl⟩
abbrev main_v254 : Ref sig .tc := ⟨.hbm, 435, rfl⟩
abbrev main_v255 : Ref sig .tc := ⟨.hbm, 436, rfl⟩
abbrev main_v256 : Ref sig .tc := ⟨.hbm, 437, rfl⟩
abbrev main_cst_94 : Ref sig .tc := ⟨.hbm, 438, rfl⟩
abbrev main_v257 : Ref sig .tc := ⟨.hbm, 439, rfl⟩
abbrev main_v258 : Ref sig .tc := ⟨.hbm, 440, rfl⟩
abbrev main_v259 : Ref sig .tc := ⟨.hbm, 441, rfl⟩
abbrev main_v260 : Ref sig .tc := ⟨.hbm, 442, rfl⟩
abbrev main_c_95 : Ref sig .tc := ⟨.hbm, 443, rfl⟩
abbrev main_v261 : Ref sig .tc := ⟨.hbm, 444, rfl⟩
abbrev main_v262 : Ref sig .tc := ⟨.hbm, 445, rfl⟩
abbrev main_c_96 : Ref sig .tc := ⟨.hbm, 446, rfl⟩
abbrev main_v263 : Ref sig .tc := ⟨.hbm, 447, rfl⟩
abbrev main_v264 : Ref sig .tc := ⟨.hbm, 448, rfl⟩
abbrev main_v265 : Ref sig .tc := ⟨.hbm, 449, rfl⟩
abbrev main_v266 : Ref sig .tc := ⟨.hbm, 450, rfl⟩
abbrev main_v267 : Ref sig .tc := ⟨.hbm, 451, rfl⟩
abbrev main_c_97 : Ref sig .tc := ⟨.hbm, 452, rfl⟩
abbrev main_v268 : Ref sig .tc := ⟨.hbm, 453, rfl⟩
abbrev main_v269 : Ref sig .tc := ⟨.hbm, 454, rfl⟩
abbrev main_c_98 : Ref sig .tc := ⟨.hbm, 455, rfl⟩
abbrev main_v270 : Ref sig .tc := ⟨.hbm, 456, rfl⟩
abbrev main_v271 : Ref sig .tc := ⟨.hbm, 457, rfl⟩
abbrev main_v272 : Ref sig .tc := ⟨.hbm, 458, rfl⟩
abbrev main_v273 : Ref sig .tc := ⟨.hbm, 459, rfl⟩
abbrev main_v274 : Ref sig .tc := ⟨.hbm, 460, rfl⟩
abbrev main_v275 : Ref sig .tc := ⟨.hbm, 461, rfl⟩
abbrev main_v276 : Ref sig .tc := ⟨.hbm, 462, rfl⟩
abbrev main_v277 : Ref sig .tc := ⟨.hbm, 463, rfl⟩
abbrev main_v278 : Ref sig .tc := ⟨.hbm, 464, rfl⟩
abbrev main_v279 : Ref sig .tc := ⟨.hbm, 465, rfl⟩
abbrev main_v280 : Ref sig .tc := ⟨.hbm, 466, rfl⟩
abbrev main_v281 : Ref sig .tc := ⟨.hbm, 467, rfl⟩
abbrev main_v282 : Ref sig .tc := ⟨.hbm, 468, rfl⟩
abbrev main_v283 : Ref sig .tc := ⟨.hbm, 469, rfl⟩
abbrev main_v284 : Ref sig .tc := ⟨.hbm, 470, rfl⟩
abbrev main_v285 : Ref sig .tc := ⟨.hbm, 471, rfl⟩
abbrev main_v286 : Ref sig .tc := ⟨.hbm, 472, rfl⟩
abbrev main_v287 : Ref sig .tc := ⟨.hbm, 473, rfl⟩
abbrev main_v288 : Ref sig .tc := ⟨.hbm, 474, rfl⟩
abbrev main_cst_99 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_v292 : Ref sig .tc := ⟨.hbm, 479, rfl⟩
abbrev main_cst_100 : Ref sig .tc := ⟨.hbm, 480, rfl⟩
abbrev main_v293 : Ref sig .tc := ⟨.hbm, 481, rfl⟩
abbrev main_v294 : Ref sig .tc := ⟨.hbm, 482, rfl⟩
abbrev main_cst_101 : Ref sig .tc := ⟨.hbm, 483, rfl⟩
abbrev main_v295 : Ref sig .tc := ⟨.hbm, 484, rfl⟩
abbrev main_v296 : Ref sig .tc := ⟨.hbm, 485, rfl⟩
abbrev main_v297 : Ref sig .tc := ⟨.hbm, 486, rfl⟩
abbrev main_cst_102 : Ref sig .tc := ⟨.hbm, 487, rfl⟩
abbrev main_v298 : Ref sig .tc := ⟨.hbm, 488, rfl⟩
abbrev main_v299 : Ref sig .tc := ⟨.hbm, 489, rfl⟩
abbrev main_cst_103 : Ref sig .tc := ⟨.hbm, 490, rfl⟩
abbrev main_v300 : Ref sig .tc := ⟨.hbm, 491, rfl⟩
abbrev main_v301 : Ref sig .tc := ⟨.hbm, 492, rfl⟩
abbrev main_v302 : Ref sig .tc := ⟨.hbm, 493, rfl⟩
abbrev main_v303 : Ref sig .tc := ⟨.hbm, 494, rfl⟩
abbrev main_v304 : Ref sig .tc := ⟨.hbm, 495, rfl⟩
abbrev main_cst_104 : Ref sig .tc := ⟨.hbm, 496, rfl⟩
abbrev main_v305 : Ref sig .tc := ⟨.hbm, 497, rfl⟩
abbrev main_v306 : Ref sig .tc := ⟨.hbm, 498, rfl⟩
abbrev main_cst_105 : Ref sig .tc := ⟨.hbm, 499, rfl⟩
abbrev main_v307 : Ref sig .tc := ⟨.hbm, 500, rfl⟩
abbrev main_v308 : Ref sig .tc := ⟨.hbm, 501, rfl⟩
abbrev main_v309 : Ref sig .tc := ⟨.hbm, 502, rfl⟩
abbrev main_cst_106 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_cst_107 : Ref sig .tc := ⟨.hbm, 507, rfl⟩
abbrev main_v313 : Ref sig .tc := ⟨.hbm, 508, rfl⟩
abbrev main_v314 : Ref sig .tc := ⟨.hbm, 509, rfl⟩
abbrev main_v315 : Ref sig .tc := ⟨.hbm, 510, rfl⟩
abbrev main_v316 : Ref sig .tc := ⟨.hbm, 511, rfl⟩
abbrev main_v317 : Ref sig .tc := ⟨.hbm, 512, rfl⟩
abbrev main_cst_108 : Ref sig .tc := ⟨.hbm, 513, rfl⟩
abbrev main_v318 : Ref sig .tc := ⟨.hbm, 514, rfl⟩
abbrev main_v319 : Ref sig .tc := ⟨.hbm, 515, rfl⟩
abbrev main_cst_109 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_cst_110 : Ref sig .tc := ⟨.hbm, 520, rfl⟩
abbrev main_v323 : Ref sig .tc := ⟨.hbm, 521, rfl⟩
abbrev main_v324 : Ref sig .tc := ⟨.hbm, 522, rfl⟩
abbrev main_v325 : Ref sig .tc := ⟨.hbm, 523, rfl⟩
abbrev main_cst_111 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_v330 : Ref sig .tc := ⟨.hbm, 529, rfl⟩
abbrev main_cst_112 : Ref sig .tc := ⟨.hbm, 530, rfl⟩
abbrev main_v331 : Ref sig .tc := ⟨.hbm, 531, rfl⟩
abbrev main_v332 : Ref sig .tc := ⟨.hbm, 532, rfl⟩
abbrev main_cst_113 : Ref sig .tc := ⟨.hbm, 533, rfl⟩
abbrev main_v333 : Ref sig .tc := ⟨.hbm, 534, rfl⟩
abbrev main_v334 : Ref sig .tc := ⟨.hbm, 535, rfl⟩
abbrev main_v335 : Ref sig .tc := ⟨.hbm, 536, rfl⟩
abbrev main_cst_114 : Ref sig .tc := ⟨.hbm, 537, rfl⟩
abbrev main_v336 : Ref sig .tc := ⟨.hbm, 538, rfl⟩
abbrev main_v337 : Ref sig .tc := ⟨.hbm, 539, rfl⟩
abbrev main_v338 : Ref sig .tc := ⟨.hbm, 540, rfl⟩
abbrev main_v339 : Ref sig .tc := ⟨.hbm, 541, rfl⟩
abbrev main_call18_call0_cst : Ref sig .tc := ⟨.hbm, 542, rfl⟩
abbrev main_call18_call0_v0 : Ref sig .tc := ⟨.hbm, 543, rfl⟩
abbrev main_v340 : Ref sig .tc := ⟨.hbm, 544, rfl⟩
abbrev main_v341 : Ref sig .tc := ⟨.hbm, 545, rfl⟩
abbrev main_cst_115 : Ref sig .tc := ⟨.hbm, 546, rfl⟩
abbrev main_v342 : Ref sig .tc := ⟨.hbm, 547, rfl⟩
abbrev main_v343 : Ref sig .tc := ⟨.hbm, 548, rfl⟩
abbrev main_v344 : Ref sig .tc := ⟨.hbm, 549, rfl⟩
abbrev main_v345 : Ref sig .tc := ⟨.hbm, 550, rfl⟩
abbrev main_v346 : Ref sig .tc := ⟨.hbm, 551, rfl⟩
abbrev main_v347 : Ref sig .tc := ⟨.hbm, 552, rfl⟩
abbrev main_cst_116 : Ref sig .tc := ⟨.hbm, 553, rfl⟩
abbrev main_v348 : Ref sig .tc := ⟨.hbm, 554, rfl⟩
abbrev main_v349 : Ref sig .tc := ⟨.hbm, 555, rfl⟩
abbrev main_v350 : Ref sig .tc := ⟨.hbm, 556, rfl⟩
abbrev main_v351 : Ref sig .tc := ⟨.hbm, 557, rfl⟩
abbrev main_cst_117 : Ref sig .tc := ⟨.hbm, 558, rfl⟩
abbrev main_v352 : Ref sig .tc := ⟨.hbm, 559, rfl⟩
abbrev main_v353 : Ref sig .tc := ⟨.hbm, 560, rfl⟩
abbrev main_cst_118 : Ref sig .tc := ⟨.hbm, 561, rfl⟩
abbrev main_v354 : Ref sig .tc := ⟨.hbm, 562, rfl⟩
abbrev main_v355 : Ref sig .tc := ⟨.hbm, 563, rfl⟩
abbrev main_v356 : Ref sig .tc := ⟨.hbm, 564, rfl⟩
abbrev main_cst_119 : Ref sig .tc := ⟨.hbm, 565, rfl⟩
abbrev main_v357 : Ref sig .tc := ⟨.hbm, 566, rfl⟩
abbrev main_v358 : Ref sig .tc := ⟨.hbm, 567, rfl⟩
abbrev main_cst_120 : Ref sig .tc := ⟨.hbm, 568, rfl⟩
abbrev main_v359 : Ref sig .tc := ⟨.hbm, 569, rfl⟩
abbrev main_v360 : Ref sig .tc := ⟨.hbm, 570, rfl⟩
abbrev main_v361 : Ref sig .tc := ⟨.hbm, 571, rfl⟩
abbrev main_v362 : Ref sig .tc := ⟨.hbm, 572, rfl⟩
abbrev main_v363 : Ref sig .tc := ⟨.hbm, 573, rfl⟩
abbrev main_cst_121 : Ref sig .tc := ⟨.hbm, 574, rfl⟩
abbrev main_v364 : Ref sig .tc := ⟨.hbm, 575, rfl⟩
abbrev main_v365 : Ref sig .tc := ⟨.hbm, 576, rfl⟩
abbrev main_cst_122 : Ref sig .tc := ⟨.hbm, 577, rfl⟩
abbrev main_v366 : Ref sig .tc := ⟨.hbm, 578, rfl⟩
abbrev main_v367 : Ref sig .tc := ⟨.hbm, 579, rfl⟩
abbrev main_v368 : Ref sig .tc := ⟨.hbm, 580, rfl⟩
abbrev main_cst_123 : Ref sig .tc := ⟨.hbm, 581, rfl⟩
abbrev main_v369 : Ref sig .tc := ⟨.hbm, 582, rfl⟩
abbrev main_v370 : Ref sig .tc := ⟨.hbm, 583, rfl⟩
abbrev main_v371 : Ref sig .tc := ⟨.hbm, 584, rfl⟩
abbrev main_cst_124 : Ref sig .tc := ⟨.hbm, 585, rfl⟩
abbrev main_v372 : Ref sig .tc := ⟨.hbm, 586, rfl⟩
abbrev main_v373 : Ref sig .tc := ⟨.hbm, 587, rfl⟩
abbrev main_v374 : Ref sig .tc := ⟨.hbm, 588, rfl⟩
abbrev main_v375 : Ref sig .tc := ⟨.hbm, 589, rfl⟩
abbrev main_v376 : Ref sig .tc := ⟨.hbm, 590, rfl⟩
abbrev main_cst_125 : Ref sig .tc := ⟨.hbm, 591, rfl⟩
abbrev main_v377 : Ref sig .tc := ⟨.hbm, 592, rfl⟩
abbrev main_v378 : Ref sig .tc := ⟨.hbm, 593, rfl⟩
abbrev main_cst_126 : Ref sig .tc := ⟨.hbm, 594, rfl⟩
abbrev main_v379 : Ref sig .tc := ⟨.hbm, 595, rfl⟩
abbrev main_v380 : Ref sig .tc := ⟨.hbm, 596, rfl⟩
abbrev main_v381 : Ref sig .tc := ⟨.hbm, 597, rfl⟩
abbrev main_cst_127 : Ref sig .tc := ⟨.hbm, 598, rfl⟩
abbrev main_v382 : Ref sig .tc := ⟨.hbm, 599, rfl⟩
abbrev main_v383 : Ref sig .tc := ⟨.hbm, 600, rfl⟩
abbrev main_v384 : Ref sig .tc := ⟨.hbm, 601, rfl⟩
abbrev main_cst_128 : Ref sig .tc := ⟨.hbm, 602, rfl⟩
abbrev main_v385 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_v389 : Ref sig .tc := ⟨.hbm, 607, rfl⟩
abbrev main_cst_129 : Ref sig .tc := ⟨.hbm, 608, rfl⟩
abbrev main_v390 : Ref sig .tc := ⟨.hbm, 609, rfl⟩
abbrev main_v391 : Ref sig .tc := ⟨.hbm, 610, rfl⟩
abbrev main_cst_130 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_131 : Ref sig .tc := ⟨.hbm, 615, rfl⟩
abbrev main_v395 : Ref sig .tc := ⟨.hbm, 616, rfl⟩
abbrev main_v396 : Ref sig .tc := ⟨.hbm, 617, rfl⟩
abbrev main_v397 : Ref sig .tc := ⟨.hbm, 618, rfl⟩
abbrev main_v398 : Ref sig .tc := ⟨.hbm, 619, rfl⟩
abbrev main_call19_call0_cst : Ref sig .tc := ⟨.hbm, 620, rfl⟩
abbrev main_call19_call0_v0 : Ref sig .tc := ⟨.hbm, 621, rfl⟩
abbrev main_v399 : Ref sig .tc := ⟨.hbm, 622, rfl⟩
abbrev main_v400 : Ref sig .tc := ⟨.hbm, 623, rfl⟩
abbrev main_cst_132 : Ref sig .tc := ⟨.hbm, 624, rfl⟩
abbrev main_v401 : Ref sig .tc := ⟨.hbm, 625, rfl⟩
abbrev main_v402 : Ref sig .tc := ⟨.hbm, 626, rfl⟩
abbrev main_v403 : Ref sig .tc := ⟨.hbm, 627, rfl⟩

abbrev nD : Nat := 1
abbrev τ : Topo := Topo.v7x

variable {F : FTy → Type} [FloatOps F]
-- ==== Kernel3.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2048 : Shape := ⟨2, ![1024, 2048]⟩
abbrev S2x4352x2048 : Shape := ⟨3, ![2, 4352, 2048]⟩
abbrev S8x1024 : Shape := ⟨2, ![8, 1024]⟩
abbrev S1x256x1024 : Shape := ⟨3, ![1, 256, 1024]⟩
abbrev S1x1x8x1024 : Shape := ⟨4, ![1, 1, 8, 1024]⟩
abbrev S1x256x2048 : Shape := ⟨3, ![1, 256, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x1x1x1024 : Shape := ⟨4, ![1, 1, 1, 1024]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x4352x1024, .f32⟩
  | .hbm, ⟨3, _⟩ => ⟨S2x4352x1024, .f32⟩
  | .hbm, ⟨4, _⟩ => ⟨S1x1024, .f32⟩
  | .hbm, ⟨5, _⟩ => ⟨S2x2x8x1024, .f32⟩
  | .hbm, ⟨6, _⟩ => ⟨S1024x2048, .bf16⟩
  | .hbm, ⟨7, _⟩ => ⟨S2x4352x1024, .f32⟩
  | .hbm, ⟨8, _⟩ => ⟨S2x4352x2048, .bf16⟩
  | .hbm, ⟨9, _⟩ => ⟨S2x2x8x1024, .f32⟩
  | .hbm, ⟨10, _⟩ => ⟨S8x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1x8x1024, .f32⟩
  | .local _ .vmem, ⟨10, _⟩ => ⟨S1x1x8x1024, .f32⟩
  | .local _ .vmem, ⟨11, _⟩ => ⟨S1024x2048, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x2048, .bf16⟩
  | .local _ .vmem, ⟨15, _⟩ => ⟨S1x256x2048, .bf16⟩
  | .local _ .vmem, ⟨16, _⟩ => ⟨S1x1x8x1024, .f32⟩
  | .local _ .vmem, ⟨17, _⟩ => ⟨S1x1x8x1024, .f32⟩
  | .local _ .vmem, ⟨18, _⟩ => ⟨S8x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2048 : Shape := ⟨2, ![1024, 2048]⟩
abbrev S1024 : Shape := ⟨1, ![1024]⟩
abbrev S2x2x1x1024 : Shape := ⟨4, ![2, 2, 1, 1024]⟩
abbrev S2x2x1024 : Shape := ⟨3, ![2, 2, 1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x1x1024 : Shape := ⟨3, ![2, 1, 1024]⟩
abbrev S2x256x1024 : Shape := ⟨3, ![2, 256, 1024]⟩
abbrev S2x4096x1024 : Shape := ⟨3, ![2, 4096, 1024]⟩
abbrev S2x4352x2048 : Shape := ⟨3, ![2, 4352, 2048]⟩
abbrev S2x1024 : Shape := ⟨2, ![2, 1024]⟩
abbrev S2x2x6x1024 : Shape := ⟨4, ![2, 2, 6, 1024]⟩
abbrev S7x1024 : Shape := ⟨2, ![7, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x4352x1024, .f32⟩
  | .hbm, ⟨3, _⟩ => ⟨S2x4352x1024, .f32⟩
  | .hbm, ⟨4, _⟩ => ⟨S1x1024, .f32⟩
  | .hbm, ⟨5, _⟩ => ⟨S2x2x8x1024, .f32⟩
  | .hbm, ⟨6, _⟩ => ⟨S1024x2048, .bf16⟩
  | .hbm, ⟨7, _⟩ => ⟨S2x4352x1024, .f32⟩
  | .hbm, ⟨8, _⟩ => ⟨S2x4352x1024, .f32⟩
  | .hbm, ⟨9, _⟩ => ⟨S1024x2048, .f32⟩
  | .hbm, ⟨10, _⟩ => ⟨S1024, .f32⟩
  | .hbm, ⟨11, _⟩ => ⟨S2x2x1x1024, .f32⟩
  | .hbm, ⟨12, _⟩ => ⟨S2x2x1024, .f32⟩
  | .hbm, ⟨13, _⟩ => ⟨S2x2x1x1024, .f32⟩
  | .hbm, ⟨14, _⟩ => ⟨S2x2x1024, .f32⟩
  | .hbm, ⟨15, _⟩ => ⟨S2x4352x1024, .f32⟩
  | .hbm, ⟨16, _⟩ => ⟨S_, .f32⟩
  | .hbm, ⟨17, _⟩ => ⟨S2x4352, .f32⟩
  | .hbm, ⟨18, _⟩ => ⟨S2x4352x1, .f32⟩
  | .hbm, ⟨19, _⟩ => ⟨S_, .f32⟩
  | .hbm, ⟨20, _⟩ => ⟨S2x4352x1, .f32⟩
  | .hbm, ⟨21, _⟩ => ⟨S2x4352x1, .f32⟩
  | .hbm, ⟨22, _⟩ => ⟨S_, .f32⟩
  | .hbm, ⟨23, _⟩ => ⟨S2x4352x1, .f32⟩
  | .hbm, ⟨24, _⟩ => ⟨S2x4352x1, .f32⟩
  | .hbm, ⟨25, _⟩ => ⟨S2x4352x1, .f32⟩
  | .hbm, ⟨26, _⟩ => ⟨S2x4352x1, .f32⟩
  | .hbm, ⟨27, _⟩ => ⟨S_, .f32⟩
  | .hbm, ⟨28, _⟩ => ⟨S2x4352x1, .f32⟩
  | .hbm, ⟨29, _⟩ => ⟨S2x4352x1, .f32⟩
  | .hbm, ⟨30, _⟩ => ⟨S2x4352x1024, .f32⟩
  | .hbm, ⟨31, _⟩ => ⟨S2x4352x1024, .f32⟩
  | .hbm, ⟨32, _⟩ => ⟨S1x1x1024, .f32⟩
  | .hbm, ⟨33, _⟩ => ⟨S2x4352x1024, .f32⟩
  | .hbm, ⟨34, _⟩ => ⟨S2x4352x1024, .f32⟩
  | .hbm, ⟨35, _⟩ => ⟨S2x1x1024, .f32⟩
  | .hbm, ⟨36, _⟩ => ⟨S2x256x1024, .f32⟩
  | .hbm, ⟨37, _⟩ => ⟨S2x1x1024, .f32⟩
  | .hbm, ⟨38, _⟩ => ⟨S2x4096x1024, .f32⟩
  | .hbm, ⟨39, _⟩ => ⟨S2x4352x1024, .f32⟩
  | .hbm, ⟨40, _⟩ => ⟨S_, .f32⟩
  | .hbm, ⟨41, _⟩ => ⟨S2x4352x1024, .f32⟩
  | .hbm, ⟨42, _⟩ => ⟨S2x4352x1024, .f32⟩
  | .hbm, ⟨43, _⟩ => ⟨S2x4352x1024, .f32⟩
  | .hbm, ⟨44, _⟩ => ⟨S2x1x1024, .f32⟩
  | .hbm, ⟨45, _⟩ => ⟨S2x256x1024, .f32⟩
  | .hbm, ⟨46, _⟩ => ⟨S2x1x1024, .f32⟩
  | .hbm, ⟨47, _⟩ => ⟨S2x4096x1024, .f32⟩
  | .hbm, ⟨48, _⟩ => ⟨S2x4352x1024, .f32⟩
  | .hbm, ⟨49, _⟩ => ⟨S2x4352x1024, .f32⟩
  | .hbm, ⟨50, _⟩ => ⟨S2x4352x2048, .f32⟩
  | .hbm, ⟨51, _⟩ => ⟨S2x4352x1024, .f32⟩
  | .hbm, ⟨52, _⟩ => ⟨S2x4352x1024, .f32⟩
  | .hbm, ⟨53, _⟩ => ⟨S2x4352x2048, .f32⟩
  | .hbm, ⟨54, _⟩ => ⟨S2x4352x1024, .f32⟩
  | .hbm, ⟨55, _⟩ => ⟨S2x256x1024, .f32⟩
  | .hbm, ⟨56, _⟩ => ⟨S2x4096x1024, .f32⟩
  | .hbm, ⟨57, _⟩ => ⟨S_, .f32⟩
  | .hbm, ⟨58, _⟩ => ⟨S2x1024, .f32⟩
  | .hbm, ⟨59, _⟩ => ⟨S2x1x1024, .f32⟩
  | .hbm, ⟨60, _⟩ => ⟨S_, .f32⟩
  | .hbm, ⟨61, _⟩ => ⟨S2x2x1024, .f32⟩
  | .hbm, ⟨62, _⟩ => ⟨S_, .f32⟩
  | .hbm, ⟨63, _⟩ => ⟨S2x1024, .f32⟩
  | .hbm, ⟨64, _⟩ => ⟨S2x1x1024, .f32⟩
  | .hbm, ⟨65, _⟩ => ⟨S_, .f32⟩
  | .hbm, ⟨66, _⟩ => ⟨S2x2x1024, .f32⟩
  | .hbm, ⟨67, _⟩ => ⟨S2x2x1024, .f32⟩
  | .hbm, ⟨68, _⟩ => ⟨S2x4352x1024, .f32⟩
  | .hbm, ⟨69, _⟩ => ⟨S2x4352x1024, .f32⟩
  | .hbm, ⟨70, _⟩ => ⟨S2x256x1024, .f32⟩
  | .hbm, ⟨71, _⟩ => ⟨S2x4096x1024, .f32⟩
  | .hbm, ⟨72, _⟩ => ⟨S_, .f32⟩
  | .hbm, ⟨73, _⟩ => ⟨S2x1024, .f32⟩
  | .hbm, ⟨74, _⟩ => ⟨S2x1x1024, .f32⟩
  | .hbm, ⟨75, _⟩ => ⟨S_, .f32⟩
  | .hbm, ⟨76, _⟩ => ⟨S2x2x1024, .f32⟩
  | .hbm, ⟨77, _⟩ => ⟨S_, .f32⟩
  | .hbm, ⟨78, _⟩ => ⟨S2x1024, .f32⟩
  | .hbm, ⟨79, _⟩ => ⟨S2x1x1024, .f32⟩
  | .hbm, ⟨80, _⟩ => ⟨S_, .f32⟩
  | .hbm, ⟨81, _⟩ => ⟨S2x2x1024, .f32⟩
  | .hbm, ⟨82, _⟩ => ⟨S2x2x1024, .f32⟩
  | .hbm, ⟨83, _⟩ => ⟨S2x4352x1024, .f32⟩
  | .hbm, ⟨84, _⟩ => ⟨S_, .f32⟩
  | .hbm, ⟨85, _⟩ => ⟨S1024, .f32⟩
  | .hbm, ⟨86, _⟩ => ⟨S1x1x1024, .f32⟩
  | .hbm, ⟨87, _⟩ => ⟨S2x4352x1024, .f32⟩
  | .hbm, ⟨88, _⟩ => ⟨S2x4352x1024, .f32⟩
  | .hbm, ⟨89, _⟩ => ⟨S_, .f32⟩
  | .hbm, ⟨90, _⟩ => ⟨S1024, .f32⟩
  | .hbm, ⟨91, _⟩ => ⟨S2x4352x1024, .f32⟩
  | .hbm, ⟨92, _⟩ => ⟨S_, .f32⟩
  | .hbm, ⟨93, _⟩ => ⟨S2x4352, .f32⟩
  | .hbm, ⟨94, _⟩ => ⟨S2x4352x1, .f32⟩
  | .hbm, ⟨95, _⟩ => ⟨S2x4352x1024, .f32⟩
  | .hbm, ⟨96, _⟩ => ⟨S2x4352x1024, .f32⟩
  | .hbm, ⟨97, _⟩ => ⟨S2x4352x1, .f32⟩
  | .hbm, ⟨98, _⟩ => ⟨S_, .f32⟩
  | .hbm, ⟨99, _⟩ => ⟨S2x4352x1, .f32⟩
  | .hbm, ⟨100, _⟩ => ⟨S2x4352x1, .f32⟩
  | .hbm, ⟨101, _⟩ => ⟨S_, .f32⟩
  | .hbm, ⟨102, _⟩ => ⟨S2x4352, .f32⟩
  | .hbm, ⟨103, _⟩ => ⟨S2x4352x1024, .f32⟩
  | .hbm, ⟨104, _⟩ => ⟨S2x4352x1024, .f32⟩
  | .hbm, ⟨105, _⟩ => ⟨S2x4352x1024, .f32⟩
  | .hbm, ⟨106, _⟩ => ⟨S2x4352x1024, .f32⟩
  | .hbm, ⟨107, _⟩ => ⟨S2x4352x1024, .f32⟩
  | .hbm, ⟨108, _⟩ => ⟨S2x4352x1024, .f32⟩
  | .hbm, ⟨109, _⟩ => ⟨S2x4352x2048, .bf16⟩
  | .hbm, ⟨110, _⟩ => ⟨S2x2x1x1024, .f32⟩
  | .hbm, ⟨111, _⟩ => ⟨S2x2x1x1024, .f32⟩
  | .hbm, ⟨112, _⟩ => ⟨S_, .f32⟩
  | .hbm, ⟨113, _⟩ => ⟨S2x2x6x1024, .f32⟩
  | .hbm, ⟨114, _⟩ => ⟨S2x2x8x1024, .f32⟩
  | .hbm, ⟨115, _⟩ => ⟨S1x1024, .f32⟩
  | .hbm, ⟨116, _⟩ => ⟨S_, .f32⟩
  | .hbm, ⟨117, _⟩ => ⟨S7x1024, .f32⟩
  | .hbm, ⟨118, _⟩ => ⟨S8x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel4.lean ====
abbrev S2x4352x1024 : Shape := ⟨3, ![2, 4352, 1024]⟩
abbrev S2x4352x2048 : Shape := ⟨3, ![2, 4352, 2048]⟩
abbrev S8704x1024 : Shape := ⟨2, ![8704, 1024]⟩
abbrev S8704x2048 : Shape := ⟨2, ![8704, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2048, .bf16⟩
  | .hbm, ⟨2, _⟩ => ⟨S8704x1024, .bf16⟩
  | .hbm, ⟨3, _⟩ => ⟨S8704x2048, .bf16⟩
  | .hbm, ⟨4, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2x4352x1024 : Shape := ⟨3, ![2, 4352, 1024]⟩
abbrev S2x4352x2048 : Shape := ⟨3, ![2, 4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2048, .bf16⟩
  | .hbm, ⟨2, _⟩ => ⟨S2x4352x1024, .f32⟩
  | .hbm, ⟨3, _⟩ => ⟨S2x4352x2048, .f32⟩
  | .hbm, ⟨4, _⟩ => ⟨S_, .f32⟩
  | .hbm, ⟨5, _⟩ => ⟨S1024x2048, .f32⟩
  | .hbm, ⟨6, _⟩ => ⟨S2x4352x2048, .f32⟩
  | .hbm, ⟨7, _⟩ => ⟨S2048x1024, .f32⟩
  | .hbm, ⟨8, _⟩ => ⟨S1024x2048, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2x4352x1024 : Shape := ⟨3, ![2, 4352, 1024]⟩
abbrev S8704x1024 : Shape := ⟨2, ![8704, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S8704x1024, .bf16⟩
  | .hbm, ⟨3, _⟩ => ⟨S8704x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S2x4352x1024 : Shape := ⟨3, ![2, 4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x4352x1024, .f32⟩
  | .hbm, ⟨3, _⟩ => ⟨S2x4352x1024, .f32⟩
  | .hbm, ⟨4, _⟩ => ⟨S_, .f32⟩
  | .hbm, ⟨5, _⟩ => ⟨S1024x1024, .f32⟩
  | .hbm, ⟨6, _⟩ => ⟨S2x4352x1024, .f32⟩
  | .hbm, ⟨7, _⟩ => ⟨S1024x1024, .f32⟩
  | .hbm, ⟨8, _⟩ => ⟨S1024x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2x4352x1024 : Shape := ⟨3, ![2, 4352, 1024]⟩
abbrev S2x4352x2304 : Shape := ⟨3, ![2, 4352, 2304]⟩
abbrev S8704x1024 : Shape := ⟨2, ![8704, 1024]⟩
abbrev S8704x2304 : Shape := ⟨2, ![8704, 2304]⟩
abbrev S1024x2304 : Shape := ⟨2, ![1024, 2304]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2304, .bf16⟩
  | .hbm, ⟨2, _⟩ => ⟨S8704x1024, .bf16⟩
  | .hbm, ⟨3, _⟩ => ⟨S8704x2304, .bf16⟩
  | .hbm, ⟨4, _⟩ => ⟨S1024x2304, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2x4352x1024 : Shape := ⟨3, ![2, 4352, 1024]⟩
abbrev S2x4352x2304 : Shape := ⟨3, ![2, 4352, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2304, .bf16⟩
  | .hbm, ⟨2, _⟩ => ⟨S2x4352x1024, .f32⟩
  | .hbm, ⟨3, _⟩ => ⟨S2x4352x2304, .f32⟩
  | .hbm, ⟨4, _⟩ => ⟨S_, .f32⟩
  | .hbm, ⟨5, _⟩ => ⟨S1024x2304, .f32⟩
  | .hbm, ⟨6, _⟩ => ⟨S2x4352x2304, .f32⟩
  | .hbm, ⟨7, _⟩ => ⟨S2304x1024, .f32⟩
  | .hbm, ⟨8, _⟩ => ⟨S1024x2304, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2x4352x512 : Shape := ⟨3, ![2, 4352, 512]⟩
abbrev S8704x512 : Shape := ⟨2, ![8704, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2x4352x512, .bf16⟩
  | .hbm, ⟨1, _⟩ => ⟨S2x4352x512, .bf16⟩
  | .hbm, ⟨2, _⟩ => ⟨S8704x512, .bf16⟩
  | .hbm, ⟨3, _⟩ => ⟨S8704x512, .bf16⟩
  | .hbm, ⟨4, _⟩ => ⟨S512x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | _, _ => ⟨S2x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S2x4352x512 : Shape := ⟨3, ![2, 4352, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x512, .bf16⟩
  | .hbm, ⟨1, _⟩ => ⟨S2x4352x512, .bf16⟩
  | .hbm, ⟨2, _⟩ => ⟨S2x4352x512, .f32⟩
  | .hbm, ⟨3, _⟩ => ⟨S2x4352x512, .f32⟩
  | .hbm, ⟨4, _⟩ => ⟨S_, .f32⟩
  | .hbm, ⟨5, _⟩ => ⟨S512x512, .f32⟩
  | .hbm, ⟨6, _⟩ => ⟨S2x4352x512, .f32⟩
  | .hbm, ⟨7, _⟩ => ⟨S512x512, .f32⟩
  | .hbm, ⟨8, _⟩ => ⟨S512x512, .f32⟩
  | _, _ => ⟨S2x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2x4352x512 : Shape := ⟨3, ![2, 4352, 512]⟩
abbrev S2x4352x256 : Shape := ⟨3, ![2, 4352, 256]⟩
abbrev S1x512 : Shape := ⟨2, ![1, 512]⟩
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2304 : Shape := ⟨2, ![1024, 2304]⟩
abbrev S2x4352x2304 : Shape := ⟨3, ![2, 4352, 2304]⟩
abbrev S8x1024 : Shape := ⟨2, ![8, 1024]⟩
abbrev S1x256x512 : Shape := ⟨3, ![1, 256, 512]⟩
abbrev S1x256x256 : Shape := ⟨3, ![1, 256, 256]⟩
abbrev S1x256x1024 : Shape := ⟨3, ![1, 256, 1024]⟩
abbrev S1x1x8x1024 : Shape := ⟨4, ![1, 1, 8, 1024]⟩
abbrev S1x256x2304 : Shape := ⟨3, ![1, 256, 2304]⟩
abbrev S256x512 : Shape := ⟨2, ![256, 512]⟩
abbrev S256x256 : Shape := ⟨2, ![256, 256]⟩
abbrev S256x2304 : Shape := ⟨2, ![256, 2304]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S1024 : Shape := ⟨1, ![1024]⟩

abbrev nBuf : Space → Nat
  | .hbm => 16
  | .vmem => 28
  | .smem => 0
  | _ => 0

abbrev bufTy : (tb : Table) → Fin (tcTables nBuf tb) → BufTy
  | .hbm, ⟨0, _⟩ => ⟨S2x4352x512, .bf16⟩
  | .hbm, ⟨1, _⟩ => ⟨S2x4352x256, .f32⟩
  | .hbm, ⟨2, _⟩ => ⟨S2x4352x512, .bf16⟩
  | .hbm, ⟨3, _⟩ => ⟨S2x4352x512, .f32⟩
  | .hbm, ⟨4, _⟩ => ⟨S2x4352x512, .bf16⟩
  | .hbm, ⟨5, _⟩ => ⟨S2x4352x512, .f32⟩
  | .hbm, ⟨6, _⟩ => ⟨S1x512, .f32⟩
  | .hbm, ⟨7, _⟩ => ⟨S2x4352x1024, .f32⟩
  | .hbm, ⟨8, _⟩ => ⟨S2x4352x1024, .f32⟩
  | .hbm, ⟨9, _⟩ => ⟨S1x1024, .f32⟩
  | .hbm, ⟨10, _⟩ => ⟨S2x2x8x1024, .f32⟩
  | .hbm, ⟨11, _⟩ => ⟨S1024x2304, .bf16⟩
  | .hbm, ⟨12, _⟩ => ⟨S2x4352x1024, .f32⟩
  | .hbm, ⟨13, _⟩ => ⟨S2x4352x2304, .bf16⟩
  | .hbm, ⟨14, _⟩ => ⟨S2x2x8x1024, .f32⟩
  | .hbm, ⟨15, _⟩ => ⟨S8x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .f32⟩
  | .local _ .vmem, ⟨3, _⟩ => ⟨S1x256x256, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x512, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x1024, .f32⟩
  | .local _ .vmem, ⟨18, _⟩ => ⟨S1x1x8x1024, .f32⟩
  | .local _ .vmem, ⟨19, _⟩ => ⟨S1x1x8x1024, .f32⟩
  | .local _ .vmem, ⟨20, _⟩ => ⟨S1024x2304, .bf16⟩
  | .local _ .vmem, ⟨21, _⟩ => ⟨S1x256x1024, .f32⟩
  | .local _ .vmem, ⟨22, _⟩ => ⟨S1x256x1024, .f32⟩
  | .local _ .vmem, ⟨23, _⟩ => ⟨S1x256x2304, .bf16⟩
  | .local _ .vmem, ⟨24, _⟩ => ⟨S1x256x2304, .bf16⟩
  | .local _ .vmem, ⟨25, _⟩ => ⟨S1x1x8x1024, .f32⟩
  | .local _ .vmem, ⟨26, _⟩ => ⟨S1x1x8x1024, .f32⟩
  | .local _ .vmem, ⟨27, _⟩ => ⟨S8x1024, .f32⟩
  | _, _ => ⟨S2x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1024x2304 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2304 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference8Ideal.lean ====
abbrev S2x4352x512 : Shape := ⟨3, ![2, 4352, 512]⟩
abbrev S2x4352x256 : Shape := ⟨3, ![2, 4352, 256]⟩
abbrev S1x512 : Shape := ⟨2, ![1, 512]⟩
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2304 : Shape := ⟨2, ![1024, 2304]⟩
abbrev S1024 : Shape := ⟨1, ![1024]⟩
abbrev S2x2x1x1024 : Shape := ⟨4, ![2, 2, 1, 1024]⟩
abbrev S2x2x1024 : Shape := ⟨3, ![2, 2, 1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x1x1024 : Shape := ⟨3, ![2, 1, 1024]⟩
abbrev S2x256x1024 : Shape := ⟨3, ![2, 256, 1024]⟩
abbrev S2x4096x1024 : Shape := ⟨3, ![2, 4096, 1024]⟩
abbrev S2x4352x2304 : Shape := ⟨3, ![2, 4352, 2304]⟩
abbrev S512 : Shape := ⟨1, ![512]⟩
abbrev S1x1x512 : Shape := ⟨3, ![1, 1, 512]⟩
abbrev S2x1024 : Shape := ⟨2, ![2, 1024]⟩
abbrev S2x2x6x1024 : Shape := ⟨4, ![2, 2, 6, 1024]⟩
abbrev S7x1024 : Shape := ⟨2, ![7, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S2x4352x512, .bf16⟩
  | 1 => ⟨S2x4352x256, .f32⟩
  | 2 => ⟨S2x4352x512, .bf16⟩
  | 3 => ⟨S2x4352x512, .f32⟩
  | 4 => ⟨S2x4352x512, .bf16⟩
  | 5 => ⟨S2x4352x512, .f32⟩
  | 6 => ⟨S1x512, .f32⟩
  | 7 => ⟨S2x4352x1024, .f32⟩
  | 8 => ⟨S2x4352x1024, .f32⟩
  | 9 => ⟨S1x1024, .f32⟩
  | 10 => ⟨S2x2x8x1024, .f32⟩
  | 11 => ⟨S1024x2304, .bf16⟩
  | 12 => ⟨S2x4352x512, .f32⟩
  | 13 => ⟨S2x4352x512, .f32⟩
  | 14 => ⟨S2x4352x512, .f32⟩
  | 15 => ⟨S1024x2304, .f32⟩
  | 16 => ⟨S1024, .f32⟩
  | 17 => ⟨S2x2x1x1024, .f32⟩
  | 18 => ⟨S2x2x1024, .f32⟩
  | 19 => ⟨S2x2x1x1024, .f32⟩
  | 20 => ⟨S2x2x1024, .f32⟩
  | 21 => ⟨S2x4352x1024, .f32⟩
  | 22 => ⟨S_, .f32⟩
  | 23 => ⟨S2x4352, .f32⟩
  | 24 => ⟨S2x4352x1, .f32⟩
  | 25 => ⟨S_, .f32⟩
  | 26 => ⟨S2x4352x1, .f32⟩
  | 27 => ⟨S2x4352x1, .f32⟩
  | 28 => ⟨S_, .f32⟩
  | 29 => ⟨S2x4352x1, .f32⟩
  | 30 => ⟨S2x4352x1, .f32⟩
  | 31 => ⟨S2x4352x1, .f32⟩
  | 32 => ⟨S2x4352x1, .f32⟩
  | 33 => ⟨S_, .f32⟩
  | 34 => ⟨S2x4352x1, .f32⟩
  | 35 => ⟨S2x4352x1, .f32⟩
  | 36 => ⟨S2x4352x1024, .f32⟩
  | 37 => ⟨S2x4352x1024, .f32⟩
  | 38 => ⟨S1x1x1024, .f32⟩
  | 39 => ⟨S2x4352x1024, .f32⟩
  | 40 => ⟨S2x4352x1024, .f32⟩
  | 41 => ⟨S2x1x1024, .f32⟩
  | 42 => ⟨S2x256x1024, .f32⟩
  | 43 => ⟨S2x1x1024, .f32⟩
  | 44 => ⟨S2x4096x1024, .f32⟩
  | 45 => ⟨S2x4352x1024, .f32⟩
  | 46 => ⟨S_, .f32⟩
  | 47 => ⟨S2x4352x1024, .f32⟩
  | 48 => ⟨S2x4352x1024, .f32⟩
  | 49 => ⟨S2x4352x1024, .f32⟩
  | 50 => ⟨S2x1x1024, .f32⟩
  | 51 => ⟨S2x256x1024, .f32⟩
  | 52 => ⟨S2x1x1024, .f32⟩
  | 53 => ⟨S2x4096x1024, .f32⟩
  | 54 => ⟨S2x4352x1024, .f32⟩
  | 55 => ⟨S2x4352x1024, .f32⟩
  | 56 => ⟨S2x4352x2304, .f32⟩
  | 57 => ⟨S512, .f32⟩
  | 58 => ⟨S2x4352x512, .f32⟩
  | 59 => ⟨S2x4352x256, .f32⟩
  | 60 => ⟨S2x4352x512, .f32⟩
  | 61 => ⟨S2x4352x512, .f32⟩
  | 62 => ⟨S2x4352x512, .f32⟩
  | 63 => ⟨S1x1x512, .f32⟩
  | 64 => ⟨S2x4352x512, .f32⟩
  | 65 => ⟨S2x4352x512, .f32⟩
  | 66 => ⟨S2x4352x512, .f32⟩
  | 67 => ⟨S2x4352x512, .f32⟩
  | 68 => ⟨S2x4352x512, .f32⟩
  | 69 => ⟨S2x4352x2304, .f32⟩
  | 70 => ⟨S2x4352x1024, .f32⟩
  | 71 => ⟨S2x256x1024, .f32⟩
  | 72 => ⟨S2x4096x1024, .f32⟩
  | 73 => ⟨S_, .f32⟩
  | 74 => ⟨S2x1024, .f32⟩
  | 75 => ⟨S2x1x1024, .f32⟩
  | 76 => ⟨S_, .f32⟩
  | 77 => ⟨S2x2x1024, .f32⟩
  | 78 => ⟨S_, .f32⟩
  | 79 => ⟨S2x1024, .f32⟩
  | 80 => ⟨S2x1x1024, .f32⟩
  | 81 => ⟨S_, .f32⟩
  | 82 => ⟨S2x2x1024, .f32⟩
  | 83 => ⟨S2x2x1024, .f32⟩
  | 84 => ⟨S2x4352x1024, .f32⟩
  | 85 => ⟨S2x4352x1024, .f32⟩
  | 86 => ⟨S2x256x1024, .f32⟩
  | 87 => ⟨S2x4096x1024, .f32⟩
  | 88 => ⟨S_, .f32⟩
  | 89 => ⟨S2x1024, .f32⟩
  | 90 => ⟨S2x1x1024, .f32⟩
  | 91 => ⟨S_, .f32⟩
  | 92 => ⟨S2x2x1024, .f32⟩
  | 93 => ⟨S_, .f32⟩
  | 94 => ⟨S2x1024, .f32⟩
  | 95 => ⟨S2x1x1024, .f32⟩
  | 96 => ⟨S_, .f32⟩
  | 97 => ⟨S2x2x1024, .f32⟩
  | 98 => ⟨S2x2x1024, .f32⟩
  | 99 => ⟨S2x4352x1024, .f32⟩
  | 100 => ⟨S_, .f32⟩
  | 101 => ⟨S1024, .f32⟩
  | 102 => ⟨S1x1x1024, .f32⟩
  | 103 => ⟨S2x4352x1024, .f32⟩
  | 104 => ⟨S2x4352x1024, .f32⟩
  | 105 => ⟨S_, .f32⟩
  | 106 => ⟨S1024, .f32⟩
  | 107 => ⟨S2x4352x1024, .f32⟩
  | 108 => ⟨S_, .f32⟩
  | 109 => ⟨S2x4352, .f32⟩
  | 110 => ⟨S2x4352x1, .f32⟩
  | 111 => ⟨S2x4352x1024, .f32⟩
  | 112 => ⟨S2x4352x1024, .f32⟩
  | 113 => ⟨S2x4352x1, .f32⟩
  | 114 => ⟨S_, .f32⟩
  | 115 => ⟨S2x4352x1, .f32⟩
  | 116 => ⟨S2x4352x1, .f32⟩
  | 117 => ⟨S_, .f32⟩
  | 118 => ⟨S2x4352, .f32⟩
  | 119 => ⟨S2x4352x1024, .f32⟩
  | 120 => ⟨S2x4352x1024, .f32⟩
  | 121 => ⟨S2x4352x1024, .f32⟩
  | 122 => ⟨S2x4352x1024, .f32⟩
  | 123 => ⟨S2x4352x1024, .f32⟩
  | 124 => ⟨S2x4352x1024, .f32⟩
  | 125 => ⟨S2x4352x2304, .bf16⟩
  | 126 => ⟨S2x2x1x1024, .f32⟩
  | 127 => ⟨S2x2x1x1024, .f32⟩
  | _ => ⟨S2x4352x512, .bf16⟩

abbrev hbmTy0_1 (i : Nat) : BufTy := match i % 128 with
  | 0 => ⟨S_, .f32⟩
  | 1 => ⟨S2x2x6x1024, .f32⟩
  | 2 => ⟨S2x2x8x1024, .f32⟩
  | 3 => ⟨S1x1024, .f32⟩
  | 4 => ⟨S_, .f32⟩
  | 5 => ⟨S7x1024, .f32⟩
  | 6 => ⟨S8x1024, .f32⟩
  | _ => ⟨S2x4352x512, .bf16⟩

abbrev hbmTy (i : Nat) : BufTy := match i / 128 with
  | 0 => hbmTy0_0 i
  | 1 => hbmTy0_1 i
  | _ => ⟨S2x4352x512, .bf16⟩

abbrev bufTy : (tb : Table) → Fin (tcTables nBuf tb) → BufTy
  | .hbm, ⟨i, _⟩ => hbmTy i
  | _, _ => ⟨S2x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_cst_5 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_17 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_18 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Kernel9.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2048 : Shape := ⟨2, ![1024, 2048]⟩
abbrev S1x256x1024 : Shape := ⟨3, ![1, 256, 1024]⟩
abbrev S1x1x8x1024 : Shape := ⟨4, ![1, 1, 8, 1024]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S2x2x8x1024, .f32⟩
  | .hbm, ⟨3, _⟩ => ⟨S1024x2048, .bf16⟩
  | .hbm, ⟨4, _⟩ => ⟨S2x4352x1024, .bf16⟩
  | .hbm, ⟨5, _⟩ => ⟨S2x4352x1024, .f32⟩
  | .hbm, ⟨6, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1024x2048, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2048 : Shape := ⟨2, ![1024, 2048]⟩
abbrev S1024 : Shape := ⟨1, ![1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x4096x1024 : Shape := ⟨3, ![2, 4096, 1024]⟩
abbrev S2x4352x2048 : Shape := ⟨3, ![2, 4352, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S2x2x8x1024, .f32⟩
  | .hbm, ⟨3, _⟩ => ⟨S1024x2048, .bf16⟩
  | .hbm, ⟨4, _⟩ => ⟨S1024, .f32⟩
  | .hbm, ⟨5, _⟩ => ⟨S2x4352x1024, .f32⟩
  | .hbm, ⟨6, _⟩ => ⟨S_, .f32⟩
  | .hbm, ⟨7, _⟩ => ⟨S2x4352, .f32⟩
  | .hbm, ⟨8, _⟩ => ⟨S2x4352x1, .f32⟩
  | .hbm, ⟨9, _⟩ => ⟨S_, .f32⟩
  | .hbm, ⟨10, _⟩ => ⟨S2x4352x1, .f32⟩
  | .hbm, ⟨11, _⟩ => ⟨S2x4352x1, .f32⟩
  | .hbm, ⟨12, _⟩ => ⟨S_, .f32⟩
  | .hbm, ⟨13, _⟩ => ⟨S2x4352x1, .f32⟩
  | .hbm, ⟨14, _⟩ => ⟨S2x4352x1, .f32⟩
  | .hbm, ⟨15, _⟩ => ⟨S2x4352x1, .f32⟩
  | .hbm, ⟨16, _⟩ => ⟨S2x4352x1024, .f32⟩
  | .hbm, ⟨17, _⟩ => ⟨S2x4352x1024, .f32⟩
  | .hbm, ⟨18, _⟩ => ⟨S1x1x1024, .f32⟩
  | .hbm, ⟨19, _⟩ => ⟨S2x4352x1024, .f32⟩
  | .hbm, ⟨20, _⟩ => ⟨S2x4352x1024, .f32⟩
  | .hbm, ⟨21, _⟩ => ⟨S2x2x1x1024, .f32⟩
  | .hbm, ⟨22, _⟩ => ⟨S2x2x1024, .f32⟩
  | .hbm, ⟨23, _⟩ => ⟨S2x1x1024, .f32⟩
  | .hbm, ⟨24, _⟩ => ⟨S2x256x1024, .f32⟩
  | .hbm, ⟨25, _⟩ => ⟨S2x1x1024, .f32⟩
  | .hbm, ⟨26, _⟩ => ⟨S2x4096x1024, .f32⟩
  | .hbm, ⟨27, _⟩ => ⟨S2x4352x1024, .f32⟩
  | .hbm, ⟨28, _⟩ => ⟨S_, .f32⟩
  | .hbm, ⟨29, _⟩ => ⟨S2x4352x1024, .f32⟩
  | .hbm, ⟨30, _⟩ => ⟨S2x4352x1024, .f32⟩
  | .hbm, ⟨31, _⟩ => ⟨S2x4352x1024, .f32⟩
  | .hbm, ⟨32, _⟩ => ⟨S2x2x1x1024, .f32⟩
  | .hbm, ⟨33, _⟩ => ⟨S2x2x1024, .f32⟩
  | .hbm, ⟨34, _⟩ => ⟨S2x1x1024, .f32⟩
  | .hbm, ⟨35, _⟩ => ⟨S2x256x1024, .f32⟩
  | .hbm, ⟨36, _⟩ => ⟨S2x1x1024, .f32⟩
  | .hbm, ⟨37, _⟩ => ⟨S2x4096x1024, .f32⟩
  | .hbm, ⟨38, _⟩ => ⟨S2x4352x1024, .f32⟩
  | .hbm, ⟨39, _⟩ => ⟨S2x4352x1024, .f32⟩
  | .hbm, ⟨40, _⟩ => ⟨S1024x2048, .f32⟩
  | .hbm, ⟨41, _⟩ => ⟨S2x4352x2048, .f32⟩
  | .hbm, ⟨42, _⟩ => ⟨S2x4352x1024, .f32⟩
  | .hbm, ⟨43, _⟩ => ⟨S2x4352x1024, .f32⟩
  | .hbm, ⟨44, _⟩ => ⟨S2x4352x1024, .bf16⟩
  | .hbm, ⟨45, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel10.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2304 : Shape := ⟨2, ![1024, 2304]⟩
abbrev S2x4352x512 : Shape := ⟨3, ![2, 4352, 512]⟩
abbrev S2x4352x256 : Shape := ⟨3, ![2, 4352, 256]⟩
abbrev S1x256x1024 : Shape := ⟨3, ![1, 256, 1024]⟩
abbrev S1x1x8x1024 : Shape := ⟨4, ![1, 1, 8, 1024]⟩
abbrev S1x256x512 : Shape := ⟨3, ![1, 256, 512]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x2304 : Shape := ⟨2, ![256, 2304]⟩
abbrev S256x512 : Shape := ⟨2, ![256, 512]⟩
abbrev S256x256 : Shape := ⟨2, ![256, 256]⟩

abbrev nBuf : Space → Nat
  | .hbm => 10
  | .vmem => 18
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S2x2x8x1024, .f32⟩
  | .hbm, ⟨3, _⟩ => ⟨S1024x2304, .bf16⟩
  | .hbm, ⟨4, _⟩ => ⟨S2x4352x1024, .bf16⟩
  | .hbm, ⟨5, _⟩ => ⟨S2x4352x512, .f32⟩
  | .hbm, ⟨6, _⟩ => ⟨S2x4352x256, .f32⟩
  | .hbm, ⟨7, _⟩ => ⟨S2x4352x512, .bf16⟩
  | .hbm, ⟨8, _⟩ => ⟨S2x4352x512, .f32⟩
  | .hbm, ⟨9, _⟩ => ⟨S2x4352x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1024x2304, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x512, .f32⟩
  | .local _ .vmem, ⟨9, _⟩ => ⟨S1x256x512, .f32⟩
  | .local _ .vmem, ⟨10, _⟩ => ⟨S1x256x256, .f32⟩
  | .local _ .vmem, ⟨11, _⟩ => ⟨S1x256x256, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .bf16⟩
  | .local _ .vmem, ⟨17, _⟩ => ⟨S1x256x512, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S2x4352x1024 : Shape := ⟨3, ![2, 4352, 1024]⟩
abbrev S1x1024 : Shape := ⟨2, ![1, 1024]⟩
abbrev S2x2x8x1024 : Shape := ⟨4, ![2, 2, 8, 1024]⟩
abbrev S1024x2304 : Shape := ⟨2, ![1024, 2304]⟩
abbrev S1024 : Shape := ⟨1, ![1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x4096x1024 : Shape := ⟨3, ![2, 4096, 1024]⟩
abbrev S2x4352x2304 : Shape := ⟨3, ![2, 4352, 2304]⟩
abbrev S2x4352x512 : Shape := ⟨3, ![2, 4352, 512]⟩
abbrev S2x4352x256 : Shape := ⟨3, ![2, 4352, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S1x1024, .f32⟩
  | .hbm, ⟨2, _⟩ => ⟨S2x2x8x1024, .f32⟩
  | .hbm, ⟨3, _⟩ => ⟨S1024x2304, .bf16⟩
  | .hbm, ⟨4, _⟩ => ⟨S1024, .f32⟩
  | .hbm, ⟨5, _⟩ => ⟨S2x4352x1024, .f32⟩
  | .hbm, ⟨6, _⟩ => ⟨S_, .f32⟩
  | .hbm, ⟨7, _⟩ => ⟨S2x4352, .f32⟩
  | .hbm, ⟨8, _⟩ => ⟨S2x4352x1, .f32⟩
  | .hbm, ⟨9, _⟩ => ⟨S_, .f32⟩
  | .hbm, ⟨10, _⟩ => ⟨S2x4352x1, .f32⟩
  | .hbm, ⟨11, _⟩ => ⟨S2x4352x1, .f32⟩
  | .hbm, ⟨12, _⟩ => ⟨S_, .f32⟩
  | .hbm, ⟨13, _⟩ => ⟨S2x4352x1, .f32⟩
  | .hbm, ⟨14, _⟩ => ⟨S2x4352x1, .f32⟩
  | .hbm, ⟨15, _⟩ => ⟨S2x4352x1, .f32⟩
  | .hbm, ⟨16, _⟩ => ⟨S2x4352x1024, .f32⟩
  | .hbm, ⟨17, _⟩ => ⟨S2x4352x1024, .f32⟩
  | .hbm, ⟨18, _⟩ => ⟨S1x1x1024, .f32⟩
  | .hbm, ⟨19, _⟩ => ⟨S2x4352x1024, .f32⟩
  | .hbm, ⟨20, _⟩ => ⟨S2x4352x1024, .f32⟩
  | .hbm, ⟨21, _⟩ => ⟨S2x2x1x1024, .f32⟩
  | .hbm, ⟨22, _⟩ => ⟨S2x2x1024, .f32⟩
  | .hbm, ⟨23, _⟩ => ⟨S2x1x1024, .f32⟩
  | .hbm, ⟨24, _⟩ => ⟨S2x256x1024, .f32⟩
  | .hbm, ⟨25, _⟩ => ⟨S2x1x1024, .f32⟩
  | .hbm, ⟨26, _⟩ => ⟨S2x4096x1024, .f32⟩
  | .hbm, ⟨27, _⟩ => ⟨S2x4352x1024, .f32⟩
  | .hbm, ⟨28, _⟩ => ⟨S_, .f32⟩
  | .hbm, ⟨29, _⟩ => ⟨S2x4352x1024, .f32⟩
  | .hbm, ⟨30, _⟩ => ⟨S2x4352x1024, .f32⟩
  | .hbm, ⟨31, _⟩ => ⟨S2x4352x1024, .f32⟩
  | .hbm, ⟨32, _⟩ => ⟨S2x2x1x1024, .f32⟩
  | .hbm, ⟨33, _⟩ => ⟨S2x2x1024, .f32⟩
  | .hbm, ⟨34, _⟩ => ⟨S2x1x1024, .f32⟩
  | .hbm, ⟨35, _⟩ => ⟨S2x256x1024, .f32⟩
  | .hbm, ⟨36, _⟩ => ⟨S2x1x1024, .f32⟩
  | .hbm, ⟨37, _⟩ => ⟨S2x4096x1024, .f32⟩
  | .hbm, ⟨38, _⟩ => ⟨S2x4352x1024, .f32⟩
  | .hbm, ⟨39, _⟩ => ⟨S2x4352x1024, .f32⟩
  | .hbm, ⟨40, _⟩ => ⟨S1024x2304, .f32⟩
  | .hbm, ⟨41, _⟩ => ⟨S2x4352x2304, .f32⟩
  | .hbm, ⟨42, _⟩ => ⟨S2x4352x512, .f32⟩
  | .hbm, ⟨43, _⟩ => ⟨S2x4352x256, .f32⟩
  | .hbm, ⟨44, _⟩ => ⟨S2x4352x512, .f32⟩
  | .hbm, ⟨45, _⟩ => ⟨S2x4352x512, .f32⟩
  | .hbm, ⟨46, _⟩ => ⟨S2x4352x512, .f32⟩
  | .hbm, ⟨47, _⟩ => ⟨S2x4352x1024, .bf16⟩
  | .hbm, ⟨48, _⟩ => ⟨S2x4352x512, .bf16⟩
  | .hbm, ⟨49, _⟩ => ⟨S2x4352x512, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel11.lean ====
abbrev S2x4352x1024 : Shape := ⟨3, ![2, 4352, 1024]⟩
abbrev S2x2x8x1024 : Shape := ⟨4, ![2, 2, 8, 1024]⟩
abbrev S4x256x256 : Shape := ⟨3, ![4, 256, 256]⟩
abbrev S1x1024 : Shape := ⟨2, ![1, 1024]⟩
abbrev S1024x1024 : Shape := ⟨2, ![1024, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S256x256 : Shape := ⟨2, ![256, 256]⟩
abbrev S1x256x256 : Shape := ⟨3, ![1, 256, 256]⟩
abbrev S1x1x1x1024 : Shape := ⟨4, ![1, 1, 1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x1024, .bf16⟩
  | .hbm, ⟨3, _⟩ => ⟨S2x4352x1024, .bf16⟩
  | .hbm, ⟨4, _⟩ => ⟨S4x256x256, .bf16⟩
  | .hbm, ⟨5, _⟩ => ⟨S1x1024, .f32⟩
  | .hbm, ⟨6, _⟩ => ⟨S1024x1024, .bf16⟩
  | .hbm, ⟨7, _⟩ => ⟨S2x4352x1024, .f32⟩
  | .hbm, ⟨8, _⟩ => ⟨S2x4352x1024, .bf16⟩
  | .hbm, ⟨9, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S2x4352x1024 : Shape := ⟨3, ![2, 4352, 1024]⟩
abbrev S2x2x8x1024 : Shape := ⟨4, ![2, 2, 8, 1024]⟩
abbrev S4x256x256 : Shape := ⟨3, ![4, 256, 256]⟩
abbrev S1x1024 : Shape := ⟨2, ![1, 1024]⟩
abbrev S1024x1024 : Shape := ⟨2, ![1024, 1024]⟩
abbrev S2x4352x4x256 : Shape := ⟨4, ![2, 4352, 4, 256]⟩
abbrev S4x256x2x4352 : Shape := ⟨4, ![4, 256, 2, 4352]⟩
abbrev S1024 : Shape := ⟨1, ![1024]⟩
abbrev S1x1x1024 : Shape := ⟨3, ![1, 1, 1024]⟩
abbrev S_ : Shape := ⟨0, ![]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x4096x1024 : Shape := ⟨3, ![2, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x1024, .bf16⟩
  | .hbm, ⟨3, _⟩ => ⟨S2x4352x1024, .bf16⟩
  | .hbm, ⟨4, _⟩ => ⟨S4x256x256, .bf16⟩
  | .hbm, ⟨5, _⟩ => ⟨S1x1024, .f32⟩
  | .hbm, ⟨6, _⟩ => ⟨S1024x1024, .bf16⟩
  | .hbm, ⟨7, _⟩ => ⟨S2x4352x1024, .f32⟩
  | .hbm, ⟨8, _⟩ => ⟨S2x4352x1024, .f32⟩
  | .hbm, ⟨9, _⟩ => ⟨S4x256x256, .f32⟩
  | .hbm, ⟨10, _⟩ => ⟨S1024x1024, .f32⟩
  | .hbm, ⟨11, _⟩ => ⟨S2x4352x4x256, .f32⟩
  | .hbm, ⟨12, _⟩ => ⟨S4x256x2x4352, .f32⟩
  | .hbm, ⟨13, _⟩ => ⟨S2x4352x4x256, .f32⟩
  | .hbm, ⟨14, _⟩ => ⟨S2x4352x1024, .f32⟩
  | .hbm, ⟨15, _⟩ => ⟨S1024, .f32⟩
  | .hbm, ⟨16, _⟩ => ⟨S1x1x1024, .f32⟩
  | .hbm, ⟨17, _⟩ => ⟨S2x4352x1024, .f32⟩
  | .hbm, ⟨18, _⟩ => ⟨S2x4352x1024, .f32⟩
  | .hbm, ⟨19, _⟩ => ⟨S2x4352x1024, .f32⟩
  | .hbm, ⟨20, _⟩ => ⟨S2x4352x1024, .f32⟩
  | .hbm, ⟨21, _⟩ => ⟨S_, .f32⟩
  | .hbm, ⟨22, _⟩ => ⟨S2x4352x1024, .f32⟩
  | .hbm, ⟨23, _⟩ => ⟨S2x4352x1024, .f32⟩
  | .hbm, ⟨24, _⟩ => ⟨S_, .f32⟩
  | .hbm, ⟨25, _⟩ => ⟨S2x4352x1024, .f32⟩
  | .hbm, ⟨26, _⟩ => ⟨S2x4352x1024, .f32⟩
  | .hbm, ⟨27, _⟩ => ⟨S2x4352x1024, .f32⟩
  | .hbm, ⟨28, _⟩ => ⟨S2x4352x1024, .f32⟩
  | .hbm, ⟨29, _⟩ => ⟨S2x4352x1024, .f32⟩
  | .hbm, ⟨30, _⟩ => ⟨S2x2x1x1024, .f32⟩
  | .hbm, ⟨31, _⟩ => ⟨S2x2x1024, .f32⟩
  | .hbm, ⟨32, _⟩ => ⟨S2x1x1024, .f32⟩
  | .hbm, ⟨33, _⟩ => ⟨S2x256x1024, .f32⟩
  | .hbm, ⟨34, _⟩ => ⟨S2x1x1024, .f32⟩
  | .hbm, ⟨35, _⟩ => ⟨S2x4096x1024, .f32⟩
  | .hbm, ⟨36, _⟩ => ⟨S2x4352x1024, .f32⟩
  | .hbm, ⟨37, _⟩ => ⟨S2x4352x1024, .f32⟩
  | .hbm, ⟨38, _⟩ => ⟨S2x4352x1024, .f32⟩
  | .hbm, ⟨39, _⟩ => ⟨S2x4352x1024, .bf16⟩
  | .hbm, ⟨40, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel12.lean ====
abbrev S2x4352x1024 : Shape := ⟨3, ![2, 4352, 1024]⟩
abbrev S2x2x8x1024 : Shape := ⟨4, ![2, 2, 8, 1024]⟩
abbrev S2x4352x512 : Shape := ⟨3, ![2, 4352, 512]⟩
abbrev S1x512 : Shape := ⟨2, ![1, 512]⟩
abbrev S512x512 : Shape := ⟨2, ![512, 512]⟩
abbrev S1024x1024 : Shape := ⟨2, ![1024, 1024]⟩
abbrev S1x256x1024 : Shape := ⟨3, ![1, 256, 1024]⟩
abbrev S1x1x8x1024 : Shape := ⟨4, ![1, 1, 8, 1024]⟩
abbrev S1x256x512 : Shape := ⟨3, ![1, 256, 512]⟩
abbrev S256x512 : Shape := ⟨2, ![256, 512]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 14
  | .vmem => 24
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x512, .f32⟩
  | .hbm, ⟨3, _⟩ => ⟨S2x4352x512, .bf16⟩
  | .hbm, ⟨4, _⟩ => ⟨S2x4352x512, .f32⟩
  | .hbm, ⟨5, _⟩ => ⟨S2x4352x512, .f32⟩
  | .hbm, ⟨6, _⟩ => ⟨S1x512, .f32⟩
  | .hbm, ⟨7, _⟩ => ⟨S2x4352x512, .bf16⟩
  | .hbm, ⟨8, _⟩ => ⟨S512x512, .bf16⟩
  | .hbm, ⟨9, _⟩ => ⟨S1x512, .f32⟩
  | .hbm, ⟨10, _⟩ => ⟨S1024x1024, .bf16⟩
  | .hbm, ⟨11, _⟩ => ⟨S2x4352x1024, .f32⟩
  | .hbm, ⟨12, _⟩ => ⟨S2x4352x1024, .bf16⟩
  | .hbm, ⟨13, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x512, .f32⟩
  | .local _ .vmem, ⟨13, _⟩ => ⟨S1x256x512, .bf16⟩
  | .local _ .vmem, ⟨14, _⟩ => ⟨S1x256x512, .bf16⟩
  | .local _ .vmem, ⟨15, _⟩ => ⟨S512x512, .bf16⟩
  | .local _ .vmem, ⟨16, _⟩ => ⟨S1x512, .f32⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference12Ideal.lean ====
abbrev S2x4352x1024 : Shape := ⟨3, ![2, 4352, 1024]⟩
abbrev S2x2x8x1024 : Shape := ⟨4, ![2, 2, 8, 1024]⟩
abbrev S2x4352x512 : Shape := ⟨3, ![2, 4352, 512]⟩
abbrev S1x512 : Shape := ⟨2, ![1, 512]⟩
abbrev S512x512 : Shape := ⟨2, ![512, 512]⟩
abbrev S1024x1024 : Shape := ⟨2, ![1024, 1024]⟩
abbrev S512 : Shape := ⟨1, ![512]⟩
abbrev S1x1x512 : Shape := ⟨3, ![1, 1, 512]⟩
abbrev S_ : Shape := ⟨0, ![]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x4096x1024 : Shape := ⟨3, ![2, 4096, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x512, .f32⟩
  | .hbm, ⟨3, _⟩ => ⟨S2x4352x512, .bf16⟩
  | .hbm, ⟨4, _⟩ => ⟨S2x4352x512, .f32⟩
  | .hbm, ⟨5, _⟩ => ⟨S2x4352x512, .f32⟩
  | .hbm, ⟨6, _⟩ => ⟨S1x512, .f32⟩
  | .hbm, ⟨7, _⟩ => ⟨S2x4352x512, .bf16⟩
  | .hbm, ⟨8, _⟩ => ⟨S512x512, .bf16⟩
  | .hbm, ⟨9, _⟩ => ⟨S1x512, .f32⟩
  | .hbm, ⟨10, _⟩ => ⟨S1024x1024, .bf16⟩
  | .hbm, ⟨11, _⟩ => ⟨S2x4352x512, .f32⟩
  | .hbm, ⟨12, _⟩ => ⟨S2x4352x512, .f32⟩
  | .hbm, ⟨13, _⟩ => ⟨S512x512, .f32⟩
  | .hbm, ⟨14, _⟩ => ⟨S1024x1024, .f32⟩
  | .hbm, ⟨15, _⟩ => ⟨S512, .f32⟩
  | .hbm, ⟨16, _⟩ => ⟨S1x1x512, .f32⟩
  | .hbm, ⟨17, _⟩ => ⟨S2x4352x512, .f32⟩
  | .hbm, ⟨18, _⟩ => ⟨S2x4352x512, .f32⟩
  | .hbm, ⟨19, _⟩ => ⟨S2x4352x512, .f32⟩
  | .hbm, ⟨20, _⟩ => ⟨S2x4352x512, .f32⟩
  | .hbm, ⟨21, _⟩ => ⟨S2x4352x512, .f32⟩
  | .hbm, ⟨22, _⟩ => ⟨S_, .f32⟩
  | .hbm, ⟨23, _⟩ => ⟨S2x4352x512, .f32⟩
  | .hbm, ⟨24, _⟩ => ⟨S2x4352x512, .f32⟩
  | .hbm, ⟨25, _⟩ => ⟨S2x4352x512, .f32⟩
  | .hbm, ⟨26, _⟩ => ⟨S_, .f32⟩
  | .hbm, ⟨27, _⟩ => ⟨S2x4352x512, .f32⟩
  | .hbm, ⟨28, _⟩ => ⟨S2x4352x512, .f32⟩
  | .hbm, ⟨29, _⟩ => ⟨S2x4352x512, .f32⟩
  | .hbm, ⟨30, _⟩ => ⟨S_, .f32⟩
  | .hbm, ⟨31, _⟩ => ⟨S2x4352x512, .f32⟩
  | .hbm, ⟨32, _⟩ => ⟨S2x4352x512, .f32⟩
  | .hbm, ⟨33, _⟩ => ⟨S_, .f32⟩
  | .hbm, ⟨34, _⟩ => ⟨S2x4352x512, .f32⟩
  | .hbm, ⟨35, _⟩ => ⟨S2x4352x512, .f32⟩
  | .hbm, ⟨36, _⟩ => ⟨S2x4352x512, .f32⟩
  | .hbm, ⟨37, _⟩ => ⟨S2x4352x512, .f32⟩
  | .hbm, ⟨38, _⟩ => ⟨S512, .f32⟩
  | .hbm, ⟨39, _⟩ => ⟨S1x1x512, .f32⟩
  | .hbm, ⟨40, _⟩ => ⟨S2x4352x512, .f32⟩
  | .hbm, ⟨41, _⟩ => ⟨S2x4352x512, .f32⟩
  | .hbm, ⟨42, _⟩ => ⟨S2x4352x512, .f32⟩
  | .hbm, ⟨43, _⟩ => ⟨S2x4352x512, .f32⟩
  | .hbm, ⟨44, _⟩ => ⟨S_, .f32⟩
  | .hbm, ⟨45, _⟩ => ⟨S2x4352x512, .f32⟩
  | .hbm, ⟨46, _⟩ => ⟨S2x4352x512, .f32⟩
  | .hbm, ⟨47, _⟩ => ⟨S_, .f32⟩
  | .hbm, ⟨48, _⟩ => ⟨S2x4352x512, .f32⟩
  | .hbm, ⟨49, _⟩ => ⟨S2x4352x512, .f32⟩
  | .hbm, ⟨50, _⟩ => ⟨S2x4352x512, .f32⟩
  | .hbm, ⟨51, _⟩ => ⟨S2x4352x512, .f32⟩
  | .hbm, ⟨52, _⟩ => ⟨S2x4352x512, .f32⟩
  | .hbm, ⟨53, _⟩ => ⟨S_, .f32⟩
  | .hbm, ⟨54, _⟩ => ⟨S2x4352x512, .f32⟩
  | .hbm, ⟨55, _⟩ => ⟨S2x4352x512, .f32⟩
  | .hbm, ⟨56, _⟩ => ⟨S_, .f32⟩
  | .hbm, ⟨57, _⟩ => ⟨S2x4352x512, .f32⟩
  | .hbm, ⟨58, _⟩ => ⟨S2x4352x512, .f32⟩
  | .hbm, ⟨59, _⟩ => ⟨S2x4352x512, .f32⟩
  | .hbm, ⟨60, _⟩ => ⟨S2x4352x512, .f32⟩
  | .hbm, ⟨61, _⟩ => ⟨S2x4352x512, .f32⟩
  | .hbm, ⟨62, _⟩ => ⟨S2x4352x512, .f32⟩
  | .hbm, ⟨63, _⟩ => ⟨S_, .f32⟩
  | .hbm, ⟨64, _⟩ => ⟨S2x4352x512, .f32⟩
  | .hbm, ⟨65, _⟩ => ⟨S2x4352x512, .f32⟩
  | .hbm, ⟨66, _⟩ => ⟨S_, .f32⟩
  | .hbm, ⟨67, _⟩ => ⟨S2x4352x512, .f32⟩
  | .hbm, ⟨68, _⟩ => ⟨S2x4352x512, .f32⟩
  | .hbm, ⟨69, _⟩ => ⟨S2x4352x512, .f32⟩
  | .hbm, ⟨70, _⟩ => ⟨S2x4352x512, .f32⟩
  | .hbm, ⟨71, _⟩ => ⟨S2x4352x1024, .f32⟩
  | .hbm, ⟨72, _⟩ => ⟨S2x4352x1024, .f32⟩
  | .hbm, ⟨73, _⟩ => ⟨S2x2x1x1024, .f32⟩
  | .hbm, ⟨74, _⟩ => ⟨S2x2x1024, .f32⟩
  | .hbm, ⟨75, _⟩ => ⟨S2x1x1024, .f32⟩
  | .hbm, ⟨76, _⟩ => ⟨S2x256x1024, .f32⟩
  | .hbm, ⟨77, _⟩ => ⟨S2x1x1024, .f32⟩
  | .hbm, ⟨78, _⟩ => ⟨S2x4096x1024, .f32⟩
  | .hbm, ⟨79, _⟩ => ⟨S2x4352x1024, .f32⟩
  | .hbm, ⟨80, _⟩ => ⟨S2x4352x1024, .f32⟩
  | .hbm, ⟨81, _⟩ => ⟨S2x4352x1024, .f32⟩
  | .hbm, ⟨82, _⟩ => ⟨S2x4352x1024, .bf16⟩
  | .hbm, ⟨83, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Kernel13.lean ====
abbrev S2x4352x1024 : Shape := ⟨3, ![2, 4352, 1024]⟩
abbrev S2x2x8x1024 : Shape := ⟨4, ![2, 2, 8, 1024]⟩
abbrev S4x256x256 : Shape := ⟨3, ![4, 256, 256]⟩
abbrev S1x1024 : Shape := ⟨2, ![1, 1024]⟩
abbrev S1024x1024 : Shape := ⟨2, ![1024, 1024]⟩
abbrev S8x1024 : Shape := ⟨2, ![8, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S1x1x1x1024 : Shape := ⟨4, ![1, 1, 1, 1024]⟩
abbrev S1024 : Shape := ⟨1, ![1024]⟩
abbrev S256x256 : Shape := ⟨2, ![256, 256]⟩
abbrev S1x256x256 : Shape := ⟨3, ![1, 256, 256]⟩

abbrev nBuf : Space → Nat
  | .hbm => 14
  | .vmem => 24
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x1024, .bf16⟩
  | .hbm, ⟨3, _⟩ => ⟨S2x4352x1024, .bf16⟩
  | .hbm, ⟨4, _⟩ => ⟨S4x256x256, .bf16⟩
  | .hbm, ⟨5, _⟩ => ⟨S1x1024, .f32⟩
  | .hbm, ⟨6, _⟩ => ⟨S1024x1024, .bf16⟩
  | .hbm, ⟨7, _⟩ => ⟨S2x4352x1024, .bf16⟩
  | .hbm, ⟨8, _⟩ => ⟨S2x4352x1024, .f32⟩
  | .hbm, ⟨9, _⟩ => ⟨S2x4352x1024, .bf16⟩
  | .hbm, ⟨10, _⟩ => ⟨S2x4352x1024, .bf16⟩
  | .hbm, ⟨11, _⟩ => ⟨S2x4352x1024, .bf16⟩
  | .hbm, ⟨12, _⟩ => ⟨S2x2x8x1024, .f32⟩
  | .hbm, ⟨13, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .f32⟩
  | .local _ .vmem, ⟨14, _⟩ => ⟨S1x256x1024, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x1x8x1024, .f32⟩
  | .local _ .vmem, ⟨22, _⟩ => ⟨S1x1x8x1024, .f32⟩
  | .local _ .vmem, ⟨23, _⟩ => ⟨S8x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference13Ideal.lean ====
abbrev S2x4352x1024 : Shape := ⟨3, ![2, 4352, 1024]⟩
abbrev S2x2x8x1024 : Shape := ⟨4, ![2, 2, 8, 1024]⟩
abbrev S4x256x256 : Shape := ⟨3, ![4, 256, 256]⟩
abbrev S1x1024 : Shape := ⟨2, ![1, 1024]⟩
abbrev S1024x1024 : Shape := ⟨2, ![1024, 1024]⟩
abbrev S2x4352x4x256 : Shape := ⟨4, ![2, 4352, 4, 256]⟩
abbrev S4x256x2x4352 : Shape := ⟨4, ![4, 256, 2, 4352]⟩
abbrev S1024 : Shape := ⟨1, ![1024]⟩
abbrev S1x1x1024 : Shape := ⟨3, ![1, 1, 1024]⟩
abbrev S_ : Shape := ⟨0, ![]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x4096x1024 : Shape := ⟨3, ![2, 4096, 1024]⟩
abbrev S2x1024 : Shape := ⟨2, ![2, 1024]⟩
abbrev S4x2x4352x256 : Shape := ⟨4, ![4, 2, 4352, 256]⟩
abbrev S2x2x7x1024 : Shape := ⟨4, ![2, 2, 7, 1024]⟩
abbrev S7x1024 : Shape := ⟨2, ![7, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S2x4352x1024, .bf16⟩
  | .hbm, ⟨3, _⟩ => ⟨S2x4352x1024, .bf16⟩
  | .hbm, ⟨4, _⟩ => ⟨S4x256x256, .bf16⟩
  | .hbm, ⟨5, _⟩ => ⟨S1x1024, .f32⟩
  | .hbm, ⟨6, _⟩ => ⟨S1024x1024, .bf16⟩
  | .hbm, ⟨7, _⟩ => ⟨S2x4352x1024, .bf16⟩
  | .hbm, ⟨8, _⟩ => ⟨S2x4352x1024, .f32⟩
  | .hbm, ⟨9, _⟩ => ⟨S2x4352x1024, .f32⟩
  | .hbm, ⟨10, _⟩ => ⟨S4x256x256, .f32⟩
  | .hbm, ⟨11, _⟩ => ⟨S1024x1024, .f32⟩
  | .hbm, ⟨12, _⟩ => ⟨S2x4352x1024, .f32⟩
  | .hbm, ⟨13, _⟩ => ⟨S2x4352x4x256, .f32⟩
  | .hbm, ⟨14, _⟩ => ⟨S4x256x2x4352, .f32⟩
  | .hbm, ⟨15, _⟩ => ⟨S2x4352x4x256, .f32⟩
  | .hbm, ⟨16, _⟩ => ⟨S2x4352x1024, .f32⟩
  | .hbm, ⟨17, _⟩ => ⟨S1024, .f32⟩
  | .hbm, ⟨18, _⟩ => ⟨S1x1x1024, .f32⟩
  | .hbm, ⟨19, _⟩ => ⟨S2x4352x1024, .f32⟩
  | .hbm, ⟨20, _⟩ => ⟨S2x4352x1024, .f32⟩
  | .hbm, ⟨21, _⟩ => ⟨S2x4352x1024, .f32⟩
  | .hbm, ⟨22, _⟩ => ⟨S2x4352x1024, .f32⟩
  | .hbm, ⟨23, _⟩ => ⟨S_, .f32⟩
  | .hbm, ⟨24, _⟩ => ⟨S2x4352x1024, .f32⟩
  | .hbm, ⟨25, _⟩ => ⟨S2x4352x1024, .f32⟩
  | .hbm, ⟨26, _⟩ => ⟨S_, .f32⟩
  | .hbm, ⟨27, _⟩ => ⟨S2x4352x1024, .f32⟩
  | .hbm, ⟨28, _⟩ => ⟨S2x4352x1024, .f32⟩
  | .hbm, ⟨29, _⟩ => ⟨S_, .f32⟩
  | .hbm, ⟨30, _⟩ => ⟨S2x4352x1024, .f32⟩
  | .hbm, ⟨31, _⟩ => ⟨S2x4352x1024, .f32⟩
  | .hbm, ⟨32, _⟩ => ⟨S2x4352x1024, .f32⟩
  | .hbm, ⟨33, _⟩ => ⟨S2x4352x1024, .f32⟩
  | .hbm, ⟨34, _⟩ => ⟨S2x4352x1024, .f32⟩
  | .hbm, ⟨35, _⟩ => ⟨S2x4352x1024, .f32⟩
  | .hbm, ⟨36, _⟩ => ⟨S2x2x1x1024, .f32⟩
  | .hbm, ⟨37, _⟩ => ⟨S2x2x1024, .f32⟩
  | .hbm, ⟨38, _⟩ => ⟨S2x1x1024, .f32⟩
  | .hbm, ⟨39, _⟩ => ⟨S2x256x1024, .f32⟩
  | .hbm, ⟨40, _⟩ => ⟨S2x1x1024, .f32⟩
  | .hbm, ⟨41, _⟩ => ⟨S2x4096x1024, .f32⟩
  | .hbm, ⟨42, _⟩ => ⟨S2x4352x1024, .f32⟩
  | .hbm, ⟨43, _⟩ => ⟨S2x4352x1024, .f32⟩
  | .hbm, ⟨44, _⟩ => ⟨S2x4352x1024, .f32⟩
  | .hbm, ⟨45, _⟩ => ⟨S2x4352x1024, .f32⟩
  | .hbm, ⟨46, _⟩ => ⟨S2x256x1024, .f32⟩
  | .hbm, ⟨47, _⟩ => ⟨S2x4096x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S_, .f32⟩
  | .hbm, ⟨52, _⟩ => ⟨S2x2x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S_, .f32⟩
  | .hbm, ⟨57, _⟩ => ⟨S2x2x1024, .f32⟩
  | .hbm, ⟨58, _⟩ => ⟨S2x2x1024, .f32⟩
  | .hbm, ⟨59, _⟩ => ⟨S2x4352x1024, .f32⟩
  | .hbm, ⟨60, _⟩ => ⟨S2x4352x1024, .f32⟩
  | .hbm, ⟨61, _⟩ => ⟨S2x4352x1024, .f32⟩
  | .hbm, ⟨62, _⟩ => ⟨S2x4352x1024, .f32⟩
  | .hbm, ⟨63, _⟩ => ⟨S2x4352x1024, .f32⟩
  | .hbm, ⟨64, _⟩ => ⟨S2x4352x1024, .f32⟩
  | .hbm, ⟨65, _⟩ => ⟨S2x4352x1024, .f32⟩
  | .hbm, ⟨66, _⟩ => ⟨S2x4352x1024, .f32⟩
  | .hbm, ⟨67, _⟩ => ⟨S_, .f32⟩
  | .hbm, ⟨68, _⟩ => ⟨S1024, .f32⟩
  | .hbm, ⟨69, _⟩ => ⟨S1x1x1024, .f32⟩
  | .hbm, ⟨70, _⟩ => ⟨S2x4352x1024, .f32⟩
  | .hbm, ⟨71, _⟩ => ⟨S2x4352x1024, .f32⟩
  | .hbm, ⟨72, _⟩ => ⟨S_, .f32⟩
  | .hbm, ⟨73, _⟩ => ⟨S1024, .f32⟩
  | .hbm, ⟨74, _⟩ => ⟨S2x4352x4x256, .f32⟩
  | .hbm, ⟨75, _⟩ => ⟨S4x256x2x4352, .f32⟩
  | .hbm, ⟨76, _⟩ => ⟨S4x2x4352x256, .f32⟩
  | .hbm, ⟨77, _⟩ => ⟨S2x4352x4x256, .f32⟩
  | .hbm, ⟨78, _⟩ => ⟨S2x4352x1024, .f32⟩
  | .hbm, ⟨79, _⟩ => ⟨S2x4352x1024, .bf16⟩
  | .hbm, ⟨80, _⟩ => ⟨S2x4352x1024, .bf16⟩
  | .hbm, ⟨81, _⟩ => ⟨S2x4352x1024, .bf16⟩
  | .hbm, ⟨82, _⟩ => ⟨S2x2x1x1024, .f32⟩
  | .hbm, ⟨83, _⟩ => ⟨S_, .f32⟩
  | .hbm, ⟨84, _⟩ => ⟨S2x2x7x1024, .f32⟩
  | .hbm, ⟨85, _⟩ => ⟨S2x2x8x1024, .f32⟩
  | .hbm, ⟨86, _⟩ => ⟨S1x1024, .f32⟩
  | .hbm, ⟨87, _⟩ => ⟨S_, .f32⟩
  | .hbm, ⟨88, _⟩ => ⟨S7x1024, .f32⟩
  | .hbm, ⟨89, _⟩ => ⟨S8x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v13_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v13_1 : Ref sig .tc := ⟨.hbm, 32, rfl⟩
abbrev main_v13_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_cst_0 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Proof.BandBlock.lean ====
/- What one grid point of `pool_band_bwd` stores, said once for the four windows.

   The body treats each group of 256 lanes the same way, at the radius 1, 2, 4 or 8 of its pooling window: a 0/1 band
   matrix over (256 rows of the tile) × (272 rows around it), a weight per surrounding row (one over the number of rows
   its window holds), the product of the band with the weighted rows, and the tile's own rows taken off. `band`,
   `weight` and `windowed` name these three; `out_eq` says the stored block is the four results side by side. -/
module

public import proofs.«01_k».proof.Proof.Gen.KernelIdeal.Value

@[expose] public section

set_option maxRecDepth 16384

noncomputable section

namespace Cert.KernelIdeal.Band

open Cert.KernelIdeal Cert.KernelIdeal.Gen Idealize.ShloMosaic Idealize.ShloMosaic.TcCoe Idealize.SL.Sem

variable {F : FTy → Type} [FloatOps F]

/-- First row of the segment a tile lies in. -/
def segLo (i : grid0.Coords) : BitVec 32 :=
  Scalar.select (Scalar.cmpi .eq (BitVec.ofNat 32 (i 1).val) 0#32) 0#32 256#32
/-- One past the last row of the segment a tile lies in. -/
def segHi (i : grid0.Coords) : BitVec 32 :=
  Scalar.select (Scalar.cmpi .eq (BitVec.ofNat 32 (i 1).val) 0#32) 256#32 4352#32

/-- The band of radius `r`: 1 where a surrounding row lies in the segment and within `r` of the tile's row, else 0. -/
def band (i : grid0.Coords) (r : BitVec 32) : FVec F S256x272 .bf16 :=
  truncf .bf16 (sitofp .f32 (extui 32 (andi
    (cmpi .sle (absi (subi (broadcastTo S256x272 (k0_pay4 i) broadcasts_S256x1_S256x272)
      (broadcastTo S256x272 (k0_pay5 i) broadcasts_S1x272_S256x272))) (broadcast S256x272 r))
    (broadcastTo S256x272 (k0_pay7 i) broadcasts_S1x272_S256x272)) natLt_1_32)) bitsLt_bf16_f32

/-- One over the number of rows a surrounding row's window of radius `r` holds. -/
def weight (i : grid0.Coords) (r : BitVec 32) : FVec F S272x1 .f32 :=
  divf (broadcast S272x1 (Scalar.ofBits .f32 0x3F800000#32)) (sitofp .f32 (maxsi (addi (subi
    (minsi (addi (k0_pay6 i) (broadcast S272x1 r)) (broadcast S272x1 (Scalar.subi (segHi i) 1#32)))
    (maxsi (subi (k0_pay6 i) (broadcast S272x1 r)) (broadcast S272x1 (segLo i)))) (broadcast S272x1 1#32))
    (broadcast S272x1 1#32)))

/-- The band times the weighted rows, in the three parts the rows are split into, less the tile's own rows. -/
def windowed (b : FVec F S256x272 .bf16) (w : FVec F S272x1 .f32) (x : FVec F S272x256 .f32) (c : FVec F S256x256 .f32) :
    FVec F S256x256 .f32 :=
  let y : FVec F S272x256 .f32 := mulf x (broadcastTo S272x256 w broadcasts_S272x1_S272x256)
  let y₁ : FVec F S272x256 .f32 := subf y (extf .f32 (truncf .bf16 y bitsLt_bf16_f32) bitsLt_bf16_f32)
  let y₂ : FVec F S272x256 .f32 := subf y₁ (extf .f32 (truncf .bf16 y₁ bitsLt_bf16_f32) bitsLt_bf16_f32)
  subf (addf (addf
    (matmul dot_S256x272_S272x256_S256x256_1_0_0_1_n_n none b (truncf .bf16 y₂ bitsLt_bf16_f32) (constant S256x256 .f32 0x00000000#32))
    (matmul dot_S256x272_S272x256_S256x256_1_0_0_1_n_n none b (truncf .bf16 y₁ bitsLt_bf16_f32) (constant S256x256 .f32 0x00000000#32)))
    (matmul dot_S256x272_S272x256_S256x256_1_0_0_1_n_n none b (truncf .bf16 y bitsLt_bf16_f32) (constant S256x256 .f32 0x00000000#32))) c

/-- The block a grid point stores, from the eight rows before its tile, the tile and the eight rows after it. -/
def block (i : grid0.Coords) (x0 : Vec F S1x8x1024 .f32) (x1 : Vec F S1x256x1024 .f32) (x2 : Vec F S1x8x1024 .f32) :
    Vec F S1x256x1024 .bf16 :=
  shapeCast S1x256x1024 (truncf .bf16 (concatenate S256x1024 1
    [⟨S256x256, windowed (band i 1#32) (weight i 1#32) (extractStridedSlice S272x256 ![0, 0] (k0_pay3 x1 x0 x2) slices_S272x1024_o0_0_S272x256)
        (extractStridedSlice S256x256 ![0, 0] (k0_pay2 x1) slices_S256x1024_o0_0_S256x256)⟩,
     ⟨S256x256, windowed (band i 2#32) (weight i 2#32) (extractStridedSlice S272x256 ![0, 256] (k0_pay3 x1 x0 x2) slices_S272x1024_o0_256_S272x256)
        (extractStridedSlice S256x256 ![0, 256] (k0_pay2 x1) slices_S256x1024_o0_256_S256x256)⟩,
     ⟨S256x256, windowed (band i 4#32) (weight i 4#32) (extractStridedSlice S272x256 ![0, 512] (k0_pay3 x1 x0 x2) slices_S272x1024_o0_512_S272x256)
        (extractStridedSlice S256x256 ![0, 512] (k0_pay2 x1) slices_S256x1024_o0_512_S256x256)⟩,
     ⟨S256x256, windowed (band i 8#32) (weight i 8#32) (extractStridedSlice S272x256 ![0, 768] (k0_pay3 x1 x0 x2) slices_S272x1024_o0_768_S272x256)
        (extractStridedSlice S256x256 ![0, 768] (k0_pay2 x1) slices_S256x1024_o0_768_S256x256)⟩]
    concatenates_S256x256_S256x256_S256x256_S256x256_S256x1024_d1) bitsLt_bf16_f32) shapeCasts_S256x1024_S1x256x1024

private theorem hz : (![0, 0, 0] : Fin S1x256x1024.rank → ℕ) = fun _ => 0 := funext fun | ⟨0, _⟩ | ⟨1, _⟩ | ⟨2, _⟩ => rfl
private theorem hz8 : (![0, 0, 0] : Fin S1x8x1024.rank → ℕ) = fun _ => 0 := funext fun | ⟨0, _⟩ | ⟨1, _⟩ | ⟨2, _⟩ => rfl

/-- What a grid point stores is `block` of its three windows. -/
theorem out_eq (i : grid0.Coords) (x0 : Vec F S1x8x1024 .f32) (x1 : Vec F S1x256x1024 .f32) (x2 : Vec F S1x8x1024 .f32) :
    out0_3 i x0 x1 x2 = block i x0 x1 x2 := by
  unfold_out out0_3
  rw [View.canon_unit_zero hz, View.ld_unit_zero hz, View.ld_unit_zero hz8, View.ld_unit_zero hz8]
  rfl

end Cert.KernelIdeal.Band

end
-- ==== Proof.Words.lean ====
/- InRange signed numbers held in 32-bit words.

   The kernel computes its row numbers, segment ends and window sizes in 32-bit words. All of them stay far inside
   `-2^31 … 2^31`, so each word operation is the integer operation on the numbers the words stand for. `word z` is the
   word of the integer `z`; the lemmas carry sums, differences, minima, comparisons through it. -/
module

public import Idealize.ShloMosaic.Lib.Pointwise

@[expose] public section

namespace Cert.Words

open Idealize.ShloMosaic

/-- The 32-bit word of an integer. -/
def word (z : ℤ) : BitVec 32 := BitVec.ofInt 32 z

/-- The integers whose sums and differences of two stay in range. -/
def InRange (z : ℤ) : Prop := -1000000000 ≤ z ∧ z ≤ 1000000000

theorem toInt_word {z : ℤ} (h : InRange z) : (word z).toInt = z := by
  unfold word; unfold InRange at h
  rw [BitVec.toInt_ofInt]
  apply Int.bmod_eq_of_le <;> norm_num <;> omega

theorem ofNat_eq_word (n : ℕ) : BitVec.ofNat 32 n = word (n : ℤ) := by
  unfold word; exact (BitVec.ofInt_natCast _ _).symm

theorem addi_word (a b : ℤ) : IntOp.addi (word a) (word b) = word (a + b) :=
  (BitVec.ofInt_add ..).symm

theorem subi_word (a b : ℤ) : IntOp.subi (word a) (word b) = word (a - b) := by
  unfold word
  show BitVec.ofInt 32 a - BitVec.ofInt 32 b = _
  rw [sub_eq_add_neg a b, BitVec.ofInt_add, BitVec.ofInt_neg, BitVec.sub_eq_add_neg]

theorem scalar_subi_word (a b : ℤ) : Scalar.subi (word a) (word b) = word (a - b) := subi_word a b

theorem muli_word (a b : ℤ) : Scalar.muli (word a) (word b) = word (a * b) :=
  (BitVec.ofInt_mul ..).symm

theorem slt_word {a b : ℤ} (ha : InRange a) (hb : InRange b) : (word a).slt (word b) = decide (a < b) := by
  rw [BitVec.slt_eq_decide, toInt_word ha, toInt_word hb]

theorem sle_word {a b : ℤ} (ha : InRange a) (hb : InRange b) : (word a).sle (word b) = decide (a ≤ b) := by
  rw [BitVec.sle_eq_decide, toInt_word ha, toInt_word hb]

theorem maxsi_word {a b : ℤ} (ha : InRange a) (hb : InRange b) : IntOp.maxsi (word a) (word b) = word (max a b) := by
  show (if (word b).slt (word a) then word a else word b) = _
  rw [slt_word hb ha]
  by_cases h : b < a
  · rw [max_eq_left h.le]; simp [h]
  · rw [max_eq_right (not_lt.mp h)]; simp [h]

theorem minsi_word {a b : ℤ} (ha : InRange a) (hb : InRange b) : IntOp.minsi (word a) (word b) = word (min a b) := by
  show (if (word a).slt (word b) then word a else word b) = _
  rw [slt_word ha hb]
  by_cases h : a < b
  · rw [min_eq_left h.le]; simp [h]
  · rw [min_eq_right (not_lt.mp h)]; simp [h]

theorem cmpi_sle_word {a b : ℤ} (ha : InRange a) (hb : InRange b) :
    IntOp.cmpi .sle (word a) (word b) = BitVec.ofBool (decide (a ≤ b)) := by
  show BitVec.ofBool ((word a).sle (word b)) = _
  rw [sle_word ha hb]

theorem cmpi_sge_word {a b : ℤ} (ha : InRange a) (hb : InRange b) :
    IntOp.cmpi .sge (word a) (word b) = BitVec.ofBool (decide (b ≤ a)) := by
  show BitVec.ofBool ((word b).sle (word a)) = _
  rw [sle_word hb ha]

theorem cmpi_slt_word {a b : ℤ} (ha : InRange a) (hb : InRange b) :
    IntOp.cmpi .slt (word a) (word b) = BitVec.ofBool (decide (a < b)) := by
  show BitVec.ofBool ((word a).slt (word b)) = _
  rw [slt_word ha hb]

theorem andi_ofBool (p q : Bool) : IntOp.andi (BitVec.ofBool p) (BitVec.ofBool q) = BitVec.ofBool (p && q) := by
  cases p <;> cases q <;> rfl

theorem absi_word {a : ℤ} (ha : InRange a) : IntOp.absi (word a) = word |a| := by
  show (if (word a).msb then -(word a) else word a) = _
  have hm : (word a).msb = decide (a < 0) := by
    rw [BitVec.msb_eq_toInt, toInt_word ha]
  rw [hm]
  by_cases h : a < 0
  · simp only [h, decide_true, if_true]
    rw [abs_of_neg h]; unfold word; rw [BitVec.ofInt_neg]
  · simp only [h, decide_false]
    rw [abs_of_nonneg (not_lt.mp h)]; simp

/-- A 0/1 flag widened to a word and converted to a real. -/
theorem sitofp_flag (p : Bool) :
    FloatOps.sitofp (F := Ideal) FTy.f32 (BitVec.setWidth 32 (BitVec.ofBool p)) = if p then (1 : EReal) else 0 := by
  cases p
  · show (((BitVec.setWidth 32 (BitVec.ofBool false)).toInt : ℝ) : EReal) = _
    rw [show (BitVec.setWidth 32 (BitVec.ofBool false)).toInt = 0 from by decide]; simp
  · show (((BitVec.setWidth 32 (BitVec.ofBool true)).toInt : ℝ) : EReal) = _
    rw [show (BitVec.setWidth 32 (BitVec.ofBool true)).toInt = 1 from by decide]; simp

/-- A word converted to a real is the integer it stands for. -/
theorem sitofp_word {z : ℤ} (h : InRange z) : FloatOps.sitofp (F := Ideal) FTy.f32 (word z) = ((z : ℝ) : EReal) := by
  show (((word z).toInt : ℝ) : EReal) = _
  rw [toInt_word h]

/-- Choosing between two words by whether a row-tile number is zero. -/
theorem select_zero (n : ℕ) (h : n < 1000) (a b : BitVec 32) :
    Scalar.select (Scalar.cmpi .eq (BitVec.ofNat 32 n) 0#32) a b = if n = 0 then a else b := by
  show (if BitVec.ofBool (BitVec.ofNat 32 n == 0#32) = 1#1 then a else b) = _
  by_cases hn : n = 0
  · subst hn; simp
  · have : (BitVec.ofNat 32 n == 0#32) = false := by
      rw [beq_eq_false_iff_ne]
      intro e
      have := congrArg BitVec.toNat e
      simp at this
      omega
    rw [this]; simp [hn]

end Cert.Words
-- ==== Proof.BandIdeal.lean ====
/- The stored block over the reals, entry by entry.

   For row `p` of tile `t` and surrounding row `k` (row `256·t + k − 8` of the array): the band is 1 exactly when the
   surrounding row lies in the tile's segment and within the radius, and the weight of a surrounding row of the segment
   is one over the number of rows of its window. When the rows are finite the second and third part of the three-part
   split are zero, so an entry is the plain weighted window sum less the row itself (`windowed_apply`). -/
module

public import proofs.«01_k».proof.Proof.BandBlock
public import proofs.«01_k».proof.Proof.Words
public import Idealize.ShloMosaic.Lib.Pointwise

@[expose] public section

set_option maxRecDepth 16384

noncomputable section

namespace Cert.KernelIdeal.Band

open Cert.KernelIdeal Cert.KernelIdeal.Gen Cert.Words Idealize.ShloMosaic Idealize.ShloMosaic.TcCoe Idealize.SL.Sem

/-- First row of the segment of tile `t`: tile 0 is the context, the others the latent rows. -/
def lo (t : ℕ) : ℤ := if t = 0 then 0 else 256
/-- One past the last row of the segment of tile `t`. -/
def hi (t : ℕ) : ℤ := if t = 0 then 256 else 4352

/-- The number of rows of the window of radius `r` around row `s`, cut to the segment `a ≤ · < b` (at least 1). -/
def rows (r a b s : ℤ) : ℤ := max (min (s + r) (b - 1) - max (s - r) a + 1) 1

theorem lo_eq (i : grid0.Coords) : segLo i = word (lo (i 1).val) := by
  unfold segLo lo
  rw [select_zero _ (lt_trans (i 1).isLt (by decide))]
  split <;> rfl

theorem hi_eq (i : grid0.Coords) : segHi i = word (hi (i 1).val) := by
  unfold segHi hi
  rw [select_zero _ (lt_trans (i 1).isLt (by decide))]
  split <;> rfl

theorem lo_cases (t : ℕ) : lo t = 0 ∨ lo t = 256 := by unfold lo; split <;> simp
theorem hi_cases (t : ℕ) : hi t = 256 ∨ hi t = 4352 := by unfold hi; split <;> simp

theorem tile_lt (i : grid0.Coords) : (i 1).val < 17 := (i 1).isLt

/-- The band's entry: 1 where the surrounding row is in the segment and within the radius. -/
theorem band_apply (i : grid0.Coords) (r : ℤ) (hr : 0 ≤ r ∧ r ≤ 8) (p : Fin 256) (k : Fin 272) :
    band (F := Ideal) i (word r) (ix2 p k)
      = if |(p.val : ℤ) + 8 - k.val| ≤ r ∧ lo (i 1).val ≤ (i 1).val * 256 - 8 + k.val ∧ (i 1).val * 256 - 8 + k.val < hi (i 1).val
        then (1 : EReal) else 0 := by
  have ht := tile_lt i
  have hl := lo_cases (i 1).val
  have hh := hi_cases (i 1).val
  unfold band
  unfold_payloads
  pointwise
  have e1 : Scalar.select (Scalar.cmpi CmpIPredicate.eq (BitVec.ofNat 32 (i 1).val) 0#32) 0#32 256#32 = word (lo (i 1).val) := lo_eq i
  have e2 : Scalar.select (Scalar.cmpi CmpIPredicate.eq (BitVec.ofNat 32 (i 1).val) 0#32) 256#32 4352#32 = word (hi (i 1).val) := hi_eq i
  rw [e1, e2]
  generalize (i 1).val = t at *
  rw [ofNat_eq_word t, ofNat_eq_word p.val, ofNat_eq_word k.val, show (256#32) = word 256 from rfl, show (8#32) = word 8 from rfl]
  simp only [muli_word, scalar_subi_word, addi_word, subi_word]
  have hS : InRange ((t : ℤ) * 256 + (p.val : ℤ) - ((t : ℤ) * 256 - 8 + (k.val : ℤ))) := by unfold InRange; omega
  have hA : InRange |(t : ℤ) * 256 + (p.val : ℤ) - ((t : ℤ) * 256 - 8 + (k.val : ℤ))| := by
    unfold InRange at *; constructor
    · have := abs_nonneg ((t : ℤ) * 256 + (p.val : ℤ) - ((t : ℤ) * 256 - 8 + (k.val : ℤ))); omega
    · rw [abs_le]; omega
  rw [absi_word hS, cmpi_sle_word hA (by unfold InRange; omega), cmpi_sge_word (by unfold InRange; omega) (by unfold InRange; omega),
    cmpi_slt_word (by unfold InRange; omega) (by unfold InRange; omega), andi_ofBool, andi_ofBool, sitofp_flag]
  rw [show (t : ℤ) * 256 + (p.val : ℤ) - ((t : ℤ) * 256 - 8 + (k.val : ℤ)) = (p.val : ℤ) + 8 - k.val by ring]
  simp only [Bool.and_eq_true, decide_eq_true_eq]

/-- The weight of a surrounding row: one over the size of its window. -/
theorem weight_apply (i : grid0.Coords) (r : ℤ) (hr : 0 ≤ r ∧ r ≤ 8) (k : Fin 272) :
    weight (F := Ideal) i (word r) (ix2 k 0)
      = Ideal.div 1 (((rows r (lo (i 1).val) (hi (i 1).val) ((i 1).val * 256 - 8 + k.val) : ℤ) : ℝ) : EReal) := by
  have ht := tile_lt i
  have hl := lo_cases (i 1).val
  have hh := hi_cases (i 1).val
  unfold weight
  unfold_payloads
  pointwise
  rw [lo_eq, hi_eq]
  generalize (i 1).val = t at *
  unfold rows
  rw [ofNat_eq_word t, ofNat_eq_word k.val, show (256#32) = word 256 from rfl, show (8#32) = word 8 from rfl, show (1#32) = word 1 from rfl]
  simp only [muli_word, scalar_subi_word, addi_word, subi_word]
  rw [minsi_word (by unfold InRange; omega) (by unfold InRange; omega), maxsi_word (by unfold InRange; omega) (by unfold InRange; omega)]
  simp only [muli_word, scalar_subi_word, addi_word, subi_word]
  rw [maxsi_word (by unfold InRange; omega) (by unfold InRange; omega), sitofp_word (by unfold InRange; omega)]

/-- An extended real that is a real number. -/
def IsReal (x : EReal) : Prop := ∃ a : ℝ, x = (a : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub_self {x : EReal} (hx : IsReal x) : x - x = 0 := by
  obtain ⟨a, rfl⟩ := hx; rw [← EReal.coe_sub, _root_.sub_self]; rfl

theorem div_one_real {n : ℤ} (h : 1 ≤ n) : Ideal.div 1 (((n : ℤ) : ℝ) : EReal) = (((n : ℝ)⁻¹ : ℝ) : EReal) := by
  have h0 : ((n : ℝ) : EReal) ≠ 0 := by
    rw [Ne, EReal.coe_eq_zero]; exact_mod_cast (by omega : n ≠ 0)
  unfold Ideal.div
  rw [if_neg h0, one_mul, EReal.coe_inv]

theorem isReal_div_one {n : ℤ} (h : 1 ≤ n) : IsReal (Ideal.div 1 (((n : ℤ) : ℝ) : EReal)) := ⟨_, div_one_real h⟩

/-- With finite weighted rows, an entry is the plain sum less the tile's own row. -/
theorem windowed_apply (b : FVec Ideal S256x272 .bf16) (w : FVec Ideal S272x1 .f32) (x : FVec Ideal S272x256 .f32) (c : FVec Ideal S256x256 .f32)
    (p l : Fin 256) (hx : ∀ k, IsReal (x (ix2 k l))) (hw : ∀ k, IsReal (w (ix2 k 0))) :
    windowed b w x c (ix2 p l) = (∑ k : Fin 272, b (ix2 p k) * (x (ix2 k l) * w (ix2 k 0))) - c (ix2 p l) := by
  unfold windowed
  pointwise
  have h0 : ∀ k, x (ix2 k l) * w (ix2 k 0) - x (ix2 k l) * w (ix2 k 0) = 0 := fun k => ((hx k).mul (hw k)).sub_self
  simp only [h0, sub_self, sub_zero, mul_zero, Finset.sum_const_zero, zero_add]

/-- The rows around a tile: eight before it, the tile, eight after it. -/
def around (x0 : Vec Ideal S1x8x1024 .f32) (x1 : Vec Ideal S1x256x1024 .f32) (x2 : Vec Ideal S1x8x1024 .f32)
    (k : Fin 272) (l : Fin 1024) : EReal :=
  if h : k.val < 8 then x0 (ix3 0 ⟨k.val, h⟩ l) else if h : k.val - 8 < 256 then x1 (ix3 0 ⟨k.val - 8, h⟩ l)
  else x2 (ix3 0 ⟨k.val - 8 - 256, by omega⟩ l)

theorem pay3_apply (x0 : Vec Ideal S1x8x1024 .f32) (x1 : Vec Ideal S1x256x1024 .f32) (x2 : Vec Ideal S1x8x1024 .f32)
    (k : Fin 272) (l : Fin 1024) : k0_pay3 x1 x0 x2 (ix2 k l) = around x0 x1 x2 k l := by
  unfold_payloads
  pointwise
  rfl

/-- The radius of the window of lane `l`. -/
def radius (l : ℕ) : ℤ := if l < 256 then 1 else if l < 512 then 2 else if l < 768 then 4 else 8

theorem radius_bounds (l : ℕ) : 0 ≤ radius l ∧ radius l ≤ 8 := by unfold radius; split_ifs <;> omega

/-- The weighted window sum of the rows around a row of the tile, less the row itself. -/
def entry (t : ℕ) (y : Fin 272 → EReal) (z : EReal) (p : Fin 256) (r : ℤ) : EReal :=
  (∑ k : Fin 272, if |(p.val : ℤ) + 8 - k.val| ≤ r ∧ lo t ≤ t * 256 - 8 + k.val ∧ t * 256 - 8 + k.val < hi t
    then y k * Ideal.div 1 (((rows r (lo t) (hi t) (t * 256 - 8 + k.val) : ℤ) : ℝ) : EReal) else 0) - z

theorem windowed_entry (i : grid0.Coords) (r : ℤ) (hr : 0 ≤ r ∧ r ≤ 8) (x : FVec Ideal S272x256 .f32) (c : FVec Ideal S256x256 .f32)
    (p j : Fin 256) (y : Fin 272 → EReal) (z : EReal) (hy : ∀ k, IsReal (y k)) (ex : ∀ k, x (ix2 k j) = y k) (ec : c (ix2 p j) = z) :
    windowed (band i (word r)) (weight i (word r)) x c (ix2 p j) = entry (i 1).val y z p r := by
  rw [windowed_apply _ _ _ _ _ _ (fun k => by rw [ex]; exact hy k)
    (fun k => by rw [weight_apply i r hr]; exact isReal_div_one (le_max_right _ _)), ec]
  unfold entry
  congr 1
  refine Finset.sum_congr rfl fun k _ => ?_
  rw [band_apply i r hr, weight_apply i r hr, ex]
  by_cases h : |(p.val : ℤ) + 8 - k.val| ≤ r ∧ lo (i 1).val ≤ (i 1).val * 256 - 8 + k.val ∧ (i 1).val * 256 - 8 + k.val < hi (i 1).val
  · rw [if_pos h, if_pos h, one_mul]
  · rw [if_neg h, if_neg h, zero_mul]

/-- An entry of the stored block. -/
theorem block_apply (i : grid0.Coords) (x0 : Vec Ideal S1x8x1024 .f32) (x1 : Vec Ideal S1x256x1024 .f32) (x2 : Vec Ideal S1x8x1024 .f32)
    (hx : ∀ k l, IsReal (around x0 x1 x2 k l)) (p : Fin 256) (l : Fin 1024) :
    block i x0 x1 x2 (ix3 0 p l)
      = entry (i 1).val (fun k => around x0 x1 x2 k l) (x1 (ix3 0 p l)) p (radius l.val) := by
  unfold block
  pointwise
  by_cases h1 : l.val < 256
  · rw [dif_pos h1, show radius l.val = 1 by unfold radius; rw [if_pos h1]]
    refine windowed_entry i 1 (by omega) _ _ p ⟨l.val, h1⟩ _ _ (fun k => hx k l) (fun k => ?_) ?_
    · pointwise; exact pay3_apply x0 x1 x2 k l
    · unfold_payloads; pointwise
  rw [dif_neg h1]
  by_cases h2 : l.val - 256 < 256
  · rw [dif_pos h2, show radius l.val = 2 by unfold radius; rw [if_neg h1, if_pos (by omega)]]
    refine windowed_entry i 2 (by omega) _ _ p ⟨l.val - 256, h2⟩ _ _ (fun k => hx k l) (fun k => ?_) ?_
    · pointwise; exact (congrArg (k0_pay3 x1 x0 x2) (congrArg (ix2 k) (Fin.ext (by simp; omega)))).trans (pay3_apply x0 x1 x2 k l)
    · unfold_payloads; pointwise; exact congrArg (fun z => x1 (ix3 0 p z)) (Fin.ext (by simp; omega))
  rw [dif_neg h2]
  by_cases h3 : l.val - 256 - 256 < 256
  · rw [dif_pos h3, show radius l.val = 4 by unfold radius; rw [if_neg h1, if_neg (by omega), if_pos (by omega)]]
    refine windowed_entry i 4 (by omega) _ _ p ⟨l.val - 256 - 256, h3⟩ _ _ (fun k => hx k l) (fun k => ?_) ?_
    · pointwise; exact (congrArg (k0_pay3 x1 x0 x2) (congrArg (ix2 k) (Fin.ext (by simp; omega)))).trans (pay3_apply x0 x1 x2 k l)
    · unfold_payloads; pointwise; exact congrArg (fun z => x1 (ix3 0 p z)) (Fin.ext (by simp; omega))
  · rw [dif_neg h3, show radius l.val = 8 by unfold radius; rw [if_neg h1, if_neg (by omega), if_neg (by omega)]]
    refine windowed_entry i 8 (by omega) _ _ p ⟨l.val - 256 - 256 - 256, by omega⟩ _ _ (fun k => hx k l) (fun k => ?_) ?_
    · pointwise; exact (congrArg (k0_pay3 x1 x0 x2) (congrArg (ix2 k) (Fin.ext (by simp; omega)))).trans (pay3_apply x0 x1 x2 k l)
    · unfold_payloads; pointwise; exact congrArg (fun z => x1 (ix3 0 p z)) (Fin.ext (by simp; omega))

end Cert.KernelIdeal.Band

end
-- ==== Proof.Finite.lean ====
/- What the precondition says over the reals: every element of the cotangent is a real number. -/
module

public import proofs.«01_k».proof.Pre_finite
public import proofs.«01_k».proof.Proof.BandIdeal
public import Idealize.ShloMosaic.Lib.ReduceAll

@[expose] public section

noncomputable section

namespace Cert.Finite

open Idealize.ShloMosaic
open Cert.KernelIdeal.Band (IsReal)

instance [Cert.Pre_finite.Facts] : Subsingleton Cert.Pre_finite.S_.Idx := ⟨fun _ _ => funext fun a => a.elim0⟩

/-- An extended real whose absolute value is below `⊤` is a real number. -/
theorem isReal_of_abs_lt (x : EReal) (h : max x (-x) < ⊤) : IsReal x := by
  induction x using EReal.rec with
  | bot => simp at h
  | top => simp at h
  | coe r => exact ⟨r, rfl⟩

/-- `finite x` all ones: every element of `x` is real. -/
theorem isReal_of_pre [Cert.Pre_finite.Facts] (x : FVec Ideal Cert.Pre_finite.S2x4352x1024 .f32)
    (h : Cert.Pre_finite.fn (F := Ideal) x = fun _ => 1#1) (i : Cert.Pre_finite.S2x4352x1024.Idx) : IsReal (x i) := by
  have e := Host.reduce_andi_all _ _ _ _ _ (congrFun h ix0) i
  refine isReal_of_abs_lt _ ?_
  revert e
  pointwise
  intro e
  have top : Ideal.ofBits .f32 0x7F800000#32 = ⊤ := by simp [Ideal.ofBits, Ideal.ieee]
  rw [show (2139095040#32) = 0x7F800000#32 from rfl, top] at e
  by_contra hc
  rw [decide_eq_false (show ¬ FloatOps.absf (F := Ideal) (φ := .f32) (x i) < ⊤ from hc)] at e
  exact absurd e (by decide)

end Cert.Finite

end
-- ==== Proof.HostSums.lean ====
/- The host's running sum and its scatter-add, read at an index over the reals.

   The reference's gradient is made of two operations: rows added into rows of a zero array at computed row numbers
   (`scatter_rows`), and a running sum from the last row backwards (`suffix_sum`). -/
module

public import proofs.«01_k».proof.Proof.Words
public import Idealize.ShloMosaic.Lib.Routing.OpsPair
public import Idealize.ShloMosaic.Lib.Pointwise

@[expose] public section

noncomputable section

namespace Cert.HostSums

open Idealize.ShloMosaic

/-- A left fold that adds a term per position is the start plus the sum of the terms. -/
theorem foldl_add {n : ℕ} (g : Fin n → EReal) (v : EReal) : (List.finRange n).foldl (fun r i => r + g i) v = v + ∑ i, g i := by
  rw [Fin.sum_univ_def]
  generalize List.finRange n = L
  induction L generalizing v with
  | nil => simp
  | cons a L ih => rw [List.foldl_cons, ih, List.map_cons, List.sum_cons, add_assoc]

/-- A sum over the positions of a one-axis window in row-major order is the sum over that axis. -/
theorem sum_window {N : ℕ} (g : (⟨3, ![1, N, 1]⟩ : Shape).Idx → EReal) :
    ∑ i : Fin (⟨3, ![1, N, 1]⟩ : Shape).numel, g ((⟨3, ![1, N, 1]⟩ : Shape).rowMajor.symm i) = ∑ k : Fin N, g (ix3 0 k 0) := by
  rw [Equiv.sum_comp (⟨3, ![1, N, 1]⟩ : Shape).rowMajor.symm g, sum_idx3]
  simp

/-- A window of all `N` rows, padded after the last row: row `n` of the result is the sum of the rows from `n` on. -/
theorem suffix_sum {N Nm1 B L : ℕ} {u : Shape}
    (h : (⟨3, ![B, N, L]⟩ : Shape).ReduceWindows ![1, N, 1] ![1, 1, 1] ![0, 0, 0] ![0, Nm1, 0] ⟨3, ![B, N, L]⟩) (hu : 0 < u.numel)
    (x : FVec Ideal ⟨3, ![B, N, L]⟩ .f32) (init : FVec Ideal u .f32) (h0 : init (Shape.Idx.first hu) = 0) (b : Fin B) (n : Fin N) (l : Fin L) :
    Host.reduceWindowAdd ![1, N, 1] ![1, 1, 1] ![0, 0, 0] ![0, Nm1, 0] x init h hu (ix3 b n l)
      = ∑ s : Fin N, if n.val ≤ s.val then x (ix3 b s l) else 0 := by
  show Ideal.hostReduceWindowAdd ![1, N, 1] ![1, 1, 1] ![0, 0, 0] ![0, Nm1, 0] h x (init (Shape.Idx.first hu)) (ix3 b n l) = _
  rw [h0]
  unfold Ideal.hostReduceWindowAdd Host.reduceWindow
  refine (foldl_add _ _).trans ?_
  rw [zero_add]
  refine (Finset.sum_congr rfl fun i _ => ?_ : _ = ∑ i, _).trans ((sum_window (N := N) (fun w => if hin : ∀ a, (![0, 0, 0] : Fin 3 → ℕ) a ≤ ((ix3 b n l : (⟨3, ![B, N, L]⟩ : Shape).Idx) a).val * (![1, 1, 1] : Fin 3 → ℕ) a + (w a).val
      ∧ ((ix3 b n l : (⟨3, ![B, N, L]⟩ : Shape).Idx) a).val * (![1, 1, 1] : Fin 3 → ℕ) a + (w a).val - (![0, 0, 0] : Fin 3 → ℕ) a < (⟨3, ![B, N, L]⟩ : Shape).size a
      then x (fun a => ⟨_, (hin a).2⟩) else 0)).trans ?_)
  · congr
  have step : ∀ k : Fin N, (if hin : ∀ a, (![0, 0, 0] : Fin 3 → ℕ) a ≤ ((ix3 b n l : (⟨3, ![B, N, L]⟩ : Shape).Idx) a).val * (![1, 1, 1] : Fin 3 → ℕ) a + ((ix3 0 k 0 : (⟨3, ![1, N, 1]⟩ : Shape).Idx) a).val
      ∧ ((ix3 b n l : (⟨3, ![B, N, L]⟩ : Shape).Idx) a).val * (![1, 1, 1] : Fin 3 → ℕ) a + ((ix3 0 k 0 : (⟨3, ![1, N, 1]⟩ : Shape).Idx) a).val - (![0, 0, 0] : Fin 3 → ℕ) a < (⟨3, ![B, N, L]⟩ : Shape).size a
      then x (fun a => ⟨_, (hin a).2⟩) else 0) = if hk : n.val + k.val < N then x (ix3 b ⟨n.val + k.val, hk⟩ l) else 0 := by
    intro k
    by_cases hk : n.val + k.val < N
    · rw [dif_pos hk, dif_pos]
      · congr 1
        funext a; apply Fin.ext
        match a with
        | ⟨0, _⟩ => show b.val * 1 + 0 - 0 = b.val; omega
        | ⟨1, _⟩ => show n.val * 1 + k.val - 0 = n.val + k.val; omega
        | ⟨2, _⟩ => show l.val * 1 + 0 - 0 = l.val; omega
      · intro a
        match a with
        | ⟨0, _⟩ => exact ⟨Nat.zero_le _, by show b.val * 1 + 0 - 0 < B; omega⟩
        | ⟨1, _⟩ => exact ⟨Nat.zero_le _, by show n.val * 1 + k.val - 0 < N; omega⟩
        | ⟨2, _⟩ => exact ⟨Nat.zero_le _, by show l.val * 1 + 0 - 0 < L; omega⟩
    · rw [dif_neg hk, dif_neg]
      intro hin
      have := (hin 1).2
      change n.val * 1 + k.val - 0 < N at this
      omega
  rw [Finset.sum_congr rfl fun k _ => step k]
  have e1 : ∀ k : Fin N, (if hk : n.val + k.val < N then x (ix3 b ⟨n.val + k.val, hk⟩ l) else 0)
      = if n.val + k.val < N then x (ix3 b ⟨(n.val + k.val) % N, Nat.mod_lt _ (by have := n.isLt; omega)⟩ l) else 0 := by
    intro k
    by_cases hk : n.val + k.val < N
    · rw [dif_pos hk, if_pos hk]; congr 2; exact Fin.ext (Nat.mod_eq_of_lt hk).symm
    · rw [dif_neg hk, if_neg hk]
  rw [Finset.sum_congr rfl fun k _ => e1 k, ← Finset.sum_filter, ← Finset.sum_filter]
  have hN : 0 < N := by have := n.isLt; omega
  refine Finset.sum_nbij' (fun k => ⟨(n.val + k.val) % N, Nat.mod_lt _ hN⟩) (fun s => ⟨(s.val - n.val) % N, Nat.mod_lt _ hN⟩) ?_ ?_ ?_ ?_ ?_
  · intro k hk
    simp only [Finset.mem_filter, Finset.mem_univ, true_and] at hk ⊢
    rw [Nat.mod_eq_of_lt hk]; omega
  · intro s hs
    simp only [Finset.mem_filter, Finset.mem_univ, true_and] at hs ⊢
    rw [Nat.mod_eq_of_lt (by omega)]; omega
  · intro k hk
    simp only [Finset.mem_filter, Finset.mem_univ, true_and] at hk
    apply Fin.ext
    show ((n.val + k.val) % N - n.val) % N = k.val
    rw [Nat.mod_eq_of_lt hk, Nat.mod_eq_of_lt (by omega)]; omega
  · intro s hs
    simp only [Finset.mem_filter, Finset.mem_univ, true_and] at hs
    apply Fin.ext
    show (n.val + (s.val - n.val) % N) % N = s.val
    rw [Nat.mod_eq_of_lt (show s.val - n.val < N by omega), Nat.mod_eq_of_lt (by omega)]; omega
  · intro k hk; rfl

/-- Rows added into rows: update row `s` lands at row `z s`, its member and lane unchanged. -/
theorem scatter_rows {B M N L : ℕ} (d : ScatterDims ⟨3, ![B, M, L]⟩ ⟨2, ![N, 1]⟩ ⟨3, ![B, N, L]⟩)
    (h1 : d.updateWindowDims = [0, 2]) (h2 : d.insertedWindowDims = [1]) (h3 : d.scatterDimsToOperandDims = [1]) (h4 : d.indexVectorDim = 1)
    (x : FVec Ideal ⟨3, ![B, M, L]⟩ .f32) (idx : IVec ⟨2, ![N, 1]⟩ 32) (upd : FVec Ideal ⟨3, ![B, N, L]⟩ .f32) (z : Fin N → ℤ)
    (hz : ∀ s, (idx (ix2 s 0)).toInt = z s) (b : Fin B) (q : Fin M) (l : Fin L) :
    Host.scatterAdd d x idx upd (ix3 b q l) = x (ix3 b q l) + ∑ s : Fin N, if z s = q.val then upd (ix3 b s l) else 0 := by
  obtain ⟨uw, iw, sd, iv, wf⟩ := d
  simp only at h1 h2 h3 h4
  subst h1 h2 h3 h4
  show Ideal.hostScatterAdd _ x idx upd (ix3 b q l) = _
  unfold Ideal.hostScatterAdd
  congr 1
  rw [Finset.sum_filter, sum_idx3]
  have land : ∀ (b' : Fin B) (s : Fin N) (l' : Fin L),
      (ScatterDims.resultIdx? (⟨[0, 2], [1], [1], 1, wf⟩ : ScatterDims ⟨3, ![B, M, L]⟩ ⟨2, ![N, 1]⟩ ⟨3, ![B, N, L]⟩) (ix3 b' s l') idx = some (ix3 b q l))
        ↔ (b' = b ∧ z s = q.val ∧ l' = l) := by
    intro b' s l'
    rw [Routing.resultIdx?_eq_some]
    have hs : ScatterDims.start (⟨[0, 2], [1], [1], 1, wf⟩ : ScatterDims ⟨3, ![B, M, L]⟩ ⟨2, ![N, 1]⟩ ⟨3, ![B, N, L]⟩) (ix3 b' s l') idx 1 = z s := by
      rw [← hz s]
      show (idx _).toInt = _
      congr 2
      funext a; match a with
      | ⟨0, _⟩ => rfl
      | ⟨1, _⟩ => rfl
    constructor
    · intro h
      have h0 := h 0
      have h1 := h 1
      have h2 := h 2
      rw [hs] at h1
      refine ⟨Fin.ext ?_, ?_, Fin.ext ?_⟩
      · change (0 : ℤ) + (b'.val : ℤ) = b.val at h0; omega
      · change z s + ((0 : ℕ) : ℤ) = q.val at h1; omega
      · change (0 : ℤ) + (l'.val : ℤ) = l.val at h2; omega
    · rintro ⟨rfl, e, rfl⟩ a
      match a with
      | ⟨0, _⟩ => show (0 : ℤ) + (b'.val : ℤ) = b'.val; omega
      | ⟨1, _⟩ => show ScatterDims.start _ _ _ 1 + ((0 : ℕ) : ℤ) = q.val; rw [hs]; omega
      | ⟨2, _⟩ => show (0 : ℤ) + (l'.val : ℤ) = l'.val; omega
  simp only [land]
  rw [Finset.sum_eq_single b]
  · refine Finset.sum_congr rfl fun s _ => ?_
    rw [Finset.sum_eq_single l]
    · simp
    · intro l' _ hl; simp [hl]
    · simp
  · intro b' _ hb; simp [hb]
  · simp

end Cert.HostSums

end
-- ==== Proof.SegmentSums.lean ====
/- The reference's gradient of one segment of `N` rows, as sums.

   Differentiating `cs[hi] - cs[lo]` adds each row's weighted cotangent into row `hi` of a zero array and takes it off
   row `lo`; the running sum from the last row back turns the pair into the rows `lo ≤ · < hi`, which are the rows
   within the radius (`suffix_added`). -/
module

public import proofs.«01_k».proof.Proof.HostSums

@[expose] public section

noncomputable section

namespace Cert.SegmentSums

open Idealize.ShloMosaic Cert.Words

/-- First row of the window of radius `r` around row `s` of a segment of `N` rows. -/
def loW (N r s : ℤ) : ℤ := min N (max 0 (s - r))
/-- One past the last row of that window. -/
def hiW (N r s : ℤ) : ℤ := min N (max 0 (s + r + 1))

/-- A row's cotangent over the size of its window. -/
def share (N : ℕ) (r : ℤ) (xs : Fin N → EReal) (s : Fin N) : EReal :=
  xs s * Ideal.div 1 (((hiW N r s.val - loW N r s.val : ℤ) : ℝ) : EReal)

/-- Row `q` of the array of added rows: the shares taken off at the windows' first rows and added past their last. -/
def added (N : ℕ) (r : ℤ) (xs : Fin N → EReal) (q : ℕ) : EReal :=
  (∑ s : Fin N, if loW N r s.val = q then -(share N r xs s) else 0) + ∑ s : Fin N, if hiW N r s.val = q then share N r xs s else 0

/-- A sum of real numbers in the extended reals is the real sum. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem coe_ite (c : Prop) [Decidable c] (a : ℝ) : (if c then ((a : ℝ) : EReal) else 0) = ((if c then a else 0 : ℝ) : EReal) := by
  split <;> simp

/-- The suffix sum of an indicator at row `z - 1`. -/
theorem suffix_one (N : ℕ) (n : Fin N) (z : ℤ) (hz : z ≤ N) (a : ℝ) :
    (∑ s : Fin N, if n.val ≤ s.val then (if z = (s.val + 1 : ℕ) then a else 0) else 0) = if (n.val : ℤ) < z then a else 0 := by
  by_cases h : (n.val : ℤ) < z
  · rw [if_pos h, Finset.sum_eq_single ⟨(z - 1).toNat, by omega⟩]
    · rw [if_pos (show n.val ≤ (z - 1).toNat by omega), if_pos (show z = (((z - 1).toNat + 1 : ℕ) : ℤ) by omega)]
    · intro s _ hs
      by_cases h1 : n.val ≤ s.val
      · rw [if_pos h1, if_neg]
        intro e; exact hs (Fin.ext (by show s.val = (z - 1).toNat; omega))
      · rw [if_neg h1]
    · simp
  · rw [if_neg h]
    refine Finset.sum_eq_zero fun s _ => ?_
    by_cases h1 : n.val ≤ s.val
    · rw [if_pos h1, if_neg (by omega)]
    · rw [if_neg h1]

/-- The running sum of the added rows from row `n + 1` on: the shares of the rows whose window holds row `n`. -/
theorem suffix_added (N : ℕ) (r : ℤ) (hr : 0 ≤ r) (xs : Fin N → EReal) (ys : Fin N → ℝ) (hy : ∀ s, share N r xs s = (ys s : ℝ)) (n : Fin N) :
    (∑ s : Fin N, if n.val ≤ s.val then added N r xs (s.val + 1) else 0)
      = ∑ s : Fin N, if |(n.val : ℤ) - s.val| ≤ r then share N r xs s else 0 := by
  unfold added
  simp only [hy, ← EReal.coe_neg, coe_ite, coe_sum, ← EReal.coe_add]
  congr 1
  have e : ∀ s : Fin N, (if n.val ≤ s.val then (∑ i : Fin N, if loW N r i.val = (s.val + 1 : ℕ) then -ys i else 0)
        + ∑ i : Fin N, if hiW N r i.val = (s.val + 1 : ℕ) then ys i else 0 else 0)
      = ∑ i : Fin N, ((if n.val ≤ s.val then (if loW N r i.val = (s.val + 1 : ℕ) then -ys i else 0) else 0)
        + (if n.val ≤ s.val then (if hiW N r i.val = (s.val + 1 : ℕ) then ys i else 0) else 0)) := by
    intro s
    by_cases h : n.val ≤ s.val
    · simp only [if_pos h]; rw [Finset.sum_add_distrib]
    · simp only [if_neg h]; simp
  rw [Finset.sum_congr rfl fun s _ => e s, Finset.sum_comm]
  refine Finset.sum_congr rfl fun i _ => ?_
  rw [Finset.sum_add_distrib, suffix_one N n (loW N r i.val) (min_le_left _ _) (-ys i), suffix_one N n (hiW N r i.val) (min_le_left _ _) (ys i)]
  have hn := n.isLt
  have hi := i.isLt
  by_cases h : |(n.val : ℤ) - i.val| ≤ r
  · rw [if_pos h]
    rw [abs_le] at h
    rw [if_neg (by unfold loW; omega), if_pos (by unfold hiW; omega), zero_add]
  · rw [if_neg h]
    rw [abs_le] at h
    by_cases h2 : (n.val : ℤ) < loW N r i.val
    · rw [if_pos h2, if_pos (by unfold loW at h2; unfold hiW; omega)]; ring
    · rw [if_neg h2, if_neg (by unfold loW at h2; unfold hiW; omega)]; ring

/-- A row number that is not negative is left as it is by the wrap of negative row numbers. -/
theorem wrap_word {z : ℤ} (hz : InRange z) (h0 : 0 ≤ z) (c : BitVec 32) :
    Scalar.select (IntOp.cmpi .slt (word z) 0#32) c (word z) = word z := by
  rw [show (0#32) = word 0 from rfl, cmpi_slt_word hz (by unfold InRange; omega), decide_eq_false (by omega)]
  rfl

end Cert.SegmentSums

end
-- ==== Proof.RefContext.lean ====
/- The rows the reference adds for the context segment (256 rows), group by group of 256 lanes.

   One lemma per array of row numbers, one per weighted cotangent, one per array of added rows. -/
module

public import proofs.«01_k».proof.Proof.SegmentSums
public import proofs.«01_k».proof.Proof.Gen.ReferenceIdeal.Read

@[expose] public section

set_option maxRecDepth 16384

noncomputable section

namespace Cert.ReferenceIdeal.Band

open Cert.ReferenceIdeal Cert.ReferenceIdeal.Gen Cert.ReferenceIdeal.Read Cert.Words Cert.SegmentSums
open Idealize.ShloMosaic Idealize.ShloMosaic.TcCoe Idealize.SL.Sem

/-! ## Radius 1 -/

theorem lo_ctx0 (s : Fin 256) : val_main_v34 (F := Ideal) (ix2 s 0) = word (loW 256 1 s.val) := by
  pointwise [val_main_v34, val_main_v33, val_main_v30, val_main_v10, val_main_call1_v4, val_main_call1_v3, val_main_c_3, val_main_call1_v2, val_main_call1_v1, val_main_call1_v0, val_main_c_2, val_main_v9, val_main_v7, val_main_v8, val_main_c, val_main_v29, val_main_c_11, val_main_v32, val_main_v31, val_main_c_12]
  rw [ofNat_eq_word s.val]
  simp only [subi_word, show (1#32) = word 1 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_ctx0 (s : Fin 256) : val_main_v27 (F := Ideal) (ix2 s 0) = word (hiW 256 1 s.val) := by
  pointwise [val_main_v27, val_main_v26, val_main_v23, val_main_v15, val_main_call2_v4, val_main_call2_v3, val_main_c_7, val_main_call2_v2, val_main_call2_v1, val_main_call2_v0, val_main_c_6, val_main_v14, val_main_v12, val_main_v7, val_main_v11, val_main_c_4, val_main_v13, val_main_c_5, val_main_v22, val_main_c_9, val_main_v25, val_main_v24, val_main_c_10]
  rw [ofNat_eq_word s.val]
  simp only [addi_word, show (1#32) = word 1 from rfl, show (1#32) = word 1 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_ctx0 (x0 : S2x4352x1024.Idx → EReal) (b : Fin 2) (s : Fin 256) (l : Fin 256) :
    val_main_v388 (F := Ideal) x0 (ix3 b s l)
      = share 256 1 (fun i => x0 (ix3 b ⟨0 + i.val, by omega⟩ ⟨0 + l.val, by omega⟩)) s := by
  unfold share
  pointwise [val_main_v388, val_main_v343, val_main_v282, val_main_v387, val_main_v20, val_main_v19, val_main_v18, val_main_cst_8, val_main_v17, val_main_v16, val_main_v15, val_main_call2_v4, val_main_call2_v3, val_main_c_7, val_main_call2_v2, val_main_call2_v1, val_main_call2_v0, val_main_c_6, val_main_v14, val_main_v12, val_main_v7, val_main_v11, val_main_c_4, val_main_v13, val_main_c_5, val_main_v10, val_main_call1_v4, val_main_call1_v3, val_main_c_3, val_main_call1_v2, val_main_call1_v1, val_main_call1_v0, val_main_c_2, val_main_v9, val_main_v8, val_main_c]
  rw [ofNat_eq_word s.val]
  simp only [addi_word, subi_word, show (1#32) = word 1 from rfl, show (1#32) = word 1 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_ctx0 (x0 : S2x4352x1024.Idx → EReal) (b : Fin 2) (q : Fin 257) (l : Fin 256) :
    val_main_v394 (F := Ideal) x0 (ix3 b q l)
      = added 256 1 (fun i => x0 (ix3 b ⟨0 + i.val, by omega⟩ ⟨0 + l.val, by omega⟩)) q.val := by
  unfold added
  show Host.scatterAdd (F := Ideal) (φ := .f32) scatter_S2x257x256_S256x1_S2x256x256_02_1_1_1 (val_main_v390 (F := Ideal)) (val_main_v34 (F := Ideal)) (val_main_v389 (F := Ideal) x0) (ix3 b q l)
    + Host.scatterAdd (F := Ideal) (φ := .f32) scatter_S2x257x256_S256x1_S2x256x256_02_1_1_1 (val_main_v392 (F := Ideal)) (val_main_v27 (F := Ideal)) (val_main_v388 (F := Ideal) x0) (ix3 b q l) = _
  rw [HostSums.scatter_rows scatter_S2x257x256_S256x1_S2x256x256_02_1_1_1 rfl rfl rfl rfl _ _ _ (fun s => loW 256 1 s.val)
      (fun s => by rw [lo_ctx0]; exact toInt_word (by unfold InRange loW; omega)),
    HostSums.scatter_rows scatter_S2x257x256_S256x1_S2x256x256_02_1_1_1 rfl rfl rfl rfl _ _ _ (fun s => hiW 256 1 s.val)
      (fun s => by rw [hi_ctx0]; exact toInt_word (by unfold InRange hiW; omega))]
  have z1 : val_main_v390 (F := Ideal) (ix3 b q l) = 0 := by pointwise [val_main_v390, val_main_cst_129]
  have z2 : val_main_v392 (F := Ideal) (ix3 b q l) = 0 := by pointwise [val_main_v392, val_main_cst_130]
  rw [z1, z2, zero_add, zero_add]
  have n (s : Fin 256) : val_main_v389 (F := Ideal) x0 (ix3 b s l) = -(val_main_v388 (F := Ideal) x0 (ix3 b s l)) := rfl
  simp only [n, share_ctx0]
  rfl

/-! ## Radius 2 -/

theorem lo_ctx1 (s : Fin 256) : val_main_v67 (F := Ideal) (ix2 s 0) = word (loW 256 2 s.val) := by
  pointwise [val_main_v67, val_main_v66, val_main_v63, val_main_v43, val_main_call3_v4, val_main_call3_v3, val_main_c_15, val_main_call3_v2, val_main_call3_v1, val_main_call3_v0, val_main_c_14, val_main_v42, val_main_v7, val_main_v41, val_main_c_13, val_main_v62, val_main_c_23, val_main_v65, val_main_v64, val_main_c_24]
  rw [ofNat_eq_word s.val]
  simp only [subi_word, show (2#32) = word 2 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_ctx1 (s : Fin 256) : val_main_v60 (F := Ideal) (ix2 s 0) = word (hiW 256 2 s.val) := by
  pointwise [val_main_v60, val_main_v59, val_main_v56, val_main_v48, val_main_call4_v4, val_main_call4_v3, val_main_c_19, val_main_call4_v2, val_main_call4_v1, val_main_call4_v0, val_main_c_18, val_main_v47, val_main_v45, val_main_v7, val_main_v44, val_main_c_16, val_main_v46, val_main_c_17, val_main_v55, val_main_c_21, val_main_v58, val_main_v57, val_main_c_22]
  rw [ofNat_eq_word s.val]
  simp only [addi_word, show (1#32) = word 1 from rfl, show (2#32) = word 2 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_ctx1 (x0 : S2x4352x1024.Idx → EReal) (b : Fin 2) (s : Fin 256) (l : Fin 256) :
    val_main_v375 (F := Ideal) x0 (ix3 b s l)
      = share 256 2 (fun i => x0 (ix3 b ⟨0 + i.val, by omega⟩ ⟨256 + l.val, by omega⟩)) s := by
  unfold share
  pointwise [val_main_v375, val_main_v344, val_main_v282, val_main_v374, val_main_v53, val_main_v52, val_main_v51, val_main_cst_20, val_main_v50, val_main_v49, val_main_v48, val_main_call4_v4, val_main_call4_v3, val_main_c_19, val_main_call4_v2, val_main_call4_v1, val_main_call4_v0, val_main_c_18, val_main_v47, val_main_v45, val_main_v7, val_main_v44, val_main_c_16, val_main_v46, val_main_c_17, val_main_v43, val_main_call3_v4, val_main_call3_v3, val_main_c_15, val_main_call3_v2, val_main_call3_v1, val_main_call3_v0, val_main_c_14, val_main_v42, val_main_v41, val_main_c_13]
  rw [ofNat_eq_word s.val]
  simp only [addi_word, subi_word, show (1#32) = word 1 from rfl, show (2#32) = word 2 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_ctx1 (x0 : S2x4352x1024.Idx → EReal) (b : Fin 2) (q : Fin 257) (l : Fin 256) :
    val_main_v381 (F := Ideal) x0 (ix3 b q l)
      = added 256 2 (fun i => x0 (ix3 b ⟨0 + i.val, by omega⟩ ⟨256 + l.val, by omega⟩)) q.val := by
  unfold added
  show Host.scatterAdd (F := Ideal) (φ := .f32) scatter_S2x257x256_S256x1_S2x256x256_02_1_1_1 (val_main_v377 (F := Ideal)) (val_main_v67 (F := Ideal)) (val_main_v376 (F := Ideal) x0) (ix3 b q l)
    + Host.scatterAdd (F := Ideal) (φ := .f32) scatter_S2x257x256_S256x1_S2x256x256_02_1_1_1 (val_main_v379 (F := Ideal)) (val_main_v60 (F := Ideal)) (val_main_v375 (F := Ideal) x0) (ix3 b q l) = _
  rw [HostSums.scatter_rows scatter_S2x257x256_S256x1_S2x256x256_02_1_1_1 rfl rfl rfl rfl _ _ _ (fun s => loW 256 2 s.val)
      (fun s => by rw [lo_ctx1]; exact toInt_word (by unfold InRange loW; omega)),
    HostSums.scatter_rows scatter_S2x257x256_S256x1_S2x256x256_02_1_1_1 rfl rfl rfl rfl _ _ _ (fun s => hiW 256 2 s.val)
      (fun s => by rw [hi_ctx1]; exact toInt_word (by unfold InRange hiW; omega))]
  have z1 : val_main_v377 (F := Ideal) (ix3 b q l) = 0 := by pointwise [val_main_v377, val_main_cst_125]
  have z2 : val_main_v379 (F := Ideal) (ix3 b q l) = 0 := by pointwise [val_main_v379, val_main_cst_126]
  rw [z1, z2, zero_add, zero_add]
  have n (s : Fin 256) : val_main_v376 (F := Ideal) x0 (ix3 b s l) = -(val_main_v375 (F := Ideal) x0 (ix3 b s l)) := rfl
  simp only [n, share_ctx1]
  rfl

/-! ## Radius 4 -/

theorem lo_ctx2 (s : Fin 256) : val_main_v100 (F := Ideal) (ix2 s 0) = word (loW 256 4 s.val) := by
  pointwise [val_main_v100, val_main_v99, val_main_v96, val_main_v76, val_main_call5_v4, val_main_call5_v3, val_main_c_27, val_main_call5_v2, val_main_call5_v1, val_main_call5_v0, val_main_c_26, val_main_v75, val_main_v7, val_main_v74, val_main_c_25, val_main_v95, val_main_c_35, val_main_v98, val_main_v97, val_main_c_36]
  rw [ofNat_eq_word s.val]
  simp only [subi_word, show (4#32) = word 4 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_ctx2 (s : Fin 256) : val_main_v93 (F := Ideal) (ix2 s 0) = word (hiW 256 4 s.val) := by
  pointwise [val_main_v93, val_main_v92, val_main_v89, val_main_v81, val_main_call6_v4, val_main_call6_v3, val_main_c_31, val_main_call6_v2, val_main_call6_v1, val_main_call6_v0, val_main_c_30, val_main_v80, val_main_v78, val_main_v7, val_main_v77, val_main_c_28, val_main_v79, val_main_c_29, val_main_v88, val_main_c_33, val_main_v91, val_main_v90, val_main_c_34]
  rw [ofNat_eq_word s.val]
  simp only [addi_word, show (1#32) = word 1 from rfl, show (4#32) = word 4 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_ctx2 (x0 : S2x4352x1024.Idx → EReal) (b : Fin 2) (s : Fin 256) (l : Fin 256) :
    val_main_v362 (F := Ideal) x0 (ix3 b s l)
      = share 256 4 (fun i => x0 (ix3 b ⟨0 + i.val, by omega⟩ ⟨512 + l.val, by omega⟩)) s := by
  unfold share
  pointwise [val_main_v362, val_main_v345, val_main_v282, val_main_v361, val_main_v86, val_main_v85, val_main_v84, val_main_cst_32, val_main_v83, val_main_v82, val_main_v81, val_main_call6_v4, val_main_call6_v3, val_main_c_31, val_main_call6_v2, val_main_call6_v1, val_main_call6_v0, val_main_c_30, val_main_v80, val_main_v78, val_main_v7, val_main_v77, val_main_c_28, val_main_v79, val_main_c_29, val_main_v76, val_main_call5_v4, val_main_call5_v3, val_main_c_27, val_main_call5_v2, val_main_call5_v1, val_main_call5_v0, val_main_c_26, val_main_v75, val_main_v74, val_main_c_25]
  rw [ofNat_eq_word s.val]
  simp only [addi_word, subi_word, show (1#32) = word 1 from rfl, show (4#32) = word 4 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_ctx2 (x0 : S2x4352x1024.Idx → EReal) (b : Fin 2) (q : Fin 257) (l : Fin 256) :
    val_main_v368 (F := Ideal) x0 (ix3 b q l)
      = added 256 4 (fun i => x0 (ix3 b ⟨0 + i.val, by omega⟩ ⟨512 + l.val, by omega⟩)) q.val := by
  unfold added
  show Host.scatterAdd (F := Ideal) (φ := .f32) scatter_S2x257x256_S256x1_S2x256x256_02_1_1_1 (val_main_v364 (F := Ideal)) (val_main_v100 (F := Ideal)) (val_main_v363 (F := Ideal) x0) (ix3 b q l)
    + Host.scatterAdd (F := Ideal) (φ := .f32) scatter_S2x257x256_S256x1_S2x256x256_02_1_1_1 (val_main_v366 (F := Ideal)) (val_main_v93 (F := Ideal)) (val_main_v362 (F := Ideal) x0) (ix3 b q l) = _
  rw [HostSums.scatter_rows scatter_S2x257x256_S256x1_S2x256x256_02_1_1_1 rfl rfl rfl rfl _ _ _ (fun s => loW 256 4 s.val)
      (fun s => by rw [lo_ctx2]; exact toInt_word (by unfold InRange loW; omega)),
    HostSums.scatter_rows scatter_S2x257x256_S256x1_S2x256x256_02_1_1_1 rfl rfl rfl rfl _ _ _ (fun s => hiW 256 4 s.val)
      (fun s => by rw [hi_ctx2]; exact toInt_word (by unfold InRange hiW; omega))]
  have z1 : val_main_v364 (F := Ideal) (ix3 b q l) = 0 := by pointwise [val_main_v364, val_main_cst_121]
  have z2 : val_main_v366 (F := Ideal) (ix3 b q l) = 0 := by pointwise [val_main_v366, val_main_cst_122]
  rw [z1, z2, zero_add, zero_add]
  have n (s : Fin 256) : val_main_v363 (F := Ideal) x0 (ix3 b s l) = -(val_main_v362 (F := Ideal) x0 (ix3 b s l)) := rfl
  simp only [n, share_ctx2]
  rfl

/-! ## Radius 8 -/

theorem lo_ctx3 (s : Fin 256) : val_main_v133 (F := Ideal) (ix2 s 0) = word (loW 256 8 s.val) := by
  pointwise [val_main_v133, val_main_v132, val_main_v129, val_main_v109, val_main_call7_v4, val_main_call7_v3, val_main_c_39, val_main_call7_v2, val_main_call7_v1, val_main_call7_v0, val_main_c_38, val_main_v108, val_main_v7, val_main_v107, val_main_c_37, val_main_v128, val_main_c_47, val_main_v131, val_main_v130, val_main_c_48]
  rw [ofNat_eq_word s.val]
  simp only [subi_word, show (8#32) = word 8 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_ctx3 (s : Fin 256) : val_main_v126 (F := Ideal) (ix2 s 0) = word (hiW 256 8 s.val) := by
  pointwise [val_main_v126, val_main_v125, val_main_v122, val_main_v114, val_main_call8_v4, val_main_call8_v3, val_main_c_43, val_main_call8_v2, val_main_call8_v1, val_main_call8_v0, val_main_c_42, val_main_v113, val_main_v111, val_main_v7, val_main_v110, val_main_c_40, val_main_v112, val_main_c_41, val_main_v121, val_main_c_45, val_main_v124, val_main_v123, val_main_c_46]
  rw [ofNat_eq_word s.val]
  simp only [addi_word, show (1#32) = word 1 from rfl, show (8#32) = word 8 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_ctx3 (x0 : S2x4352x1024.Idx → EReal) (b : Fin 2) (s : Fin 256) (l : Fin 256) :
    val_main_v350 (F := Ideal) x0 (ix3 b s l)
      = share 256 8 (fun i => x0 (ix3 b ⟨0 + i.val, by omega⟩ ⟨768 + l.val, by omega⟩)) s := by
  unfold share
  pointwise [val_main_v350, val_main_v346, val_main_v282, val_main_v349, val_main_v119, val_main_v118, val_main_v117, val_main_cst_44, val_main_v116, val_main_v115, val_main_v114, val_main_call8_v4, val_main_call8_v3, val_main_c_43, val_main_call8_v2, val_main_call8_v1, val_main_call8_v0, val_main_c_42, val_main_v113, val_main_v111, val_main_v7, val_main_v110, val_main_c_40, val_main_v112, val_main_c_41, val_main_v109, val_main_call7_v4, val_main_call7_v3, val_main_c_39, val_main_call7_v2, val_main_call7_v1, val_main_call7_v0, val_main_c_38, val_main_v108, val_main_v107, val_main_c_37]
  rw [ofNat_eq_word s.val]
  simp only [addi_word, subi_word, show (1#32) = word 1 from rfl, show (8#32) = word 8 from rfl, show (id (constantI S_ 32 256#32) ix0) = word 256 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_ctx3 (x0 : S2x4352x1024.Idx → EReal) (b : Fin 2) (q : Fin 257) (l : Fin 256) :
    val_main_v356 (F := Ideal) x0 (ix3 b q l)
      = added 256 8 (fun i => x0 (ix3 b ⟨0 + i.val, by omega⟩ ⟨768 + l.val, by omega⟩)) q.val := by
  unfold added
  show Host.scatterAdd (F := Ideal) (φ := .f32) scatter_S2x257x256_S256x1_S2x256x256_02_1_1_1 (val_main_v352 (F := Ideal)) (val_main_v133 (F := Ideal)) (val_main_v351 (F := Ideal) x0) (ix3 b q l)
    + Host.scatterAdd (F := Ideal) (φ := .f32) scatter_S2x257x256_S256x1_S2x256x256_02_1_1_1 (val_main_v354 (F := Ideal)) (val_main_v126 (F := Ideal)) (val_main_v350 (F := Ideal) x0) (ix3 b q l) = _
  rw [HostSums.scatter_rows scatter_S2x257x256_S256x1_S2x256x256_02_1_1_1 rfl rfl rfl rfl _ _ _ (fun s => loW 256 8 s.val)
      (fun s => by rw [lo_ctx3]; exact toInt_word (by unfold InRange loW; omega)),
    HostSums.scatter_rows scatter_S2x257x256_S256x1_S2x256x256_02_1_1_1 rfl rfl rfl rfl _ _ _ (fun s => hiW 256 8 s.val)
      (fun s => by rw [hi_ctx3]; exact toInt_word (by unfold InRange hiW; omega))]
  have z1 : val_main_v352 (F := Ideal) (ix3 b q l) = 0 := by pointwise [val_main_v352, val_main_cst_117]
  have z2 : val_main_v354 (F := Ideal) (ix3 b q l) = 0 := by pointwise [val_main_v354, val_main_cst_118]
  rw [z1, z2, zero_add, zero_add]
  have n (s : Fin 256) : val_main_v351 (F := Ideal) x0 (ix3 b s l) = -(val_main_v350 (F := Ideal) x0 (ix3 b s l)) := rfl
  simp only [n, share_ctx3]
  rfl

end Cert.ReferenceIdeal.Band

end
-- ==== Proof.RefLatent.lean ====
/- The rows the reference adds for the latent segment (4096 rows), group by group of 256 lanes.

   One lemma per array of row numbers, one per weighted cotangent, one per array of added rows. -/
module

public import proofs.«01_k».proof.Proof.SegmentSums
public import proofs.«01_k».proof.Proof.Gen.ReferenceIdeal.Read

@[expose] public section

set_option maxRecDepth 16384

noncomputable section

namespace Cert.ReferenceIdeal.Band

open Cert.ReferenceIdeal Cert.ReferenceIdeal.Gen Cert.ReferenceIdeal.Read Cert.Words Cert.SegmentSums
open Idealize.ShloMosaic Idealize.ShloMosaic.TcCoe Idealize.SL.Sem

/-! ## Radius 1 -/

theorem lo_lat0 (s : Fin 4096) : val_main_v174 (F := Ideal) (ix2 s 0) = word (loW 4096 1 s.val) := by
  pointwise [val_main_v174, val_main_v173, val_main_v170, val_main_v150, val_main_call10_v4, val_main_call10_v3, val_main_c_53, val_main_call10_v2, val_main_call10_v1, val_main_call10_v0, val_main_c_52, val_main_v149, val_main_v147, val_main_v148, val_main_c_51, val_main_v169, val_main_c_61, val_main_v172, val_main_v171, val_main_c_62]
  rw [ofNat_eq_word s.val]
  simp only [subi_word, show (1#32) = word 1 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_lat0 (s : Fin 4096) : val_main_v167 (F := Ideal) (ix2 s 0) = word (hiW 4096 1 s.val) := by
  pointwise [val_main_v167, val_main_v166, val_main_v163, val_main_v155, val_main_call11_v4, val_main_call11_v3, val_main_c_57, val_main_call11_v2, val_main_call11_v1, val_main_call11_v0, val_main_c_56, val_main_v154, val_main_v152, val_main_v147, val_main_v151, val_main_c_54, val_main_v153, val_main_c_55, val_main_v162, val_main_c_59, val_main_v165, val_main_v164, val_main_c_60]
  rw [ofNat_eq_word s.val]
  simp only [addi_word, show (1#32) = word 1 from rfl, show (1#32) = word 1 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_lat0 (x0 : S2x4352x1024.Idx → EReal) (b : Fin 2) (s : Fin 4096) (l : Fin 256) :
    val_main_v329 (F := Ideal) x0 (ix3 b s l)
      = share 4096 1 (fun i => x0 (ix3 b ⟨256 + i.val, by omega⟩ ⟨0 + l.val, by omega⟩)) s := by
  unfold share
  pointwise [val_main_v329, val_main_v284, val_main_v283, val_main_v328, val_main_v160, val_main_v159, val_main_v158, val_main_cst_58, val_main_v157, val_main_v156, val_main_v155, val_main_call11_v4, val_main_call11_v3, val_main_c_57, val_main_call11_v2, val_main_call11_v1, val_main_call11_v0, val_main_c_56, val_main_v154, val_main_v152, val_main_v147, val_main_v151, val_main_c_54, val_main_v153, val_main_c_55, val_main_v150, val_main_call10_v4, val_main_call10_v3, val_main_c_53, val_main_call10_v2, val_main_call10_v1, val_main_call10_v0, val_main_c_52, val_main_v149, val_main_v148, val_main_c_51]
  rw [ofNat_eq_word s.val]
  simp only [addi_word, subi_word, show (1#32) = word 1 from rfl, show (1#32) = word 1 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_lat0 (x0 : S2x4352x1024.Idx → EReal) (b : Fin 2) (q : Fin 4097) (l : Fin 256) :
    val_main_v335 (F := Ideal) x0 (ix3 b q l)
      = added 4096 1 (fun i => x0 (ix3 b ⟨256 + i.val, by omega⟩ ⟨0 + l.val, by omega⟩)) q.val := by
  unfold added
  show Host.scatterAdd (F := Ideal) (φ := .f32) scatter_S2x4097x256_S4096x1_S2x4096x256_02_1_1_1 (val_main_v331 (F := Ideal)) (val_main_v174 (F := Ideal)) (val_main_v330 (F := Ideal) x0) (ix3 b q l)
    + Host.scatterAdd (F := Ideal) (φ := .f32) scatter_S2x4097x256_S4096x1_S2x4096x256_02_1_1_1 (val_main_v333 (F := Ideal)) (val_main_v167 (F := Ideal)) (val_main_v329 (F := Ideal) x0) (ix3 b q l) = _
  rw [HostSums.scatter_rows scatter_S2x4097x256_S4096x1_S2x4096x256_02_1_1_1 rfl rfl rfl rfl _ _ _ (fun s => loW 4096 1 s.val)
      (fun s => by rw [lo_lat0]; exact toInt_word (by unfold InRange loW; omega)),
    HostSums.scatter_rows scatter_S2x4097x256_S4096x1_S2x4096x256_02_1_1_1 rfl rfl rfl rfl _ _ _ (fun s => hiW 4096 1 s.val)
      (fun s => by rw [hi_lat0]; exact toInt_word (by unfold InRange hiW; omega))]
  have z1 : val_main_v331 (F := Ideal) (ix3 b q l) = 0 := by pointwise [val_main_v331, val_main_cst_112]
  have z2 : val_main_v333 (F := Ideal) (ix3 b q l) = 0 := by pointwise [val_main_v333, val_main_cst_113]
  rw [z1, z2, zero_add, zero_add]
  have n (s : Fin 4096) : val_main_v330 (F := Ideal) x0 (ix3 b s l) = -(val_main_v329 (F := Ideal) x0 (ix3 b s l)) := rfl
  simp only [n, share_lat0]
  rfl

/-! ## Radius 2 -/

theorem lo_lat1 (s : Fin 4096) : val_main_v207 (F := Ideal) (ix2 s 0) = word (loW 4096 2 s.val) := by
  pointwise [val_main_v207, val_main_v206, val_main_v203, val_main_v183, val_main_call12_v4, val_main_call12_v3, val_main_c_65, val_main_call12_v2, val_main_call12_v1, val_main_call12_v0, val_main_c_64, val_main_v182, val_main_v147, val_main_v181, val_main_c_63, val_main_v202, val_main_c_73, val_main_v205, val_main_v204, val_main_c_74]
  rw [ofNat_eq_word s.val]
  simp only [subi_word, show (2#32) = word 2 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_lat1 (s : Fin 4096) : val_main_v200 (F := Ideal) (ix2 s 0) = word (hiW 4096 2 s.val) := by
  pointwise [val_main_v200, val_main_v199, val_main_v196, val_main_v188, val_main_call13_v4, val_main_call13_v3, val_main_c_69, val_main_call13_v2, val_main_call13_v1, val_main_call13_v0, val_main_c_68, val_main_v187, val_main_v185, val_main_v147, val_main_v184, val_main_c_66, val_main_v186, val_main_c_67, val_main_v195, val_main_c_71, val_main_v198, val_main_v197, val_main_c_72]
  rw [ofNat_eq_word s.val]
  simp only [addi_word, show (1#32) = word 1 from rfl, show (2#32) = word 2 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_lat1 (x0 : S2x4352x1024.Idx → EReal) (b : Fin 2) (s : Fin 4096) (l : Fin 256) :
    val_main_v316 (F := Ideal) x0 (ix3 b s l)
      = share 4096 2 (fun i => x0 (ix3 b ⟨256 + i.val, by omega⟩ ⟨256 + l.val, by omega⟩)) s := by
  unfold share
  pointwise [val_main_v316, val_main_v285, val_main_v283, val_main_v315, val_main_v193, val_main_v192, val_main_v191, val_main_cst_70, val_main_v190, val_main_v189, val_main_v188, val_main_call13_v4, val_main_call13_v3, val_main_c_69, val_main_call13_v2, val_main_call13_v1, val_main_call13_v0, val_main_c_68, val_main_v187, val_main_v185, val_main_v147, val_main_v184, val_main_c_66, val_main_v186, val_main_c_67, val_main_v183, val_main_call12_v4, val_main_call12_v3, val_main_c_65, val_main_call12_v2, val_main_call12_v1, val_main_call12_v0, val_main_c_64, val_main_v182, val_main_v181, val_main_c_63]
  rw [ofNat_eq_word s.val]
  simp only [addi_word, subi_word, show (1#32) = word 1 from rfl, show (2#32) = word 2 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_lat1 (x0 : S2x4352x1024.Idx → EReal) (b : Fin 2) (q : Fin 4097) (l : Fin 256) :
    val_main_v322 (F := Ideal) x0 (ix3 b q l)
      = added 4096 2 (fun i => x0 (ix3 b ⟨256 + i.val, by omega⟩ ⟨256 + l.val, by omega⟩)) q.val := by
  unfold added
  show Host.scatterAdd (F := Ideal) (φ := .f32) scatter_S2x4097x256_S4096x1_S2x4096x256_02_1_1_1 (val_main_v318 (F := Ideal)) (val_main_v207 (F := Ideal)) (val_main_v317 (F := Ideal) x0) (ix3 b q l)
    + Host.scatterAdd (F := Ideal) (φ := .f32) scatter_S2x4097x256_S4096x1_S2x4096x256_02_1_1_1 (val_main_v320 (F := Ideal)) (val_main_v200 (F := Ideal)) (val_main_v316 (F := Ideal) x0) (ix3 b q l) = _
  rw [HostSums.scatter_rows scatter_S2x4097x256_S4096x1_S2x4096x256_02_1_1_1 rfl rfl rfl rfl _ _ _ (fun s => loW 4096 2 s.val)
      (fun s => by rw [lo_lat1]; exact toInt_word (by unfold InRange loW; omega)),
    HostSums.scatter_rows scatter_S2x4097x256_S4096x1_S2x4096x256_02_1_1_1 rfl rfl rfl rfl _ _ _ (fun s => hiW 4096 2 s.val)
      (fun s => by rw [hi_lat1]; exact toInt_word (by unfold InRange hiW; omega))]
  have z1 : val_main_v318 (F := Ideal) (ix3 b q l) = 0 := by pointwise [val_main_v318, val_main_cst_108]
  have z2 : val_main_v320 (F := Ideal) (ix3 b q l) = 0 := by pointwise [val_main_v320, val_main_cst_109]
  rw [z1, z2, zero_add, zero_add]
  have n (s : Fin 4096) : val_main_v317 (F := Ideal) x0 (ix3 b s l) = -(val_main_v316 (F := Ideal) x0 (ix3 b s l)) := rfl
  simp only [n, share_lat1]
  rfl

/-! ## Radius 4 -/

theorem lo_lat2 (s : Fin 4096) : val_main_v240 (F := Ideal) (ix2 s 0) = word (loW 4096 4 s.val) := by
  pointwise [val_main_v240, val_main_v239, val_main_v236, val_main_v216, val_main_call14_v4, val_main_call14_v3, val_main_c_77, val_main_call14_v2, val_main_call14_v1, val_main_call14_v0, val_main_c_76, val_main_v215, val_main_v147, val_main_v214, val_main_c_75, val_main_v235, val_main_c_85, val_main_v238, val_main_v237, val_main_c_86]
  rw [ofNat_eq_word s.val]
  simp only [subi_word, show (4#32) = word 4 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_lat2 (s : Fin 4096) : val_main_v233 (F := Ideal) (ix2 s 0) = word (hiW 4096 4 s.val) := by
  pointwise [val_main_v233, val_main_v232, val_main_v229, val_main_v221, val_main_call15_v4, val_main_call15_v3, val_main_c_81, val_main_call15_v2, val_main_call15_v1, val_main_call15_v0, val_main_c_80, val_main_v220, val_main_v218, val_main_v147, val_main_v217, val_main_c_78, val_main_v219, val_main_c_79, val_main_v228, val_main_c_83, val_main_v231, val_main_v230, val_main_c_84]
  rw [ofNat_eq_word s.val]
  simp only [addi_word, show (1#32) = word 1 from rfl, show (4#32) = word 4 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_lat2 (x0 : S2x4352x1024.Idx → EReal) (b : Fin 2) (s : Fin 4096) (l : Fin 256) :
    val_main_v303 (F := Ideal) x0 (ix3 b s l)
      = share 4096 4 (fun i => x0 (ix3 b ⟨256 + i.val, by omega⟩ ⟨512 + l.val, by omega⟩)) s := by
  unfold share
  pointwise [val_main_v303, val_main_v286, val_main_v283, val_main_v302, val_main_v226, val_main_v225, val_main_v224, val_main_cst_82, val_main_v223, val_main_v222, val_main_v221, val_main_call15_v4, val_main_call15_v3, val_main_c_81, val_main_call15_v2, val_main_call15_v1, val_main_call15_v0, val_main_c_80, val_main_v220, val_main_v218, val_main_v147, val_main_v217, val_main_c_78, val_main_v219, val_main_c_79, val_main_v216, val_main_call14_v4, val_main_call14_v3, val_main_c_77, val_main_call14_v2, val_main_call14_v1, val_main_call14_v0, val_main_c_76, val_main_v215, val_main_v214, val_main_c_75]
  rw [ofNat_eq_word s.val]
  simp only [addi_word, subi_word, show (1#32) = word 1 from rfl, show (4#32) = word 4 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_lat2 (x0 : S2x4352x1024.Idx → EReal) (b : Fin 2) (q : Fin 4097) (l : Fin 256) :
    val_main_v309 (F := Ideal) x0 (ix3 b q l)
      = added 4096 4 (fun i => x0 (ix3 b ⟨256 + i.val, by omega⟩ ⟨512 + l.val, by omega⟩)) q.val := by
  unfold added
  show Host.scatterAdd (F := Ideal) (φ := .f32) scatter_S2x4097x256_S4096x1_S2x4096x256_02_1_1_1 (val_main_v305 (F := Ideal)) (val_main_v240 (F := Ideal)) (val_main_v304 (F := Ideal) x0) (ix3 b q l)
    + Host.scatterAdd (F := Ideal) (φ := .f32) scatter_S2x4097x256_S4096x1_S2x4096x256_02_1_1_1 (val_main_v307 (F := Ideal)) (val_main_v233 (F := Ideal)) (val_main_v303 (F := Ideal) x0) (ix3 b q l) = _
  rw [HostSums.scatter_rows scatter_S2x4097x256_S4096x1_S2x4096x256_02_1_1_1 rfl rfl rfl rfl _ _ _ (fun s => loW 4096 4 s.val)
      (fun s => by rw [lo_lat2]; exact toInt_word (by unfold InRange loW; omega)),
    HostSums.scatter_rows scatter_S2x4097x256_S4096x1_S2x4096x256_02_1_1_1 rfl rfl rfl rfl _ _ _ (fun s => hiW 4096 4 s.val)
      (fun s => by rw [hi_lat2]; exact toInt_word (by unfold InRange hiW; omega))]
  have z1 : val_main_v305 (F := Ideal) (ix3 b q l) = 0 := by pointwise [val_main_v305, val_main_cst_104]
  have z2 : val_main_v307 (F := Ideal) (ix3 b q l) = 0 := by pointwise [val_main_v307, val_main_cst_105]
  rw [z1, z2, zero_add, zero_add]
  have n (s : Fin 4096) : val_main_v304 (F := Ideal) x0 (ix3 b s l) = -(val_main_v303 (F := Ideal) x0 (ix3 b s l)) := rfl
  simp only [n, share_lat2]
  rfl

/-! ## Radius 8 -/

theorem lo_lat3 (s : Fin 4096) : val_main_v273 (F := Ideal) (ix2 s 0) = word (loW 4096 8 s.val) := by
  pointwise [val_main_v273, val_main_v272, val_main_v269, val_main_v249, val_main_call16_v4, val_main_call16_v3, val_main_c_89, val_main_call16_v2, val_main_call16_v1, val_main_call16_v0, val_main_c_88, val_main_v248, val_main_v147, val_main_v247, val_main_c_87, val_main_v268, val_main_c_97, val_main_v271, val_main_v270, val_main_c_98]
  rw [ofNat_eq_word s.val]
  simp only [subi_word, show (8#32) = word 8 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem hi_lat3 (s : Fin 4096) : val_main_v266 (F := Ideal) (ix2 s 0) = word (hiW 4096 8 s.val) := by
  pointwise [val_main_v266, val_main_v265, val_main_v262, val_main_v254, val_main_call17_v4, val_main_call17_v3, val_main_c_93, val_main_call17_v2, val_main_call17_v1, val_main_call17_v0, val_main_c_92, val_main_v253, val_main_v251, val_main_v147, val_main_v250, val_main_c_90, val_main_v252, val_main_c_91, val_main_v261, val_main_c_95, val_main_v264, val_main_v263, val_main_c_96]
  rw [ofNat_eq_word s.val]
  simp only [addi_word, show (1#32) = word 1 from rfl, show (8#32) = word 8 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega)]
  exact wrap_word (by unfold InRange; omega) (by omega) _

theorem share_lat3 (x0 : S2x4352x1024.Idx → EReal) (b : Fin 2) (s : Fin 4096) (l : Fin 256) :
    val_main_v291 (F := Ideal) x0 (ix3 b s l)
      = share 4096 8 (fun i => x0 (ix3 b ⟨256 + i.val, by omega⟩ ⟨768 + l.val, by omega⟩)) s := by
  unfold share
  pointwise [val_main_v291, val_main_v287, val_main_v283, val_main_v290, val_main_v259, val_main_v258, val_main_v257, val_main_cst_94, val_main_v256, val_main_v255, val_main_v254, val_main_call17_v4, val_main_call17_v3, val_main_c_93, val_main_call17_v2, val_main_call17_v1, val_main_call17_v0, val_main_c_92, val_main_v253, val_main_v251, val_main_v147, val_main_v250, val_main_c_90, val_main_v252, val_main_c_91, val_main_v249, val_main_call16_v4, val_main_call16_v3, val_main_c_89, val_main_call16_v2, val_main_call16_v1, val_main_call16_v0, val_main_c_88, val_main_v248, val_main_v247, val_main_c_87]
  rw [ofNat_eq_word s.val]
  simp only [addi_word, subi_word, show (1#32) = word 1 from rfl, show (8#32) = word 8 from rfl, show (id (constantI S_ 32 4096#32) ix0) = word 4096 from rfl,
    show (id (constantI S_ 32 0#32) ix0) = word 0 from rfl]
  rw [maxsi_word (by unfold InRange; omega) (by unfold InRange; omega),
    minsi_word (by unfold InRange; omega) (by unfold InRange; omega), maxsi_word (by unfold InRange; omega) (by unfold InRange; omega),
    minsi_word (by unfold InRange; omega) (by unfold InRange; omega), subi_word, sitofp_word (by unfold InRange; omega)]
  rfl

theorem added_lat3 (x0 : S2x4352x1024.Idx → EReal) (b : Fin 2) (q : Fin 4097) (l : Fin 256) :
    val_main_v297 (F := Ideal) x0 (ix3 b q l)
      = added 4096 8 (fun i => x0 (ix3 b ⟨256 + i.val, by omega⟩ ⟨768 + l.val, by omega⟩)) q.val := by
  unfold added
  show Host.scatterAdd (F := Ideal) (φ := .f32) scatter_S2x4097x256_S4096x1_S2x4096x256_02_1_1_1 (val_main_v293 (F := Ideal)) (val_main_v273 (F := Ideal)) (val_main_v292 (F := Ideal) x0) (ix3 b q l)
    + Host.scatterAdd (F := Ideal) (φ := .f32) scatter_S2x4097x256_S4096x1_S2x4096x256_02_1_1_1 (val_main_v295 (F := Ideal)) (val_main_v266 (F := Ideal)) (val_main_v291 (F := Ideal) x0) (ix3 b q l) = _
  rw [HostSums.scatter_rows scatter_S2x4097x256_S4096x1_S2x4096x256_02_1_1_1 rfl rfl rfl rfl _ _ _ (fun s => loW 4096 8 s.val)
      (fun s => by rw [lo_lat3]; exact toInt_word (by unfold InRange loW; omega)),
    HostSums.scatter_rows scatter_S2x4097x256_S4096x1_S2x4096x256_02_1_1_1 rfl rfl rfl rfl _ _ _ (fun s => hiW 4096 8 s.val)
      (fun s => by rw [hi_lat3]; exact toInt_word (by unfold InRange hiW; omega))]
  have z1 : val_main_v293 (F := Ideal) (ix3 b q l) = 0 := by pointwise [val_main_v293, val_main_cst_100]
  have z2 : val_main_v295 (F := Ideal) (ix3 b q l) = 0 := by pointwise [val_main_v295, val_main_cst_101]
  rw [z1, z2, zero_add, zero_add]
  have n (s : Fin 4096) : val_main_v292 (F := Ideal) x0 (ix3 b s l) = -(val_main_v291 (F := Ideal) x0 (ix3 b s l)) := rfl
  simp only [n, share_lat3]
  rfl

end Cert.ReferenceIdeal.Band

end
-- ==== Proof.BandArray.lean ====
/- The array `pool_band_bwd` leaves: one function of its argument.

   `pooled x b n l` is the weighted window sum of the cotangent around row `n`, less the cotangent there. Every tile
   stores its 256 rows of that function (`flushed_eq`), and the tiles cover the array (`cover`). -/
module

public import proofs.«01_k».proof.Proof.BandIdeal

@[expose] public section

set_option maxRecDepth 16384

noncomputable section

namespace Cert.KernelIdeal.Band

open Cert.KernelIdeal Cert.KernelIdeal.Gen Cert.Words Idealize.ShloMosaic Idealize.ShloMosaic.TcCoe Idealize.SL.Sem
open Idealize.ShloMosaic.Pipeline (Dat)

/-- The cotangent of the pooling at row `n`, lane `l`: over the rows `s` of the row's segment within the lane's radius,
    the cotangent of `s` over the size of the window of `s`; less the cotangent of the row itself. -/
def pooled (x : S2x4352x1024.Idx → EReal) (b : Fin 2) (n : Fin 4352) (l : Fin 1024) : EReal :=
  (∑ s : Fin 4352, if |(n.val : ℤ) - s.val| ≤ radius l.val ∧ lo (n.val / 256) ≤ s.val ∧ (s.val : ℤ) < hi (n.val / 256)
    then x (ix3 b s l) * Ideal.div 1 (((rows (radius l.val) (lo (n.val / 256)) (hi (n.val / 256)) s.val : ℤ) : ℝ) : EReal) else 0)
  - x (ix3 b n l)

/-- The sum over the 272 surrounding rows of tile `t` is the sum over all rows: the terms of the segment are the same. -/
theorem entry_eq (x : S2x4352x1024.Idx → EReal) (b : Fin 2) (t : ℕ) (ht : t < 17) (p : Fin 256) (l : Fin 1024) (y : Fin 272 → EReal) (z : EReal)
    (hy : ∀ k (s : Fin 4352), (s.val : ℤ) = t * 256 - 8 + k.val → lo t ≤ s.val → (s.val : ℤ) < hi t → y k = x (ix3 b s l))
    (hz : z = x (ix3 b ⟨t * 256 + p.val, by omega⟩ l)) :
    entry t y z p (radius l.val) = pooled x b ⟨t * 256 + p.val, by omega⟩ l := by
  have hr := radius_bounds l.val
  have hl := lo_cases t
  have hh := hi_cases t
  have hlt : lo t = 0 ∨ 1 ≤ t := by unfold lo; split <;> omega
  unfold entry pooled
  rw [hz, show (t * 256 + p.val) / 256 = t by omega]
  congr 1
  rw [← Finset.sum_filter, ← Finset.sum_filter]
  refine Finset.sum_nbij' (fun k => ⟨(t * 256 + k.val - 8) % 4352, Nat.mod_lt _ (by decide)⟩)
    (fun s => ⟨(s.val + 8 - t * 256) % 272, Nat.mod_lt _ (by decide)⟩) ?_ ?_ ?_ ?_ ?_
  · intro k hk
    simp only [Finset.mem_filter, Finset.mem_univ, true_and, abs_le] at hk ⊢
    have hm : (t * 256 + k.val - 8) % 4352 = t * 256 + k.val - 8 := Nat.mod_eq_of_lt (by omega)
    rw [hm]; omega
  · intro s hs
    simp only [Finset.mem_filter, Finset.mem_univ, true_and, abs_le] at hs ⊢
    have hm : (s.val + 8 - t * 256) % 272 = s.val + 8 - t * 256 := Nat.mod_eq_of_lt (by omega)
    rw [hm]; omega
  · intro k hk
    simp only [Finset.mem_filter, Finset.mem_univ, true_and, abs_le] at hk
    have hm : (t * 256 + k.val - 8) % 4352 = t * 256 + k.val - 8 := Nat.mod_eq_of_lt (by omega)
    apply Fin.ext
    show ((t * 256 + k.val - 8) % 4352 + 8 - t * 256) % 272 = k.val
    rw [hm, Nat.mod_eq_of_lt (by omega)]; omega
  · intro s hs
    simp only [Finset.mem_filter, Finset.mem_univ, true_and, abs_le] at hs
    have hm : (s.val + 8 - t * 256) % 272 = s.val + 8 - t * 256 := Nat.mod_eq_of_lt (by omega)
    apply Fin.ext
    show (t * 256 + (s.val + 8 - t * 256) % 272 - 8) % 4352 = s.val
    rw [hm, Nat.mod_eq_of_lt (by omega)]; omega
  · intro k hk
    simp only [Finset.mem_filter, Finset.mem_univ, true_and, abs_le] at hk
    have hm : (t * 256 + k.val - 8) % 4352 = t * 256 + k.val - 8 := Nat.mod_eq_of_lt (by omega)
    have hc : (((t * 256 + k.val - 8) % 4352 : ℕ) : ℤ) = t * 256 - 8 + k.val := by rw [hm]; omega
    rw [hy k ⟨(t * 256 + k.val - 8) % 4352, Nat.mod_lt _ (by decide)⟩ hc (by show lo t ≤ (((t * 256 + k.val - 8) % 4352 : ℕ) : ℤ); rw [hc]; omega)
      (by show (((t * 256 + k.val - 8) % 4352 : ℕ) : ℤ) < hi t; rw [hc]; omega)]
    show _ = _ * Ideal.div 1 (((rows (radius l.val) (lo t) (hi t) (((t * 256 + k.val - 8) % 4352 : ℕ) : ℤ) : ℤ) : ℝ) : EReal)
    rw [hc]

/-! ## The windows -/

/-- Where the windows of point `t` lie: the blocks of eight rows before, at, and after tile `coords t 1`. -/
theorem idx_facts : ∀ t : Fin cfg0.N,
    (win0_0.index t 0 = (grid0.coords t 0).val ∧ win0_0.index t 1 = 32 * (grid0.coords t 1).val - 1 ∧ win0_0.index t 2 = 0)
    ∧ (win0_1.index t 0 = (grid0.coords t 0).val ∧ win0_1.index t 1 = (grid0.coords t 1).val ∧ win0_1.index t 2 = 0)
    ∧ (win0_2.index t 0 = (grid0.coords t 0).val ∧ win0_2.index t 1 = min (32 * ((grid0.coords t 1).val + 1)) 543 ∧ win0_2.index t 2 = 0)
    ∧ (win0_3.index t 0 = (grid0.coords t 0).val ∧ win0_3.index t 1 = (grid0.coords t 1).val ∧ win0_3.index t 2 = 0)
    ∧ (grid0.coords t 0).val < 2 ∧ (grid0.coords t 1).val < 17 ∧ t.val = (grid0.coords t 0).val * 17 + (grid0.coords t 1).val :=
  (by decide +kernel : ∀ t : Fin grid0.N,
    (win0_0.index t 0 = (grid0.coords t 0).val ∧ win0_0.index t 1 = 32 * (grid0.coords t 1).val - 1 ∧ win0_0.index t 2 = 0)
    ∧ (win0_1.index t 0 = (grid0.coords t 0).val ∧ win0_1.index t 1 = (grid0.coords t 1).val ∧ win0_1.index t 2 = 0)
    ∧ (win0_2.index t 0 = (grid0.coords t 0).val ∧ win0_2.index t 1 = min (32 * ((grid0.coords t 1).val + 1)) 543 ∧ win0_2.index t 2 = 0)
    ∧ (win0_3.index t 0 = (grid0.coords t 0).val ∧ win0_3.index t 1 = (grid0.coords t 1).val ∧ win0_3.index t 2 = 0)
    ∧ (grid0.coords t 0).val < 2 ∧ (grid0.coords t 1).val < 17 ∧ t.val = (grid0.coords t 0).val * 17 + (grid0.coords t 1).val)

variable (m : (ℓ : Loc nD τ sig) → Buf (Elt Ideal) ℓ) (ρ : Dev nD → PrngReg)

/-- The argument array. -/
abbrev arg (c : Dev nD) : S2x4352x1024.Idx → EReal := m ((c : Thread nD τ).loc main_arg0)

/-- Row `k` of the eight rows before a tile. -/
theorem iblk0_apply (c : Dev nD) (t : Fin cfg0.N) (k : Fin 8) (l : Fin 1024) (b : Fin 2) (s : Fin 4352)
    (hb : b.val = (grid0.coords t 0).val) (hs : s.val = (32 * (grid0.coords t 1).val - 1) * 8 + k.val) :
    (iblk m c 0 t : Vec Ideal S1x8x1024 .f32) (ix3 0 k l) = arg m c (ix3 b s l) := by
  obtain ⟨⟨e0, e1, e2⟩, -⟩ := idx_facts t
  show arg m c ((win0_0.rect t).emb (ix3 0 k l)) = _
  congr 1
  funext a; apply Fin.ext
  rw [win0_0.rect_emb_val t]
  match a with
  | ⟨0, _⟩ => show win0_0.index t 0 * 1 + 0 = b.val; omega
  | ⟨1, _⟩ => show win0_0.index t 1 * 8 + k.val = s.val; rw [e1, hs]
  | ⟨2, _⟩ => show win0_0.index t 2 * 1024 + l.val = l.val; omega

/-- Row `k` of a tile. -/
theorem iblk1_apply (c : Dev nD) (t : Fin cfg0.N) (k : Fin 256) (l : Fin 1024) (b : Fin 2) (s : Fin 4352)
    (hb : b.val = (grid0.coords t 0).val) (hs : s.val = (grid0.coords t 1).val * 256 + k.val) :
    (iblk m c 1 t : Vec Ideal S1x256x1024 .f32) (ix3 0 k l) = arg m c (ix3 b s l) := by
  obtain ⟨-, ⟨e0, e1, e2⟩, -⟩ := idx_facts t
  show arg m c ((win0_1.rect t).emb (ix3 0 k l)) = _
  congr 1
  funext a; apply Fin.ext
  rw [win0_1.rect_emb_val t]
  match a with
  | ⟨0, _⟩ => show win0_1.index t 0 * 1 + 0 = b.val; omega
  | ⟨1, _⟩ => show win0_1.index t 1 * 256 + k.val = s.val; rw [e1, hs]
  | ⟨2, _⟩ => show win0_1.index t 2 * 1024 + l.val = l.val; omega

/-- Row `k` of the eight rows after a tile. -/
theorem iblk2_apply (c : Dev nD) (t : Fin cfg0.N) (k : Fin 8) (l : Fin 1024) (b : Fin 2) (s : Fin 4352)
    (hb : b.val = (grid0.coords t 0).val) (hs : s.val = min (32 * ((grid0.coords t 1).val + 1)) 543 * 8 + k.val) :
    (iblk m c 2 t : Vec Ideal S1x8x1024 .f32) (ix3 0 k l) = arg m c (ix3 b s l) := by
  obtain ⟨-, -, ⟨e0, e1, e2⟩, -⟩ := idx_facts t
  show arg m c ((win0_2.rect t).emb (ix3 0 k l)) = _
  congr 1
  funext a; apply Fin.ext
  rw [win0_2.rect_emb_val t]
  match a with
  | ⟨0, _⟩ => show win0_2.index t 0 * 1 + 0 = b.val; omega
  | ⟨1, _⟩ => show win0_2.index t 1 * 8 + k.val = s.val; rw [e1, hs]
  | ⟨2, _⟩ => show win0_2.index t 2 * 1024 + l.val = l.val; omega

/-- Every row around a tile is some row of the argument, and those of the tile's segment are the rows at their place. -/
theorem around_eq (c : Dev nD) (t : Fin cfg0.N) (k : Fin 272) (l : Fin 1024) :
    ∃ s : Fin 4352, around (iblk m c 0 t) (iblk m c 1 t) (iblk m c 2 t) k l
        = arg m c (ix3 ⟨(grid0.coords t 0).val, (idx_facts t).2.2.2.2.1⟩ s l)
      ∧ ∀ s' : Fin 4352, (s'.val : ℤ) = (grid0.coords t 1).val * 256 - 8 + k.val → s' = s := by
  obtain ⟨-, -, -, -, hb, ht, -⟩ := idx_facts t
  unfold around
  by_cases h1 : k.val < 8
  · rw [dif_pos h1]
    refine ⟨⟨(32 * (grid0.coords t 1).val - 1) * 8 + k.val, by omega⟩, iblk0_apply m c t ⟨k.val, h1⟩ l _ _ rfl rfl, fun s' h => ?_⟩
    apply Fin.ext; show s'.val = (32 * (grid0.coords t 1).val - 1) * 8 + k.val; omega
  rw [dif_neg h1]
  by_cases h2 : k.val - 8 < 256
  · rw [dif_pos h2]
    refine ⟨⟨(grid0.coords t 1).val * 256 + (k.val - 8), by omega⟩, iblk1_apply m c t ⟨k.val - 8, h2⟩ l _ _ rfl rfl, fun s' h => ?_⟩
    apply Fin.ext; show s'.val = (grid0.coords t 1).val * 256 + (k.val - 8); omega
  · rw [dif_neg h2]
    refine ⟨⟨min (32 * ((grid0.coords t 1).val + 1)) 543 * 8 + (k.val - 8 - 256), by omega⟩,
      iblk2_apply m c t ⟨k.val - 8 - 256, by omega⟩ l _ _ rfl rfl, fun s' h => ?_⟩
    apply Fin.ext; show s'.val = min (32 * ((grid0.coords t 1).val + 1)) 543 * 8 + (k.val - 8 - 256)
    have := s'.isLt; omega

/-- The array of pooled cotangents. -/
def pooledArr (x : S2x4352x1024.Idx → EReal) : Vec Ideal S2x4352x1024 .bf16 := fun i => pooled x (i 0) (i 1) (i 2)

/-- What point `t` writes back is its block of the pooled array. -/
theorem flushed_eq (hfin : ∀ (c : Dev nD) j, IsReal (arg m c j)) (c : Dev nD) (t : Fin cfg0.N) :
    (dats m 0 c).flushed 3 t = (win0_3.blk t).view.read (Elt Ideal) (pooledArr (arg m c)) := by
  obtain ⟨-, -, -, ⟨e0, e1, e2⟩, hb, ht, -⟩ := idx_facts t
  rw [Value.flushed3, out_eq]
  funext y
  show block (grid0.coords t) (iblk m c 0 t) (iblk m c 1 t) (iblk m c 2 t) y = pooledArr (arg m c) ((win0_3.rect t).emb y)
  have key : ∀ (p : Fin 256) (l : Fin 1024), block (grid0.coords t) (iblk m c 0 t) (iblk m c 1 t) (iblk m c 2 t) (ix3 0 p l)
      = pooledArr (arg m c) ((win0_3.rect t).emb (ix3 0 p l)) := by
    intro p l
    rw [block_apply _ _ _ _ (fun k l => by obtain ⟨s, e, -⟩ := around_eq m c t k l; rw [e]; exact hfin c _)]
    rw [entry_eq (arg m c) ⟨(grid0.coords t 0).val, hb⟩ _ ht p l _ _
      (fun k s hs _ _ => by obtain ⟨s', e, u⟩ := around_eq m c t k l; rw [u s hs]; exact e)
      (iblk1_apply m c t p l _ _ rfl rfl)]
    have hE : ((win0_3.rect t).emb (ix3 0 p l) : S2x4352x1024.Idx)
        = ix3 ⟨(grid0.coords t 0).val, hb⟩ ⟨(grid0.coords t 1).val * 256 + p.val, by omega⟩ l := by
      funext a; apply Fin.ext
      rw [win0_3.rect_emb_val t]
      match a with
      | ⟨0, _⟩ => show win0_3.index t 0 * 1 + 0 = (grid0.coords t 0).val; omega
      | ⟨1, _⟩ => show win0_3.index t 1 * 256 + p.val = (grid0.coords t 1).val * 256 + p.val; omega
      | ⟨2, _⟩ => show win0_3.index t 2 * 1024 + l.val = l.val; omega
    rw [hE]
    rfl
  have := key (y 1) (y 2)
  rwa [show (ix3 (0 : Fin 1) (y 1) (y 2) : S1x256x1024.Idx) = y from by
    funext a; match a with
      | ⟨0, _⟩ => exact Fin.ext (by have h : (y 0).val < 1 := (y 0).isLt; show 0 = (y 0).val; omega)
      | ⟨1, _⟩ => rfl
      | ⟨2, _⟩ => rfl] at this

/-- The tiles cover the array. -/
theorem cover (i : S2x4352x1024.Idx) : ∃ t : Fin cfg0.N, (cfg0.win 3).flush t = true ∧ i ∈ ((cfg0.win 3).blk t).view.set := by
  have h0 : (i 0).val < 2 := (i 0).isLt
  have h1 : (i 1).val < 4352 := (i 1).isLt
  have h2 : (i 2).val < 1024 := (i 2).isLt
  let t : Fin cfg0.N := ⟨(i 0).val * 17 + (i 1).val / 256, by show _ < 34; omega⟩
  refine ⟨t, flush0_3 t, ?_⟩
  obtain ⟨-, -, -, ⟨e0, e1, e2⟩, hb, ht, hv⟩ := idx_facts t
  have hv' : (i 0).val * 17 + (i 1).val / 256 = (grid0.coords t 0).val * 17 + (grid0.coords t 1).val := hv
  show i ∈ ((View.whole main_v0).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 1024 ≤ (i 2).val ∧ (i 2).val < win0_3.index t 2 * 1024 + 1024; omega

/-- The array after the run. -/
theorem final (hfin : ∀ (c : Dev nD) j, IsReal (arg m c j)) (c : Dev nD) : (dats m 0 c).arrAt 3 cfg0.N = pooledArr (arg m c) :=
  (dats m 0 c).arrAt_eq_of_cover 3 (pooledArr (arg m c)) (fun t _ => flushed_eq m hfin c t) cover

/-- The run, read: the result is the pooled array, the argument unchanged. -/
theorem run (hfin : ∀ (c : Dev nD) j, IsReal (arg m c j)) :
    θ_run defs (onTc (τ := τ) (main (F := Ideal))) ⟨m, fun _ => 0, ρ⟩ fun r => ∀ c : Dev nD,
      r.2.mem ((c : Thread nD τ).loc main_v0) = pooledArr (arg m c)
      ∧ r.2.mem ((c : Thread nD τ).loc main_arg0) = m ((c : Thread nD τ).loc main_arg0) :=
  (θ_run defs _ _).mono (fun _ h c => ⟨(h c).1.trans (final m hfin c), (h c).2⟩) (Value.run_blocks m ρ)

end Cert.KernelIdeal.Band

end
-- ==== Proof.RefArray.lean ====
/- The reference's array over the reals is `pooled` of its argument.

   The four lane groups are put side by side with zeros elsewhere, so a lane reads its own group's added rows; the
   suffix sum of the added rows is the window sum of the shares (`suffix_added`); and the two segments are put one
   after the other. The cotangent is finite, so that the shares may be cancelled. -/
module

public import proofs.«01_k».proof.Proof.RefContext
public import proofs.«01_k».proof.Proof.RefLatent
public import proofs.«01_k».proof.Proof.BandArray

@[expose] public section

set_option maxRecDepth 16384

noncomputable section

namespace Cert.ReferenceIdeal.Band

open Cert.ReferenceIdeal Cert.ReferenceIdeal.Gen Cert.ReferenceIdeal.Read Cert.Words Cert.SegmentSums
open Cert.KernelIdeal.Band (radius radius_bounds rows lo hi pooled pooledArr IsReal)
open Idealize.ShloMosaic Idealize.ShloMosaic.TcCoe Idealize.SL.Sem

/-- Of four lane groups put side by side, a lane reads its own. -/
theorem four_groups (l : ℕ) (hl : l < 1024) (f : EReal) (A : 768 ≤ l ∧ l - 768 < 256 → EReal) (B : 512 ≤ l ∧ l - 512 < 256 → EReal)
    (C : 256 ≤ l ∧ l - 256 < 256 → EReal) (D : l < 256 → EReal) (hA : ∀ h, A h = f) (hB : ∀ h, B h = f) (hC : ∀ h, C h = f)
    (hD : ∀ h, D h = f) :
    ((((if h : 768 ≤ l ∧ l - 768 < 256 then A h else 0) + if h : 512 ≤ l ∧ l - 512 < 256 then B h else 0)
      + if h : 256 ≤ l ∧ l - 256 < 256 then C h else 0) + if h : l < 256 then D h else 0) = f := by
  by_cases h1 : l < 256
  · rw [dif_neg (by omega), dif_neg (by omega), dif_neg (by omega), dif_pos h1, hD, zero_add, zero_add, zero_add]
  by_cases h2 : l < 512
  · rw [dif_neg (by omega), dif_neg (by omega), dif_pos (by omega), dif_neg h1, hC, zero_add, zero_add, add_zero]
  by_cases h3 : l < 768
  · rw [dif_neg (by omega), dif_pos (by omega), dif_neg (by omega), dif_neg h1, hB, zero_add, add_zero, add_zero]
  · rw [dif_pos (by omega), dif_neg (by omega), dif_neg (by omega), dif_neg h1, hA, add_zero, add_zero, add_zero]

theorem radius0 {l : ℕ} (h : l < 256) : radius l = 1 := if_pos h
theorem radius1 {l : ℕ} (h : 256 ≤ l ∧ l - 256 < 256) : radius l = 2 := by unfold radius; rw [if_neg (by omega), if_pos (by omega)]
theorem radius2 {l : ℕ} (h : 512 ≤ l ∧ l - 512 < 256) : radius l = 4 := by
  unfold radius; rw [if_neg (by omega), if_neg (by omega), if_pos (by omega)]
theorem radius3 {l : ℕ} (h : 768 ≤ l ∧ l - 768 < 256) : radius l = 8 := by
  unfold radius; rw [if_neg (by omega), if_neg (by omega), if_neg (by omega)]

/-- The share of a finite row is a real number. -/
theorem share_real (N : ℕ) (r : ℤ) (hr : 0 ≤ r) (xs : Fin N → EReal) (hx : ∀ i, IsReal (xs i)) (s : Fin N) : IsReal (share N r xs s) := by
  refine (hx s).mul (Cert.KernelIdeal.Band.isReal_div_one ?_)
  unfold hiW loW
  omega

/-- The window sum of the shares less the row itself. -/
def segment (N : ℕ) (r : ℤ) (xs : Fin N → EReal) (n : Fin N) : EReal :=
  (∑ s : Fin N, if |(n.val : ℤ) - s.val| ≤ r then share N r xs s else 0) - xs n

/-- The negated row plus the suffix sum of the added rows. -/
theorem segment_eq (N : ℕ) (r : ℤ) (hr : 0 ≤ r) (xs : Fin N → EReal) (hx : ∀ i, IsReal (xs i)) (n : Fin N) :
    -(xs n) + (∑ s : Fin N, if n.val ≤ s.val then added N r xs (s.val + 1) else 0) = segment N r xs n := by
  choose ys hy using fun s => share_real N r hr xs hx s
  rw [suffix_added N r hr xs ys hy, segment, add_comm, sub_eq_add_neg]

/-! ## The context segment -/

/-- The rows of the context segment of a lane. -/
def ctxRow (x0 : S2x4352x1024.Idx → EReal) (b : Fin 2) (l : Fin 1024) : Fin 256 → EReal := fun i => x0 (ix3 b ⟨0 + i.val, by omega⟩ l)

theorem ctx_added (x0 : S2x4352x1024.Idx → EReal) (b : Fin 2) (q : Fin 257) (l : Fin 1024) :
    val_main_v396 (F := Ideal) x0 (ix3 b q l) = added 256 (radius l.val) (ctxRow x0 b l) q.val := by
  pointwise [val_main_v396, val_main_v383, val_main_v370, val_main_v357, val_main_cst_119, val_main_v369, val_main_cst_123, val_main_v382, val_main_cst_127, val_main_v395, val_main_cst_131]
  refine four_groups l.val l.isLt _ _ _ _ _ (fun h => ?_) (fun h => ?_) (fun h => ?_) (fun h => ?_)
  · rw [added_ctx3, radius3 h]
    have e : (⟨768 + (l.val - 768), by omega⟩ : Fin 1024) = l := Fin.ext (by show 768 + (l.val - 768) = l.val; omega)
    rw [e]
    rfl
  · rw [added_ctx2, radius2 h]
    have e : (⟨512 + (l.val - 512), by omega⟩ : Fin 1024) = l := Fin.ext (by show 512 + (l.val - 512) = l.val; omega)
    rw [e]
    rfl
  · rw [added_ctx1, radius1 h]
    have e : (⟨256 + (l.val - 256), by omega⟩ : Fin 1024) = l := Fin.ext (by show 256 + (l.val - 256) = l.val; omega)
    rw [e]
    rfl
  · rw [added_ctx0, radius0 h]
    have e : (⟨0 + l.val, by omega⟩ : Fin 1024) = l := Fin.ext (zero_add _)
    rw [e]
    rfl

theorem ctx_neg (x0 : S2x4352x1024.Idx → EReal) (b : Fin 2) (n : Fin 256) (l : Fin 1024) :
    val_main_v386 (F := Ideal) x0 (ix3 b n l) = -(ctxRow x0 b l n) := by
  pointwise [val_main_v386, val_main_v373, val_main_v360, val_main_v348, val_main_v347, val_main_v346, val_main_v282, val_main_cst_116, val_main_v359, val_main_v358, val_main_v345, val_main_cst_120, val_main_v372, val_main_v371, val_main_v344, val_main_cst_124, val_main_v385, val_main_v384, val_main_v343, val_main_cst_128]
  refine four_groups l.val l.isLt _ _ _ _ _ (fun h => ?_) (fun h => ?_) (fun h => ?_) (fun h => ?_)
  · have e : (⟨768 + (l.val - 768), by omega⟩ : Fin 1024) = l := Fin.ext (by show 768 + (l.val - 768) = l.val; omega)
    rw [e]
    simp only [ctxRow, Nat.zero_add]
  · have e : (⟨512 + (l.val - 512), by omega⟩ : Fin 1024) = l := Fin.ext (by show 512 + (l.val - 512) = l.val; omega)
    rw [e]
    simp only [ctxRow, Nat.zero_add]
  · have e : (⟨256 + (l.val - 256), by omega⟩ : Fin 1024) = l := Fin.ext (by show 256 + (l.val - 256) = l.val; omega)
    rw [e]
    simp only [ctxRow, Nat.zero_add]
  · simp only [ctxRow, Nat.zero_add]

theorem ctx_segment (x0 : S2x4352x1024.Idx → EReal) (hx : ∀ i, IsReal (x0 i)) (b : Fin 2) (n : Fin 256) (l : Fin 1024) :
    val_main_v400 (F := Ideal) x0 (ix3 b n l) = segment 256 (radius l.val) (ctxRow x0 b l) n := by
  show val_main_v386 (F := Ideal) x0 (ix3 b n l) + val_main_v399 (F := Ideal) x0 (ix3 b n l) = _
  have i0 : val_main_call19_call0_v0 (F := Ideal) (Shape.Idx.first h_S_) = 0 := by pointwise [val_main_call19_call0_v0, val_main_call19_call0_cst]
  have hs : val_main_v399 (F := Ideal) x0 (ix3 b n l) = ∑ s : Fin 256, if n.val ≤ s.val then val_main_v398 (F := Ideal) x0 (ix3 b s l) else 0 :=
    HostSums.suffix_sum _ h_S_ _ _ i0 b n l
  have hv (s : Fin 256) : val_main_v398 (F := Ideal) x0 (ix3 b s l) = added 256 (radius l.val) (ctxRow x0 b l) (s.val + 1) := by
    have : val_main_v398 (F := Ideal) x0 (ix3 b s l) = val_main_v396 (F := Ideal) x0 (ix3 b ⟨s.val + 1, by omega⟩ l) := by
      pointwise [val_main_v398]
      exact congrArg (fun q => val_main_v396 (F := Ideal) x0 (ix3 b q l)) (Fin.ext (Nat.add_comm 1 s.val))
    rw [this, ctx_added]
  have hv' : (∑ s : Fin 256, if n.val ≤ s.val then val_main_v398 (F := Ideal) x0 (ix3 b s l) else 0)
      = ∑ s : Fin 256, if n.val ≤ s.val then added 256 (radius l.val) (ctxRow x0 b l) (s.val + 1) else 0 :=
    Finset.sum_congr rfl fun s _ => if_congr Iff.rfl (hv s) rfl
  exact (congrArg₂ (fun a c : EReal => a + c) (ctx_neg x0 b n l) (hs.trans hv')).trans
    (segment_eq 256 _ (radius_bounds _).1 (ctxRow x0 b l) (fun i => hx _) n)

/-! ## The latent segment -/

/-- The rows of the latent segment of a lane. -/
def latRow (x0 : S2x4352x1024.Idx → EReal) (b : Fin 2) (l : Fin 1024) : Fin 4096 → EReal := fun i => x0 (ix3 b ⟨256 + i.val, by omega⟩ l)

theorem lat_added (x0 : S2x4352x1024.Idx → EReal) (b : Fin 2) (q : Fin 4097) (l : Fin 1024) :
    val_main_v337 (F := Ideal) x0 (ix3 b q l) = added 4096 (radius l.val) (latRow x0 b l) q.val := by
  pointwise [val_main_v337, val_main_v324, val_main_v311, val_main_v298, val_main_cst_102, val_main_v310, val_main_cst_106, val_main_v323, val_main_cst_110, val_main_v336, val_main_cst_114]
  refine four_groups l.val l.isLt _ _ _ _ _ (fun h => ?_) (fun h => ?_) (fun h => ?_) (fun h => ?_)
  · rw [added_lat3, radius3 h]
    have e : (⟨768 + (l.val - 768), by omega⟩ : Fin 1024) = l := Fin.ext (by show 768 + (l.val - 768) = l.val; omega)
    rw [e]
    rfl
  · rw [added_lat2, radius2 h]
    have e : (⟨512 + (l.val - 512), by omega⟩ : Fin 1024) = l := Fin.ext (by show 512 + (l.val - 512) = l.val; omega)
    rw [e]
    rfl
  · rw [added_lat1, radius1 h]
    have e : (⟨256 + (l.val - 256), by omega⟩ : Fin 1024) = l := Fin.ext (by show 256 + (l.val - 256) = l.val; omega)
    rw [e]
    rfl
  · rw [added_lat0, radius0 h]
    have e : (⟨0 + l.val, by omega⟩ : Fin 1024) = l := Fin.ext (zero_add _)
    rw [e]
    rfl

theorem lat_neg (x0 : S2x4352x1024.Idx → EReal) (b : Fin 2) (n : Fin 4096) (l : Fin 1024) :
    val_main_v327 (F := Ideal) x0 (ix3 b n l) = -(latRow x0 b l n) := by
  pointwise [val_main_v327, val_main_v314, val_main_v301, val_main_v289, val_main_v288, val_main_v287, val_main_v283, val_main_cst_99, val_main_v300, val_main_v299, val_main_v286, val_main_cst_103, val_main_v313, val_main_v312, val_main_v285, val_main_cst_107, val_main_v326, val_main_v325, val_main_v284, val_main_cst_111]
  refine four_groups l.val l.isLt _ _ _ _ _ (fun h => ?_) (fun h => ?_) (fun h => ?_) (fun h => ?_)
  · have e : (⟨768 + (l.val - 768), by omega⟩ : Fin 1024) = l := Fin.ext (by show 768 + (l.val - 768) = l.val; omega)
    rw [e]
    rfl
  · have e : (⟨512 + (l.val - 512), by omega⟩ : Fin 1024) = l := Fin.ext (by show 512 + (l.val - 512) = l.val; omega)
    rw [e]
    rfl
  · have e : (⟨256 + (l.val - 256), by omega⟩ : Fin 1024) = l := Fin.ext (by show 256 + (l.val - 256) = l.val; omega)
    rw [e]
    rfl
  · rfl

theorem lat_segment (x0 : S2x4352x1024.Idx → EReal) (hx : ∀ i, IsReal (x0 i)) (b : Fin 2) (n : Fin 4096) (l : Fin 1024) :
    val_main_v341 (F := Ideal) x0 (ix3 b n l) = segment 4096 (radius l.val) (latRow x0 b l) n := by
  show val_main_v327 (F := Ideal) x0 (ix3 b n l) + val_main_v340 (F := Ideal) x0 (ix3 b n l) = _
  have i0 : val_main_call18_call0_v0 (F := Ideal) (Shape.Idx.first h_S_) = 0 := by pointwise [val_main_call18_call0_v0, val_main_call18_call0_cst]
  have hs : val_main_v340 (F := Ideal) x0 (ix3 b n l) = ∑ s : Fin 4096, if n.val ≤ s.val then val_main_v339 (F := Ideal) x0 (ix3 b s l) else 0 :=
    HostSums.suffix_sum _ h_S_ _ _ i0 b n l
  have hv (s : Fin 4096) : val_main_v339 (F := Ideal) x0 (ix3 b s l) = added 4096 (radius l.val) (latRow x0 b l) (s.val + 1) := by
    have : val_main_v339 (F := Ideal) x0 (ix3 b s l) = val_main_v337 (F := Ideal) x0 (ix3 b ⟨s.val + 1, by omega⟩ l) := by
      pointwise [val_main_v339]
      exact congrArg (fun q => val_main_v337 (F := Ideal) x0 (ix3 b q l)) (Fin.ext (Nat.add_comm 1 s.val))
    rw [this, lat_added]
  have hv' : (∑ s : Fin 4096, if n.val ≤ s.val then val_main_v339 (F := Ideal) x0 (ix3 b s l) else 0)
      = ∑ s : Fin 4096, if n.val ≤ s.val then added 4096 (radius l.val) (latRow x0 b l) (s.val + 1) else 0 :=
    Finset.sum_congr rfl fun s _ => if_congr Iff.rfl (hv s) rfl
  exact (congrArg₂ (fun a c : EReal => a + c) (lat_neg x0 b n l) (hs.trans hv')).trans
    (segment_eq 4096 _ (radius_bounds _).1 (latRow x0 b l) (fun i => hx _) n)

/-! ## The two segments -/

/-- The window sum over a segment is the window sum over all rows, cut to the segment. -/
theorem segment_pooled (x : S2x4352x1024.Idx → EReal) (b : Fin 2) (l : Fin 1024) (N off : ℕ) (hN : off + N ≤ 4352) (n : Fin 4352)
    (n0 : Fin N) (hn : n.val = off + n0.val) (hlo : lo (n.val / 256) = off) (hhi : hi (n.val / 256) = (off + N : ℕ)) (xs : Fin N → EReal)
    (hxs : ∀ i : Fin N, xs i = x (ix3 b ⟨off + i.val, by omega⟩ l)) :
    segment N (radius l.val) xs n0 = pooled x b n l := by
  have hr := radius_bounds l.val
  unfold segment pooled
  rw [hlo, hhi, hxs n0, show (⟨off + n0.val, by omega⟩ : Fin 4352) = n from Fin.ext hn.symm]
  congr 1
  refine Finset.sum_of_injOn (fun i : Fin N => (⟨off + i.val, by omega⟩ : Fin 4352)) (fun i _ j _ h => ?_) (fun i _ => by simp) (fun s _ hs => ?_)
    (fun i _ => ?_)
  · have := congrArg Fin.val h
    exact Fin.ext (by simpa using this)
  · rw [if_neg]
    rintro ⟨_, h1, h2⟩
    exact hs ⟨⟨s.val - off, by omega⟩, by simp, Fin.ext (by show off + (s.val - off) = s.val; omega)⟩
  · have e : rows (radius l.val) off ((off + N : ℕ) : ℤ) ((off + i.val : ℕ) : ℤ) = hiW N (radius l.val) i.val - loW N (radius l.val) i.val := by
      unfold rows hiW loW
      omega
    have c : (|(n0.val : ℤ) - i.val| ≤ radius l.val)
        = (|(n.val : ℤ) - ((off + i.val : ℕ) : ℤ)| ≤ radius l.val ∧ (off : ℤ) ≤ ((off + i.val : ℕ) : ℤ) ∧ ((off + i.val : ℕ) : ℤ) < ((off + N : ℕ) : ℤ)) := by
      rw [show (n.val : ℤ) - ((off + i.val : ℕ) : ℤ) = (n0.val : ℤ) - i.val by rw [hn]; push_cast; ring]
      refine propext ⟨fun h => ⟨h, by omega, by omega⟩, fun h => h.1⟩
    show _ = if |(n.val : ℤ) - ((off + i.val : ℕ) : ℤ)| ≤ radius l.val ∧ (off : ℤ) ≤ ((off + i.val : ℕ) : ℤ) ∧ ((off + i.val : ℕ) : ℤ) < ((off + N : ℕ) : ℤ) then
      x (ix3 b ⟨off + i.val, by omega⟩ l) * Ideal.div 1 (((rows (radius l.val) off ((off + N : ℕ) : ℤ) ((off + i.val : ℕ) : ℤ) : ℤ) : ℝ) : EReal) else 0
    rw [e, ← hxs i]
    exact if_congr (iff_of_eq c) rfl rfl

theorem result_apply (x0 : S2x4352x1024.Idx → EReal) (hx : ∀ i, IsReal (x0 i)) (b : Fin 2) (n : Fin 4352) (l : Fin 1024) :
    val_main_v403 (F := Ideal) x0 (ix3 b n l) = pooled x0 b n l := by
  pointwise [val_main_v403, val_main_v402, val_main_v401, val_main_v342, val_main_cst_115, val_main_cst_132]
  by_cases h : n.val < 256
  · rw [dif_neg (by omega), dif_pos h, zero_add, ctx_segment x0 hx]
    have h0 : n.val / 256 = 0 := Nat.div_eq_of_lt h
    exact segment_pooled x0 b l 256 0 (by omega) n ⟨n.val, h⟩ (by simp) (by rw [h0]; rfl) (by rw [h0]; rfl) _ (fun i => rfl)
  · rw [dif_pos (by omega), dif_neg h, add_zero, lat_segment x0 hx]
    have h0 : n.val / 256 ≠ 0 := by omega
    exact segment_pooled x0 b l 4096 256 (by omega) n ⟨n.val - 256, by omega⟩ (by show n.val = 256 + (n.val - 256); omega) (if_neg h0) (if_neg h0) _
      (fun i => rfl)

/-- The reference's array over the reals. -/
theorem result_eq (x0 : S2x4352x1024.Idx → EReal) (hx : ∀ i, IsReal (x0 i)) : val_main_v403 (F := Ideal) x0 = pooledArr x0 := by
  funext i
  have e : i = ix3 (i 0) (i 1) (i 2) := by
    funext a
    match a with
    | ⟨0, _⟩ => rfl
    | ⟨1, _⟩ => rfl
    | ⟨2, _⟩ => rfl
  rw [e]
  exact result_apply x0 hx _ _ _

end Cert.ReferenceIdeal.Band

end
-- ==== Proof.BandClaim.lean ====
/- The claims about the backward pass of the pooling.

   Both arrays are `pooledArr` of the cotangent over the reals: the kernel's by `BandArray`, the reference's by `RefArray`. -/
module

public import proofs.«01_k».proof.Defs
public import proofs.«01_k».proof.Proof.Finite
public import proofs.«01_k».proof.Proof.RefArray
public import proofs.«01_k».proof.Proof.Gen.ReferenceIdeal.Run
public import Idealize.ShloMosaic.Lib.Quiescent

@[expose] public section

set_option maxRecDepth 16384

noncomputable section

namespace Cert.Band

open Idealize.ShloMosaic Idealize.ShloMosaic.TcCoe Idealize.SL.Sem
open Cert.KernelIdeal.Band (IsReal pooledArr arg)

/-- The reference's run over the reals from a finite cotangent. -/
theorem run_reference (m : (ℓ : Loc Cert.ReferenceIdeal.nD Cert.ReferenceIdeal.τ Cert.ReferenceIdeal.sig) → Buf (Elt Ideal) ℓ)
    (ρ : Dev Cert.ReferenceIdeal.nD → PrngReg)
    (hx : ∀ (c : Dev Cert.ReferenceIdeal.nD) i,
      IsReal ((m ((c.tc : Thread Cert.ReferenceIdeal.nD Cert.ReferenceIdeal.τ).loc Cert.ReferenceIdeal.main_arg0) : Cert.ReferenceIdeal.S2x4352x1024.Idx → EReal) i)) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v403)
          = pooledArr (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono
    (fun _ h c => ⟨((h c).1.trans (Cert.ReferenceIdeal.Read.val_main_v403_eq _)).trans (Cert.ReferenceIdeal.Band.result_eq _ (hx c)), (h c).2⟩)
    (Cert.ReferenceIdeal.Value.run (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic [Cert.Pre_finite.Facts] : Cert.algebraic_KernelIdeal_ReferenceIdeal_pre_finite := by
  intro m ρ m' ρ' hpre hagree
  have hx (c : Dev Cert.KernelIdeal.nD) (i) : IsReal (arg m c i) := Finite.isReal_of_pre _ (hpre c) i
  refine ⟨fun c => pooledArr (arg m c), Cert.KernelIdeal.Band.run m ρ hx, ?_⟩
  have hx' (c : Dev Cert.ReferenceIdeal.nD) (i) :
      IsReal ((m' ((c.tc : Thread Cert.ReferenceIdeal.nD Cert.ReferenceIdeal.τ).loc Cert.ReferenceIdeal.main_arg0) : Cert.ReferenceIdeal.S2x4352x1024.Idx → EReal) i) := by
    have := hagree c
    rw [this]
    exact hx c i
  refine (θ_run Cert.ReferenceIdeal.defs _ _).mono (fun _ h c => ⟨(h c).1.trans ?_, (h c).2⟩) (run_reference m' ρ' hx')
  exact congrArg pooledArr (hagree c)

end Cert.Band

end
-- ==== Proof.Rows.lean ====
/- Row updates of an eight-row block: the loads and stores a kernel makes of single rows of a gradient block,
   read as functions of the block. -/
module

public import Idealize.ShloMosaic.Lib.VecWindow
public import Idealize.ShloMosaic.Lib.WritesUnit
public import Idealize.ShloMosaic.Lib.ValueIdxCoords
public import Idealize.ShloMosaic.Lib.Pipeline.FrameBody

@[expose] public section

noncomputable section

namespace Cert.Rows

open Idealize.ShloMosaic Idealize.ShloMosaic.View Idealize.ShloMosaic.ValueIdx

variable {sig : RefSig} {κ : Kind} {sp : Space} {e : EltTy} {Val : EltTy → Type}

/-- A block of eight rows of `n` with two leading axes of one. -/
abbrev Block (n : ℕ) : Shape := ⟨4, ![1, 1, 8, n]⟩
/-- One of its rows. -/
abbrev BlockRow (n : ℕ) : Shape := ⟨4, ![1, 1, 1, n]⟩
/-- Eight rows of `n`. -/
abbrev Eight (n : ℕ) : Shape := ⟨2, ![8, n]⟩
/-- One of them. -/
abbrev EightRow (n : ℕ) : Shape := ⟨2, ![1, n]⟩

variable {n : ℕ}

/-- Row `r` of a block. -/
def blockRow (r : Fin 8) (d : (Block n).Idx → Val e) : (BlockRow n).Idx → Val e := fun y => d (ix4 0 0 r (y 3))

/-- The first of eight rows. -/
def eightRow (d : (Eight n).Idx → Val e) : (EightRow n).Idx → Val e := fun y => d (ix2 0 (y 1))

/-- A block with its rows 0 and 1 replaced. -/
def setBlock (d : (Block n).Idx → Val e) (w₀ w₁ : (BlockRow n).Idx → Val e) : (Block n).Idx → Val e := fun y =>
  if (y 2).val = 1 then w₁ (ix4 0 0 0 (y 3)) else if (y 2).val = 0 then w₀ (ix4 0 0 0 (y 3)) else d y

theorem setBlock_congr {d d' : (Block n).Idx → Val e} {w₀ w₀' w₁ w₁' : (BlockRow n).Idx → Val e} (hd : d = d') (h₀ : w₀ = w₀')
    (h₁ : w₁ = w₁') : setBlock d w₀ w₁ = setBlock d' w₀' w₁' := by
  rw [hd, h₀, h₁]

/-- A block with its row 0 replaced. -/
def setFirst (d : (Block n).Idx → Val e) (w : (BlockRow n).Idx → Val e) : (Block n).Idx → Val e := fun y =>
  if (y 2).val = 0 then w (ix4 0 0 0 (y 3)) else d y

/-- Eight rows with the first replaced. -/
def setEight (d : (Eight n).Idx → Val e) (w : (EightRow n).Idx → Val e) : (Eight n).Idx → Val e := fun y =>
  if (y 0).val = 0 then w (ix2 0 (y 1)) else d y

/-- A load of row `r` of a block reads that row. -/
theorem readAt_blockRow (v : View sig κ sp (Block n) e) (f : v.ty.Contents Val) (r : Fin 8) (off : Fin 4 → ℕ)
    (ho : off = ![0, 0, r.val, 0]) (inb : ∀ a, off a + (BlockRow n).size a ≤ (Block n).size a) :
    v.readAt Val (Rect.unit (s := Block n) off (BlockRow n).size inb).toLoadRect f = blockRow r (v.read Val f) := by
  subst ho
  funext y
  refine congrArg (v.read Val f) (funext fun a => Fin.ext ?_)
  have h0 : (y 0).val < 1 := (y 0).isLt
  have h1 : (y 1).val < 1 := (y 1).isLt
  have h2 : (y 2).val < 1 := (y 2).isLt
  match a with
  | ⟨0, _⟩ => show 0 + 1 * (y 0).val = 0; omega
  | ⟨1, _⟩ => show 0 + 1 * (y 1).val = 0; omega
  | ⟨2, _⟩ => show r.val + 1 * (y 2).val = r.val; omega
  | ⟨3, _⟩ => show 0 + 1 * (y 3).val = (y 3).val; omega

/-- Plane `g` of four square ones. -/
def plane (g : Fin 4) (d : (⟨3, ![4, n, n]⟩ : Shape).Idx → Val e) : (⟨3, ![1, n, n]⟩ : Shape).Idx → Val e := fun y => d (ix3 g (y 1) (y 2))

/-- A load of one of four planes reads it. -/
theorem readAt_plane (v : View sig κ sp ⟨3, ![4, n, n]⟩ e) (f : v.ty.Contents Val) (g : Fin 4) (off : Fin 3 → ℕ)
    (ho : off = ![g.val, 0, 0]) (inb : ∀ a, off a + (⟨3, ![1, n, n]⟩ : Shape).size a ≤ (⟨3, ![4, n, n]⟩ : Shape).size a) :
    v.readAt Val (Rect.unit (s := ⟨3, ![4, n, n]⟩) off (⟨3, ![1, n, n]⟩ : Shape).size inb).toLoadRect f = plane g (v.read Val f) := by
  subst ho
  funext y
  refine congrArg (v.read Val f) (funext fun a => Fin.ext ?_)
  have h0 : (y 0).val < 1 := (y 0).isLt
  match a with
  | ⟨0, _⟩ => show g.val + 1 * (y 0).val = g.val; omega
  | ⟨1, _⟩ => show 0 + 1 * (y 1).val = (y 1).val; omega
  | ⟨2, _⟩ => show 0 + 1 * (y 2).val = (y 2).val; omega

/-- A load of the first of eight rows reads it. -/
theorem readAt_eightRow (v : View sig κ sp (Eight n) e) (f : v.ty.Contents Val) (off : Fin 2 → ℕ) (ho : off = ![0, 0])
    (inb : ∀ a, off a + (EightRow n).size a ≤ (Eight n).size a) :
    v.readAt Val (Rect.unit (s := Eight n) off (EightRow n).size inb).toLoadRect f = eightRow (v.read Val f) := by
  subst ho
  funext y
  refine congrArg (v.read Val f) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega

/-- A store of row `r` of a block leaves the other rows. -/
theorem read_row_miss (v : View sig κ sp (Block n) e) (f : v.ty.Contents Val) (r : Fin 8) (off : Fin 4 → ℕ)
    (ho : off = ![0, 0, r.val, 0]) (inb : ∀ a, off a + (BlockRow n).size a ≤ (Block n).size a)
    (w : (Rect.unit (s := Block n) off (BlockRow n).size inb).shape.Idx → Val e) (L : List (Piece Val (Block n) e))
    (y : (Block n).Idx) (hy : (y 2).val ≠ r.val) :
    v.read Val (v.writes Val f ((⟨Rect.unit (s := Block n) off (BlockRow n).size inb, w⟩ : Piece Val (Block n) e) :: L)) y
      = v.read Val (v.writes Val f L) y :=
  read_writes_cons_unit_of_not_mem v f inb w L y ho 2 (by
    show (y 2).val < r.val ∨ r.val + 1 ≤ (y 2).val
    omega)

/-- A store of row `r` of a block leaves that row at what was stored. -/
theorem read_row_hit (v : View sig κ sp (Block n) e) (f : v.ty.Contents Val) (r : Fin 8) (off : Fin 4 → ℕ)
    (ho : off = ![0, 0, r.val, 0]) (inb : ∀ a, off a + (BlockRow n).size a ≤ (Block n).size a)
    (w : (Rect.unit (s := Block n) off (BlockRow n).size inb).shape.Idx → Val e) (L : List (Piece Val (Block n) e))
    (y : (Block n).Idx) (hy : (y 2).val = r.val) :
    v.read Val (v.writes Val f ((⟨Rect.unit (s := Block n) off (BlockRow n).size inb, w⟩ : Piece Val (Block n) e) :: L)) y
      = w (ix4 0 0 0 (y 3) : (BlockRow n).Idx) := by
  refine read_writes_cons_unit_of_mem v f inb w L y (ix4 0 0 0 (y 3) : (BlockRow n).Idx) ho fun a => ?_
  have h0 : (y 0).val < 1 := (y 0).isLt
  have h1 : (y 1).val < 1 := (y 1).isLt
  match a with
  | ⟨0, _⟩ => show (y 0).val = 0 + 0; omega
  | ⟨1, _⟩ => show (y 1).val = 0 + 0; omega
  | ⟨2, _⟩ => show (y 2).val = r.val + 0; omega
  | ⟨3, _⟩ => show (y 3).val = 0 + (y 3).val; omega

/-- Row 1 read back after row 0 was stored is row 1 of the block before. -/
theorem readAt_row_one (v : View sig κ sp (Block n) e) (f : v.ty.Contents Val)
    (inb : ∀ a, (![0, 0, 0, 0] : Fin 4 → ℕ) a + (BlockRow n).size a ≤ (Block n).size a)
    (inb' : ∀ a, (![0, 0, 1, 0] : Fin 4 → ℕ) a + (BlockRow n).size a ≤ (Block n).size a)
    (w : (Rect.unit (s := Block n) ![0, 0, 0, 0] (BlockRow n).size inb).shape.Idx → Val e) (L : List (Piece Val (Block n) e)) :
    v.readAt Val (Rect.unit (s := Block n) ![0, 0, 1, 0] (BlockRow n).size inb').toLoadRect
        (v.writes Val f ((⟨Rect.unit (s := Block n) ![0, 0, 0, 0] (BlockRow n).size inb, w⟩ : Piece Val (Block n) e) :: L))
      = blockRow 1 (v.read Val (v.writes Val f L)) := by
  refine (readAt_blockRow v _ 1 ![0, 0, 1, 0] rfl inb').trans ?_
  funext y
  exact read_row_miss v f 0 _ rfl inb w L _ (by show (1 : ℕ) ≠ 0; omega)

/-- Rows 0 and 1 of a block stored: the block with these rows replaced. -/
theorem read_setBlock (v : View sig κ sp (Block n) e) (f : v.ty.Contents Val)
    (inb : ∀ a, (![0, 0, 0, 0] : Fin 4 → ℕ) a + (BlockRow n).size a ≤ (Block n).size a)
    (inb' : ∀ a, (![0, 0, 1, 0] : Fin 4 → ℕ) a + (BlockRow n).size a ≤ (Block n).size a)
    (w₀ : (Rect.unit (s := Block n) ![0, 0, 0, 0] (BlockRow n).size inb).shape.Idx → Val e)
    (w₁ : (Rect.unit (s := Block n) ![0, 0, 1, 0] (BlockRow n).size inb').shape.Idx → Val e) (L : List (Piece Val (Block n) e)) :
    v.read Val (v.writes Val f ((⟨Rect.unit (s := Block n) ![0, 0, 1, 0] (BlockRow n).size inb', w₁⟩ : Piece Val (Block n) e)
        :: (⟨Rect.unit (s := Block n) ![0, 0, 0, 0] (BlockRow n).size inb, w₀⟩ : Piece Val (Block n) e) :: L))
      = setBlock (v.read Val (v.writes Val f L)) w₀ w₁ := by
  funext y
  unfold setBlock
  by_cases h1 : (y 2).val = 1
  · rw [if_pos h1]
    exact read_row_hit v f 1 _ rfl inb' w₁ _ y h1
  · rw [if_neg h1]
    refine (read_row_miss v f 1 _ rfl inb' w₁ _ y h1).trans ?_
    by_cases h0 : (y 2).val = 0
    · rw [if_pos h0]
      exact read_row_hit v f 0 _ rfl inb w₀ L y h0
    · rw [if_neg h0]
      exact read_row_miss v f 0 _ rfl inb w₀ L y h0

/-- Row 0 of a block stored: the block with it replaced. -/
theorem read_setFirst (v : View sig κ sp (Block n) e) (f : v.ty.Contents Val)
    (inb : ∀ a, (![0, 0, 0, 0] : Fin 4 → ℕ) a + (BlockRow n).size a ≤ (Block n).size a)
    (w : (Rect.unit (s := Block n) ![0, 0, 0, 0] (BlockRow n).size inb).shape.Idx → Val e) (L : List (Piece Val (Block n) e)) :
    v.read Val (v.writes Val f ((⟨Rect.unit (s := Block n) ![0, 0, 0, 0] (BlockRow n).size inb, w⟩ : Piece Val (Block n) e) :: L))
      = setFirst (v.read Val (v.writes Val f L)) w := by
  funext y
  unfold setFirst
  by_cases h0 : (y 2).val = 0
  · rw [if_pos h0]
    exact read_row_hit v f 0 _ rfl inb w L y h0
  · rw [if_neg h0]
    exact read_row_miss v f 0 _ rfl inb w L y h0

/-- The first of eight rows stored: the rows with it replaced. -/
theorem read_setEight (v : View sig κ sp (Eight n) e) (f : v.ty.Contents Val)
    (inb : ∀ a, (![0, 0] : Fin 2 → ℕ) a + (EightRow n).size a ≤ (Eight n).size a)
    (w : (Rect.unit (s := Eight n) ![0, 0] (EightRow n).size inb).shape.Idx → Val e) (L : List (Piece Val (Eight n) e)) :
    v.read Val (v.writes Val f ((⟨Rect.unit (s := Eight n) ![0, 0] (EightRow n).size inb, w⟩ : Piece Val (Eight n) e) :: L))
      = setEight (v.read Val (v.writes Val f L)) w := by
  funext y
  unfold setEight
  by_cases h0 : (y 0).val = 0
  · rw [if_pos h0]
    exact read_writes_cons_rows_of_mem v f inb w L y (ix2 0 (y 1) : (EightRow n).Idx) rfl
      (by show (y 0).val = 0 + 0; omega) rfl
  · rw [if_neg h0]
    exact read_writes_cons_rows_of_not_mem v f inb w L y rfl (W := 1) rfl (Or.inr (by omega))

end Cert.Rows

end
-- ==== Proof.NormRun.lean ====
/- One grid step of the projection-and-norm gradient kernel, at any values: what the body leaves in its four
   results' blocks, from the blocks it reads and, for the two sums, from what the step before left. -/
module

public import proofs.«01_k».proof.Proof.Gen.Kernel3Ideal.Frame
public import proofs.«01_k».proof.Proof.Gen.Kernel3Ideal.Skeleton
public import proofs.«01_k».proof.Proof.Rows

@[expose] public section

set_option maxRecDepth 16384

noncomputable section

namespace Cert.Kernel3Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen Cert.Rows

variable {F : FTy → Type} [FloatOps F]

local notation "𝕄" => MT nD τ sig Unit (Elt F) ℕ (UR sig nD τ) ℕ

/-- The step starts a new block of the modulation gradient. -/
abbrev startsMod (i : grid0.Coords) : Prop :=
  (Scalar.cmpi .ne (Scalar.extui (Scalar.cmpi .sle (BitVec.ofNat 32 (i 1).val) 1#32)) 0#32) = 1#1

/-- The step is the first of all: it starts the gain gradient. -/
abbrev startsGain (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The block of the gradient of the norm's result: the two halves' gradient times the weights. -/
abbrev normed (x0 x1 : Vec F S1x256x1024 .bf16) (x6 : Vec F S1024x2048 .bf16) : FVec F S256x1024 .f32 := k0_pay4 x0 x1 x6

/-- One plus the scale row. -/
abbrev scale (x5 : Vec F S1x1x8x1024 .f32) : FVec F S1x1024 .f32 := k0_pay8 (blockRow 1 x5)

/-- The block left in the input gradient, from the block `v` of the gradient of the norm's result. -/
def leftIn (v : FVec F S256x1024 .f32) (x2 x3 : Vec F S1x256x1024 .f32) (x4 : Vec F S1x1024 .f32)
    (x5 : Vec F S1x1x8x1024 .f32) : Vec F S1x256x1024 .f32 :=
  k0_pay1 v (k0_pay6 x3) (k0_pay7 x3) x4 (scale x5) x2

/-- The block left in the modulation gradient: two rows raised, of the block before or of zeros where the step starts one. -/
def leftMod (starts : Prop) [Decidable starts] (v : FVec F S256x1024 .f32) (x3 : Vec F S1x256x1024 .f32) (x4 : Vec F S1x1024 .f32)
    (d : Vec F S1x1x8x1024 .f32) : Vec F S1x1x8x1024 .f32 :=
  let d' : Vec F S1x1x8x1024 .f32 := if starts then k0_pay9 else d
  setBlock d' (k0_pay11 v (blockRow 0 d')) (k0_pay12 v (k0_pay7 x3) x4 (blockRow 1 d'))

/-- The block left in the gain gradient: the first row raised, of the block before or of zeros where the step starts it. -/
def leftGain (starts : Prop) [Decidable starts] (v : FVec F S256x1024 .f32) (x3 : Vec F S1x256x1024 .f32) (x5 : Vec F S1x1x8x1024 .f32)
    (d : Vec F S8x1024 .f32) : Vec F S8x1024 .f32 :=
  let d' : Vec F S8x1024 .f32 := if starts then k0_pay10 else d
  setEight d' (k0_pay13 v (k0_pay7 x3) (scale x5) (eightRow d'))

set_option maxHeartbeats 4000000 in
/-- The body run on whole staging memrefs: the inputs' blocks stay, the results' blocks end as stated. The four ways
    the two branches can fall run alike. -/
theorem body_run (c : Dev nD) (i : grid0.Coords)
    (arg2 : Memref sig .tc .vmem S1x256x1024 .bf16) (harg2 : arg2.IsWhole)
    (arg3 : Memref sig .tc .vmem S1x256x1024 .bf16) (harg3 : arg3.IsWhole)
    (arg4 : Memref sig .tc .vmem S1x256x1024 .f32) (harg4 : arg4.IsWhole)
    (arg5 : Memref sig .tc .vmem S1x256x1024 .f32) (harg5 : arg5.IsWhole)
    (arg6 : Memref sig .tc .vmem S1x1024 .f32) (harg6 : arg6.IsWhole)
    (arg7 : Memref sig .tc .vmem S1x1x8x1024 .f32) (harg7 : arg7.IsWhole)
    (arg8 : Memref sig .tc .vmem S1024x2048 .bf16) (harg8 : arg8.IsWhole)
    (arg9 : Memref sig .tc .vmem S1x256x1024 .f32) (harg9 : arg9.IsWhole)
    (arg10 : Memref sig .tc .vmem S1x256x2048 .bf16) (harg10 : arg10.IsWhole)
    (arg11 : Memref sig .tc .vmem S1x1x8x1024 .f32) (harg11 : arg11.IsWhole)
    (arg12 : Memref sig .tc .vmem S8x1024 .f32) (harg12 : arg12.IsWhole)
    (x0 : Vec F S1x256x1024 .bf16) (x1 : Vec F S1x256x1024 .bf16) (x2 : Vec F S1x256x1024 .f32) (x3 : Vec F S1x256x1024 .f32) (x4 : Vec F S1x1024 .f32) (x5 : Vec F S1x1x8x1024 .f32) (x6 : Vec F S1024x2048 .bf16) (x9 : Vec F S1x1x8x1024 .f32) (x10 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare x9 ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (leftIn (normed x0 x1 x6) x2 x3 x4 x5) ∗ owns (c : Thread nD τ) arg10 fullShare (k0_pay3 x0 x1) ∗ owns (c : Thread nD τ) arg11 fullShare (leftMod (startsMod i) (normed x0 x1 x6) x3 x4 x9) ∗ owns (c : Thread nD τ) arg12 fullShare (leftGain (startsGain i) (normed x0 x1 x6) x3 x5 x10)) -∗ K ⟨⟩))
      ⊢ wp frame (wpE (defs₀ (F := F)) Variants.none c none) E
          (cc0_odd_in_bwd i arg2 harg2 arg3 harg3 arg4 harg4 arg5 harg5 arg6 harg6 arg7 harg7 arg8 harg8 arg9 harg9 arg10 harg10 arg11 harg11 arg12 harg12) K := by
  by_cases hc0 : startsMod i <;> by_cases hc1 : startsGain i
  all_goals
    have e0 : View.readAt (Elt F) arg2.view (Rect.unit ![0, 0, 0] S1x256x1024.size inb_S1x256x1024_S1x256x1024_0_0_0).toLoadRect (harg2.unread x0) = x0 :=
      (View.readAt_full ..).trans (harg2.read_unread _)
    have e1 : View.readAt (Elt F) arg3.view (Rect.unit ![0, 0, 0] S1x256x1024.size inb_S1x256x1024_S1x256x1024_0_0_0).toLoadRect (harg3.unread x1) = x1 :=
      (View.readAt_full ..).trans (harg3.read_unread _)
    have e2 : View.readAt (Elt F) arg4.view (Rect.unit ![0, 0, 0] S1x256x1024.size inb_S1x256x1024_S1x256x1024_0_0_0).toLoadRect (harg4.unread x2) = x2 :=
      (View.readAt_full ..).trans (harg4.read_unread _)
    have e3 : View.readAt (Elt F) arg5.view (Rect.unit ![0, 0, 0] S1x256x1024.size inb_S1x256x1024_S1x256x1024_0_0_0).toLoadRect (harg5.unread x3) = x3 :=
      (View.readAt_full ..).trans (harg5.read_unread _)
    have e4 : View.readAt (Elt F) arg6.view (Rect.unit ![0, 0] S1x1024.size inb_S1x1024_S1x1024_0_0).toLoadRect (harg6.unread x4) = x4 :=
      (View.readAt_full ..).trans (harg6.read_unread _)
    have e5 : View.readAt (Elt F) arg7.view (Rect.unit (s := S1x1x8x1024) ![0, 0, 1, 0] S1x1x1x1024.size inb_S1x1x8x1024_S1x1x1x1024_0_0_1_0).toLoadRect (harg7.unread x5) = blockRow 1 x5 :=
      (readAt_blockRow arg7.view _ 1 _ rfl _).trans (congrArg _ (harg7.read_unread _))
    have e6 : View.readAt (Elt F) arg8.view (Rect.unit ![0, 0] S1024x2048.size inb_S1024x2048_S1024x2048_0_0).toLoadRect (harg8.unread x6) = x6 :=
      (View.readAt_full ..).trans (harg8.read_unread _)
    simp only [cc0_odd_in_bwd_eq_skeleton]; unfold cc0_odd_in_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact View.read_writes_full ..
    isplitl [H8]
    · iexists _; isplitr; swap; · iexact H8
      ipureintro
      exact View.read_writes_full ..
    isplitl [H9]
    · iexists _; isplitr; swap; · iexact H9
      ipureintro
      unfold leftMod
      refine (read_setBlock arg11.view ..).trans (setBlock_congr ?_ (congrArg (k0_pay11 (normed x0 x1 x6)) ?_)
        (congrArg (k0_pay12 (normed x0 x1 x6) (k0_pay7 x3) x4) ?_))
      · first
          | (refine Eq.trans ?_ (if_neg hc0).symm; exact harg11.read_unread _)
          | (refine Eq.trans ?_ (if_pos hc0).symm; exact View.read_writes_full ..)
      · first
          | (refine Eq.trans ?_ (congrArg (blockRow 0) (if_neg hc0)).symm
             exact (readAt_blockRow arg11.view _ 0 ![0, 0, 0, 0] rfl _).trans (congrArg (blockRow 0) (harg11.read_unread _)))
          | (refine Eq.trans ?_ (congrArg (blockRow 0) (if_pos hc0)).symm
             exact (readAt_blockRow arg11.view _ 0 ![0, 0, 0, 0] rfl _).trans (congrArg (blockRow 0) (View.read_writes_full ..)))
      · first
          | (refine Eq.trans ?_ (congrArg (blockRow 1) (if_neg hc0)).symm
             exact (readAt_blockRow arg11.view _ 1 ![0, 0, 1, 0] rfl _).trans (congrArg (blockRow 1) (harg11.read_unread _)))
          | (refine Eq.trans ?_ (congrArg (blockRow 1) (if_pos hc0)).symm
             exact (readAt_row_one arg11.view ..).trans (congrArg (blockRow 1) (View.read_writes_full ..)))
    iexists _; isplitr; swap; · iexact H10
    ipureintro
    unfold leftGain
    refine (read_setEight arg12.view ..).trans (congrArg₂ setEight ?_ (congrArg (k0_pay13 (normed x0 x1 x6) (k0_pay7 x3) (scale x5)) ?_))
    · first
        | (refine Eq.trans ?_ (if_neg hc1).symm; exact harg12.read_unread _)
        | (refine Eq.trans ?_ (if_pos hc1).symm; exact View.read_writes_full ..)
    · first
        | (refine Eq.trans ?_ (congrArg eightRow (if_neg hc1)).symm
           exact (readAt_eightRow arg12.view _ ![0, 0] rfl _).trans (congrArg eightRow (harg12.read_unread _)))
        | (refine Eq.trans ?_ (congrArg eightRow (if_pos hc1)).symm
           exact (readAt_eightRow arg12.view _ ![0, 0] rfl _).trans (congrArg eightRow (View.read_writes_full ..)))

end Cert.Kernel3Ideal.Norm

end
-- ==== Proof.NormMath.lean ====
/- The gradient through the norm of a row and its modulation, as functions of the cotangent of the norm's result.

   A row `h` is scaled by `1 / sqrt (mean h² + eps)`, multiplied by the gain and by one plus the scale of its segment, and
   the shift of its segment is added. The first segment is the first 256 rows of a sequence. -/
module

public import proofs.«01_k».proof.Proof.BandIdeal

@[expose] public section

noncomputable section

namespace Cert.Norm

open Idealize.ShloMosaic
open Cert.KernelIdeal.Band (IsReal)

/-- The rows of two sequences. -/
abbrev RowsOf := (⟨3, ![2, 4352, 1024]⟩ : Shape).Idx → EReal
/-- A gain row. -/
abbrev Gain := (⟨2, ![1, 1024]⟩ : Shape).Idx → EReal
/-- The modulation rows of both segments of both sequences. -/
abbrev Modulation := (⟨4, ![2, 2, 8, 1024]⟩ : Shape).Idx → EReal
/-- A cotangent, by sequence, row and lane. -/
abbrev Cotangent := Fin 2 → Fin 4352 → Fin 1024 → EReal

/-- The length of a row. -/
abbrev width : EReal := Ideal.ofBits .f32 1149239296#32
/-- The norm's small number. -/
abbrev eps : EReal := Ideal.ofBits .f32 897988541#32

/-- The mean square of a row, plus the small number. -/
def meanSq (f : Fin 1024 → EReal) : EReal := Ideal.div (∑ x, f x * f x) width + eps
/-- What a row is scaled by. -/
def recip (f : Fin 1024 → EReal) : EReal := Ideal.rsqrt (meanSq f)

def rowOf (h : RowsOf) (b : Fin 2) (t : Fin 4352) : Fin 1024 → EReal := fun x => h (ix3 b t x)
/-- The scaled row. -/
def unit (h : RowsOf) (b : Fin 2) (t : Fin 4352) (l : Fin 1024) : EReal := h (ix3 b t l) * recip (rowOf h b t)
/-- The segment of a row. -/
def seg (t : Fin 4352) : Fin 2 := if t.val < 256 then 0 else 1
/-- One plus the scale of a row's segment. -/
def onePlus (md : Modulation) (b : Fin 2) (t : Fin 4352) (l : Fin 1024) : EReal := 1 + md (ix4 b (seg t) 1 l)
/-- The cotangent of the scaled row. -/
def slope (dy : Cotangent) (g : Gain) (md : Modulation) (b : Fin 2) (t : Fin 4352) (l : Fin 1024) : EReal :=
  dy b t l * g (ix2 0 l) * onePlus md b t l

/-- The gradient of the rows, added to what was there. -/
def gradIn (dy : Cotangent) (dh h : RowsOf) (g : Gain) (md : Modulation) : RowsOf := fun i =>
  dh (ix3 (i 0) (i 1) (i 2)) + recip (rowOf h (i 0) (i 1)) * (slope dy g md (i 0) (i 1) (i 2)
    - unit h (i 0) (i 1) (i 2) * Ideal.div (∑ x, slope dy g md (i 0) (i 1) x * unit h (i 0) (i 1) x) width)

/-- Row `n` of a sequence. -/
def row (n : ℕ) : Fin 4352 := ⟨n % 4352, Nat.mod_lt _ (by decide)⟩
/-- The sum over the rows of a segment. -/
def segSum (f : Fin 4352 → EReal) (s : Fin 2) : EReal :=
  if s = 0 then ∑ k : Fin 256, f (row k.val) else ∑ k : Fin 4096, f (row (256 + k.val))

/-- The gradient of the modulation: row 0 the shift's, row 1 the scale's. -/
def gradMod (dy : Cotangent) (h : RowsOf) (g : Gain) : Modulation := fun i =>
  if (i 2).val = 1 then segSum (fun t => dy (i 0) t (i 3) * (unit h (i 0) t (i 3) * g (ix2 0 (i 3)))) (i 1)
  else if (i 2).val = 0 then segSum (fun t => dy (i 0) t (i 3)) (i 1)
  else 0

/-- The gradient of the gain, in row 0. -/
def gradGain (dy : Cotangent) (h : RowsOf) (md : Modulation) : (⟨2, ![8, 1024]⟩ : Shape).Idx → EReal := fun i =>
  if (i 0).val = 0 then ∑ b : Fin 2, ∑ t : Fin 4352, dy b t (i 1) * onePlus md b t (i 1) * unit h b t (i 1) else 0

/-! ## Over the reals -/

theorem width_eq : width = ((1024 : ℝ) : EReal) := by
  unfold width; simp [Ideal.ofBits, Ideal.ieee]; rw [← EReal.coe_mul]; norm_num

theorem eps_eq : ∃ e : ℝ, 0 < e ∧ eps = (e : EReal) := by
  refine ⟨_, ?_, by unfold eps; simp [Ideal.ofBits, Ideal.ieee]; rfl⟩
  positivity

theorem half_eq : Ideal.ofBits .f32 0xBF000000#32 = ((-(1 / 2) : ℝ) : EReal) := by
  simp [Ideal.ofBits, Ideal.ieee]; rw [← EReal.coe_mul]; norm_num

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem isReal_sum {ι : Type*} [Fintype ι] {f : ι → EReal} (h : ∀ i, IsReal (f i)) : IsReal (∑ i, f i) := by
  choose y hy using h
  exact ⟨∑ i, y i, by rw [coe_sum]; exact Finset.sum_congr rfl fun i _ => hy i⟩

theorem isReal_add {x y : EReal} (hx : IsReal x) (hy : IsReal y) : IsReal (x + y) := by
  obtain ⟨a, rfl⟩ := hx; obtain ⟨b, rfl⟩ := hy; exact ⟨a + b, (EReal.coe_add a b).symm⟩

/-- The gradient of a real row two ways: with the mean taken out, and through the derivative of the reciprocal root. -/
theorem row_grad (h d : Fin 1024 → EReal) (hh : ∀ i, IsReal (h i)) (hd : ∀ i, IsReal (d i)) (l : Fin 1024) :
    recip h * (d l - h l * recip h * Ideal.div (∑ x, d x * (h x * recip h)) width)
      = d l * recip h
        + h l * Ideal.div ((∑ x, h x * d x) * (Ideal.ofBits .f32 0xBF000000#32 * Ideal.div (recip h) (meanSq h))) width
        + Ideal.div ((∑ x, h x * d x) * (Ideal.ofBits .f32 0xBF000000#32 * Ideal.div (recip h) (meanSq h))) width * h l := by
  choose y hy using hh
  choose z hz using hd
  obtain ⟨e, he, hee⟩ := eps_eq
  obtain rfl : h = fun i => (y i : EReal) := funext hy
  obtain rfl : d = fun i => (z i : EReal) := funext hz
  have hS : 0 ≤ ∑ x, y x * y x := Finset.sum_nonneg fun x _ => mul_self_nonneg _
  have ha : 0 < (∑ x, y x * y x) * (1 / 1024) + e := by positivity
  have hm : meanSq (fun i => (y i : EReal)) = (((∑ x, y x * y x) * (1 / 1024) + e : ℝ) : EReal) := by
    unfold meanSq
    rw [width_eq, hee, Ideal.div_coe (by norm_num)]
    simp only [← EReal.coe_mul, ← coe_sum, ← EReal.coe_add]
  set a : ℝ := (∑ x, y x * y x) * (1 / 1024) + e with hadef
  have hr : recip (fun i => (y i : EReal)) = (((Real.sqrt a)⁻¹ : ℝ) : EReal) := by
    unfold recip
    rw [hm, Ideal.rsqrt_coe, if_neg (not_lt.mpr ha.le), if_neg ha.ne']
  rw [hr, hm, width_eq, half_eq, Ideal.div_coe (by norm_num), Ideal.div_coe (by norm_num), Ideal.div_coe ha.ne']
  simp only [← EReal.coe_mul, ← coe_sum, ← EReal.coe_add, ← EReal.coe_sub]
  congr 1
  set r : ℝ := (Real.sqrt a)⁻¹ with hrdef
  have hrr : r * r = 1 / a := by
    rw [hrdef, ← mul_inv, Real.mul_self_sqrt ha.le, one_div]
  have hs : ∑ x, z x * (y x * r) = r * ∑ x, y x * z x := by
    rw [Finset.mul_sum]; exact Finset.sum_congr rfl fun x _ => by ring
  rw [hs, ← hrr]
  ring

/-- The gradient of the rows, as the derivative of the norm writes it. -/
theorem gradIn_eq (dy : Cotangent) (dh h : RowsOf) (g : Gain) (md : Modulation) (b : Fin 2) (t : Fin 4352) (l : Fin 1024)
    (hh : ∀ i, IsReal (h i)) (hd : ∀ i, IsReal (slope dy g md b t i)) :
    gradIn dy dh h g md (ix3 b t l) = dh (ix3 b t l) + (slope dy g md b t l * recip (rowOf h b t)
      + h (ix3 b t l) * Ideal.div ((∑ x, h (ix3 b t x) * slope dy g md b t x)
          * (Ideal.ofBits .f32 0xBF000000#32 * Ideal.div (recip (rowOf h b t)) (meanSq (rowOf h b t)))) width
      + Ideal.div ((∑ x, h (ix3 b t x) * slope dy g md b t x)
          * (Ideal.ofBits .f32 0xBF000000#32 * Ideal.div (recip (rowOf h b t)) (meanSq (rowOf h b t)))) width * h (ix3 b t l)) :=
  congrArg (fun x => dh (ix3 b t l) + x) (row_grad (rowOf h b t) (slope dy g md b t) (fun i => hh _) hd l)

end Cert.Norm

end
-- ==== Proof.RowBlocks.lean ====
/- Sums over the rows of an array taken a block of rows at a time, and over the rows of several sequences as one. -/
module

public import Idealize.ShloMosaic.Lib.Pipeline.Value
public import Idealize.ShloMosaic.Lib.Pointwise
public import Idealize.ShloMosaic.Lib.TwoAxisContraction

@[expose] public section

noncomputable section

namespace Cert.RowBlocks

open Idealize.ShloMosaic

/-- A sum over `n` blocks of `k` rows each is the sum over all the rows. -/
theorem sum_blocks {β : Type*} [AddCommMonoid β] (n k : ℕ) (f : ℕ → β) :
    ∑ s ∈ Finset.range n, ∑ j : Fin k, f (k * s + j.val) = ∑ r ∈ Finset.range (n * k), f r := by
  induction n with
  | zero => simp
  | succ n ih =>
    rw [Finset.sum_range_succ, ih, Nat.succ_mul, Finset.sum_range_add]
    exact congrArg _ ((Finset.sum_range (fun j => f (k * n + j))).symm.trans (Finset.sum_congr rfl fun j _ => by rw [Nat.mul_comm]))

/-- The same with the blocks counted by `Fin n`. -/
theorem sum_blocks_fin {β : Type*} [AddCommMonoid β] (n k : ℕ) (f : ℕ → β) :
    ∑ s : Fin n, ∑ j : Fin k, f (k * s.val + j.val) = ∑ r ∈ Finset.range (n * k), f r := by
  rw [← sum_blocks, Finset.sum_range (fun s => ∑ j : Fin k, f (k * s + j.val))]

/-- Entry `(r, p)` of a stack of two sequences of `n` rows, the rows counted through. -/
def stacked {n w : ℕ} (x : (⟨3, ![2, n, w]⟩ : Shape).Idx → EReal) (r : ℕ) (p : Fin w) : EReal :=
  if h : r < 2 * n then x (ix3 ⟨r / n, Nat.div_lt_of_lt_mul (by omega)⟩ ⟨r % n, Nat.mod_lt _ (by omega)⟩ p) else 0

/-- Row `t` of sequence `b`. -/
theorem stacked_apply {n w : ℕ} (x : (⟨3, ![2, n, w]⟩ : Shape).Idx → EReal) (b : Fin 2) (t : Fin n) (p : Fin w) :
    stacked x (n * b.val + t.val) p = x (ix3 b t p) := by
  have hn : 0 < n := by have := t.isLt; omega
  have hb : n * b.val + t.val < 2 * n := by
    have : n * b.val ≤ n * 1 := Nat.mul_le_mul_left _ (by omega)
    omega
  unfold stacked
  rw [dif_pos hb]
  congr 1
  have e1 : (n * b.val + t.val) / n = b.val := by rw [Nat.mul_add_div hn, Nat.div_eq_of_lt t.isLt, Nat.add_zero]
  have e2 : (n * b.val + t.val) % n = t.val := by rw [Nat.mul_add_mod, Nat.mod_eq_of_lt t.isLt]
  exact congrArg₂ (fun u v => ix3 u v p) (Fin.ext e1) (Fin.ext e2)

/-- The two sequences reshaped into one array of `2 n` rows. -/
theorem shapeCast_stacked {n w N : ℕ} (x : (⟨3, ![2, n, w]⟩ : Shape).Idx → EReal) (h : (⟨3, ![2, n, w]⟩ : Shape).ShapeCasts ⟨2, ![N, w]⟩)
    (hN : N = 2 * n) (r : Fin N) (p : Fin w) : shapeCast ⟨2, ![N, w]⟩ x h (ix2 r p) = stacked x r.val p := by
  have hr : r.val < 2 * n := hN ▸ r.isLt
  unfold stacked
  rw [dif_pos hr]
  refine shapeCast_apply x h _ _ ?_
  rw [Shape.rowMajor_val_three, Shape.rowMajor_val_two]
  show (r.val / n * n + r.val % n) * w + p.val = r.val * w + p.val
  rw [Nat.div_add_mod']

/-- The product of two stacks of rows, contracted over all the rows of both sequences. -/
def rowProduct {n u v : ℕ} (x : (⟨3, ![2, n, u]⟩ : Shape).Idx → EReal) (y : (⟨3, ![2, n, v]⟩ : Shape).Idx → EReal) (p : Fin u) (q : Fin v) : EReal :=
  ∑ b : Fin 2, ∑ t : Fin n, x (ix3 b t p) * y (ix3 b t q)

/-- Taken in `m` blocks of `k` rows it is the same. -/
theorem rowProduct_blocks {n u v : ℕ} (x : (⟨3, ![2, n, u]⟩ : Shape).Idx → EReal) (y : (⟨3, ![2, n, v]⟩ : Shape).Idx → EReal) (p : Fin u) (q : Fin v)
    (m k : ℕ) (h : m * k = 2 * n) :
    ∑ s ∈ Finset.range m, ∑ j : Fin k, stacked x (k * s + j.val) p * stacked y (k * s + j.val) q = rowProduct x y p q := by
  rw [sum_blocks m k (fun r => stacked x r p * stacked y r q), h, ← sum_blocks_fin]
  unfold rowProduct
  refine Finset.sum_congr rfl fun b _ => Finset.sum_congr rfl fun t _ => ?_
  rw [stacked_apply, stacked_apply]

/-- A host product whose operands' indices are the two contracted coordinates and then the result's own is `rowProduct`. -/
theorem dotGeneral_rows {n u v : ℕ} (D : DotDims ⟨3, ![2, n, u]⟩ ⟨3, ![2, n, v]⟩ ⟨2, ![u, v]⟩)
    (hs : D.contr.rank = 2) (h0 : D.contr.size ⟨0, by omega⟩ = 2) (h1 : D.contr.size ⟨1, by omega⟩ = n)
    (hl : ∀ j k, (D.lhsIdx j k 0).val = (k ⟨0, by omega⟩).val ∧ (D.lhsIdx j k 1).val = (k ⟨1, by omega⟩).val ∧ (D.lhsIdx j k 2).val = (j 0).val)
    (hr : ∀ j k, (D.rhsIdx j k 0).val = (k ⟨0, by omega⟩).val ∧ (D.rhsIdx j k 1).val = (k ⟨1, by omega⟩).val ∧ (D.rhsIdx j k 2).val = (j 1).val)
    (x : FVec Ideal ⟨3, ![2, n, u]⟩ .f32) (y : FVec Ideal ⟨3, ![2, n, v]⟩ .f32) (p : Fin u) (q : Fin v) :
    Host.dotGeneral D none x y (ix2 p q) = rowProduct x y p q := by
  simp only [Host.dotGeneral]
  rw [Ideal.dotGeneral_apply, ValueIdx.sum_contr2 D 2 n hs h0 h1]
  unfold rowProduct
  refine Finset.sum_congr rfl fun b _ => Finset.sum_congr rfl fun t _ => ?_
  have e0 := ValueIdx.contrEquiv2_symm_val0 D 2 n hs h0 h1 (b, t)
  have e1 := ValueIdx.contrEquiv2_symm_val1 D 2 n hs h0 h1 (b, t)
  have el : D.lhsIdx (ix2 p q) ((ValueIdx.contrEquiv2 D 2 n hs h0 h1).symm (b, t)) = ix3 b t p := by
    funext a; apply Fin.ext
    match a with
    | ⟨0, _⟩ => exact (hl _ _).1.trans e0
    | ⟨1, _⟩ => exact (hl _ _).2.1.trans e1
    | ⟨2, _⟩ => exact (hl _ _).2.2
  have er : D.rhsIdx (ix2 p q) ((ValueIdx.contrEquiv2 D 2 n hs h0 h1).symm (b, t)) = ix3 b t q := by
    funext a; apply Fin.ext
    match a with
    | ⟨0, _⟩ => exact (hr _ _).1.trans e0
    | ⟨1, _⟩ => exact (hr _ _).2.1.trans e1
    | ⟨2, _⟩ => exact (hr _ _).2.2
  rw [el, er]

/-- It does not matter which factor is written first. -/
theorem rowProduct_comm {n u v : ℕ} (x : (⟨3, ![2, n, u]⟩ : Shape).Idx → EReal) (y : (⟨3, ![2, n, v]⟩ : Shape).Idx → EReal) (p : Fin u) (q : Fin v) :
    rowProduct x y p q = rowProduct y x q p :=
  Finset.sum_congr rfl fun _ _ => Finset.sum_congr rfl fun _ _ => mul_comm _ _

/-- The product as an array. -/
def product {n u v : ℕ} (x : (⟨3, ![2, n, u]⟩ : Shape).Idx → EReal) (y : (⟨3, ![2, n, v]⟩ : Shape).Idx → EReal) : (⟨2, ![u, v]⟩ : Shape).Idx → EReal :=
  fun i => rowProduct x y (i 0) (i 1)

/-- A host product written with its factors exchanged, then transposed, is that array. -/
theorem transposed_product {n u v : ℕ} (D : DotDims ⟨3, ![2, n, v]⟩ ⟨3, ![2, n, u]⟩ ⟨2, ![v, u]⟩)
    (hs : D.contr.rank = 2) (h0 : D.contr.size ⟨0, by omega⟩ = 2) (h1 : D.contr.size ⟨1, by omega⟩ = n)
    (hl : ∀ j k, (D.lhsIdx j k 0).val = (k ⟨0, by omega⟩).val ∧ (D.lhsIdx j k 1).val = (k ⟨1, by omega⟩).val ∧ (D.lhsIdx j k 2).val = (j 0).val)
    (hr : ∀ j k, (D.rhsIdx j k 0).val = (k ⟨0, by omega⟩).val ∧ (D.rhsIdx j k 1).val = (k ⟨1, by omega⟩).val ∧ (D.rhsIdx j k 2).val = (j 1).val)
    (x : FVec Ideal ⟨3, ![2, n, u]⟩ .f32) (y : FVec Ideal ⟨3, ![2, n, v]⟩ .f32)
    (hT : (⟨2, ![v, u]⟩ : Shape).Transposes [1, 0] ⟨2, ![u, v]⟩) :
    transpose ⟨2, ![u, v]⟩ [1, 0] (Host.dotGeneral D none y x) hT = product x y := by
  funext i
  refine (transpose_apply [1, 0] _ hT i (ix2 (i 1) (i 0)) (fun b => match b with
    | ⟨0, _⟩ => rfl
    | ⟨1, _⟩ => rfl)).trans ?_
  exact (dotGeneral_rows D hs h0 h1 hl hr y x _ _).trans (rowProduct_comm _ _ _ _)

/-- The rows reshaped into one array, read at any index. -/
theorem shapeCast_at {w : ℕ} (x : (⟨3, ![2, 4352, w]⟩ : Shape).Idx → EReal) (h : (⟨3, ![2, 4352, w]⟩ : Shape).ShapeCasts ⟨2, ![8704, w]⟩)
    (e : (⟨2, ![8704, w]⟩ : Shape).Idx) (r : ℕ) (p : Fin w) (hr : (e 0).val = r) (hp : (e 1).val = p.val) :
    shapeCast ⟨2, ![8704, w]⟩ x h e = stacked x r p := by
  rw [eq_ix2 e]
  refine (shapeCast_stacked x h rfl _ _).trans ?_
  exact congrArg₂ (stacked x) hr (Fin.ext hp)

/-- A product accumulated over 17 blocks of 512 rows, one tile of `w` columns after the other: after a tile's last block the
    accumulator holds the product over all the rows. `bx` and `bz` are the blocks that point `t` of the grid reads. -/
theorem accumulated {N u v w : ℕ} (x : (⟨3, ![2, 4352, u]⟩ : Shape).Idx → EReal) (y : (⟨3, ![2, 4352, v]⟩ : Shape).Idx → EReal)
    (hx : (⟨3, ![2, 4352, u]⟩ : Shape).ShapeCasts ⟨2, ![8704, u]⟩) (hy : (⟨3, ![2, 4352, v]⟩ : Shape).ShapeCasts ⟨2, ![8704, v]⟩)
    (bx : Fin N → (⟨2, ![512, u]⟩ : Shape).Idx → EReal) (bz : Fin N → (⟨2, ![512, w]⟩ : Shape).Idx → EReal)
    (hbx : ∀ t k p, ∃ e, bx t (ix2 k p) = shapeCast ⟨2, ![8704, u]⟩ x hx e ∧ (e 0).val = t.val % 17 * 512 + k.val ∧ (e 1).val = 0 * u + p.val)
    (hbz : ∀ t k q, ∃ e, bz t (ix2 k q) = shapeCast ⟨2, ![8704, v]⟩ y hy e ∧ (e 0).val = t.val % 17 * 512 + k.val ∧ (e 1).val = t.val / 17 * w + q.val)
    (zero : (⟨2, ![u, w]⟩ : Shape).Idx → EReal)
    (pay : ((⟨2, ![u, w]⟩ : Shape).Idx → EReal) → ((⟨2, ![512, u]⟩ : Shape).Idx → EReal) → ((⟨2, ![512, w]⟩ : Shape).Idx → EReal)
      → (⟨2, ![u, w]⟩ : Shape).Idx → EReal)
    (hzero : ∀ p q, zero (ix2 p q) = 0)
    (hpay : ∀ acc a b p q, pay acc a b (ix2 p q) = acc (ix2 p q) + ∑ k : Fin 512, a (ix2 k p) * b (ix2 k q))
    (r : ℕ) (h : 17 * r + 16 < N) (j : (⟨2, ![u, w]⟩ : Shape).Idx) (i : (⟨2, ![u, v]⟩ : Shape).Idx)
    (h0 : (j 0).val = (i 0).val) (h1 : (i 1).val = w * r + (j 1).val) :
    Pipeline.accAt (fun n h => pay zero (bx ⟨n, h⟩) (bz ⟨n, h⟩)) (fun n h acc => pay acc (bx ⟨n, h⟩) (bz ⟨n, h⟩)) (17 * r) 16 h j = product x y i := by
  let M : ℕ → (⟨2, ![u, w]⟩ : Shape).Idx → EReal := fun n j =>
    if h : n < N then ∑ k : Fin 512, bx ⟨n, h⟩ (ix2 k (j 0)) * bz ⟨n, h⟩ (ix2 k (j 1)) else 0
  have hstep : ∀ n (h : n < N) acc j, pay acc (bx ⟨n, h⟩) (bz ⟨n, h⟩) j = acc j + M n j := fun n h acc j => by
    obtain ⟨p, q, rfl⟩ : ∃ p q, j = ix2 p q := ⟨_, _, eq_ix2 j⟩
    refine (hpay acc _ _ p q).trans ?_
    simp only [M, dif_pos h]
    rfl
  refine (Pipeline.accAt_add_apply _ _ (fun _ => (0 : EReal)) M (17 * r) 16
    (fun h j => (hstep _ h zero j).trans (congrArg (· + _) (by rw [eq_ix2 j]; exact hzero _ _)))
    (fun n h acc j _ _ => hstep n h acc j) 16 (le_refl _) h j).trans ((zero_add _).trans ?_)
  refine Eq.trans ?_ (rowProduct_blocks x y (i 0) (i 1) 17 512 rfl)
  refine Finset.sum_congr rfl fun s hs => (dif_pos (by have := Finset.mem_range.mp hs; omega)).trans (Finset.sum_congr rfl fun k _ => ?_)
  have hs17 : s < 17 := Finset.mem_range.mp hs
  have e1 : (17 * r + s) % 17 = s := by omega
  have e2 : (17 * r + s) / 17 = r := by omega
  obtain ⟨e, he, hr, hp⟩ := hbx ⟨17 * r + s, by omega⟩ k (j 0)
  obtain ⟨f, hf, hr', hq⟩ := hbz ⟨17 * r + s, by omega⟩ k (j 1)
  simp only [e1, e2, Nat.mul_comm s 512, Nat.mul_comm r w, Nat.zero_mul, Nat.zero_add] at hr hp hr' hq
  rw [he, hf, shapeCast_at x hx e _ (i 0) hr (hp.trans h0), shapeCast_at y hy f _ (i 1) hr' (hq.trans h1.symm)]

end Cert.RowBlocks

end
-- ==== Proof.NormSteps.lean ====
/- The steps of a launch over two sequences of seventeen blocks of rows, and what sums raised block by block come to: the
   gradients of the modulation and of the gain. Nothing here depends on how a step gets the cotangent of the norm's result. -/
module

public import proofs.«01_k».proof.Proof.NormMath
public import proofs.«01_k».proof.Proof.Rows
public import proofs.«01_k».proof.Proof.RowBlocks

@[expose] public section

noncomputable section

namespace Cert.Norm

open Idealize.ShloMosaic Cert.Rows Cert.RowBlocks

variable {N : ℕ}

/-! ## Where a step works -/

/-- The sequence of a step. -/
def seqOf (t : Fin N) : Fin 2 := ⟨t.val / 17 % 2, Nat.mod_lt _ (by decide)⟩
/-- Row `r` of a step's block. -/
def rowAt (t : Fin N) (r : Fin 256) : Fin 4352 := ⟨256 * (t.val % 17) + r.val, by omega⟩
/-- The segment of a step. -/
def segOf (t : Fin N) : Fin 2 := ⟨min (t.val % 17) 1, by omega⟩

theorem seg_rowAt (t : Fin N) (r : Fin 256) : seg (rowAt t r) = segOf t := by
  apply Fin.ext
  have hr := r.isLt
  unfold seg segOf rowAt
  by_cases h : t.val % 17 = 0
  · rw [if_pos (by dsimp only; omega)]; dsimp only; omega
  · rw [if_neg (by dsimp only; omega)]; dsimp only; omega

theorem rowAt_eq (t : Fin N) (r : Fin 256) : rowAt t r = row (256 * (t.val % 17) + r.val) :=
  Fin.ext (Nat.mod_eq_of_lt (by omega)).symm

/-- What a block holds after each step of a launch that starts it at `z`. -/
def afterSteps {α : Type} (step : Fin N → α → α) (z : α) : (n : ℕ) → n < N → α
  | 0, h => step ⟨0, h⟩ z
  | n + 1, h => step ⟨n + 1, h⟩ (afterSteps step z n (Nat.lt_of_succ_lt h))

theorem afterSteps_start {α : Type} (step : Fin N → α → α) (z : α) (t : Fin N) (h : ∀ d d', step t d = step t d') (d : α) :
    afterSteps step z t.val t.isLt = step t d := by
  obtain ⟨n, hn⟩ := t
  cases n with
  | zero => exact h _ _
  | succ n => exact h _ _

theorem afterSteps_next {α : Type} (step : Fin N → α → α) (z : α) (t : Fin N) (h : t.val ≠ 0) :
    afterSteps step z t.val t.isLt = step t (afterSteps step z (t.val - 1) (Nat.lt_of_le_of_lt (Nat.sub_le _ _) t.isLt)) := by
  obtain ⟨n, hn⟩ := t
  cases n with
  | zero => exact absurd rfl h
  | succ n => rfl

/-- A step over what it finds leaves the block named, when a starting step takes nothing from what it finds and any other step
    finds what the one before left. -/
theorem afterSteps_left {α : Type} (step : Fin N → α → α) (z : α) (t : Fin N) (d : α) (p : Prop) [Decidable p] (h0 : t.val = 0 → p)
    (hs : p → ∀ d d', step t d = step t d')
    (hk : ¬ p → d = afterSteps step z (t.val - 1) (Nat.lt_of_le_of_lt (Nat.sub_le _ _) t.isLt)) : step t d = afterSteps step z t.val t.isLt := by
  by_cases h : p
  · exact (afterSteps_start step z t (hs h) d).symm
  · rw [hk h]; exact (afterSteps_next step z t fun e => h (h0 e)).symm

/-! ## Sums over a segment -/

/-- Rows' parts of a sum by sequence and column. -/
abbrev Parts := Fin 2 → Fin 1024 → Fin 4352 → EReal

/-- A step's block over the one before: rows 1 and 0 raised by the block's sums of `p₁` and `p₀`. -/
def RaisesRows (p₁ p₀ : Parts) (step : Fin N → ((Block 1024).Idx → EReal) → ((Block 1024).Idx → EReal)) : Prop :=
  ∀ (t : Fin N) (d : (Block 1024).Idx → EReal) (r : Fin 8) (l : Fin 1024), step t d (ix4 0 0 r l)
    = if r.val = 1 then (if t.val % 17 ≤ 1 then 0 else d (ix4 0 0 1 l)) + ∑ k : Fin 256, p₁ (seqOf t) l (rowAt t k)
      else if r.val = 0 then (if t.val % 17 ≤ 1 then 0 else d (ix4 0 0 0 l)) + ∑ k : Fin 256, p₀ (seqOf t) l (rowAt t k)
      else if t.val % 17 ≤ 1 then 0 else d (ix4 0 0 r l)

/-- The segments' sums in rows 1 and 0 of a block each. -/
def segmentRows (p₁ p₀ : Parts) : Modulation := fun i =>
  if (i 2).val = 1 then segSum (p₁ (i 0) (i 3)) (i 1) else if (i 2).val = 0 then segSum (p₀ (i 0) (i 3)) (i 1) else 0

variable {p₁ p₀ : Parts} {step : Fin N → ((Block 1024).Idx → EReal) → ((Block 1024).Idx → EReal)} (z : (Block 1024).Idx → EReal)

/-- A step that starts the block takes nothing from the one before. -/
theorem RaisesRows.start (H : RaisesRows p₁ p₀ step) (t : Fin N) (ht : t.val % 17 ≤ 1) (d d' : (Block 1024).Idx → EReal) :
    step t d = step t d' := by
  funext i
  have h0 : (i 0).val < 1 := (i 0).isLt
  have h1 : (i 1).val < 1 := (i 1).isLt
  obtain ⟨r, l, rfl⟩ : ∃ r l, i = ix4 0 0 r l := ⟨i 2, i 3, funext fun a => Fin.ext (match a with
    | ⟨0, _⟩ => by show (i 0).val = 0; omega
    | ⟨1, _⟩ => by show (i 1).val = 0; omega
    | ⟨2, _⟩ => rfl
    | ⟨3, _⟩ => rfl)⟩
  rw [H, H]
  simp only [if_pos ht]

/-- After the first step of a sequence: the sums over the first segment. -/
theorem rows_first (H : RaisesRows p₁ p₀ step) (t : Fin N) (ht : t.val % 17 = 0) (r : Fin 8) (l : Fin 1024) :
    afterSteps step z t.val t.isLt (ix4 0 0 r l)
      = if r.val = 1 then segSum (p₁ (seqOf t) l) 0 else if r.val = 0 then segSum (p₀ (seqOf t) l) 0 else 0 := by
  rw [afterSteps_start step z t (H.start t (by omega)) z, H]
  have hr (k : Fin 256) : rowAt t k = row k.val := by rw [rowAt_eq, ht]; simp
  simp only [hr, if_pos (show t.val % 17 ≤ 1 by omega), zero_add]
  rfl

/-- After the later steps: the sums over the rows so far of the second segment. -/
theorem rows_later (H : RaisesRows p₁ p₀ step) (b : Fin 2) (r : Fin 8) (l : Fin 1024) : ∀ (n : ℕ) (_ : n < 16) (hN : 17 * b.val + 1 + n < N),
    afterSteps step z (17 * b.val + 1 + n) hN (ix4 0 0 r l)
      = if r.val = 1 then ∑ s ∈ Finset.range (n + 1), ∑ k : Fin 256, p₁ b l (row (256 + (256 * s + k.val)))
        else if r.val = 0 then ∑ s ∈ Finset.range (n + 1), ∑ k : Fin 256, p₀ b l (row (256 + (256 * s + k.val))) else 0 := by
  have hq (n : ℕ) (hn : n < 16) (hN : 17 * b.val + 1 + n < N) : seqOf ⟨17 * b.val + 1 + n, hN⟩ = b :=
    Fin.ext (by show (17 * b.val + 1 + n) / 17 % 2 = b.val; omega)
  have hr (n : ℕ) (hn : n < 16) (hN : 17 * b.val + 1 + n < N) (k : Fin 256) : rowAt ⟨17 * b.val + 1 + n, hN⟩ k = row (256 + (256 * n + k.val)) := by
    rw [rowAt_eq]
    congr 1
    show 256 * ((17 * b.val + 1 + n) % 17) + k.val = _
    omega
  intro n
  induction n with
  | zero =>
    intro hn hN
    refine (congrFun (afterSteps_start step z ⟨17 * b.val + 1 + 0, hN⟩ (H.start _ (by show (17 * b.val + 1 + 0) % 17 ≤ 1; omega)) z) _).trans ?_
    refine (H _ _ r l).trans ?_
    simp only [hq 0 hn hN, hr 0 hn hN, if_pos (show (17 * b.val + 1 + 0) % 17 ≤ 1 by omega), zero_add, Finset.range_one, Finset.sum_singleton]
  | succ n ih =>
    intro hn hN
    refine (congrFun (afterSteps_next step z ⟨17 * b.val + 1 + (n + 1), hN⟩ (by show 17 * b.val + 1 + (n + 1) ≠ 0; omega)) _).trans ?_
    refine (H _ _ r l).trans ?_
    have e := ih (by omega) (by omega)
    have hc : ¬ (17 * b.val + 1 + (n + 1)) % 17 ≤ 1 := by omega
    simp only [hq (n + 1) hn hN, hr (n + 1) hn hN, if_neg hc]
    by_cases h1 : r.val = 1
    · rw [if_pos h1] at e ⊢
      rw [if_pos h1, Finset.sum_range_succ, ← e, show (1 : Fin 8) = r from Fin.ext h1.symm]
      rfl
    · rw [if_neg h1] at e ⊢
      rw [if_neg h1]
      by_cases h0 : r.val = 0
      · rw [if_pos h0] at e ⊢
        rw [if_pos h0, Finset.sum_range_succ, ← e, show (0 : Fin 8) = r from Fin.ext h0.symm]
        rfl
      · rw [if_neg h0] at e ⊢
        rw [if_neg h0, ← e]
        rfl

/-- The sum over the second segment by blocks. -/
theorem segSum_blocks (f : Fin 4352 → EReal) : ∑ s ∈ Finset.range 16, ∑ k : Fin 256, f (row (256 + (256 * s + k.val))) = segSum f 1 := by
  rw [sum_blocks 16 256 (fun r => f (row (256 + r))), Finset.sum_range]
  rfl

/-- A block written back. -/
theorem rows_at (hN : N = 34) (H : RaisesRows p₁ p₀ step) (t : Fin N) (ht : t.val % 17 = 0 ∨ t.val % 17 = 16) (r : Fin 8) (l : Fin 1024) :
    afterSteps step z t.val t.isLt (ix4 0 0 r l) = segmentRows p₁ p₀ (ix4 (seqOf t) (segOf t) r l) := by
  have hN : t.val < 34 := hN ▸ t.isLt
  rcases ht with ht | ht
  · rw [rows_first z H t ht]
    have hs : segOf t = 0 := Fin.ext (by show min (t.val % 17) 1 = 0; omega)
    rw [hs]
    rfl
  · have hs : segOf t = 1 := Fin.ext (by show min (t.val % 17) 1 = 1; omega)
    have hv : t.val = 17 * (seqOf t).val + 1 + 15 := by show t.val = 17 * (t.val / 17 % 2) + 1 + 15; omega
    have e := rows_later z H (seqOf t) r l 15 (by omega) (hv ▸ t.isLt)
    rw [segSum_blocks, segSum_blocks] at e
    rw [hs]
    have same (n : ℕ) (hn : n < N) (hv : t.val = n) : afterSteps step z t.val t.isLt = afterSteps step z n hn := by subst hv; rfl
    exact (congrFun (same _ _ hv) _).trans e

/-! ## Sums over all rows -/

/-- A step's block of a sum of `p` over all rows over the one before: the first row raised by the block's sums. -/
def RaisesFirst (p : Fin 1024 → Fin 2 → Fin 4352 → EReal) (step : Fin N → ((Eight 1024).Idx → EReal) → ((Eight 1024).Idx → EReal)) : Prop :=
  ∀ (t : Fin N) (d : (Eight 1024).Idx → EReal) (r : Fin 8) (l : Fin 1024), step t d (ix2 r l)
    = if r.val = 0 then (if t.val = 0 then 0 else d (ix2 0 l)) + ∑ k : Fin 256, p l (seqOf t) (rowAt t k)
      else if t.val = 0 then 0 else d (ix2 r l)

/-- The sum over all rows in the first of eight rows. -/
def firstRow (p : Fin 1024 → Fin 2 → Fin 4352 → EReal) : (Eight 1024).Idx → EReal := fun i =>
  if (i 0).val = 0 then ∑ b : Fin 2, ∑ t : Fin 4352, p (i 1) b t else 0

variable {p : Fin 1024 → Fin 2 → Fin 4352 → EReal} {stepG : Fin N → ((Eight 1024).Idx → EReal) → ((Eight 1024).Idx → EReal)} (zG : (Eight 1024).Idx → EReal)

/-- The first step takes nothing from what was there. -/
theorem RaisesFirst.start (H : RaisesFirst p stepG) (t : Fin N) (ht : t.val = 0) (d d' : (Eight 1024).Idx → EReal) :
    stepG t d = stepG t d' := by
  funext i
  obtain ⟨r, l, rfl⟩ : ∃ (r : Fin 8) (l : Fin 1024), i = ix2 r l := ⟨i 0, i 1, eq_ix2 i⟩
  rw [H, H]
  simp only [if_pos ht]

/-- A row's part of the sum, the rows counted through both sequences. -/
def partRow (p : Fin 1024 → Fin 2 → Fin 4352 → EReal) (l : Fin 1024) (n : ℕ) : EReal :=
  p l ⟨n / 4352 % 2, Nat.mod_lt _ (by decide)⟩ (row n)

theorem partRow_at (l : Fin 1024) (t : Fin N) (k : Fin 256) : p l (seqOf t) (rowAt t k) = partRow p l (256 * t.val + k.val) := by
  have hb : seqOf t = ⟨(256 * t.val + k.val) / 4352 % 2, Nat.mod_lt _ (by decide)⟩ := Fin.ext (by
    show t.val / 17 % 2 = (256 * t.val + k.val) / 4352 % 2; omega)
  have hr : rowAt t k = row (256 * t.val + k.val) := Fin.ext (by
    show 256 * (t.val % 17) + k.val = (256 * t.val + k.val) % 4352; omega)
  unfold partRow
  rw [hb, hr]

theorem first_later (H : RaisesFirst p stepG) (r : Fin 8) (l : Fin 1024) : ∀ (n : ℕ) (hn : n < N),
    afterSteps stepG zG n hn (ix2 r l)
      = if r.val = 0 then ∑ s ∈ Finset.range (n + 1), ∑ k : Fin 256, partRow p l (256 * s + k.val) else 0 := by
  intro n
  induction n with
  | zero =>
    intro hn
    refine (H ⟨0, hn⟩ _ r l).trans ?_
    simp only [partRow_at, if_true, zero_add, Finset.range_one, Finset.sum_singleton]
  | succ n ih =>
    intro hn
    refine (H ⟨n + 1, hn⟩ _ r l).trans ?_
    have e := ih (by omega)
    simp only [partRow_at, if_neg (Nat.succ_ne_zero n)]
    by_cases h0 : r.val = 0
    · rw [if_pos h0] at e ⊢
      rw [if_pos h0, Finset.sum_range_succ, ← e, show (0 : Fin 8) = r from Fin.ext h0.symm]
    · rw [if_neg h0] at e ⊢
      rw [if_neg h0, ← e]

/-- The sum after the last step. -/
theorem first_at (hN : N = 34) (H : RaisesFirst p stepG) (t : Fin N) (ht : t.val % 34 = 33) (r : Fin 8) (l : Fin 1024) :
    afterSteps stepG zG t.val t.isLt (ix2 r l) = firstRow p (ix2 r l) := by
  have hN : t.val < 34 := hN ▸ t.isLt
  have hv : t.val + 1 = 34 := by omega
  rw [first_later zG H, hv, sum_blocks 34 256 (partRow p l), show 34 * 256 = 2 * 4352 from rfl, ← sum_blocks_fin]
  unfold firstRow
  refine if_congr Iff.rfl (Finset.sum_congr rfl fun b _ => Finset.sum_congr rfl fun k _ => ?_) rfl
  have hb : (⟨(4352 * b.val + k.val) / 4352 % 2, Nat.mod_lt _ (by decide)⟩ : Fin 2) = b := Fin.ext (by
    show (4352 * b.val + k.val) / 4352 % 2 = b.val; omega)
  have hr : row (4352 * b.val + k.val) = k := Fin.ext (by show (4352 * b.val + k.val) % 4352 = k.val; omega)
  unfold partRow
  rw [hb, hr]
  rfl

/-! ## The modulation's gradient -/

variable (y : Cotangent) (h : RowsOf) (g : Gain) (md : Modulation)

/-- A row's part of the scale's gradient. -/
abbrev scalePart (b : Fin 2) (l : Fin 1024) (t : Fin 4352) : EReal := y b t l * (unit h b t l * g (ix2 0 l))
/-- A row's part of the shift's gradient. -/
abbrev shiftPart (b : Fin 2) (l : Fin 1024) (t : Fin 4352) : EReal := y b t l
/-- A row's part of the gain's gradient. -/
abbrev gainPart (l : Fin 1024) (b : Fin 2) (t : Fin 4352) : EReal := y b t l * onePlus md b t l * unit h b t l

/-- A step's block of the modulation gradient over the one before: two rows raised by the block's sums. -/
abbrev RaisesMod (step : Fin N → ((Block 1024).Idx → EReal) → ((Block 1024).Idx → EReal)) : Prop := RaisesRows (scalePart y h g) (shiftPart y) step

variable {y h g md}

/-- A block of the modulation gradient written back. -/
theorem mod_at (hN : N = 34) (H : RaisesMod y h g step) (t : Fin N) (ht : t.val % 17 = 0 ∨ t.val % 17 = 16) (r : Fin 8) (l : Fin 1024) :
    afterSteps step z t.val t.isLt (ix4 0 0 r l) = gradMod y h g (ix4 (seqOf t) (segOf t) r l) := rows_at z hN H t ht r l

/-! ## The gain's gradient -/

/-- A step's block of the gain gradient over the one before: the first row raised by the block's sums. -/
abbrev RaisesGain (y : Cotangent) (h : RowsOf) (md : Modulation) (step : Fin N → ((Eight 1024).Idx → EReal) → ((Eight 1024).Idx → EReal)) : Prop :=
  RaisesFirst (gainPart y h md) step

/-- The gain gradient after the last step. -/
theorem gain_at (hN : N = 34) (H : RaisesGain y h md stepG) (t : Fin N) (ht : t.val % 34 = 33) (r : Fin 8) (l : Fin 1024) :
    afterSteps stepG zG t.val t.isLt (ix2 r l) = gradGain y h md (ix2 r l) := first_at zG hN H t ht r l

end Cert.Norm

end
-- ==== Proof.NormFrame.lean ====
/- The projection-and-norm gradient kernel launched, at any values: what its four results' blocks hold after every grid
   step, the body at every step, and the run with every array named. -/
module

public import proofs.«01_k».proof.Proof.NormRun
public import proofs.«01_k».proof.Proof.NormSteps
public import Idealize.ShloMosaic.Lib.Pipeline.FrameBody
public import Idealize.ShloMosaic.Lib.WordCmp
public import Idealize.ShloMosaic.Lib.Claim

@[expose] public section

set_option maxRecDepth 16384

noncomputable section

namespace Cert.Kernel3Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen Cert.Rows
open Cert.Norm (afterSteps afterSteps_left)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The modulation gradient's block is started at the first two steps of a sequence. -/
theorem startsMod_iff : ∀ t : Fin cfg0.N, startsMod (grid0.coords t) ↔ t.val % 17 ≤ 1 :=
  (by decide +kernel : ∀ t : Fin grid0.N, startsMod (grid0.coords t) ↔ t.val % 17 ≤ 1)

/-- The gain gradient is started at the first step. -/
theorem startsGain_iff : ∀ t : Fin cfg0.N, startsGain (grid0.coords t) ↔ t.val = 0 :=
  (by decide +kernel : ∀ t : Fin grid0.N, startsGain (grid0.coords t) ↔ t.val = 0)

/-- The modulation gradient's block is written back after the first and the last step of a sequence. -/
theorem flush_mod : ∀ t : Fin cfg0.N, (cfg0.win 9).flush t = true ↔ t.val % 17 = 0 ∨ t.val % 17 = 16 :=
  (by decide +kernel : ∀ t : Fin grid0.N, win0_9.flush t = true ↔ t.val % 17 = 0 ∨ t.val % 17 = 16)

/-- A step's block of the gradient of the norm's result. -/
abbrev normedAt (c : Dev nD) (t : Fin cfg0.N) : FVec F S256x1024 .f32 := normed (iblk m c 0 t) (iblk m c 1 t) (iblk m c 6 t)

/-- A step's modulation gradient block over what was there. -/
abbrev stepMod (c : Dev nD) (t : Fin cfg0.N) (d : Vec F S1x1x8x1024 .f32) : Vec F S1x1x8x1024 .f32 :=
  leftMod (startsMod (grid0.coords t)) (normedAt m c t) (iblk m c 3 t) (iblk m c 4 t) d

/-- A step's gain gradient over what was there. -/
abbrev stepGain (c : Dev nD) (t : Fin cfg0.N) (d : Vec F S8x1024 .f32) : Vec F S8x1024 .f32 :=
  leftGain (startsGain (grid0.coords t)) (normedAt m c t) (iblk m c 3 t) (iblk m c 5 t) d

/-- A step that starts a block takes nothing from what was there. -/
theorem leftMod_start (p : Prop) [Decidable p] (h : p) (v : FVec F S256x1024 .f32) (x3 : Vec F S1x256x1024 .f32) (x4 : Vec F S1x1024 .f32)
    (d d' : Vec F S1x1x8x1024 .f32) : leftMod p v x3 x4 d = leftMod p v x3 x4 d' := by
  unfold leftMod
  simp only [if_pos h]

theorem leftGain_start (p : Prop) [Decidable p] (h : p) (v : FVec F S256x1024 .f32) (x3 : Vec F S1x256x1024 .f32) (x5 : Vec F S1x1x8x1024 .f32)
    (d d' : Vec F S8x1024 .f32) : leftGain p v x3 x5 d = leftGain p v x3 x5 d' := by
  unfold leftGain
  simp only [if_pos h]

/-- The modulation gradient's block after step `n`. -/
abbrev modAfter (c : Dev nD) (n : ℕ) (h : n < cfg0.N) : Vec F S1x1x8x1024 .f32 := afterSteps (stepMod m c) k0_pay9 n h

/-- The gain gradient after step `n`. -/
abbrev gainAfter (c : Dev nD) (n : ℕ) (h : n < cfg0.N) : Vec F S8x1024 .f32 := afterSteps (stepGain m c) k0_pay10 n h

/-- The input gradient's block after a step. -/
def inAfter (c : Dev nD) (t : Fin cfg0.N) : Vec F S1x256x1024 .f32 :=
  leftIn (normedAt m c t) (iblk m c 2 t) (iblk m c 3 t) (iblk m c 4 t) (iblk m c 5 t)

/-- The two halves' gradient's block after a step. -/
def halvesAfter (c : Dev nD) (t : Fin cfg0.N) : Vec F S1x256x2048 .bf16 := k0_pay3 (iblk m c 0 t) (iblk m c 1 t)

/-- The arrays as the region finds them, and each window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => inAfter m c t
    | ⟨8, _⟩ => halvesAfter m c t
    | ⟨9, _⟩ => modAfter m c t.val t.isLt
    | ⟨10, _⟩ => gainAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = inAfter m c t := by dsimp only [dats]
theorem after_8 (c : Dev nD) (t : Fin cfg0.N) : (dats m 0 c).after 8 t = halvesAfter m c t := by dsimp only [dats]
theorem after_9 (c : Dev nD) (t : Fin cfg0.N) : (dats m 0 c).after 9 t = modAfter m c t.val t.isLt := by dsimp only [dats]
theorem after_10 (c : Dev nD) (t : Fin cfg0.N) : (dats m 0 c).after 10 t = gainAfter m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Past the first two steps of a sequence the modulation gradient's block holds what the step before left. -/
theorem before_9 (c : Dev nD) (t : Fin cfg0.N) (h : ¬ t.val % 17 ≤ 1) (d) :
    (dats m 0 c).before 9 t d = modAfter m c (t.val - 1) (Nat.lt_of_le_of_lt (Nat.sub_le _ _) t.isLt) := by
  rw [Dat.before_out_kept _ 9 rfl t (by omega)
    (Bool.eq_false_iff.mpr fun e => by have := (flush_mod _).mp e; dsimp only at this; omega) (fun _ => rfl) (fun _ _ => rfl)]
  dsimp only [dats]

/-- Past the first step the gain gradient holds what the step before left. -/
theorem before_10 (c : Dev nD) (t : Fin cfg0.N) (h : t.val ≠ 0) (d) :
    (dats m 0 c).before 10 t d = gainAfter m c (t.val - 1) (Nat.lt_of_le_of_lt (Nat.sub_le _ _) t.isLt) := by
  have hN : t.val < 34 := lt_of_lt_of_eq t.isLt (show cfg0.N = 34 from N_0)
  rw [Dat.before_out_kept _ 10 rfl t (by omega)
    (Bool.eq_false_iff.mpr fun e => by have := (flush0_10 _).mp e; dsimp only at this; omega) (fun _ => rfl) (fun _ _ => rfl)]
  dsimp only [dats]

/-- A step over what it finds leaves the modulation gradient's block as named. -/
theorem mod_left (c : Dev nD) (t : Fin cfg0.N) (d) :
    stepMod m c t ((dats m 0 c).before 9 t d) = modAfter m c t.val t.isLt :=
  afterSteps_left _ _ t _ (t.val % 17 ≤ 1) (by omega) (fun h => leftMod_start _ ((startsMod_iff t).mpr h) _ _ _) (fun h => before_9 m c t h d)

/-- A step over what it finds leaves the gain gradient as named. -/
theorem gain_left (c : Dev nD) (t : Fin cfg0.N) (d) :
    stepGain m c t ((dats m 0 c).before 10 t d) = gainAfter m c t.val t.isLt :=
  afterSteps_left _ _ t _ (t.val = 0) id (fun h => leftGain_start _ ((startsGain_iff t).mpr h) _ _ _) (fun h => before_10 m c t h d)

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

set_option maxHeartbeats 2400000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← mod_left m c t d9, ← gain_left m c t d10]
  iapply (body_run c (grid0.coords t) _ _ _ _ _ _ _ _ _ _ _ _ _ _ _ _ _ _ _ _ _ _ (iblk m c 0 t) (iblk m c 1 t) (iblk m c 2 t)
    (iblk m c 3 t) (iblk m c 4 t) (iblk m c 5 t) (iblk m c 6 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a step is the body. -/
theorem defs₀_row (t : Fin cfg0.N) : defs₀ (F := F) .tc cfg0.body (cfg0.bodyArgs t (cfg0.slots t)) = bodyAt0 t := by
  unfold defs₀; rw [Defs.onTc_tc]

/-- The body does what the launch asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as named, every counter back at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Norm

end
-- ==== Proof.NormBlocks.lean ====
/- What one step of a norm gradient launch leaves, over the reals, from the block of the gradient of the norm's result:
   its rows of the gradients. How the step gets that block is the launch's own. -/
module

public import proofs.«01_k».proof.Proof.NormRun
public import proofs.«01_k».proof.Proof.NormSteps

@[expose] public section

set_option maxRecDepth 16384

noncomputable section

namespace Cert.Kernel3Ideal.Norm

open Idealize.ShloMosaic Idealize.ShloMosaic.TcCoe Idealize.SL.Sem
open Cert.Kernel3Ideal.Gen Cert.Rows Cert.Norm

/-! ## The step's values at an entry -/

theorem recip_apply (x3 : Vec Ideal S1x256x1024 .f32) (r : Fin 256) :
    (k0_pay6 (F := Ideal) x3 : S256x1.Idx → EReal) (ix2 r 0) = recip fun x => (x3 : S1x256x1024.Idx → EReal) (ix3 0 r x) := by
  unfold k0_pay6 k0_pay5 recip meanSq
  pointwise

theorem unit_apply (x3 : Vec Ideal S1x256x1024 .f32) (r : Fin 256) (l : Fin 1024) :
    (k0_pay7 (F := Ideal) x3 : S256x1024.Idx → EReal) (ix2 r l)
      = (x3 : S1x256x1024.Idx → EReal) (ix3 0 r l) * (k0_pay6 (F := Ideal) x3 : S256x1.Idx → EReal) (ix2 r 0) := by
  unfold k0_pay7 k0_pay5
  pointwise

theorem scale_apply (x5 : Vec Ideal S1x1x8x1024 .f32) (l : Fin 1024) :
    (scale (F := Ideal) x5 : S1x1024.Idx → EReal) (ix2 0 l) = 1 + (x5 : S1x1x8x1024.Idx → EReal) (ix4 0 0 1 l) := by
  unfold scale k0_pay8
  pointwise
  rfl

theorem noMod_apply (j : S1x1x8x1024.Idx) : (k0_pay9 (F := Ideal) : S1x1x8x1024.Idx → EReal) j = 0 := by
  obtain ⟨a, b, r, l, rfl⟩ : ∃ (a b : Fin 1) (r : Fin 8) (l : Fin 1024), j = ix4 a b r l := ⟨j 0, j 1, j 2, j 3, eq_ix4 j⟩
  unfold k0_pay9
  pointwise

theorem noGain_apply (j : S8x1024.Idx) : (k0_pay10 (F := Ideal) : S8x1024.Idx → EReal) j = 0 := by
  rw [eq_ix2 j]
  unfold k0_pay10
  pointwise

theorem shift_apply (v : FVec Ideal S256x1024 .f32) (w : Vec Ideal S1x1x1x1024 .f32) (l : Fin 1024) :
    (k0_pay11 (F := Ideal) v w : S1x1x1x1024.Idx → EReal) (ix4 0 0 0 l) = (w : S1x1x1x1024.Idx → EReal) (ix4 0 0 0 l) + ∑ k : Fin 256, (v : S256x1024.Idx → EReal) (ix2 k l) := by
  unfold k0_pay11
  pointwise

theorem scaled_apply (v u : FVec Ideal S256x1024 .f32) (g : Vec Ideal S1x1024 .f32) (w : Vec Ideal S1x1x1x1024 .f32) (l : Fin 1024) :
    (k0_pay12 (F := Ideal) v u g w : S1x1x1x1024.Idx → EReal) (ix4 0 0 0 l)
      = (w : S1x1x1x1024.Idx → EReal) (ix4 0 0 0 l) + ∑ k : Fin 256, (v : S256x1024.Idx → EReal) (ix2 k l) * ((u : S256x1024.Idx → EReal) (ix2 k l) * (g : S1x1024.Idx → EReal) (ix2 0 l)) := by
  unfold k0_pay12
  pointwise

theorem gained_apply (v u : FVec Ideal S256x1024 .f32) (s w : Vec Ideal S1x1024 .f32) (l : Fin 1024) :
    (k0_pay13 (F := Ideal) v u s w : S1x1024.Idx → EReal) (ix2 0 l)
      = (w : S1x1024.Idx → EReal) (ix2 0 l) + ∑ k : Fin 256, (v : S256x1024.Idx → EReal) (ix2 k l) * (s : S1x1024.Idx → EReal) (ix2 0 l) * (u : S256x1024.Idx → EReal) (ix2 k l) := by
  unfold k0_pay13
  pointwise

theorem in_apply (v : FVec Ideal S256x1024 .f32) (r' : FVec Ideal S256x1 .f32) (u : FVec Ideal S256x1024 .f32) (g : Vec Ideal S1x1024 .f32)
    (s : FVec Ideal S1x1024 .f32) (d : Vec Ideal S1x256x1024 .f32) (r : Fin 256) (l : Fin 1024) :
    (k0_pay1 (F := Ideal) v r' u g s d : S1x256x1024.Idx → EReal) (ix3 0 r l)
      = (d : S1x256x1024.Idx → EReal) (ix3 0 r l) + (r' : S256x1.Idx → EReal) (ix2 r 0) *
        ((v : S256x1024.Idx → EReal) (ix2 r l) * (g : S1x1024.Idx → EReal) (ix2 0 l) * (s : S1x1024.Idx → EReal) (ix2 0 l)
          - (u : S256x1024.Idx → EReal) (ix2 r l) * Ideal.div (∑ x : Fin 1024, (v : S256x1024.Idx → EReal) (ix2 r x) * (g : S1x1024.Idx → EReal) (ix2 0 x)
              * (s : S1x1024.Idx → EReal) (ix2 0 x) * (u : S256x1024.Idx → EReal) (ix2 r x)) width) := by
  unfold k0_pay1
  pointwise

/-! ## The step's values in the arrays -/

/-- The blocks of step `t`: `v` of the cotangent `y` of the norm's result, `x2` of the gradient to add to, `x3` of the rows,
    `x4` the gain, `x5` of the modulation. -/
structure Reads {N : ℕ} (t : Fin N) (y : Cotangent) (dh h : RowsOf) (g : Gain) (md : Modulation) (v : FVec Ideal S256x1024 .f32)
    (x2 x3 : Vec Ideal S1x256x1024 .f32) (x4 : Vec Ideal S1x1024 .f32) (x5 : Vec Ideal S1x1x8x1024 .f32) : Prop where
  v_at : ∀ (r : Fin 256) (l : Fin 1024), (v : S256x1024.Idx → EReal) (ix2 r l) = y (seqOf t) (rowAt t r) l
  x2_at : ∀ (r : Fin 256) (l : Fin 1024), (x2 : S1x256x1024.Idx → EReal) (ix3 0 r l) = dh (ix3 (seqOf t) (rowAt t r) l)
  x3_at : ∀ (r : Fin 256) (l : Fin 1024), (x3 : S1x256x1024.Idx → EReal) (ix3 0 r l) = h (ix3 (seqOf t) (rowAt t r) l)
  x4_at : ∀ l : Fin 1024, (x4 : S1x1024.Idx → EReal) (ix2 0 l) = g (ix2 0 l)
  x5_at : ∀ (r : Fin 8) (l : Fin 1024), (x5 : S1x1x8x1024.Idx → EReal) (ix4 0 0 r l) = md (ix4 (seqOf t) (segOf t) r l)

namespace Reads

variable {N : ℕ} {t : Fin N} {y : Cotangent} {dh h : RowsOf} {g : Gain} {md : Modulation} {v : FVec Ideal S256x1024 .f32}
  {x2 x3 : Vec Ideal S1x256x1024 .f32} {x4 : Vec Ideal S1x1024 .f32} {x5 : Vec Ideal S1x1x8x1024 .f32}
  (R : Reads t y dh h g md v x2 x3 x4 x5)
include R

theorem recip_at (r : Fin 256) : (k0_pay6 (F := Ideal) x3 : S256x1.Idx → EReal) (ix2 r 0) = recip (rowOf h (seqOf t) (rowAt t r)) := by
  rw [recip_apply]
  exact congrArg recip (funext fun x => R.x3_at r x)

theorem unit_at (r : Fin 256) (l : Fin 1024) : (k0_pay7 (F := Ideal) x3 : S256x1024.Idx → EReal) (ix2 r l) = unit h (seqOf t) (rowAt t r) l := by
  rw [unit_apply]
  exact congrArg₂ (fun a b : EReal => a * b) (R.x3_at r l) (R.recip_at r)

theorem scale_at (r : Fin 256) (l : Fin 1024) : (scale (F := Ideal) x5 : S1x1024.Idx → EReal) (ix2 0 l) = onePlus md (seqOf t) (rowAt t r) l := by
  rw [scale_apply]
  unfold onePlus
  rw [seg_rowAt]
  exact congrArg (fun x : EReal => 1 + x) (R.x5_at 1 l)

/-- The input gradient's block. -/
theorem in_at (r : Fin 256) (l : Fin 1024) :
    (leftIn (F := Ideal) v x2 x3 x4 x5 : S1x256x1024.Idx → EReal) (ix3 0 r l) = gradIn y dh h g md (ix3 (seqOf t) (rowAt t r) l) := by
  unfold leftIn
  rw [in_apply]
  have hs (x : Fin 1024) : (v : S256x1024.Idx → EReal) (ix2 r x) * (x4 : S1x1024.Idx → EReal) (ix2 0 x)
      * (scale (F := Ideal) x5 : S1x1024.Idx → EReal) (ix2 0 x) = slope y g md (seqOf t) (rowAt t r) x := by
    rw [R.v_at, R.scale_at r, R.x4_at]; rfl
  have hd : Ideal.div (∑ x : Fin 1024, (v : S256x1024.Idx → EReal) (ix2 r x) * (x4 : S1x1024.Idx → EReal) (ix2 0 x)
      * (scale (F := Ideal) x5 : S1x1024.Idx → EReal) (ix2 0 x) * (k0_pay7 (F := Ideal) x3 : S256x1024.Idx → EReal) (ix2 r x)) width
      = Ideal.div (∑ x, slope y g md (seqOf t) (rowAt t r) x * unit h (seqOf t) (rowAt t r) x) width :=
    congrArg (fun s => Ideal.div s width) (Finset.sum_congr rfl fun x _ => congrArg₂ (fun a b : EReal => a * b) (hs x) (R.unit_at r x))
  exact congrArg₂ (fun a b : EReal => a + b) (R.x2_at r l)
    (congrArg₂ (fun a b : EReal => a * b) (R.recip_at r)
      (congrArg₂ (fun a b : EReal => a - b) (hs l) (congrArg₂ (fun a b : EReal => a * b) (R.unit_at r l) hd)))

/-- The step's rows of the modulation gradient: the two rows raised by the block's sums. -/
theorem mod_step (p : Prop) [Decidable p] (hp : p ↔ t.val % 17 ≤ 1) (d : S1x1x8x1024.Idx → EReal) (r : Fin 8) (l : Fin 1024) :
    (leftMod (F := Ideal) p v x3 x4 d : S1x1x8x1024.Idx → EReal) (ix4 0 0 r l)
      = if r.val = 1 then (if t.val % 17 ≤ 1 then 0 else d (ix4 0 0 1 l)) + ∑ k : Fin 256, scalePart y h g (seqOf t) l (rowAt t k)
        else if r.val = 0 then (if t.val % 17 ≤ 1 then 0 else d (ix4 0 0 0 l)) + ∑ k : Fin 256, shiftPart y (seqOf t) l (rowAt t k)
        else if t.val % 17 ≤ 1 then 0 else d (ix4 0 0 r l) := by
  have key (d' : S1x1x8x1024.Idx → EReal) : (setBlock (Val := Elt Ideal) (e := .f32) (n := 1024) d'
      (k0_pay11 (F := Ideal) v (blockRow 0 d')) (k0_pay12 (F := Ideal) v (k0_pay7 x3) x4 (blockRow 1 d')) : S1x1x8x1024.Idx → EReal) (ix4 0 0 r l)
      = if r.val = 1 then d' (ix4 0 0 1 l) + ∑ k : Fin 256, scalePart y h g (seqOf t) l (rowAt t k)
        else if r.val = 0 then d' (ix4 0 0 0 l) + ∑ k : Fin 256, shiftPart y (seqOf t) l (rowAt t k)
        else d' (ix4 0 0 r l) := by
    have h0 : (k0_pay11 (F := Ideal) v (blockRow 0 d') : S1x1x1x1024.Idx → EReal) (ix4 0 0 0 l)
        = d' (ix4 0 0 0 l) + ∑ k : Fin 256, shiftPart y (seqOf t) l (rowAt t k) :=
      (shift_apply _ _ l).trans (congrArg (fun x : EReal => d' (ix4 0 0 0 l) + x) (Finset.sum_congr rfl fun k _ => R.v_at k l))
    have h1 : (k0_pay12 (F := Ideal) v (k0_pay7 x3) x4 (blockRow 1 d') : S1x1x1x1024.Idx → EReal) (ix4 0 0 0 l)
        = d' (ix4 0 0 1 l) + ∑ k : Fin 256, scalePart y h g (seqOf t) l (rowAt t k) :=
      (scaled_apply _ _ _ _ l).trans (congrArg (fun x : EReal => d' (ix4 0 0 1 l) + x) (Finset.sum_congr rfl fun k _ =>
        congrArg₂ (fun a b : EReal => a * b) (R.v_at k l)
          (congrArg₂ (fun a b : EReal => a * b) (R.unit_at k l) (R.x4_at l))))
    unfold setBlock
    exact if_congr Iff.rfl h1 (if_congr Iff.rfl h0 rfl)
  unfold leftMod
  by_cases h : t.val % 17 ≤ 1
  · simp only [if_pos (hp.mpr h), if_pos h]
    refine (key _).trans ?_
    simp only [noMod_apply]
  · simp only [if_neg (fun e => h (hp.mp e)), if_neg h]
    exact key d

/-- The step's row of the gain gradient, raised by the block's sums. -/
theorem gain_step (p : Prop) [Decidable p] (hp : p ↔ t.val = 0) (d : S8x1024.Idx → EReal) (r : Fin 8) (l : Fin 1024) :
    (leftGain (F := Ideal) p v x3 x5 d : S8x1024.Idx → EReal) (ix2 r l)
      = if r.val = 0 then (if t.val = 0 then 0 else d (ix2 0 l)) + ∑ k : Fin 256, gainPart y h md l (seqOf t) (rowAt t k)
        else if t.val = 0 then 0 else d (ix2 r l) := by
  have key (d' : S8x1024.Idx → EReal) : (setEight (Val := Elt Ideal) (e := .f32) (n := 1024) d'
      (k0_pay13 (F := Ideal) v (k0_pay7 x3) (scale x5) (eightRow d')) : S8x1024.Idx → EReal) (ix2 r l)
      = if r.val = 0 then d' (ix2 0 l) + ∑ k : Fin 256, gainPart y h md l (seqOf t) (rowAt t k) else d' (ix2 r l) := by
    have h0 : (k0_pay13 (F := Ideal) v (k0_pay7 x3) (scale x5) (eightRow d') : S1x1024.Idx → EReal) (ix2 0 l)
        = d' (ix2 0 l) + ∑ k : Fin 256, gainPart y h md l (seqOf t) (rowAt t k) :=
      (gained_apply _ _ _ _ l).trans (congrArg (fun x : EReal => d' (ix2 0 l) + x) (Finset.sum_congr rfl fun k _ =>
        congrArg₂ (fun a b : EReal => a * b) (congrArg₂ (fun a b : EReal => a * b) (R.v_at k l) (R.scale_at k l)) (R.unit_at k l)))
    unfold setEight
    exact if_congr Iff.rfl h0 rfl
  unfold leftGain
  by_cases h : t.val = 0
  · simp only [if_pos (hp.mpr h), if_pos h]
    refine (key _).trans ?_
    simp only [noGain_apply]
  · simp only [if_neg (fun e => h (hp.mp e)), if_neg h]
    exact key d

end Reads

end Cert.Kernel3Ideal.Norm

end
-- ==== Proof.NormIdeal.lean ====
/- What one step of the projection-and-norm gradient kernel computes over the reals: its rows of the gradients. -/
module

public import proofs.«01_k».proof.Proof.NormFrame
public import proofs.«01_k».proof.Proof.NormBlocks

@[expose] public section

set_option maxRecDepth 16384

noncomputable section

namespace Cert.Kernel3Ideal.Norm

open Idealize.ShloMosaic Idealize.ShloMosaic.TcCoe Idealize.SL.Sem
open Cert.Kernel3Ideal.Gen Cert.Rows Cert.Norm

/-! ## The step's values at an entry -/

/-- The two halves side by side. -/
def halves (x0 x1 : RowsOf) (b : Fin 2) (t : Fin 4352) (k : Fin 2048) : EReal :=
  if h : k.val < 1024 then x0 (ix3 b t ⟨k.val, h⟩) else x1 (ix3 b t ⟨k.val - 1024, by omega⟩)

/-- The cotangent of the norm's result: the halves times the weights. -/
def dy (x0 x1 : RowsOf) (w : S1024x2048.Idx → EReal) : Cotangent := fun b t l => ∑ k : Fin 2048, halves x0 x1 b t k * w (ix2 l k)

theorem joined_apply (x0 x1 : Vec Ideal S1x256x1024 .bf16) (r : Fin 256) (k : Fin 2048) :
    (k0_pay2 (F := Ideal) x0 x1 : S256x2048.Idx → EReal) (ix2 r k)
      = if h : k.val < 1024 then (x0 : S1x256x1024.Idx → EReal) (ix3 0 r ⟨k.val, h⟩) else (x1 : S1x256x1024.Idx → EReal) (ix3 0 r ⟨k.val - 1024, by omega⟩) := by
  unfold k0_pay2
  pointwise

theorem stored_apply (x0 x1 : Vec Ideal S1x256x1024 .bf16) (r : Fin 256) (k : Fin 2048) :
    (k0_pay3 (F := Ideal) x0 x1 : S1x256x2048.Idx → EReal) (ix3 0 r k) = (k0_pay2 (F := Ideal) x0 x1 : S256x2048.Idx → EReal) (ix2 r k) := by
  unfold k0_pay3
  pointwise

theorem normed_apply (x0 x1 : Vec Ideal S1x256x1024 .bf16) (x6 : Vec Ideal S1024x2048 .bf16) (r : Fin 256) (l : Fin 1024) :
    (normed (F := Ideal) x0 x1 x6 : S256x1024.Idx → EReal) (ix2 r l)
      = ∑ k : Fin 2048, (k0_pay2 (F := Ideal) x0 x1 : S256x2048.Idx → EReal) (ix2 r k) * (x6 : S1024x2048.Idx → EReal) (ix2 l k) := by
  unfold normed k0_pay4
  pointwise

/-! ## The blocks of a step -/

variable (m : (ℓ : Loc nD τ sig) → Buf (Elt Ideal) ℓ)

abbrev a0 (c : Dev nD) : RowsOf := m ((c : Thread nD τ).loc main_arg0)
abbrev a1 (c : Dev nD) : RowsOf := m ((c : Thread nD τ).loc main_arg1)
abbrev a2 (c : Dev nD) : RowsOf := m ((c : Thread nD τ).loc main_arg2)
abbrev a3 (c : Dev nD) : RowsOf := m ((c : Thread nD τ).loc main_arg3)
abbrev a4 (c : Dev nD) : Gain := m ((c : Thread nD τ).loc main_arg4)
abbrev a5 (c : Dev nD) : Modulation := m ((c : Thread nD τ).loc main_arg5)
abbrev a6 (c : Dev nD) : S1024x2048.Idx → EReal := m ((c : Thread nD τ).loc main_arg6)
/-- The cotangent of the norm's result. -/
abbrev ct (c : Dev nD) : Cotangent := dy (a0 m c) (a1 m c) (a6 m c)

/-- Where the blocks of a step lie. -/
theorem idx_rows : ∀ t : Fin cfg0.N,
    (win0_0.index t 0 = t.val / 17 % 2 ∧ win0_0.index t 1 = t.val % 17 ∧ win0_0.index t 2 = 0)
    ∧ (win0_1.index t 0 = t.val / 17 % 2 ∧ win0_1.index t 1 = t.val % 17 ∧ win0_1.index t 2 = 0)
    ∧ (win0_2.index t 0 = t.val / 17 % 2 ∧ win0_2.index t 1 = t.val % 17 ∧ win0_2.index t 2 = 0)
    ∧ (win0_3.index t 0 = t.val / 17 % 2 ∧ win0_3.index t 1 = t.val % 17 ∧ win0_3.index t 2 = 0) :=
  (by decide +kernel : ∀ t : Fin grid0.N, _)

theorem idx_rest : ∀ t : Fin cfg0.N,
    (win0_4.index t 0 = 0 ∧ win0_4.index t 1 = 0)
    ∧ (win0_5.index t 0 = t.val / 17 % 2 ∧ win0_5.index t 1 = min (t.val % 17) 1 ∧ win0_5.index t 2 = 0 ∧ win0_5.index t 3 = 0)
    ∧ (win0_6.index t 0 = 0 ∧ win0_6.index t 1 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) := by
  obtain ⟨⟨e0, e1, e2⟩, -⟩ := idx_rows t
  show a0 m c ((win0_0.rect t).emb (ix3 0 r l)) = _
  congr 1
  funext a; apply Fin.ext
  rw [win0_0.rect_emb_val t]
  match a with
  | ⟨0, _⟩ => show win0_0.index t 0 * 1 + 0 = t.val / 17 % 2; omega
  | ⟨1, _⟩ => show win0_0.index t 1 * 256 + r.val = 256 * (t.val % 17) + r.val; omega
  | ⟨2, _⟩ => show win0_0.index t 2 * 1024 + l.val = l.val; omega

theorem iblk1_apply (c : Dev nD) (t : Fin cfg0.N) (r : Fin 256) (l : Fin 1024) :
    (iblk m c 1 t : S1x256x1024.Idx → EReal) (ix3 0 r l) = a1 m c (ix3 (seqOf t) (rowAt t r) l) := by
  obtain ⟨-, ⟨e0, e1, e2⟩, -⟩ := idx_rows t
  show a1 m c ((win0_1.rect t).emb (ix3 0 r l)) = _
  congr 1
  funext a; apply Fin.ext
  rw [win0_1.rect_emb_val t]
  match a with
  | ⟨0, _⟩ => show win0_1.index t 0 * 1 + 0 = t.val / 17 % 2; omega
  | ⟨1, _⟩ => show win0_1.index t 1 * 256 + r.val = 256 * (t.val % 17) + r.val; omega
  | ⟨2, _⟩ => show win0_1.index t 2 * 1024 + l.val = l.val; omega

theorem iblk2_apply (c : Dev nD) (t : Fin cfg0.N) (r : Fin 256) (l : Fin 1024) :
    (iblk m c 2 t : S1x256x1024.Idx → EReal) (ix3 0 r l) = a2 m c (ix3 (seqOf t) (rowAt t r) l) := by
  obtain ⟨-, -, ⟨e0, e1, e2⟩, -⟩ := idx_rows t
  show a2 m c ((win0_2.rect t).emb (ix3 0 r l)) = _
  congr 1
  funext a; apply Fin.ext
  rw [win0_2.rect_emb_val t]
  match a with
  | ⟨0, _⟩ => show win0_2.index t 0 * 1 + 0 = t.val / 17 % 2; omega
  | ⟨1, _⟩ => show win0_2.index t 1 * 256 + r.val = 256 * (t.val % 17) + r.val; omega
  | ⟨2, _⟩ => show win0_2.index t 2 * 1024 + l.val = l.val; omega

theorem iblk3_apply (c : Dev nD) (t : Fin cfg0.N) (r : Fin 256) (l : Fin 1024) :
    (iblk m c 3 t : S1x256x1024.Idx → EReal) (ix3 0 r l) = a3 m c (ix3 (seqOf t) (rowAt t r) l) := by
  obtain ⟨-, -, -, e0, e1, e2⟩ := idx_rows t
  show a3 m c ((win0_3.rect t).emb (ix3 0 r l)) = _
  congr 1
  funext a; apply Fin.ext
  rw [win0_3.rect_emb_val t]
  match a with
  | ⟨0, _⟩ => show win0_3.index t 0 * 1 + 0 = t.val / 17 % 2; omega
  | ⟨1, _⟩ => show win0_3.index t 1 * 256 + r.val = 256 * (t.val % 17) + r.val; omega
  | ⟨2, _⟩ => show win0_3.index t 2 * 1024 + l.val = l.val; omega

theorem iblk4_apply (c : Dev nD) (t : Fin cfg0.N) (l : Fin 1024) : (iblk m c 4 t : S1x1024.Idx → EReal) (ix2 0 l) = a4 m c (ix2 0 l) := by
  obtain ⟨⟨e0, e1⟩, -⟩ := idx_rest t
  show a4 m c ((win0_4.rect t).emb (ix2 0 l)) = _
  congr 1
  funext a; apply Fin.ext
  rw [win0_4.rect_emb_val t]
  match a with
  | ⟨0, _⟩ => show win0_4.index t 0 * 1 + 0 = 0; omega
  | ⟨1, _⟩ => show win0_4.index t 1 * 1024 + l.val = l.val; omega

theorem iblk5_apply (c : Dev nD) (t : Fin cfg0.N) (r : Fin 8) (l : Fin 1024) :
    (iblk m c 5 t : S1x1x8x1024.Idx → EReal) (ix4 0 0 r l) = a5 m c (ix4 (seqOf t) (segOf t) r l) := by
  obtain ⟨-, ⟨e0, e1, e2, e3⟩, -⟩ := idx_rest t
  show a5 m c ((win0_5.rect t).emb (ix4 0 0 r l)) = _
  congr 1
  funext a; apply Fin.ext
  rw [win0_5.rect_emb_val t]
  match a with
  | ⟨0, _⟩ => show win0_5.index t 0 * 1 + 0 = t.val / 17 % 2; omega
  | ⟨1, _⟩ => show win0_5.index t 1 * 1 + 0 = min (t.val % 17) 1; omega
  | ⟨2, _⟩ => show win0_5.index t 2 * 8 + r.val = r.val; omega
  | ⟨3, _⟩ => show win0_5.index t 3 * 1024 + l.val = l.val; omega

theorem iblk6_apply (c : Dev nD) (t : Fin cfg0.N) (l : Fin 1024) (k : Fin 2048) : (iblk m c 6 t : S1024x2048.Idx → EReal) (ix2 l k) = a6 m c (ix2 l k) := by
  obtain ⟨-, -, e0, e1⟩ := idx_rest t
  show a6 m c ((win0_6.rect t).emb (ix2 l k)) = _
  congr 1
  funext a; apply Fin.ext
  rw [win0_6.rect_emb_val t]
  match a with
  | ⟨0, _⟩ => show win0_6.index t 0 * 1024 + l.val = l.val; omega
  | ⟨1, _⟩ => show win0_6.index t 1 * 2048 + k.val = k.val; omega

/-! ## The step's values in the arrays -/

theorem joined_at (c : Dev nD) (t : Fin cfg0.N) (r : Fin 256) (k : Fin 2048) :
    (k0_pay2 (F := Ideal) (iblk m c 0 t) (iblk m c 1 t) : S256x2048.Idx → EReal) (ix2 r k) = halves (a0 m c) (a1 m c) (seqOf t) (rowAt t r) k := by
  rw [joined_apply]
  unfold halves
  by_cases h : k.val < 1024
  · rw [dif_pos h, dif_pos h]; exact iblk0_apply m c t r _
  · rw [dif_neg h, dif_neg h]; exact iblk1_apply m c t r _

theorem normed_at (c : Dev nD) (t : Fin cfg0.N) (r : Fin 256) (l : Fin 1024) :
    (normed (F := Ideal) (iblk m c 0 t) (iblk m c 1 t) (iblk m c 6 t) : S256x1024.Idx → EReal) (ix2 r l) = ct m c (seqOf t) (rowAt t r) l := by
  rw [normed_apply]
  exact Finset.sum_congr rfl fun k _ => congrArg₂ (fun a b : EReal => a * b) (joined_at m c t r k) (iblk6_apply m c t l k)

/-- The blocks of a step are read where the step works. -/
theorem reads (c : Dev nD) (t : Fin cfg0.N) : Reads t (ct m c) (a2 m c) (a3 m c) (a4 m c) (a5 m c) (normedAt m c t)
    (iblk m c 2 t) (iblk m c 3 t) (iblk m c 4 t) (iblk m c 5 t) where
  v_at := normed_at m c t
  x2_at := iblk2_apply m c t
  x3_at := iblk3_apply m c t
  x4_at := iblk4_apply m c t
  x5_at := iblk5_apply m c t

/-- The halves' block. -/
theorem halves_at (c : Dev nD) (t : Fin cfg0.N) (r : Fin 256) (k : Fin 2048) :
    (halvesAfter m c t : S1x256x2048.Idx → EReal) (ix3 0 r k) = halves (a0 m c) (a1 m c) (seqOf t) (rowAt t r) k :=
  (stored_apply _ _ r k).trans (joined_at m c t r k)

theorem raises_mod (c : Dev nD) : RaisesMod (ct m c) (a3 m c) (a4 m c) (stepMod (F := Ideal) m c) := fun t d r l =>
  (reads m c t).mod_step _ (startsMod_iff t) d r l

theorem raises_gain (c : Dev nD) : RaisesGain (ct m c) (a3 m c) (a5 m c) (stepGain (F := Ideal) m c) := fun t d r l =>
  (reads m c t).gain_step _ (startsGain_iff t) d r l

end Cert.Kernel3Ideal.Norm

end
-- ==== Proof.NormArray.lean ====
/- The arrays the projection-and-norm gradient kernel leaves over the reals. -/
module

public import proofs.«01_k».proof.Proof.NormIdeal

@[expose] public section

set_option maxRecDepth 16384

noncomputable section

namespace Cert.Kernel3Ideal.Norm

open Idealize.ShloMosaic Idealize.ShloMosaic.TcCoe Idealize.SL.Sem
open Cert.Kernel3Ideal.Gen Cert.Rows Cert.Norm Cert.RowBlocks

variable (m : (ℓ : Loc nD τ sig) → Buf (Elt Ideal) ℓ) (ρ : Dev nD → PrngReg)

/-! ## The arrays -/

/-- Where the results' blocks lie. -/
theorem idx_out : ∀ t : Fin cfg0.N,
    (win0_7.index t 0 = t.val / 17 % 2 ∧ win0_7.index t 1 = t.val % 17 ∧ win0_7.index t 2 = 0)
    ∧ (win0_8.index t 0 = t.val / 17 % 2 ∧ win0_8.index t 1 = t.val % 17 ∧ win0_8.index t 2 = 0)
    ∧ (win0_9.index t 0 = t.val / 17 % 2 ∧ win0_9.index t 1 = min (t.val % 17) 1 ∧ win0_9.index t 2 = 0 ∧ win0_9.index t 3 = 0)
    ∧ (win0_10.index t 0 = 0 ∧ win0_10.index t 1 = 0) :=
  (by decide +kernel : ∀ t : Fin grid0.N, _)

theorem final_in (c : Dev nD) : (dats m 0 c).arrAt 7 cfg0.N = gradIn (ct m c) (a2 m c) (a3 m c) (a4 m c) (a5 m c) := by
  refine (dats m 0 c).arrAt_eq_of_cover 7 _ (fun t _ => ?_) (fun i => ?_)
  · show (cfg0.win 7).cut (grid0.coords t) ((dats m 0 c).after 7 t) = _
    rw [after_7]
    obtain ⟨⟨e0, e1, e2⟩, -⟩ := idx_out t
    funext y
    have hy0 : (y 0).val < 1 := (y 0).isLt
    have hy1 : (y 1).val < 256 := (y 1).isLt
    have hy2 : (y 2).val < 1024 := (y 2).isLt
    have el : (cfg0.win 7).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have er : ((cfg0.win 7).blk t).view.emb y = ix3 (seqOf t) (rowAt t ⟨(y 1).val, hy1⟩) ⟨(y 2).val, hy2⟩ := by
      funext a; apply Fin.ext
      match a with
      | ⟨0, _⟩ => show win0_7.index t 0 * 1 + 1 * (y 0).val = t.val / 17 % 2; omega
      | ⟨1, _⟩ => show win0_7.index t 1 * 256 + 1 * (y 1).val = 256 * (t.val % 17) + (y 1).val; omega
      | ⟨2, _⟩ => show win0_7.index t 2 * 1024 + 1 * (y 2).val = (y 2).val; omega
    show (inAfter m c t : S1x256x1024.Idx → EReal) ((cfg0.win 7).xinj (grid0.coords t) y) = gradIn _ _ _ _ _ (((cfg0.win 7).blk t).view.emb y)
    rw [el, er]
    exact (reads m c t).in_at _ _
  · have h0 : (i 0).val < 2 := (i 0).isLt
    have h1 : (i 1).val < 4352 := (i 1).isLt
    have h2 : (i 2).val < 1024 := (i 2).isLt
    have hN : 17 * (i 0).val + (i 1).val / 256 < cfg0.N := by show _ < 34; omega
    refine ⟨⟨_, hN⟩, flush0_7 _, ?_⟩
    obtain ⟨⟨e0, e1, e2⟩, -⟩ := idx_out ⟨_, hN⟩
    dsimp only at e0 e1 e2
    show i ∈ ((View.whole main_v0_0).slice (win0_7.rect ⟨_, hN⟩)).set
    rw [View.set_slice_whole, Rect.mem_set_unit]
    intro a
    match a with
    | ⟨0, _⟩ => show win0_7.index ⟨_, hN⟩ 0 * 1 ≤ (i 0).val ∧ (i 0).val < win0_7.index ⟨_, hN⟩ 0 * 1 + 1; omega
    | ⟨1, _⟩ => show win0_7.index ⟨_, hN⟩ 1 * 256 ≤ (i 1).val ∧ (i 1).val < win0_7.index ⟨_, hN⟩ 1 * 256 + 256; omega
    | ⟨2, _⟩ => show win0_7.index ⟨_, hN⟩ 2 * 1024 ≤ (i 2).val ∧ (i 2).val < win0_7.index ⟨_, hN⟩ 2 * 1024 + 1024; omega

/-- The two halves side by side, as an array. -/
def halvesArr (x0 x1 : RowsOf) : S2x4352x2048.Idx → EReal := fun i => halves x0 x1 (i 0) (i 1) (i 2)

theorem final_halves (c : Dev nD) : (dats m 0 c).arrAt 8 cfg0.N = halvesArr (a0 m c) (a1 m c) := by
  refine (dats m 0 c).arrAt_eq_of_cover 8 _ (fun t _ => ?_) (fun i => ?_)
  · show (cfg0.win 8).cut (grid0.coords t) ((dats m 0 c).after 8 t) = _
    rw [after_8]
    obtain ⟨-, ⟨e0, e1, e2⟩, -⟩ := idx_out t
    funext y
    have hy0 : (y 0).val < 1 := (y 0).isLt
    have hy1 : (y 1).val < 256 := (y 1).isLt
    have hy2 : (y 2).val < 2048 := (y 2).isLt
    have el : (cfg0.win 8).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have er : ((cfg0.win 8).blk t).view.emb y = ix3 (seqOf t) (rowAt t ⟨(y 1).val, hy1⟩) ⟨(y 2).val, hy2⟩ := by
      funext a; apply Fin.ext
      match a with
      | ⟨0, _⟩ => show win0_8.index t 0 * 1 + 1 * (y 0).val = t.val / 17 % 2; omega
      | ⟨1, _⟩ => show win0_8.index t 1 * 256 + 1 * (y 1).val = 256 * (t.val % 17) + (y 1).val; omega
      | ⟨2, _⟩ => show win0_8.index t 2 * 2048 + 1 * (y 2).val = (y 2).val; omega
    show (halvesAfter m c t : S1x256x2048.Idx → EReal) ((cfg0.win 8).xinj (grid0.coords t) y) = halvesArr _ _ (((cfg0.win 8).blk t).view.emb y)
    rw [el, er]
    exact halves_at m c t _ _
  · have h0 : (i 0).val < 2 := (i 0).isLt
    have h1 : (i 1).val < 4352 := (i 1).isLt
    have h2 : (i 2).val < 2048 := (i 2).isLt
    have hN : 17 * (i 0).val + (i 1).val / 256 < cfg0.N := by show _ < 34; omega
    refine ⟨⟨_, hN⟩, flush0_8 _, ?_⟩
    obtain ⟨-, ⟨e0, e1, e2⟩, -⟩ := idx_out ⟨_, hN⟩
    dsimp only at e0 e1 e2
    show i ∈ ((View.whole main_v0_1).slice (win0_8.rect ⟨_, hN⟩)).set
    rw [View.set_slice_whole, Rect.mem_set_unit]
    intro a
    match a with
    | ⟨0, _⟩ => show win0_8.index ⟨_, hN⟩ 0 * 1 ≤ (i 0).val ∧ (i 0).val < win0_8.index ⟨_, hN⟩ 0 * 1 + 1; omega
    | ⟨1, _⟩ => show win0_8.index ⟨_, hN⟩ 1 * 256 ≤ (i 1).val ∧ (i 1).val < win0_8.index ⟨_, hN⟩ 1 * 256 + 256; omega
    | ⟨2, _⟩ => show win0_8.index ⟨_, hN⟩ 2 * 2048 ≤ (i 2).val ∧ (i 2).val < win0_8.index ⟨_, hN⟩ 2 * 2048 + 2048; omega

theorem final_mod (c : Dev nD) : (dats m 0 c).arrAt 9 cfg0.N = gradMod (ct m c) (a3 m c) (a4 m c) := by
  refine (dats m 0 c).arrAt_eq_of_cover 9 _ (fun t hf => ?_) (fun i => ?_)
  · show (cfg0.win 9).cut (grid0.coords t) ((dats m 0 c).after 9 t) = _
    rw [after_9]
    obtain ⟨-, -, ⟨e0, e1, e2, e3⟩, -⟩ := idx_out t
    funext y
    have hy0 : (y 0).val < 1 := (y 0).isLt
    have hy1 : (y 1).val < 1 := (y 1).isLt
    have hy2 : (y 2).val < 8 := (y 2).isLt
    have hy3 : (y 3).val < 1024 := (y 3).isLt
    have el : (cfg0.win 9).xinj (grid0.coords t) y = ix4 0 0 ⟨(y 2).val, hy2⟩ ⟨(y 3).val, hy3⟩ := by
      funext a; apply Fin.ext
      match a with
      | ⟨0, _⟩ => show (y 0).val = 0; omega
      | ⟨1, _⟩ => show (y 1).val = 0; omega
      | ⟨2, _⟩ => rfl
      | ⟨3, _⟩ => rfl
    have er : ((cfg0.win 9).blk t).view.emb y = ix4 (seqOf t) (segOf t) ⟨(y 2).val, hy2⟩ ⟨(y 3).val, hy3⟩ := by
      funext a; apply Fin.ext
      match a with
      | ⟨0, _⟩ => show win0_9.index t 0 * 1 + 1 * (y 0).val = t.val / 17 % 2; omega
      | ⟨1, _⟩ => show win0_9.index t 1 * 1 + 1 * (y 1).val = min (t.val % 17) 1; omega
      | ⟨2, _⟩ => show win0_9.index t 2 * 8 + 1 * (y 2).val = (y 2).val; omega
      | ⟨3, _⟩ => show win0_9.index t 3 * 1024 + 1 * (y 3).val = (y 3).val; omega
    show (modAfter m c t.val t.isLt : S1x1x8x1024.Idx → EReal) ((cfg0.win 9).xinj (grid0.coords t) y) = gradMod _ _ _ (((cfg0.win 9).blk t).view.emb y)
    rw [el, er]
    exact mod_at _ N_0 (raises_mod m c) t ((flush_mod t).mp hf) _ _
  · have h0 : (i 0).val < 2 := (i 0).isLt
    have h1 : (i 1).val < 2 := (i 1).isLt
    have h2 : (i 2).val < 8 := (i 2).isLt
    have h3 : (i 3).val < 1024 := (i 3).isLt
    have hN : 17 * (i 0).val + 16 * (i 1).val < cfg0.N := by show _ < 34; omega
    have hm : (17 * (i 0).val + 16 * (i 1).val) % 17 = 16 * (i 1).val := by rw [Nat.mul_add_mod, Nat.mod_eq_of_lt (by omega)]
    have hq : (17 * (i 0).val + 16 * (i 1).val) / 17 = (i 0).val := by
      rw [Nat.mul_add_div (by decide), Nat.div_eq_of_lt (by omega), Nat.add_zero]
    refine ⟨⟨_, hN⟩, (flush_mod _).mpr (by dsimp only; rw [hm]; omega), ?_⟩
    obtain ⟨-, -, ⟨e0, e1, e2, e3⟩, -⟩ := idx_out ⟨_, hN⟩
    dsimp only at e0 e1 e2 e3
    rw [hq] at e0
    rw [hm] at e1
    show i ∈ ((View.whole main_v0_2).slice (win0_9.rect ⟨_, hN⟩)).set
    rw [View.set_slice_whole, Rect.mem_set_unit]
    intro a
    match a with
    | ⟨0, _⟩ => show win0_9.index ⟨_, hN⟩ 0 * 1 ≤ (i 0).val ∧ (i 0).val < win0_9.index ⟨_, hN⟩ 0 * 1 + 1; omega
    | ⟨1, _⟩ => show win0_9.index ⟨_, hN⟩ 1 * 1 ≤ (i 1).val ∧ (i 1).val < win0_9.index ⟨_, hN⟩ 1 * 1 + 1; omega
    | ⟨2, _⟩ => show win0_9.index ⟨_, hN⟩ 2 * 8 ≤ (i 2).val ∧ (i 2).val < win0_9.index ⟨_, hN⟩ 2 * 8 + 8; omega
    | ⟨3, _⟩ => show win0_9.index ⟨_, hN⟩ 3 * 1024 ≤ (i 3).val ∧ (i 3).val < win0_9.index ⟨_, hN⟩ 3 * 1024 + 1024; omega

theorem final_gain (c : Dev nD) : (dats m 0 c).arrAt 10 cfg0.N = gradGain (ct m c) (a3 m c) (a5 m c) := by
  refine (dats m 0 c).arrAt_eq_of_cover 10 _ (fun t hf => ?_) (fun i => ?_)
  · show (cfg0.win 10).cut (grid0.coords t) ((dats m 0 c).after 10 t) = _
    rw [after_10]
    obtain ⟨-, -, -, e0, e1⟩ := idx_out t
    funext y
    have hy0 : (y 0).val < 8 := (y 0).isLt
    have hy1 : (y 1).val < 1024 := (y 1).isLt
    have el : (cfg0.win 10).xinj (grid0.coords t) y = ix2 ⟨(y 0).val, hy0⟩ ⟨(y 1).val, hy1⟩ := by
      funext a; apply Fin.ext
      match a with
      | ⟨0, _⟩ => rfl
      | ⟨1, _⟩ => rfl
    have er : ((cfg0.win 10).blk t).view.emb y = ix2 ⟨(y 0).val, hy0⟩ ⟨(y 1).val, hy1⟩ := by
      funext a; apply Fin.ext
      match a with
      | ⟨0, _⟩ => show win0_10.index t 0 * 8 + 1 * (y 0).val = (y 0).val; omega
      | ⟨1, _⟩ => show win0_10.index t 1 * 1024 + 1 * (y 1).val = (y 1).val; omega
    show (gainAfter m c t.val t.isLt : S8x1024.Idx → EReal) ((cfg0.win 10).xinj (grid0.coords t) y) = gradGain _ _ _ (((cfg0.win 10).blk t).view.emb y)
    rw [el, er]
    exact gain_at _ N_0 (raises_gain m c) t ((flush0_10 t).mp hf) _ _
  · have h0 : (i 0).val < 8 := (i 0).isLt
    have h1 : (i 1).val < 1024 := (i 1).isLt
    have hN : 33 < cfg0.N := by show 33 < 34; omega
    refine ⟨⟨33, hN⟩, (flush0_10 _).mpr rfl, ?_⟩
    obtain ⟨-, -, -, e0, e1⟩ := idx_out ⟨33, hN⟩
    show i ∈ ((View.whole main_v0_3).slice (win0_10.rect ⟨33, hN⟩)).set
    rw [View.set_slice_whole, Rect.mem_set_unit]
    intro a
    match a with
    | ⟨0, _⟩ => show win0_10.index ⟨33, hN⟩ 0 * 8 ≤ (i 0).val ∧ (i 0).val < win0_10.index ⟨33, hN⟩ 0 * 8 + 8; omega
    | ⟨1, _⟩ => show win0_10.index ⟨33, hN⟩ 1 * 1024 ≤ (i 1).val ∧ (i 1).val < win0_10.index ⟨33, hN⟩ 1 * 1024 + 1024; omega

/-- The run, read: the four results are the gradients. -/
theorem run_results : θ_run defs (onTc (τ := τ) (main (F := Ideal))) ⟨m, fun _ => 0, ρ⟩ fun r => ∀ c : Dev nD,
      r.2.mem ((c : Thread nD τ).loc main_v0_0) = gradIn (ct m c) (a2 m c) (a3 m c) (a4 m c) (a5 m c)
      ∧ r.2.mem ((c : Thread nD τ).loc main_v0_1) = halvesArr (a0 m c) (a1 m c)
      ∧ r.2.mem ((c : Thread nD τ).loc main_v0_2) = gradMod (ct m c) (a3 m c) (a4 m c)
      ∧ r.2.mem ((c : Thread nD τ).loc main_v0_3) = gradGain (ct m c) (a3 m c) (a5 m c) :=
  (θ_run defs _ _).mono (fun _ h c => ⟨((h.1 c).1 7).trans (final_in m c), ((h.1 c).1 8).trans (final_halves m c),
    ((h.1 c).1 9).trans (final_mod m c), ((h.1 c).1 10).trans (final_gain m c)⟩) (run_main m ρ)

end Cert.Kernel3Ideal.Norm

end
-- ==== Proof.NormRef.lean ====
/- The reference's gradient of the norm, stage by stage, is the gradient of `NormMath`. -/
module

public import proofs.«01_k».proof.Proof.NormIdeal
public import proofs.«01_k».proof.Proof.Gen.Reference3Ideal.Read

@[expose] public section

set_option maxRecDepth 16384

noncomputable section

namespace Cert.Reference3Ideal.Norm

open Cert.Reference3Ideal Cert.Reference3Ideal.Gen Cert.Reference3Ideal.Read Cert.Norm
open Cert.Kernel3Ideal.Norm (halves dy)
open Cert.KernelIdeal.Band (IsReal)
open Idealize.ShloMosaic Idealize.ShloMosaic.TcCoe Idealize.SL.Sem

/-- The host's sum over the first two of three axes. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  unfold Ideal.hostReduceAdd
  refine congrArg (fun x => init + x) ?_
  rw [Finset.sum_filter, sum_idx3]
  refine Finset.sum_congr rfl fun a _ => Finset.sum_congr rfl fun b _ => ?_
  have e : ∀ c : Fin n2, h.drop (ix3 a b c) = ix1 l ↔ c = l := by
    intro c
    constructor
    · intro hc; exact Fin.ext (congrArg Fin.val (congrFun hc 0))
    · rintro rfl
      funext x; apply Fin.ext
      match x with
      | ⟨0, _⟩ => rfl
  rw [Finset.sum_congr rfl fun c _ => if_congr (e c) rfl rfl]
  exact (Finset.sum_ite_eq' _ _ _).trans (if_pos (Finset.mem_univ _))

variable (x0 x1 x2 x3 : S2x4352x1024.Idx → EReal) (x4 : S1x1024.Idx → EReal) (x5 : S2x2x8x1024.Idx → EReal) (x6 : S1024x2048.Idx → EReal)

theorem v14 (b : Fin 2) (t : Fin 4352) : val_main_v14 (F := Ideal) x3 (ix3 b t 0) = meanSq (rowOf x3 b t) := by
  pointwise [val_main_v14, val_main_v12, val_main_v10, val_main_v9, val_main_v8, val_main_v11, val_main_v13, val_main_cst, val_main_cst_0, val_main_cst_1]
  rfl

theorem v15 (b : Fin 2) (t : Fin 4352) : val_main_v15 (F := Ideal) x3 (ix3 b t 0) = recip (rowOf x3 b t) := by
  pointwise [val_main_v15]
  exact congrArg Ideal.rsqrt (v14 x3 b t)

theorem v18 (b : Fin 2) (t : Fin 4352) : val_main_v18 (F := Ideal) x3 (ix3 b t 0)
    = Ideal.ofBits .f32 0xBF000000#32 * Ideal.div (recip (rowOf x3 b t)) (meanSq (rowOf x3 b t)) := by
  pointwise [val_main_v18, val_main_v17, val_main_v16, val_main_cst_2]
  rw [v14, v15]

theorem v20 (b : Fin 2) (t : Fin 4352) (l : Fin 1024) : val_main_v20 (F := Ideal) x3 (ix3 b t l) = unit x3 b t l := by
  pointwise [val_main_v20, val_main_v19]
  rw [v15]
  rfl

theorem v23 (b : Fin 2) (t : Fin 4352) (l : Fin 1024) : val_main_v23 (F := Ideal) x3 x4 (ix3 b t l) = unit x3 b t l * x4 (ix2 0 l) := by
  pointwise [val_main_v23, val_main_v22, val_main_v21, val_main_v3]
  rw [v20]

theorem v30 (b : Fin 2) (t : Fin 4352) (l : Fin 1024) : val_main_v30 (F := Ideal) x5 (ix3 b t l) = onePlus x5 b t l := by
  pointwise [val_main_v30, val_main_v29, val_main_v28, val_main_v27, val_main_v26, val_main_v25, val_main_v24, val_main_v7, val_main_v6, val_main_cst_3]
  unfold onePlus seg
  by_cases h : t.val < 256
  · rw [dif_pos h, if_pos h]
  · rw [dif_neg h, if_neg h]

theorem v41 (b : Fin 2) (t : Fin 4352) (k : Fin 2048) : val_main_v41 (F := Ideal) x0 x1 (ix3 b t k) = halves x0 x1 b t k := by
  pointwise [val_main_v41, val_main_v0, val_main_v1]
  rfl

theorem v42 (b : Fin 2) (t : Fin 4352) (l : Fin 1024) : val_main_v42 (F := Ideal) x0 x1 x6 (ix3 b t l) = dy x0 x1 x6 b t l := by
  pointwise [val_main_v42, val_main_v2]
  exact Finset.sum_congr rfl fun k _ => congrArg (fun e : EReal => e * x6 (ix2 l k)) (v41 x0 x1 b t k)

/-- The two segments' sums, each padded with a zero row for the other, add up to the sum of a row's segment. -/
theorem segments (f g : Fin 4352 → EReal) (hf : ∀ t, f t = g t) (s : Fin 2) :
    ((if _h : 1 ≤ s.val ∧ s.val - 1 < 1 then ∑ x : Fin 4096, f ⟨256 + x.val, by omega⟩ else 0)
      + if _h : s.val < 1 then ∑ x : Fin 256, f ⟨x.val, by omega⟩ else 0) = segSum g s := by
  obtain rfl : f = g := funext hf
  have e0 : ∀ x : Fin 256, row x.val = ⟨x.val, by omega⟩ := fun x => Fin.ext (Nat.mod_eq_of_lt (by omega))
  have e1 : ∀ x : Fin 4096, row (256 + x.val) = ⟨256 + x.val, by omega⟩ := fun x => Fin.ext (Nat.mod_eq_of_lt (by omega))
  unfold segSum
  rcases Nat.lt_or_ge s.val 1 with h | h
  · rw [dif_neg (by omega), dif_pos h, if_pos (Fin.ext (by show s.val = 0; omega)), zero_add]
    exact Finset.sum_congr rfl fun x _ => congrArg f (e0 x).symm
  · have hs := s.isLt
    rw [dif_pos ⟨h, by omega⟩, dif_neg (by omega), if_neg (fun e => by have := congrArg Fin.val e; change s.val = 0 at this; omega), add_zero]
    exact Finset.sum_congr rfl fun x _ => congrArg f (e1 x).symm

/-- Rows of which the first two are named, one by one. -/
theorem first_two_rows (A B : EReal) (r : Fin 8) :
    (if _h : r.val < 1 then B else if _h : r.val - 1 < 1 then A else 0) = if r.val = 1 then A else if r.val = 0 then B else 0 := by
  by_cases h0 : r.val = 0
  · rw [dif_pos (by omega), if_neg (by omega), if_pos h0]
  · by_cases h1 : r.val = 1
    · rw [dif_neg (by omega), dif_pos (by omega), if_pos h1]
    · rw [dif_neg (by omega), dif_neg (by omega), if_neg h1, if_neg h0]

theorem v51 (b : Fin 2) (s : Fin 2) (l : Fin 1024) :
    val_main_v51 (F := Ideal) x0 x1 x6 (ix3 b s l) = segSum (fun t => dy x0 x1 x6 b t l) s := by
  pointwise [val_main_v51, val_main_v50, val_main_v49, val_main_v48, val_main_v47, val_main_v46, val_main_v45, val_main_v44, val_main_v43, val_main_cst_4, val_main_cst_5, val_main_cst_6, val_main_cst_7]
  exact segments (fun t => val_main_v42 (F := Ideal) x0 x1 x6 (ix3 b t l)) _ (fun t => v42 x0 x1 x6 b t l) s

theorem v62 (b : Fin 2) (s : Fin 2) (l : Fin 1024) : val_main_v62 (F := Ideal) x0 x1 x3 x4 x6 (ix3 b s l)
    = segSum (fun t => dy x0 x1 x6 b t l * (unit x3 b t l * x4 (ix2 0 l))) s := by
  pointwise [val_main_v62, val_main_v61, val_main_v60, val_main_v59, val_main_v58, val_main_v57, val_main_v56, val_main_v55, val_main_v54, val_main_v52, val_main_cst_8, val_main_cst_9, val_main_cst_10, val_main_cst_11]
  refine segments (fun t => val_main_v23 (F := Ideal) x3 x4 (ix3 b t l) * val_main_v42 (F := Ideal) x0 x1 x6 (ix3 b t l)) _ (fun t => ?_) s
  show val_main_v23 (F := Ideal) x3 x4 (ix3 b t l) * val_main_v42 (F := Ideal) x0 x1 x6 (ix3 b t l) = _
  rw [v23, v42, mul_comm]

theorem v63 (b : Fin 2) (t : Fin 4352) (l : Fin 1024) :
    val_main_v63 (F := Ideal) x0 x1 x3 x5 x6 (ix3 b t l) = dy x0 x1 x6 b t l * onePlus x5 b t l * unit x3 b t l := by
  pointwise [val_main_v63, val_main_v53]
  rw [v20, v42, v30, mul_comm]

theorem v65 (l : Fin 1024) : val_main_v65 (F := Ideal) x0 x1 x3 x5 x6 (ix3 0 0 l)
    = ∑ b : Fin 2, ∑ t : Fin 4352, dy x0 x1 x6 b t l * onePlus x5 b t l * unit x3 b t l := by
  have e : val_main_v65 (F := Ideal) x0 x1 x3 x5 x6 (ix3 0 0 l) = val_main_v64 (F := Ideal) x0 x1 x3 x5 x6 (ix1 l) := by
    unfold val_main_v65
    generalize val_main_v64 (F := Ideal) x0 x1 x3 x5 x6 = y
    pointwise
  rw [e]
  refine (sum_first_two _ _ _ l).trans ?_
  have z : (val_main_cst_12 (F := Ideal)) (Shape.Idx.first h_S_) = 0 := by pointwise [val_main_cst_12]
  rw [z, zero_add]
  exact Finset.sum_congr rfl fun b _ => Finset.sum_congr rfl fun t _ => v63 x0 x1 x3 x5 x6 b t l

theorem v68 (l : Fin 1024) : val_main_v68 (F := Ideal) x0 x1 x3 x5 x6 (ix1 l)
    = ∑ b : Fin 2, ∑ t : Fin 4352, dy x0 x1 x6 b t l * onePlus x5 b t l * unit x3 b t l := by
  refine (sum_first_two _ _ _ l).trans ?_
  have z : (val_main_cst_13 (F := Ideal)) (Shape.Idx.first h_S_) = 0 := by pointwise [val_main_cst_13]
  rw [z, zero_add, Fin.sum_univ_one, Fin.sum_univ_one]
  exact v65 x0 x1 x3 x5 x6 l

theorem v67 (b : Fin 2) (t : Fin 4352) (l : Fin 1024) :
    val_main_v67 (F := Ideal) x0 x1 x4 x5 x6 (ix3 b t l) = slope (dy x0 x1 x6) x4 x5 b t l := by
  pointwise [val_main_v67, val_main_v66, val_main_v53, val_main_v21, val_main_v3]
  rw [v42, v30]
  exact mul_right_comm _ _ _

theorem v78 (b : Fin 2) (t : Fin 4352) (l : Fin 1024) : val_main_v78 (F := Ideal) x0 x1 x3 x4 x5 x6 (ix3 b t l)
    = Ideal.div ((∑ x, x3 (ix3 b t x) * slope (dy x0 x1 x6) x4 x5 b t x)
        * (Ideal.ofBits .f32 0xBF000000#32 * Ideal.div (recip (rowOf x3 b t)) (meanSq (rowOf x3 b t)))) width := by
  pointwise [val_main_v78, val_main_v77, val_main_v76, val_main_v75, val_main_v74, val_main_v71, val_main_v70, val_main_v69, val_main_cst_14, val_main_cst_15, val_main_cst_16]
  rw [Fin.sum_univ_one, v18, Finset.sum_congr rfl fun x _ => congrArg (fun e : EReal => x3 (ix3 b t x) * e) (v67 x0 x1 x4 x5 x6 b t x)]

/-- The gradient of the rows, where the rows and the cotangent of the scaled rows are real. -/
theorem v83 (hh : ∀ i, IsReal (x3 i)) (hd : ∀ b t l, IsReal (slope (dy x0 x1 x6) x4 x5 b t l)) :
    val_main_v83 (F := Ideal) x0 x1 x2 x3 x4 x5 x6 = gradIn (dy x0 x1 x6) x2 x3 x4 x5 := by
  funext i
  obtain ⟨b, t, l, rfl⟩ : ∃ b t l, i = ix3 b t l := ⟨i 0, i 1, i 2, eq_ix3 i⟩
  rw [gradIn_eq _ _ _ _ _ _ _ _ hh (hd b t)]
  pointwise [val_main_v83, val_main_v82, val_main_v81, val_main_v80, val_main_v79, val_main_v73, val_main_v72]
  rw [v67, v15, v78]

theorem v84 : val_main_v84 (F := Ideal) x0 x1 = fun i => halves x0 x1 (i 0) (i 1) (i 2) := by
  funext i
  obtain ⟨b, t, l, rfl⟩ : ∃ b t l, i = ix3 b t l := ⟨i 0, i 1, i 2, eq_ix3 i⟩
  pointwise [val_main_v84]
  exact v41 x0 x1 b t l

theorem v88 : val_main_v88 (F := Ideal) x0 x1 x3 x4 x6 = gradMod (dy x0 x1 x6) x3 x4 := by
  funext i
  obtain ⟨b, s, r, l, rfl⟩ : ∃ b s r l, i = ix4 b s r l := ⟨i 0, i 1, i 2, i 3, eq_ix4 i⟩
  pointwise [val_main_v88, val_main_v85, val_main_v86, val_main_v87, val_main_cst_17]
  show _ = if r.val = 1 then segSum (fun t => dy x0 x1 x6 b t l * (unit x3 b t l * x4 (ix2 0 l))) s
    else if r.val = 0 then segSum (fun t => dy x0 x1 x6 b t l) s else 0
  rw [v51, v62]
  exact first_two_rows _ _ r

theorem v91 : val_main_v91 (F := Ideal) x0 x1 x3 x5 x6 = gradGain (dy x0 x1 x6) x3 x5 := by
  funext i
  obtain ⟨r, l, rfl⟩ : ∃ r l, i = ix2 r l := ⟨i 0, i 1, eq_ix2 i⟩
  pointwise [val_main_v91, val_main_v89, val_main_v90, val_main_cst_18]
  show _ = if r.val = 0 then ∑ b : Fin 2, ∑ t : Fin 4352, dy x0 x1 x6 b t l * onePlus x5 b t l * unit x3 b t l else 0
  rw [v68]
  by_cases h0 : r.val = 0
  · rw [dif_pos (by omega), if_pos h0]
  · rw [dif_neg (by omega), if_neg h0]

end Cert.Reference3Ideal.Norm

end
-- ==== Proof.NormFinite.lean ====
/- What the norm's precondition says over the reals: every element of the cotangents, the rows, the gain, the modulation's scale and
   the weights is a real number, and so is every cotangent of the scaled rows. -/
module

public import proofs.«01_k».proof.Pre_finite3
public import proofs.«01_k».proof.Proof.Finite
public import proofs.«01_k».proof.Proof.NormIdeal

@[expose] public section

noncomputable section

namespace Cert.NormFinite

open Idealize.ShloMosaic Cert.Norm Cert.Finite
open Cert.KernelIdeal.Band (IsReal)
open Cert.Kernel3Ideal.Norm (halves dy)

instance [Cert.Pre_finite3.Facts] : Subsingleton Cert.Pre_finite3.S_.Idx := ⟨fun _ _ => funext fun a => a.elim0⟩

theorem ands (c d : IVec Cert.Pre_finite3.S_ 1) : andi c d ix0 = 1#1 ↔ c ix0 = 1#1 ∧ d ix0 = 1#1 := by
  show c ix0 &&& d ix0 = 1#1 ↔ _
  generalize c ix0 = x
  generalize d ix0 = y
  revert x y
  decide

/-- An element whose comparison below infinity came out one is real. -/
theorem isReal_of_olt (x : EReal)
    (h : BitVec.ofBool (decide (FloatOps.absf (F := Ideal) (φ := .f32) x < Ideal.ofBits .f32 2139095040#32)) = 1#1) : IsReal x := by
  refine isReal_of_abs_lt _ ?_
  have top : Ideal.ofBits .f32 0x7F800000#32 = ⊤ := by simp [Ideal.ofBits, Ideal.ieee]
  rw [show (2139095040#32) = 0x7F800000#32 from rfl, top] at h
  by_contra hc
  rw [decide_eq_false (show ¬ FloatOps.absf (F := Ideal) (φ := .f32) x < ⊤ from hc)] at h
  exact absurd h (by decide)

/-- The precondition, argument by argument. -/
theorem isReal_of_pre [Cert.Pre_finite3.Facts] (x0 x1 x2 x3 : Cert.Pre_finite3.S2x4352x1024.Idx → EReal)
    (x4 : Cert.Pre_finite3.S1x1024.Idx → EReal) (x5 : Cert.Pre_finite3.S2x2x8x1024.Idx → EReal) (x6 : Cert.Pre_finite3.S1024x2048.Idx → EReal)
    (h : Cert.Pre_finite3.fn (F := Ideal) x0 x1 x2 x3 x4 x5 x6 = fun _ => 1#1) :
    (∀ i, IsReal (x0 i)) ∧ (∀ i, IsReal (x1 i)) ∧ (∀ i, IsReal (x3 i)) ∧ (∀ i, IsReal (x4 i)) ∧ (∀ b s l, IsReal (x5 (ix4 b s 1 l))) ∧ (∀ i, IsReal (x6 i)) := by
  have e := congrFun h ix0
  unfold Cert.Pre_finite3.fn Cert.Pre_finite3.fn_part1 at e
  obtain ⟨e, h6⟩ := (ands _ _).mp e
  obtain ⟨e, h5⟩ := (ands _ _).mp e
  obtain ⟨e, h4⟩ := (ands _ _).mp e
  obtain ⟨e, h3⟩ := (ands _ _).mp e
  obtain ⟨h0, h1⟩ := (ands _ _).mp e
  refine ⟨fun i => ?_, fun i => ?_, fun i => ?_, fun i => ?_, fun b s l => ?_, fun i => ?_⟩
  · have q := Host.reduce_andi_all _ _ _ _ _ h0 i
    revert q; pointwise; exact isReal_of_olt _
  · have q := Host.reduce_andi_all _ _ _ _ _ h1 i
    revert q; pointwise; exact isReal_of_olt _
  · have q := Host.reduce_andi_all _ _ _ _ _ h3 i
    revert q; pointwise; exact isReal_of_olt _
  · have q := Host.reduce_andi_all _ _ _ _ _ h4 i
    revert q; pointwise; exact isReal_of_olt _
  · have q := Host.reduce_andi_all _ _ _ _ _ h5 (ix3 b s l)
    revert q; pointwise; exact isReal_of_olt _
  · have q := Host.reduce_andi_all _ _ _ _ _ h6 i
    revert q; pointwise; exact isReal_of_olt _

/-- Real cotangents, gain, scales and weights make the cotangent of the scaled rows real. -/
theorem slope_real (x0 x1 : RowsOf) (g : Gain) (md : Modulation) (w : Cert.Kernel3Ideal.S1024x2048.Idx → EReal) (h0 : ∀ i, IsReal (x0 i))
    (h1 : ∀ i, IsReal (x1 i)) (hg : ∀ i, IsReal (g i)) (hm : ∀ b s l, IsReal (md (ix4 b s 1 l))) (hw : ∀ i, IsReal (w i))
    (b : Fin 2) (t : Fin 4352) (l : Fin 1024) : IsReal (slope (dy x0 x1 w) g md b t l) := by
  have hv : ∀ k, IsReal (halves x0 x1 b t k) := by
    intro k
    unfold halves
    split
    · exact h0 _
    · exact h1 _
  exact ((isReal_sum fun k => (hv k).mul (hw _)).mul (hg _)).mul (isReal_add ⟨1, rfl⟩ (hm _ _ _))

end Cert.NormFinite

end
-- ==== Proof.NormClaim.lean ====
/- The claims about the gradient of the odd layers' norm and input product. -/
module

public import proofs.«01_k».proof.Defs
public import proofs.«01_k».proof.Proof.NormArray
public import proofs.«01_k».proof.Proof.NormRef
public import proofs.«01_k».proof.Proof.NormFinite
public import proofs.«01_k».proof.Proof.Gen.Reference3Ideal.Run
public import proofs.«01_k».proof.Proof.Gen.Kernel3
public import Idealize.ShloMosaic.Lib.Quiescent

@[expose] public section

set_option maxRecDepth 16384

noncomputable section

namespace Cert.NormClaim

open Idealize.ShloMosaic Idealize.ShloMosaic.TcCoe Idealize.SL.Sem Cert.Norm
open Cert.Kernel3Ideal.Norm (ct a0 a1 a2 a3 a4 a5 a6 halvesArr)

/-- The two programs' body tables are one. -/
theorem bodies : @Cert.Kernel3.defs₀ Bits _ _ = @Cert.Kernel3Ideal.defs₀ Bits _ _ := by
  refine congrArg Defs.onTc ?_
  funext l a
  match l, a with
  | 0, (t, s) => rfl

theorem tables : @Cert.Kernel3.defs Bits _ _ = @Cert.Kernel3Ideal.defs Bits _ _ :=
  congrArg (Pipeline.defs Cert.Kernel3Ideal.pcfgs) bodies

theorem frame_kernel : Cert.quiescent_Kernel3 := by
  intro m ρ _
  rw [tables]
  exact Cert.Kernel3Ideal.Norm.frame (F := Bits) m ρ

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem algebraic [Cert.Pre_finite3.Facts] : Cert.algebraic_Kernel3Ideal_Reference3Ideal_pre_finite3 := by
  intro m ρ m' ρ' hp hagree
  refine ⟨fun c => gradIn (ct m c) (a2 m c) (a3 m c) (a4 m c) (a5 m c), fun c => halvesArr (a0 m c) (a1 m c),
    fun c => gradMod (ct m c) (a3 m c) (a4 m c), fun c => gradGain (ct m c) (a3 m c) (a5 m c), ?_, ?_⟩
  · refine (θ_run Cert.Kernel3Ideal.defs _ _).mono (fun _ h c => ?_)
      (θ_run_and (Cert.Kernel3Ideal.Norm.run_results m ρ) (Cert.Kernel3Ideal.Norm.frame m ρ))
    obtain ⟨r0, r1, r2, r3⟩ := h.1 c
    exact ⟨r0, r1, r2, r3, h.2.1 c⟩
  · refine (θ_run Cert.Reference3Ideal.defs _ _).mono (fun _ h c => ?_) (Cert.Reference3Ideal.Value.run (F := Ideal) m' ρ')
    obtain ⟨r0, r1, r2, r3, rest⟩ := h c
    obtain ⟨h0, h1, h2, h3, h4, h5, h6⟩ := hagree c
    obtain ⟨f0, f1, f3, f4, f5, f6⟩ := Cert.NormFinite.isReal_of_pre _ _ _ _ _ _ _ (hp c)
    refine ⟨r0.trans ?_, r1.trans ?_, r2.trans ?_, r3.trans ?_, rest⟩
    · refine (Cert.Reference3Ideal.Read.val_main_v83_eq m' c).trans ?_
      rw [h0, h1, h2, h3, h4, h5, h6]
      exact Cert.Reference3Ideal.Norm.v83 _ _ _ _ _ _ _ f3 (Cert.NormFinite.slope_real _ _ _ _ _ f0 f1 f4 f5 f6)
    · refine (Cert.Reference3Ideal.Read.val_main_v84_eq _ _).trans ?_
      rw [h0, h1]
      exact Cert.Reference3Ideal.Norm.v84 _ _
    · refine (Cert.Reference3Ideal.Read.val_main_v88_eq m' c).trans ?_
      rw [h0, h1, h3, h4, h6]
      exact Cert.Reference3Ideal.Norm.v88 _ _ _ _ _
    · refine (Cert.Reference3Ideal.Read.val_main_v91_eq _ _ _ _ _).trans ?_
      rw [h0, h1, h3, h5, h6]
      exact Cert.Reference3Ideal.Norm.v91 _ _ _ _ _

end Cert.NormClaim

end
-- ==== Proof.EvenRun.lean ====
/- One grid step of the even layers' projection-and-norm gradient kernel, at any values: what the body leaves in its four
   results' blocks. The step past the product with the weights is the odd layers', on the even layers' block of the
   gradient of the norm's result. -/
module

public import proofs.«01_k».proof.Proof.Gen.Kernel8Ideal.Frame
public import proofs.«01_k».proof.Proof.Gen.Kernel8Ideal.Skeleton
public import proofs.«01_k».proof.Proof.NormRun

@[expose] public section

set_option maxRecDepth 16384

noncomputable section

namespace Cert.Kernel8Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal.Gen Cert.Rows
open Cert.Kernel3Ideal.Norm (leftIn leftMod leftGain)

variable {F : FTy → Type} [FloatOps F]

local notation "𝕄" => MT nD τ sig Unit (Elt F) ℕ (UR sig nD τ) ℕ

/-- The step starts a new block of the modulation gradient. -/
abbrev startsMod (i : grid0.Coords) : Prop :=
  (Scalar.cmpi .ne (Scalar.extui (Scalar.cmpi .sle (BitVec.ofNat 32 (i 1).val) 1#32)) 0#32) = 1#1

/-- The step is the first of all: it starts the gain gradient. -/
abbrev startsGain (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-! ## The payloads past the product are the odd layers' -/

theorem recip_same (x : Vec F S1x256x1024 .f32) : k0_pay6 (k0_pay5 x) = Cert.Kernel3Ideal.Gen.k0_pay6 x := rfl
theorem unit_same (x : Vec F S1x256x1024 .f32) : k0_pay7 (k0_pay4 x) (k0_pay5 x) = Cert.Kernel3Ideal.Gen.k0_pay7 x := rfl
theorem scale_same (x : Vec F S1x1x1x1024 .f32) : k0_pay8 x = Cert.Kernel3Ideal.Gen.k0_pay8 x := rfl
theorem noMod_same : (k0_pay9 : FVec F S1x1x8x1024 .f32) = Cert.Kernel3Ideal.Gen.k0_pay9 := rfl
theorem noGain_same : (k0_pay10 : FVec F S8x1024 .f32) = Cert.Kernel3Ideal.Gen.k0_pay10 := rfl
theorem shift_same (v : FVec F S256x1024 .f32) (w : Vec F S1x1x1x1024 .f32) : k0_pay11 v w = Cert.Kernel3Ideal.Gen.k0_pay11 v w := rfl
theorem scaled_same (v u : FVec F S256x1024 .f32) (g : Vec F S1x1024 .f32) (w : Vec F S1x1x1x1024 .f32) :
    k0_pay12 v u g w = Cert.Kernel3Ideal.Gen.k0_pay12 v u g w := rfl
theorem gained_same (v u : FVec F S256x1024 .f32) (s w : FVec F S1x1024 .f32) : k0_pay13 v u s w = Cert.Kernel3Ideal.Gen.k0_pay13 v u s w := rfl
theorem in_same (v : FVec F S256x1024 .f32) (r : FVec F S256x1 .f32) (u : FVec F S256x1024 .f32) (g : Vec F S1x1024 .f32)
    (s : FVec F S1x1024 .f32) (d : Vec F S1x256x1024 .f32) : k0_pay14 v r u g s d = Cert.Kernel3Ideal.Gen.k0_pay1 v r u g s d := rfl

theorem leftIn_eq (v : FVec F S256x1024 .f32) (x7 x8 : Vec F S1x256x1024 .f32) (x9 : Vec F S1x1024 .f32) (x10 : Vec F S1x1x8x1024 .f32) :
    leftIn v x7 x8 x9 x10 = k0_pay14 v (k0_pay6 (k0_pay5 x8)) (k0_pay7 (k0_pay4 x8) (k0_pay5 x8)) x9 (k0_pay8 (blockRow 1 x10)) x7 := by
  rw [in_same, recip_same, unit_same, scale_same]; rfl

theorem leftMod_eq (p : Prop) [Decidable p] (v : FVec F S256x1024 .f32) (x8 : Vec F S1x256x1024 .f32) (x9 : Vec F S1x1024 .f32)
    (d : Vec F S1x1x8x1024 .f32) : leftMod p v x8 x9 d = setBlock (if p then k0_pay9 else d) (k0_pay11 v (blockRow 0 (if p then k0_pay9 else d)))
      (k0_pay12 v (k0_pay7 (k0_pay4 x8) (k0_pay5 x8)) x9 (blockRow 1 (if p then k0_pay9 else d))) := by
  rw [noMod_same, shift_same, unit_same, scaled_same]; rfl

theorem leftGain_eq (p : Prop) [Decidable p] (v : FVec F S256x1024 .f32) (x8 : Vec F S1x256x1024 .f32) (x10 : Vec F S1x1x8x1024 .f32)
    (d : Vec F S8x1024 .f32) : leftGain p v x8 x10 d = setEight (if p then k0_pay10 else d)
      (k0_pay13 v (k0_pay7 (k0_pay4 x8) (k0_pay5 x8)) (k0_pay8 (blockRow 1 x10)) (eightRow (if p then k0_pay10 else d))) := by
  rw [noGain_same, unit_same, scale_same, gained_same]; rfl

/-- The block of the gradient of the norm's result: the five parts' gradient times the weights. -/
abbrev normed (x0 : Vec F S1x256x512 .bf16) (x1 : Vec F S1x256x256 .f32) (x2 : Vec F S1x256x512 .bf16) (x3 : Vec F S1x256x512 .f32)
    (x4 : Vec F S1x256x512 .bf16) (x5 : Vec F S1x256x512 .f32) (x6 : Vec F S1x512 .f32) (x11 : Vec F S1024x2304 .bf16) : FVec F S256x1024 .f32 :=
  k0_pay3 x0 x1 x2 x3 x4 x5 x6 x11

set_option maxHeartbeats 8000000 in
/-- The body run on whole staging memrefs: the inputs' blocks stay, the results' blocks end as stated. The four ways
    the two branches can fall run alike. -/
theorem body_run (c : Dev nD) (i : grid0.Coords)
    (arg2 : Memref sig .tc .vmem S1x256x512 .bf16) (harg2 : arg2.IsWhole)
    (arg3 : Memref sig .tc .vmem S1x256x256 .f32) (harg3 : arg3.IsWhole)
    (arg4 : Memref sig .tc .vmem S1x256x512 .bf16) (harg4 : arg4.IsWhole)
    (arg5 : Memref sig .tc .vmem S1x256x512 .f32) (harg5 : arg5.IsWhole)
    (arg6 : Memref sig .tc .vmem S1x256x512 .bf16) (harg6 : arg6.IsWhole)
    (arg7 : Memref sig .tc .vmem S1x256x512 .f32) (harg7 : arg7.IsWhole)
    (arg8 : Memref sig .tc .vmem S1x512 .f32) (harg8 : arg8.IsWhole)
    (arg9 : Memref sig .tc .vmem S1x256x1024 .f32) (harg9 : arg9.IsWhole)
    (arg10 : Memref sig .tc .vmem S1x256x1024 .f32) (harg10 : arg10.IsWhole)
    (arg11 : Memref sig .tc .vmem S1x1024 .f32) (harg11 : arg11.IsWhole)
    (arg12 : Memref sig .tc .vmem S1x1x8x1024 .f32) (harg12 : arg12.IsWhole)
    (arg13 : Memref sig .tc .vmem S1024x2304 .bf16) (harg13 : arg13.IsWhole)
    (arg14 : Memref sig .tc .vmem S1x256x1024 .f32) (harg14 : arg14.IsWhole)
    (arg15 : Memref sig .tc .vmem S1x256x2304 .bf16) (harg15 : arg15.IsWhole)
    (arg16 : Memref sig .tc .vmem S1x1x8x1024 .f32) (harg16 : arg16.IsWhole)
    (arg17 : Memref sig .tc .vmem S8x1024 .f32) (harg17 : arg17.IsWhole)
    (x0 : Vec F S1x256x512 .bf16) (x1 : Vec F S1x256x256 .f32) (x2 : Vec F S1x256x512 .bf16) (x3 : Vec F S1x256x512 .f32) (x4 : Vec F S1x256x512 .bf16) (x5 : Vec F S1x256x512 .f32) (x6 : Vec F S1x512 .f32) (x7 : Vec F S1x256x1024 .f32) (x8 : Vec F S1x256x1024 .f32) (x9 : Vec F S1x1024 .f32) (x10 : Vec F S1x1x8x1024 .f32) (x11 : Vec F S1024x2304 .bf16) (x14 : Vec F S1x1x8x1024 .f32) (x15 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare x14 ∗ owns (c : Thread nD τ) arg17 fullShare x15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (leftIn (normed x0 x1 x2 x3 x4 x5 x6 x11) x7 x8 x9 x10) ∗ owns (c : Thread nD τ) arg15 fullShare (k0_pay2 x0 x1 x2 x3 x4 x5 x6) ∗ owns (c : Thread nD τ) arg16 fullShare (leftMod (startsMod i) (normed x0 x1 x2 x3 x4 x5 x6 x11) x8 x9 x14) ∗ owns (c : Thread nD τ) arg17 fullShare (leftGain (startsGain i) (normed x0 x1 x2 x3 x4 x5 x6 x11) x8 x10 x15)) -∗ K ⟨⟩))
      ⊢ wp frame (wpE (defs₀ (F := F)) Variants.none c none) E
          (cc0_even_in_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc0 : startsMod i <;> by_cases hc1 : startsGain i
  all_goals
    have e0 : View.readAt (Elt F) arg2.view (Rect.unit ![0, 0, 0] S1x256x512.size inb_S1x256x512_S1x256x512_0_0_0).toLoadRect (harg2.unread x0) = x0 :=
      (View.readAt_full ..).trans (harg2.read_unread _)
    have e1 : View.readAt (Elt F) arg3.view (Rect.unit ![0, 0, 0] S1x256x256.size inb_S1x256x256_S1x256x256_0_0_0).toLoadRect (harg3.unread x1) = x1 :=
      (View.readAt_full ..).trans (harg3.read_unread _)
    have e2 : View.readAt (Elt F) arg4.view (Rect.unit ![0, 0, 0] S1x256x512.size inb_S1x256x512_S1x256x512_0_0_0).toLoadRect (harg4.unread x2) = x2 :=
      (View.readAt_full ..).trans (harg4.read_unread _)
    have e3 : View.readAt (Elt F) arg5.view (Rect.unit ![0, 0, 0] S1x256x512.size inb_S1x256x512_S1x256x512_0_0_0).toLoadRect (harg5.unread x3) = x3 :=
      (View.readAt_full ..).trans (harg5.read_unread _)
    have e4 : View.readAt (Elt F) arg6.view (Rect.unit ![0, 0, 0] S1x256x512.size inb_S1x256x512_S1x256x512_0_0_0).toLoadRect (harg6.unread x4) = x4 :=
      (View.readAt_full ..).trans (harg6.read_unread _)
    have e5 : View.readAt (Elt F) arg7.view (Rect.unit ![0, 0, 0] S1x256x512.size inb_S1x256x512_S1x256x512_0_0_0).toLoadRect (harg7.unread x5) = x5 :=
      (View.readAt_full ..).trans (harg7.read_unread _)
    have e6 : View.readAt (Elt F) arg8.view (Rect.unit ![0, 0] S1x512.size inb_S1x512_S1x512_0_0).toLoadRect (harg8.unread x6) = x6 :=
      (View.readAt_full ..).trans (harg8.read_unread _)
    have e7 : View.readAt (Elt F) arg9.view (Rect.unit ![0, 0, 0] S1x256x1024.size inb_S1x256x1024_S1x256x1024_0_0_0).toLoadRect (harg9.unread x7) = x7 :=
      (View.readAt_full ..).trans (harg9.read_unread _)
    have e8 : View.readAt (Elt F) arg10.view (Rect.unit ![0, 0, 0] S1x256x1024.size inb_S1x256x1024_S1x256x1024_0_0_0).toLoadRect (harg10.unread x8) = x8 :=
      (View.readAt_full ..).trans (harg10.read_unread _)
    have e9 : View.readAt (Elt F) arg11.view (Rect.unit ![0, 0] S1x1024.size inb_S1x1024_S1x1024_0_0).toLoadRect (harg11.unread x9) = x9 :=
      (View.readAt_full ..).trans (harg11.read_unread _)
    have e10 : View.readAt (Elt F) arg12.view (Rect.unit (s := S1x1x8x1024) ![0, 0, 1, 0] S1x1x1x1024.size inb_S1x1x8x1024_S1x1x1x1024_0_0_1_0).toLoadRect (harg12.unread x10) = blockRow 1 x10 :=
      (readAt_blockRow arg12.view _ 1 _ rfl _).trans (congrArg _ (harg12.read_unread _))
    have e11 : View.readAt (Elt F) arg13.view (Rect.unit ![0, 0] S1024x2304.size inb_S1024x2304_S1024x2304_0_0).toLoadRect (harg13.unread x11) = x11 :=
      (View.readAt_full ..).trans (harg13.read_unread _)
    simp only [cc0_even_in_bwd_eq_skeleton]; unfold cc0_even_in_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg16.eq_unread hf14
    obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; swap; · iexact H12
      ipureintro
      rw [leftIn_eq]
      exact View.read_writes_full ..
    isplitl [H13]
    · iexists _; isplitr; swap; · iexact H13
      ipureintro
      exact View.read_writes_full ..
    isplitl [H14]
    · iexists _; isplitr; swap; · iexact H14
      ipureintro
      rw [leftMod_eq]
      refine (read_setBlock arg16.view ..).trans (setBlock_congr ?_ (congrArg (k0_pay11 (normed x0 x1 x2 x3 x4 x5 x6 x11)) ?_)
        (congrArg (k0_pay12 (normed x0 x1 x2 x3 x4 x5 x6 x11) (k0_pay7 (k0_pay4 x8) (k0_pay5 x8)) x9) ?_))
      · first
          | (refine Eq.trans ?_ (if_neg hc0).symm; exact harg16.read_unread _)
          | (refine Eq.trans ?_ (if_pos hc0).symm; exact View.read_writes_full ..)
      · first
          | (refine Eq.trans ?_ (congrArg (blockRow 0) (if_neg hc0)).symm
             exact (readAt_blockRow arg16.view _ 0 ![0, 0, 0, 0] rfl _).trans (congrArg (blockRow 0) (harg16.read_unread _)))
          | (refine Eq.trans ?_ (congrArg (blockRow 0) (if_pos hc0)).symm
             exact (readAt_blockRow arg16.view _ 0 ![0, 0, 0, 0] rfl _).trans (congrArg (blockRow 0) (View.read_writes_full ..)))
      · first
          | (refine Eq.trans ?_ (congrArg (blockRow 1) (if_neg hc0)).symm
             exact (readAt_blockRow arg16.view _ 1 ![0, 0, 1, 0] rfl _).trans (congrArg (blockRow 1) (harg16.read_unread _)))
          | (refine Eq.trans ?_ (congrArg (blockRow 1) (if_pos hc0)).symm
             exact (readAt_row_one arg16.view ..).trans (congrArg (blockRow 1) (View.read_writes_full ..)))
    iexists _; isplitr; swap; · iexact H15
    ipureintro
    rw [leftGain_eq]
    refine (read_setEight arg17.view ..).trans (congrArg₂ setEight ?_ (congrArg (k0_pay13 (normed x0 x1 x2 x3 x4 x5 x6 x11) (k0_pay7 (k0_pay4 x8) (k0_pay5 x8)) (k0_pay8 (blockRow 1 x10))) ?_))
    · first
        | (refine Eq.trans ?_ (if_neg hc1).symm; exact harg17.read_unread _)
        | (refine Eq.trans ?_ (if_pos hc1).symm; exact View.read_writes_full ..)
    · first
        | (refine Eq.trans ?_ (congrArg eightRow (if_neg hc1)).symm
           exact (readAt_eightRow arg17.view _ ![0, 0] rfl _).trans (congrArg eightRow (harg17.read_unread _)))
        | (refine Eq.trans ?_ (congrArg eightRow (if_pos hc1)).symm
           exact (readAt_eightRow arg17.view _ ![0, 0] rfl _).trans (congrArg eightRow (View.read_writes_full ..)))

end Cert.Kernel8Ideal.Norm

end
-- ==== Proof.EvenFrame.lean ====
/- The even layers' projection-and-norm gradient kernel launched, at any values: what its four results' blocks hold after
   every grid step, the body at every step, and the run with every array named. -/
module

public import proofs.«01_k».proof.Proof.EvenRun
public import proofs.«01_k».proof.Proof.NormFrame
public import Idealize.ShloMosaic.Lib.Pipeline.FrameBody
public import Idealize.ShloMosaic.Lib.WordCmp
public import Idealize.ShloMosaic.Lib.Claim

@[expose] public section

set_option maxRecDepth 16384

noncomputable section

namespace Cert.Kernel8Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen Cert.Rows
open Cert.Kernel3Ideal.Norm (leftIn leftMod leftGain leftMod_start leftGain_start)
open Cert.Norm (afterSteps afterSteps_left)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The modulation gradient's block is started at the first two steps of a sequence. -/
theorem startsMod_iff : ∀ t : Fin cfg0.N, startsMod (grid0.coords t) ↔ t.val % 17 ≤ 1 :=
  (by decide +kernel : ∀ t : Fin grid0.N, startsMod (grid0.coords t) ↔ t.val % 17 ≤ 1)

/-- The gain gradient is started at the first step. -/
theorem startsGain_iff : ∀ t : Fin cfg0.N, startsGain (grid0.coords t) ↔ t.val = 0 :=
  (by decide +kernel : ∀ t : Fin grid0.N, startsGain (grid0.coords t) ↔ t.val = 0)

/-- The modulation gradient's block is written back after the first and the last step of a sequence. -/
theorem flush_mod : ∀ t : Fin cfg0.N, (cfg0.win 14).flush t = true ↔ t.val % 17 = 0 ∨ t.val % 17 = 16 :=
  (by decide +kernel : ∀ t : Fin grid0.N, win0_14.flush t = true ↔ t.val % 17 = 0 ∨ t.val % 17 = 16)

/-- A step's block of the gradient of the norm's result. -/
abbrev normedAt (c : Dev nD) (t : Fin cfg0.N) : FVec F S256x1024 .f32 :=
  normed (iblk m c 0 t) (iblk m c 1 t) (iblk m c 2 t) (iblk m c 3 t) (iblk m c 4 t) (iblk m c 5 t) (iblk m c 6 t) (iblk m c 11 t)

/-- A step's modulation gradient block over what was there. -/
abbrev stepMod (c : Dev nD) (t : Fin cfg0.N) (d : Vec F S1x1x8x1024 .f32) : Vec F S1x1x8x1024 .f32 :=
  leftMod (startsMod (grid0.coords t)) (normedAt m c t) (iblk m c 8 t) (iblk m c 9 t) d

/-- A step's gain gradient over what was there. -/
abbrev stepGain (c : Dev nD) (t : Fin cfg0.N) (d : Vec F S8x1024 .f32) : Vec F S8x1024 .f32 :=
  leftGain (startsGain (grid0.coords t)) (normedAt m c t) (iblk m c 8 t) (iblk m c 10 t) d

/-- The modulation gradient's block after step `n`. -/
abbrev modAfter (c : Dev nD) (n : ℕ) (h : n < cfg0.N) : Vec F S1x1x8x1024 .f32 := afterSteps (stepMod m c) k0_pay9 n h

/-- The gain gradient after step `n`. -/
abbrev gainAfter (c : Dev nD) (n : ℕ) (h : n < cfg0.N) : Vec F S8x1024 .f32 := afterSteps (stepGain m c) k0_pay10 n h

/-- The input gradient's block after a step. -/
def inAfter (c : Dev nD) (t : Fin cfg0.N) : Vec F S1x256x1024 .f32 :=
  leftIn (normedAt m c t) (iblk m c 7 t) (iblk m c 8 t) (iblk m c 9 t) (iblk m c 10 t)

/-- The parts' gradient's block after a step. -/
def partsAfter (c : Dev nD) (t : Fin cfg0.N) : Vec F S1x256x2304 .bf16 :=
  k0_pay2 (iblk m c 0 t) (iblk m c 1 t) (iblk m c 2 t) (iblk m c 3 t) (iblk m c 4 t) (iblk m c 5 t) (iblk m c 6 t)

/-- The arrays as the region finds them, and each window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => inAfter m c t
    | ⟨13, _⟩ => partsAfter m c t
    | ⟨14, _⟩ => modAfter m c t.val t.isLt
    | ⟨15, _⟩ => gainAfter m c t.val t.isLt
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = inAfter m c t := by dsimp only [dats]
theorem after_13 (c : Dev nD) (t : Fin cfg0.N) : (dats m 0 c).after 13 t = partsAfter m c t := by dsimp only [dats]
theorem after_14 (c : Dev nD) (t : Fin cfg0.N) : (dats m 0 c).after 14 t = modAfter m c t.val t.isLt := by dsimp only [dats]
theorem after_15 (c : Dev nD) (t : Fin cfg0.N) : (dats m 0 c).after 15 t = gainAfter m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- Past the first two steps of a sequence the modulation gradient's block holds what the step before left. -/
theorem before_14 (c : Dev nD) (t : Fin cfg0.N) (h : ¬ t.val % 17 ≤ 1) (d) :
    (dats m 0 c).before 14 t d = modAfter m c (t.val - 1) (Nat.lt_of_le_of_lt (Nat.sub_le _ _) t.isLt) := by
  rw [Dat.before_out_kept _ 14 rfl t (by omega)
    (Bool.eq_false_iff.mpr fun e => by have := (flush_mod _).mp e; dsimp only at this; omega) (fun _ => rfl) (fun _ _ => rfl)]
  dsimp only [dats]

/-- Past the first step the gain gradient holds what the step before left. -/
theorem before_15 (c : Dev nD) (t : Fin cfg0.N) (h : t.val ≠ 0) (d) :
    (dats m 0 c).before 15 t d = gainAfter m c (t.val - 1) (Nat.lt_of_le_of_lt (Nat.sub_le _ _) t.isLt) := by
  have hN : t.val < 34 := lt_of_lt_of_eq t.isLt (show cfg0.N = 34 from N_0)
  rw [Dat.before_out_kept _ 15 rfl t (by omega)
    (Bool.eq_false_iff.mpr fun e => by have := (flush0_15 _).mp e; dsimp only at this; omega) (fun _ => rfl) (fun _ _ => rfl)]
  dsimp only [dats]

/-- A step over what it finds leaves the modulation gradient's block as named. -/
theorem mod_left (c : Dev nD) (t : Fin cfg0.N) (d) :
    stepMod m c t ((dats m 0 c).before 14 t d) = modAfter m c t.val t.isLt :=
  afterSteps_left _ _ t _ (t.val % 17 ≤ 1) (by omega) (fun h => leftMod_start _ ((startsMod_iff t).mpr h) _ _ _) (fun h => before_14 m c t h d)

/-- A step over what it finds leaves the gain gradient as named. -/
theorem gain_left (c : Dev nD) (t : Fin cfg0.N) (d) :
    stepGain m c t ((dats m 0 c).before 15 t d) = gainAfter m c t.val t.isLt :=
  afterSteps_left _ _ t _ (t.val = 0) id (fun h => leftGain_start _ ((startsGain_iff t).mpr h) _ _ _) (fun h => before_15 m c t h d)

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t))

set_option maxHeartbeats 4800000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [← mod_left m c t d14, ← gain_left m c t d15]
  iapply (body_run c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a step is the body. -/
theorem defs₀_row (t : Fin cfg0.N) : defs₀ (F := F) .tc cfg0.body (cfg0.bodyArgs t (cfg0.slots t)) = bodyAt0 t := by
  unfold defs₀; rw [Defs.onTc_tc]

/-- The body does what the launch asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as named, every counter back at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel8Ideal.Norm

end
-- ==== Proof.NormCover.lean ====
/- Where the blocks of rows, of segments and of the whole lie in the arrays of a launch over two sequences of seventeen blocks of
   rows: the indices of a step's blocks, and the step a given index belongs to. -/
module

public import proofs.«01_k».proof.Proof.NormSteps

@[expose] public section

noncomputable section

namespace Cert.Norm

open Idealize.ShloMosaic Cert.Rows

variable {N : ℕ}

/-- An index of an array of rows is that of row `r` of a step's block when its coordinates are. -/
theorem rows_idx {n : ℕ} (t : Fin N) (r : Fin 256) (l : Fin n) (j : (⟨3, ![2, 4352, n]⟩ : Shape).Idx) (i0 i1 i2 : ℕ)
    (e : i0 = t.val / 17 % 2 ∧ i1 = t.val % 17 ∧ i2 = 0) (h0 : (j 0).val = i0 * 1 + 0) (h1 : (j 1).val = i1 * 256 + r.val)
    (h2 : (j 2).val = i2 * n + l.val) : j = ix3 (seqOf t) (rowAt t r) l := by
  obtain ⟨rfl, rfl, rfl⟩ := e
  funext a; apply Fin.ext
  match a with
  | ⟨0, _⟩ => show (j 0).val = t.val / 17 % 2; omega
  | ⟨1, _⟩ => show (j 1).val = 256 * (t.val % 17) + r.val; omega
  | ⟨2, _⟩ => show (j 2).val = l.val; omega

/-- An index of a block of rows is `(0, r, l)` when its coordinates are. -/
theorem block_idx {n : ℕ} (r : Fin 256) (l : Fin n) (j : (⟨3, ![1, 256, n]⟩ : Shape).Idx) (h1 : (j 1).val = r.val) (h2 : (j 2).val = l.val) :
    j = ix3 0 r l := by
  have h0 : (j 0).val < 1 := (j 0).isLt
  funext a; apply Fin.ext
  match a with
  | ⟨0, _⟩ => show (j 0).val = 0; omega
  | ⟨1, _⟩ => exact h1
  | ⟨2, _⟩ => exact h2

/-- An index of an array of segments is that of row `r` of a step's segment when its coordinates are. -/
theorem segs_idx {n : ℕ} (t : Fin N) (r : Fin 8) (l : Fin n) (j : (⟨4, ![2, 2, 8, n]⟩ : Shape).Idx) (i0 i1 i2 i3 : ℕ)
    (e : i0 = t.val / 17 % 2 ∧ i1 = min (t.val % 17) 1 ∧ i2 = 0 ∧ i3 = 0) (h0 : (j 0).val = i0 * 1 + 0) (h1 : (j 1).val = i1 * 1 + 0)
    (h2 : (j 2).val = i2 * 8 + r.val) (h3 : (j 3).val = i3 * n + l.val) : j = ix4 (seqOf t) (segOf t) r l := by
  obtain ⟨rfl, rfl, rfl, rfl⟩ := e
  funext a; apply Fin.ext
  match a with
  | ⟨0, _⟩ => show (j 0).val = t.val / 17 % 2; omega
  | ⟨1, _⟩ => show (j 1).val = min (t.val % 17) 1; omega
  | ⟨2, _⟩ => show (j 2).val = r.val; omega
  | ⟨3, _⟩ => show (j 3).val = l.val; omega

/-- An index of a segment's block is `(0, 0, r, l)` when its coordinates are. -/
theorem segment_idx {n : ℕ} (r : Fin 8) (l : Fin n) (j : (⟨4, ![1, 1, 8, n]⟩ : Shape).Idx) (h2 : (j 2).val = r.val) (h3 : (j 3).val = l.val) :
    j = ix4 0 0 r l := by
  have h0 : (j 0).val < 1 := (j 0).isLt
  have h1 : (j 1).val < 1 := (j 1).isLt
  funext a; apply Fin.ext
  match a with
  | ⟨0, _⟩ => show (j 0).val = 0; omega
  | ⟨1, _⟩ => show (j 1).val = 0; omega
  | ⟨2, _⟩ => exact h2
  | ⟨3, _⟩ => exact h3

/-- Every row is in some step's block. -/
theorem rows_covered (hN : N = 34) {n : ℕ} (i : (⟨3, ![2, 4352, n]⟩ : Shape).Idx) :
    ∃ t : Fin N, (i 0).val = t.val / 17 % 2 ∧ t.val % 17 * 256 ≤ (i 1).val ∧ (i 1).val < t.val % 17 * 256 + 256 := by
  have h0 : (i 0).val < 2 := (i 0).isLt
  have h1 : (i 1).val < 4352 := (i 1).isLt
  exact ⟨⟨17 * (i 0).val + (i 1).val / 256, by omega⟩, by dsimp only; omega, by dsimp only; omega, by dsimp only; omega⟩

/-- Every segment is that of a sequence's first or last step. -/
theorem segs_covered (hN : N = 34) {n : ℕ} (i : (⟨4, ![2, 2, 8, n]⟩ : Shape).Idx) :
    ∃ t : Fin N, (t.val % 17 = 0 ∨ t.val % 17 = 16) ∧ (i 0).val = t.val / 17 % 2 ∧ (i 1).val = min (t.val % 17) 1 := by
  have h0 : (i 0).val < 2 := (i 0).isLt
  have h1 : (i 1).val < 2 := (i 1).isLt
  have hm : (17 * (i 0).val + 16 * (i 1).val) % 17 = 16 * (i 1).val := by rw [Nat.mul_add_mod, Nat.mod_eq_of_lt (by omega)]
  have hq : (17 * (i 0).val + 16 * (i 1).val) / 17 = (i 0).val := by
    rw [Nat.mul_add_div (by decide), Nat.div_eq_of_lt (by omega), Nat.add_zero]
  exact ⟨⟨17 * (i 0).val + 16 * (i 1).val, by omega⟩, by dsimp only; rw [hm]; omega, by dsimp only; rw [hq]; omega, by dsimp only; rw [hm]; omega⟩

/-- An index of an array that is one block is that of row `r` when its coordinates are. -/
theorem whole_idx {n0 n1 : ℕ} (r : Fin n0) (l : Fin n1) (j : (⟨2, ![n0, n1]⟩ : Shape).Idx) (i0 i1 : ℕ) (e : i0 = 0 ∧ i1 = 0)
    (h0 : (j 0).val = i0 * n0 + r.val) (h1 : (j 1).val = i1 * n1 + l.val) : j = ix2 r l := by
  obtain ⟨rfl, rfl⟩ := e
  funext a; apply Fin.ext
  match a with
  | ⟨0, _⟩ => show (j 0).val = r.val; omega
  | ⟨1, _⟩ => show (j 1).val = l.val; omega

/-- A block of rows that holds a step's rows of an array holds at `x` what the array holds where `x` lies in it. -/
theorem rows_block {n : ℕ} (t : Fin N) (f : (⟨3, ![1, 256, n]⟩ : Shape).Idx → EReal) (A : (⟨3, ![2, 4352, n]⟩ : Shape).Idx → EReal)
    (hf : ∀ (r : Fin 256) (l : Fin n), f (ix3 0 r l) = A (ix3 (seqOf t) (rowAt t r) l)) (i0 i1 i2 : ℕ)
    (e : i0 = t.val / 17 % 2 ∧ i1 = t.val % 17 ∧ i2 = 0) (x : (⟨3, ![1, 256, n]⟩ : Shape).Idx) (j : (⟨3, ![2, 4352, n]⟩ : Shape).Idx)
    (h0 : (j 0).val = i0 * 1 + 1 * (x 0).val) (h1 : (j 1).val = i1 * 256 + 1 * (x 1).val) (h2 : (j 2).val = i2 * n + 1 * (x 2).val) :
    f x = A j := by
  have hx : (x 0).val < 1 := (x 0).isLt
  rw [block_idx ⟨(x 1).val, (x 1).isLt⟩ ⟨(x 2).val, (x 2).isLt⟩ x rfl rfl,
    rows_idx t ⟨(x 1).val, (x 1).isLt⟩ ⟨(x 2).val, (x 2).isLt⟩ j i0 i1 i2 e
      (h0.trans (by rw [show (x 0).val = 0 by omega]))
      (h1.trans (congrArg (fun v => i1 * 256 + v) (Nat.one_mul _))) (h2.trans (congrArg (fun v => i2 * n + v) (Nat.one_mul _)))]
  exact hf _ _

/-- An index whose sequence and row are a step's lies in the step's block. -/
theorem rows_inside {n : ℕ} (t : Fin N) (i : (⟨3, ![2, 4352, n]⟩ : Shape).Idx) (I : Fin 3 → ℕ)
    (e : I 0 = t.val / 17 % 2 ∧ I 1 = t.val % 17 ∧ I 2 = 0)
    (h : (i 0).val = t.val / 17 % 2 ∧ t.val % 17 * 256 ≤ (i 1).val ∧ (i 1).val < t.val % 17 * 256 + 256) (a : Fin 3) :
    I a * (⟨3, ![1, 256, n]⟩ : Shape).size a ≤ (i a).val ∧ (i a).val < I a * (⟨3, ![1, 256, n]⟩ : Shape).size a + (⟨3, ![1, 256, n]⟩ : Shape).size a := by
  obtain ⟨e0, e1, e2⟩ := e
  obtain ⟨h0, h1, h1'⟩ := h
  have h2 : (i 2).val < n := (i 2).isLt
  match a with
  | ⟨0, _⟩ => show I 0 * 1 ≤ (i 0).val ∧ (i 0).val < I 0 * 1 + 1; omega
  | ⟨1, _⟩ => show I 1 * 256 ≤ (i 1).val ∧ (i 1).val < I 1 * 256 + 256; omega
  | ⟨2, _⟩ => show I 2 * n ≤ (i 2).val ∧ (i 2).val < I 2 * n + n; rw [e2]; omega

end Cert.Norm

end
-- ==== Proof.EvenIdeal.lean ====
/- What one step of the even layers' projection-and-norm gradient kernel computes over the reals. -/
module

public import proofs.«01_k».proof.Proof.EvenFrame
public import proofs.«01_k».proof.Proof.NormBlocks
public import proofs.«01_k».proof.Proof.NormCover

@[expose] public section

set_option maxRecDepth 16384

noncomputable section

namespace Cert.Kernel8Ideal.Norm

open Idealize.ShloMosaic Idealize.ShloMosaic.TcCoe Idealize.SL.Sem
open Cert.Kernel8Ideal.Gen Cert.Rows Cert.Norm
open Cert.Kernel3Ideal.Norm (leftIn leftMod leftGain Reads)

/-! ## The step's values at an entry -/

/-- Five parts of 512, 256, 512, 512 and 512 side by side. -/
def sideBySide (p0 : Fin 512 → EReal) (p1 : Fin 256 → EReal) (p2 p3 p4 : Fin 512 → EReal) (k : Fin 2304) : EReal :=
  if h : k.val < 512 then p0 ⟨k.val, h⟩
  else if h : k.val - 512 < 256 then p1 ⟨k.val - 512, h⟩
  else if h : k.val - 512 - 256 < 512 then p2 ⟨k.val - 512 - 256, h⟩
  else if h : k.val - 512 - 256 - 512 < 512 then p3 ⟨k.val - 512 - 256 - 512, h⟩
  else p4 ⟨k.val - 512 - 256 - 512 - 512, by omega⟩

theorem joined_apply (x0 : Vec Ideal S1x256x512 .bf16) (x1 : Vec Ideal S1x256x256 .f32) (x2 : Vec Ideal S1x256x512 .bf16)
    (x3 : Vec Ideal S1x256x512 .f32) (x4 : Vec Ideal S1x256x512 .bf16) (x5 : Vec Ideal S1x256x512 .f32) (x6 : Vec Ideal S1x512 .f32)
    (r : Fin 256) (k : Fin 2304) :
    (k0_pay1 (F := Ideal) x0 x1 x2 x3 x4 x5 x6 : S256x2304.Idx → EReal) (ix2 r k)
      = sideBySide (fun l => (x0 : S1x256x512.Idx → EReal) (ix3 0 r l)) (fun l => (x1 : S1x256x256.Idx → EReal) (ix3 0 r l))
          (fun l => (x2 : S1x256x512.Idx → EReal) (ix3 0 r l))
          (fun l => (x3 : S1x256x512.Idx → EReal) (ix3 0 r l) + (x5 : S1x256x512.Idx → EReal) (ix3 0 r l) * (x6 : S1x512.Idx → EReal) (ix2 0 l))
          (fun l => (x4 : S1x256x512.Idx → EReal) (ix3 0 r l)) k := by
  unfold k0_pay1 sideBySide
  pointwise

theorem stored_apply (x0 : Vec Ideal S1x256x512 .bf16) (x1 : Vec Ideal S1x256x256 .f32) (x2 : Vec Ideal S1x256x512 .bf16)
    (x3 : Vec Ideal S1x256x512 .f32) (x4 : Vec Ideal S1x256x512 .bf16) (x5 : Vec Ideal S1x256x512 .f32) (x6 : Vec Ideal S1x512 .f32)
    (r : Fin 256) (k : Fin 2304) :
    (k0_pay2 (F := Ideal) x0 x1 x2 x3 x4 x5 x6 : S1x256x2304.Idx → EReal) (ix3 0 r k) = (k0_pay1 (F := Ideal) x0 x1 x2 x3 x4 x5 x6 : S256x2304.Idx → EReal) (ix2 r k) := by
  unfold k0_pay2
  pointwise

theorem normed_apply (x0 : Vec Ideal S1x256x512 .bf16) (x1 : Vec Ideal S1x256x256 .f32) (x2 : Vec Ideal S1x256x512 .bf16)
    (x3 : Vec Ideal S1x256x512 .f32) (x4 : Vec Ideal S1x256x512 .bf16) (x5 : Vec Ideal S1x256x512 .f32) (x6 : Vec Ideal S1x512 .f32)
    (x11 : Vec Ideal S1024x2304 .bf16) (r : Fin 256) (l : Fin 1024) :
    (normed (F := Ideal) x0 x1 x2 x3 x4 x5 x6 x11 : S256x1024.Idx → EReal) (ix2 r l)
      = ∑ k : Fin 2304, (k0_pay1 (F := Ideal) x0 x1 x2 x3 x4 x5 x6 : S256x2304.Idx → EReal) (ix2 r k) * (x11 : S1024x2304.Idx → EReal) (ix2 l k) := by
  unfold normed k0_pay3
  pointwise

/-! ## The blocks of a step -/

variable (m : (ℓ : Loc nD τ sig) → Buf (Elt Ideal) ℓ)

abbrev a0 (c : Dev nD) : S2x4352x512.Idx → EReal := m ((c : Thread nD τ).loc main_arg0)
abbrev a1 (c : Dev nD) : S2x4352x256.Idx → EReal := m ((c : Thread nD τ).loc main_arg1)
abbrev a2 (c : Dev nD) : S2x4352x512.Idx → EReal := m ((c : Thread nD τ).loc main_arg2)
abbrev a3 (c : Dev nD) : S2x4352x512.Idx → EReal := m ((c : Thread nD τ).loc main_arg3)
abbrev a4 (c : Dev nD) : S2x4352x512.Idx → EReal := m ((c : Thread nD τ).loc main_arg4)
abbrev a5 (c : Dev nD) : S2x4352x512.Idx → EReal := m ((c : Thread nD τ).loc main_arg5)
abbrev a6 (c : Dev nD) : S1x512.Idx → EReal := m ((c : Thread nD τ).loc main_arg6)
abbrev a7 (c : Dev nD) : RowsOf := m ((c : Thread nD τ).loc main_arg7)
abbrev a8 (c : Dev nD) : RowsOf := m ((c : Thread nD τ).loc main_arg8)
abbrev a9 (c : Dev nD) : Gain := m ((c : Thread nD τ).loc main_arg9)
abbrev a10 (c : Dev nD) : Modulation := m ((c : Thread nD τ).loc main_arg10)
abbrev a11 (c : Dev nD) : S1024x2304.Idx → EReal := m ((c : Thread nD τ).loc main_arg11)

/-- The parts' gradient: the third part but one also takes what reaches it through the skip. -/
def parts (x0 : S2x4352x512.Idx → EReal) (x1 : S2x4352x256.Idx → EReal) (x2 x3 x4 x5 : S2x4352x512.Idx → EReal) (x6 : S1x512.Idx → EReal)
    (b : Fin 2) (t : Fin 4352) : Fin 2304 → EReal :=
  sideBySide (fun l => x0 (ix3 b t l)) (fun l => x1 (ix3 b t l)) (fun l => x2 (ix3 b t l))
    (fun l => x3 (ix3 b t l) + x5 (ix3 b t l) * x6 (ix2 0 l)) (fun l => x4 (ix3 b t l))

/-- The cotangent of the norm's result: the parts' gradient times the weights. -/
def dy (p : Fin 2 → Fin 4352 → Fin 2304 → EReal) (w : S1024x2304.Idx → EReal) : Cotangent := fun b t l => ∑ k : Fin 2304, p b t k * w (ix2 l k)

/-- The parts' gradient of the launch. -/
abbrev dz (c : Dev nD) : Fin 2 → Fin 4352 → Fin 2304 → EReal :=
  parts (a0 m c) (a1 m c) (a2 m c) (a3 m c) (a4 m c) (a5 m c) (a6 m c)
/-- The cotangent of the norm's result. -/
abbrev ct (c : Dev nD) : Cotangent := dy (dz m c) (a11 m c)

/-- Where the blocks of a step lie. -/
theorem idx_rows : ∀ t : Fin cfg0.N,
    (win0_0.index t 0 = t.val / 17 % 2 ∧ win0_0.index t 1 = t.val % 17 ∧ win0_0.index t 2 = 0)
    ∧ (win0_1.index t 0 = t.val / 17 % 2 ∧ win0_1.index t 1 = t.val % 17 ∧ win0_1.index t 2 = 0)
    ∧ (win0_2.index t 0 = t.val / 17 % 2 ∧ win0_2.index t 1 = t.val % 17 ∧ win0_2.index t 2 = 0)
    ∧ (win0_3.index t 0 = t.val / 17 % 2 ∧ win0_3.index t 1 = t.val % 17 ∧ win0_3.index t 2 = 0)
    ∧ (win0_4.index t 0 = t.val / 17 % 2 ∧ win0_4.index t 1 = t.val % 17 ∧ win0_4.index t 2 = 0)
    ∧ (win0_5.index t 0 = t.val / 17 % 2 ∧ win0_5.index t 1 = t.val % 17 ∧ win0_5.index t 2 = 0)
    ∧ (win0_7.index t 0 = t.val / 17 % 2 ∧ win0_7.index t 1 = t.val % 17 ∧ win0_7.index t 2 = 0)
    ∧ (win0_8.index t 0 = t.val / 17 % 2 ∧ win0_8.index t 1 = t.val % 17 ∧ win0_8.index t 2 = 0) :=
  (by decide +kernel : ∀ t : Fin grid0.N, _)

theorem idx_rest : ∀ t : Fin cfg0.N,
    (win0_6.index t 0 = 0 ∧ win0_6.index t 1 = 0) ∧ (win0_9.index t 0 = 0 ∧ win0_9.index t 1 = 0)
    ∧ (win0_10.index t 0 = t.val / 17 % 2 ∧ win0_10.index t 1 = min (t.val % 17) 1 ∧ win0_10.index t 2 = 0 ∧ win0_10.index t 3 = 0)
    ∧ (win0_11.index t 0 = 0 ∧ win0_11.index t 1 = 0) :=
  (by decide +kernel : ∀ t : Fin grid0.N, _)

theorem iblk0_apply (c : Dev nD) (t : Fin cfg0.N) (r : Fin 256) (l : Fin 512) :
    (iblk m c 0 t : S1x256x512.Idx → EReal) (ix3 0 r l) = a0 m c (ix3 (seqOf t) (rowAt t r) l) :=
  congrArg (a0 m c) (rows_idx t r l ((win0_0.rect t).emb (ix3 0 r l)) _ _ _ (idx_rows t).1
    (win0_0.rect_emb_val t _ 0) (win0_0.rect_emb_val t _ 1) (win0_0.rect_emb_val t _ 2))

theorem iblk1_apply (c : Dev nD) (t : Fin cfg0.N) (r l : Fin 256) :
    (iblk m c 1 t : S1x256x256.Idx → EReal) (ix3 0 r l) = a1 m c (ix3 (seqOf t) (rowAt t r) l) :=
  congrArg (a1 m c) (rows_idx t r l ((win0_1.rect t).emb (ix3 0 r l)) _ _ _ (idx_rows t).2.1
    (win0_1.rect_emb_val t _ 0) (win0_1.rect_emb_val t _ 1) (win0_1.rect_emb_val t _ 2))

theorem iblk2_apply (c : Dev nD) (t : Fin cfg0.N) (r : Fin 256) (l : Fin 512) :
    (iblk m c 2 t : S1x256x512.Idx → EReal) (ix3 0 r l) = a2 m c (ix3 (seqOf t) (rowAt t r) l) :=
  congrArg (a2 m c) (rows_idx t r l ((win0_2.rect t).emb (ix3 0 r l)) _ _ _ (idx_rows t).2.2.1
    (win0_2.rect_emb_val t _ 0) (win0_2.rect_emb_val t _ 1) (win0_2.rect_emb_val t _ 2))

theorem iblk3_apply (c : Dev nD) (t : Fin cfg0.N) (r : Fin 256) (l : Fin 512) :
    (iblk m c 3 t : S1x256x512.Idx → EReal) (ix3 0 r l) = a3 m c (ix3 (seqOf t) (rowAt t r) l) :=
  congrArg (a3 m c) (rows_idx t r l ((win0_3.rect t).emb (ix3 0 r l)) _ _ _ (idx_rows t).2.2.2.1
    (win0_3.rect_emb_val t _ 0) (win0_3.rect_emb_val t _ 1) (win0_3.rect_emb_val t _ 2))

theorem iblk4_apply (c : Dev nD) (t : Fin cfg0.N) (r : Fin 256) (l : Fin 512) :
    (iblk m c 4 t : S1x256x512.Idx → EReal) (ix3 0 r l) = a4 m c (ix3 (seqOf t) (rowAt t r) l) :=
  congrArg (a4 m c) (rows_idx t r l ((win0_4.rect t).emb (ix3 0 r l)) _ _ _ (idx_rows t).2.2.2.2.1
    (win0_4.rect_emb_val t _ 0) (win0_4.rect_emb_val t _ 1) (win0_4.rect_emb_val t _ 2))

theorem iblk5_apply (c : Dev nD) (t : Fin cfg0.N) (r : Fin 256) (l : Fin 512) :
    (iblk m c 5 t : S1x256x512.Idx → EReal) (ix3 0 r l) = a5 m c (ix3 (seqOf t) (rowAt t r) l) :=
  congrArg (a5 m c) (rows_idx t r l ((win0_5.rect t).emb (ix3 0 r l)) _ _ _ (idx_rows t).2.2.2.2.2.1
    (win0_5.rect_emb_val t _ 0) (win0_5.rect_emb_val t _ 1) (win0_5.rect_emb_val t _ 2))

theorem iblk7_apply (c : Dev nD) (t : Fin cfg0.N) (r : Fin 256) (l : Fin 1024) :
    (iblk m c 7 t : S1x256x1024.Idx → EReal) (ix3 0 r l) = a7 m c (ix3 (seqOf t) (rowAt t r) l) :=
  congrArg (a7 m c) (rows_idx t r l ((win0_7.rect t).emb (ix3 0 r l)) _ _ _ (idx_rows t).2.2.2.2.2.2.1
    (win0_7.rect_emb_val t _ 0) (win0_7.rect_emb_val t _ 1) (win0_7.rect_emb_val t _ 2))

theorem iblk8_apply (c : Dev nD) (t : Fin cfg0.N) (r : Fin 256) (l : Fin 1024) :
    (iblk m c 8 t : S1x256x1024.Idx → EReal) (ix3 0 r l) = a8 m c (ix3 (seqOf t) (rowAt t r) l) :=
  congrArg (a8 m c) (rows_idx t r l ((win0_8.rect t).emb (ix3 0 r l)) _ _ _ (idx_rows t).2.2.2.2.2.2.2
    (win0_8.rect_emb_val t _ 0) (win0_8.rect_emb_val t _ 1) (win0_8.rect_emb_val t _ 2))

theorem iblk6_apply (c : Dev nD) (t : Fin cfg0.N) (l : Fin 512) : (iblk m c 6 t : S1x512.Idx → EReal) (ix2 0 l) = a6 m c (ix2 0 l) := by
  obtain ⟨⟨e0, e1⟩, -⟩ := idx_rest t
  show a6 m c ((win0_6.rect t).emb (ix2 0 l)) = _
  congr 1
  funext a; apply Fin.ext
  rw [win0_6.rect_emb_val t]
  match a with
  | ⟨0, _⟩ => show win0_6.index t 0 * 1 + 0 = 0; omega
  | ⟨1, _⟩ => show win0_6.index t 1 * 512 + l.val = l.val; omega

theorem iblk9_apply (c : Dev nD) (t : Fin cfg0.N) (l : Fin 1024) : (iblk m c 9 t : S1x1024.Idx → EReal) (ix2 0 l) = a9 m c (ix2 0 l) := by
  obtain ⟨-, ⟨e0, e1⟩, -⟩ := idx_rest t
  show a9 m c ((win0_9.rect t).emb (ix2 0 l)) = _
  congr 1
  funext a; apply Fin.ext
  rw [win0_9.rect_emb_val t]
  match a with
  | ⟨0, _⟩ => show win0_9.index t 0 * 1 + 0 = 0; omega
  | ⟨1, _⟩ => show win0_9.index t 1 * 1024 + l.val = l.val; omega

theorem iblk10_apply (c : Dev nD) (t : Fin cfg0.N) (r : Fin 8) (l : Fin 1024) :
    (iblk m c 10 t : S1x1x8x1024.Idx → EReal) (ix4 0 0 r l) = a10 m c (ix4 (seqOf t) (segOf t) r l) := by
  obtain ⟨-, -, ⟨e0, e1, e2, e3⟩, -⟩ := idx_rest t
  show a10 m c ((win0_10.rect t).emb (ix4 0 0 r l)) = _
  congr 1
  funext a; apply Fin.ext
  rw [win0_10.rect_emb_val t]
  match a with
  | ⟨0, _⟩ => show win0_10.index t 0 * 1 + 0 = t.val / 17 % 2; omega
  | ⟨1, _⟩ => show win0_10.index t 1 * 1 + 0 = min (t.val % 17) 1; omega
  | ⟨2, _⟩ => show win0_10.index t 2 * 8 + r.val = r.val; omega
  | ⟨3, _⟩ => show win0_10.index t 3 * 1024 + l.val = l.val; omega

theorem iblk11_apply (c : Dev nD) (t : Fin cfg0.N) (l : Fin 1024) (k : Fin 2304) :
    (iblk m c 11 t : S1024x2304.Idx → EReal) (ix2 l k) = a11 m c (ix2 l k) := by
  obtain ⟨-, -, -, e0, e1⟩ := idx_rest t
  show a11 m c ((win0_11.rect t).emb (ix2 l k)) = _
  congr 1
  funext a; apply Fin.ext
  rw [win0_11.rect_emb_val t]
  match a with
  | ⟨0, _⟩ => show win0_11.index t 0 * 1024 + l.val = l.val; omega
  | ⟨1, _⟩ => show win0_11.index t 1 * 2304 + k.val = k.val; omega

/-! ## The step's values in the arrays -/

theorem joined_at (c : Dev nD) (t : Fin cfg0.N) (r : Fin 256) (k : Fin 2304) :
    (k0_pay1 (F := Ideal) (iblk m c 0 t) (iblk m c 1 t) (iblk m c 2 t) (iblk m c 3 t) (iblk m c 4 t) (iblk m c 5 t) (iblk m c 6 t) : S256x2304.Idx → EReal) (ix2 r k)
      = dz m c (seqOf t) (rowAt t r) k := by
  refine (joined_apply _ _ _ _ _ _ _ r k).trans ?_
  show _ = parts _ _ _ _ _ _ _ _ _ k
  unfold parts
  simp only [iblk0_apply, iblk1_apply, iblk2_apply, iblk3_apply, iblk4_apply, iblk5_apply, iblk6_apply]

theorem normed_at (c : Dev nD) (t : Fin cfg0.N) (r : Fin 256) (l : Fin 1024) :
    (normedAt (F := Ideal) m c t : S256x1024.Idx → EReal) (ix2 r l) = ct m c (seqOf t) (rowAt t r) l :=
  (normed_apply _ _ _ _ _ _ _ _ r l).trans
    (Finset.sum_congr rfl fun k _ => congrArg₂ (fun a b : EReal => a * b) (joined_at m c t r k) (iblk11_apply m c t l k))

/-- The blocks of a step are read where the step works. -/
theorem reads (c : Dev nD) (t : Fin cfg0.N) : Reads t (ct m c) (a7 m c) (a8 m c) (a9 m c) (a10 m c) (normedAt m c t)
    (iblk m c 7 t) (iblk m c 8 t) (iblk m c 9 t) (iblk m c 10 t) where
  v_at := normed_at m c t
  x2_at := iblk7_apply m c t
  x3_at := iblk8_apply m c t
  x4_at := iblk9_apply m c t
  x5_at := iblk10_apply m c t

/-- The parts' block. -/
theorem parts_at (c : Dev nD) (t : Fin cfg0.N) (r : Fin 256) (k : Fin 2304) :
    (partsAfter m c t : S1x256x2304.Idx → EReal) (ix3 0 r k) = dz m c (seqOf t) (rowAt t r) k :=
  (stored_apply _ _ _ _ _ _ _ r k).trans (joined_at m c t r k)

theorem raises_mod (c : Dev nD) : RaisesMod (ct m c) (a8 m c) (a9 m c) (stepMod (F := Ideal) m c) := fun t d r l =>
  (reads m c t).mod_step _ (startsMod_iff t) d r l

theorem raises_gain (c : Dev nD) : RaisesGain (ct m c) (a8 m c) (a10 m c) (stepGain (F := Ideal) m c) := fun t d r l =>
  (reads m c t).gain_step _ (startsGain_iff t) d r l

end Cert.Kernel8Ideal.Norm

end
-- ==== Proof.EvenArray.lean ====
/- The arrays the even layers' projection-and-norm gradient kernel leaves over the reals. -/
module

public import proofs.«01_k».proof.Proof.EvenIdeal

@[expose] public section

set_option maxRecDepth 16384

noncomputable section

namespace Cert.Kernel8Ideal.Norm

open Idealize.ShloMosaic Idealize.ShloMosaic.TcCoe Idealize.SL.Sem
open Cert.Kernel8Ideal.Gen Cert.Rows Cert.Norm

variable (m : (ℓ : Loc nD τ sig) → Buf (Elt Ideal) ℓ) (ρ : Dev nD → PrngReg)

/-- Where the results' blocks lie. -/
theorem idx_out : ∀ t : Fin cfg0.N,
    (win0_12.index t 0 = t.val / 17 % 2 ∧ win0_12.index t 1 = t.val % 17 ∧ win0_12.index t 2 = 0)
    ∧ (win0_13.index t 0 = t.val / 17 % 2 ∧ win0_13.index t 1 = t.val % 17 ∧ win0_13.index t 2 = 0)
    ∧ (win0_14.index t 0 = t.val / 17 % 2 ∧ win0_14.index t 1 = min (t.val % 17) 1 ∧ win0_14.index t 2 = 0 ∧ win0_14.index t 3 = 0)
    ∧ (win0_15.index t 0 = 0 ∧ win0_15.index t 1 = 0) :=
  (by decide +kernel : ∀ t : Fin grid0.N, _)

theorem final_in (c : Dev nD) : (dats m 0 c).arrAt 12 cfg0.N = gradIn (ct m c) (a7 m c) (a8 m c) (a9 m c) (a10 m c) := by
  refine (dats m 0 c).arrAt_eq_of_cover 12 _ (fun t _ => ?_) (fun i => ?_)
  · show (cfg0.win 12).cut (grid0.coords t) ((dats m 0 c).after 12 t) = _
    rw [after_12]
    funext y
    have hy0 : (y 0).val < 1 := (y 0).isLt
    show (inAfter m c t : S1x256x1024.Idx → EReal) ((cfg0.win 12).xinj (grid0.coords t) y) = gradIn _ _ _ _ _ (((cfg0.win 12).blk t).view.emb y)
    rw [block_idx ⟨(y 1).val, (y 1).isLt⟩ ⟨(y 2).val, (y 2).isLt⟩ ((cfg0.win 12).xinj (grid0.coords t) y) rfl rfl,
      rows_idx t ⟨(y 1).val, (y 1).isLt⟩ ⟨(y 2).val, (y 2).isLt⟩ (((cfg0.win 12).blk t).view.emb y) _ _ _ (idx_out t).1
        (by show win0_12.index t 0 * 1 + 1 * (y 0).val = win0_12.index t 0 * 1 + 0; omega) (by show win0_12.index t 1 * 256 + 1 * (y 1).val = win0_12.index t 1 * 256 + (y 1).val; omega)
        (by show win0_12.index t 2 * 1024 + 1 * (y 2).val = win0_12.index t 2 * 1024 + (y 2).val; omega)]
    exact (reads m c t).in_at _ _
  · have h2 : (i 2).val < 1024 := (i 2).isLt
    obtain ⟨t, h0, h1, h1'⟩ := rows_covered N_0 i
    obtain ⟨⟨e0, e1, e2⟩, -⟩ := idx_out t
    refine ⟨t, flush0_12 t, ?_⟩
    show i ∈ ((View.whole main_v0_0).slice (win0_12.rect t)).set
    rw [View.set_slice_whole, Rect.mem_set_unit]
    intro a
    match a with
    | ⟨0, _⟩ => show win0_12.index t 0 * 1 ≤ (i 0).val ∧ (i 0).val < win0_12.index t 0 * 1 + 1; omega
    | ⟨1, _⟩ => show win0_12.index t 1 * 256 ≤ (i 1).val ∧ (i 1).val < win0_12.index t 1 * 256 + 256; omega
    | ⟨2, _⟩ => show win0_12.index t 2 * 1024 ≤ (i 2).val ∧ (i 2).val < win0_12.index t 2 * 1024 + 1024; omega

/-- The parts' gradient, as an array. -/
def partsArr (p : Fin 2 → Fin 4352 → Fin 2304 → EReal) : S2x4352x2304.Idx → EReal := fun i => p (i 0) (i 1) (i 2)

theorem final_parts (c : Dev nD) : (dats m 0 c).arrAt 13 cfg0.N = partsArr (dz m c) := by
  refine (dats m 0 c).arrAt_eq_of_cover 13 _ (fun t _ => ?_) (fun i => ?_)
  · show (cfg0.win 13).cut (grid0.coords t) ((dats m 0 c).after 13 t) = _
    rw [after_13]
    funext y
    have hy0 : (y 0).val < 1 := (y 0).isLt
    show (partsAfter m c t : S1x256x2304.Idx → EReal) ((cfg0.win 13).xinj (grid0.coords t) y) = partsArr (dz m c) (((cfg0.win 13).blk t).view.emb y)
    rw [block_idx ⟨(y 1).val, (y 1).isLt⟩ ⟨(y 2).val, (y 2).isLt⟩ ((cfg0.win 13).xinj (grid0.coords t) y) rfl rfl,
      rows_idx t ⟨(y 1).val, (y 1).isLt⟩ ⟨(y 2).val, (y 2).isLt⟩ (((cfg0.win 13).blk t).view.emb y) _ _ _ (idx_out t).2.1
        (by show win0_13.index t 0 * 1 + 1 * (y 0).val = win0_13.index t 0 * 1 + 0; omega) (by show win0_13.index t 1 * 256 + 1 * (y 1).val = win0_13.index t 1 * 256 + (y 1).val; omega)
        (by show win0_13.index t 2 * 2304 + 1 * (y 2).val = win0_13.index t 2 * 2304 + (y 2).val; omega)]
    exact parts_at m c t _ _
  · have h2 : (i 2).val < 2304 := (i 2).isLt
    obtain ⟨t, h0, h1, h1'⟩ := rows_covered N_0 i
    obtain ⟨-, ⟨e0, e1, e2⟩, -⟩ := idx_out t
    refine ⟨t, flush0_13 t, ?_⟩
    show i ∈ ((View.whole main_v0_1).slice (win0_13.rect t)).set
    rw [View.set_slice_whole, Rect.mem_set_unit]
    intro a
    match a with
    | ⟨0, _⟩ => show win0_13.index t 0 * 1 ≤ (i 0).val ∧ (i 0).val < win0_13.index t 0 * 1 + 1; omega
    | ⟨1, _⟩ => show win0_13.index t 1 * 256 ≤ (i 1).val ∧ (i 1).val < win0_13.index t 1 * 256 + 256; omega
    | ⟨2, _⟩ => show win0_13.index t 2 * 2304 ≤ (i 2).val ∧ (i 2).val < win0_13.index t 2 * 2304 + 2304; omega

theorem final_mod (c : Dev nD) : (dats m 0 c).arrAt 14 cfg0.N = gradMod (ct m c) (a8 m c) (a9 m c) := by
  refine (dats m 0 c).arrAt_eq_of_cover 14 _ (fun t hf => ?_) (fun i => ?_)
  · show (cfg0.win 14).cut (grid0.coords t) ((dats m 0 c).after 14 t) = _
    rw [after_14]
    funext y
    have hy0 : (y 0).val < 1 := (y 0).isLt
    have hy1 : (y 1).val < 1 := (y 1).isLt
    show (modAfter m c t.val t.isLt : S1x1x8x1024.Idx → EReal) ((cfg0.win 14).xinj (grid0.coords t) y) = gradMod _ _ _ (((cfg0.win 14).blk t).view.emb y)
    rw [segment_idx ⟨(y 2).val, (y 2).isLt⟩ ⟨(y 3).val, (y 3).isLt⟩ ((cfg0.win 14).xinj (grid0.coords t) y) rfl rfl,
      segs_idx t ⟨(y 2).val, (y 2).isLt⟩ ⟨(y 3).val, (y 3).isLt⟩ (((cfg0.win 14).blk t).view.emb y) _ _ _ _ (idx_out t).2.2.1
        (by show win0_14.index t 0 * 1 + 1 * (y 0).val = win0_14.index t 0 * 1 + 0; omega) (by show win0_14.index t 1 * 1 + 1 * (y 1).val = win0_14.index t 1 * 1 + 0; omega)
        (by show win0_14.index t 2 * 8 + 1 * (y 2).val = win0_14.index t 2 * 8 + (y 2).val; omega) (by show win0_14.index t 3 * 1024 + 1 * (y 3).val = win0_14.index t 3 * 1024 + (y 3).val; omega)]
    exact mod_at _ N_0 (raises_mod m c) t ((flush_mod t).mp hf) _ _
  · have h2 : (i 2).val < 8 := (i 2).isLt
    have h3 : (i 3).val < 1024 := (i 3).isLt
    obtain ⟨t, hf, h0, h1⟩ := segs_covered N_0 i
    obtain ⟨-, -, ⟨e0, e1, e2, e3⟩, -⟩ := idx_out t
    refine ⟨t, (flush_mod t).mpr hf, ?_⟩
    show i ∈ ((View.whole main_v0_2).slice (win0_14.rect t)).set
    rw [View.set_slice_whole, Rect.mem_set_unit]
    intro a
    match a with
    | ⟨0, _⟩ => show win0_14.index t 0 * 1 ≤ (i 0).val ∧ (i 0).val < win0_14.index t 0 * 1 + 1; omega
    | ⟨1, _⟩ => show win0_14.index t 1 * 1 ≤ (i 1).val ∧ (i 1).val < win0_14.index t 1 * 1 + 1; omega
    | ⟨2, _⟩ => show win0_14.index t 2 * 8 ≤ (i 2).val ∧ (i 2).val < win0_14.index t 2 * 8 + 8; omega
    | ⟨3, _⟩ => show win0_14.index t 3 * 1024 ≤ (i 3).val ∧ (i 3).val < win0_14.index t 3 * 1024 + 1024; omega

theorem final_gain (c : Dev nD) : (dats m 0 c).arrAt 15 cfg0.N = gradGain (ct m c) (a8 m c) (a10 m c) := by
  refine (dats m 0 c).arrAt_eq_of_cover 15 _ (fun t hf => ?_) (fun i => ?_)
  · show (cfg0.win 15).cut (grid0.coords t) ((dats m 0 c).after 15 t) = _
    rw [after_15]
    obtain ⟨-, -, -, e0, e1⟩ := idx_out t
    funext y
    obtain ⟨r, l, rfl⟩ : ∃ (r : Fin 8) (l : Fin 1024), y = ix2 r l := ⟨y 0, y 1, eq_ix2 y⟩
    have er : ((cfg0.win 15).blk t).view.emb (ix2 r l) = ix2 r l := by
      funext a; apply Fin.ext
      match a with
      | ⟨0, _⟩ => show win0_15.index t 0 * 8 + 1 * r.val = r.val; omega
      | ⟨1, _⟩ => show win0_15.index t 1 * 1024 + 1 * l.val = l.val; omega
    show (gainAfter m c t.val t.isLt : S8x1024.Idx → EReal) (ix2 r l) = gradGain _ _ _ (((cfg0.win 15).blk t).view.emb (ix2 r l))
    rw [er]
    exact gain_at _ N_0 (raises_gain m c) t ((flush0_15 t).mp hf) _ _
  · have h0 : (i 0).val < 8 := (i 0).isLt
    have h1 : (i 1).val < 1024 := (i 1).isLt
    have hN : 33 < cfg0.N := by show 33 < 34; omega
    obtain ⟨-, -, -, e0, e1⟩ := idx_out ⟨33, hN⟩
    refine ⟨⟨33, hN⟩, (flush0_15 _).mpr rfl, ?_⟩
    show i ∈ ((View.whole main_v0_3).slice (win0_15.rect ⟨33, hN⟩)).set
    rw [View.set_slice_whole, Rect.mem_set_unit]
    intro a
    match a with
    | ⟨0, _⟩ => show win0_15.index ⟨33, hN⟩ 0 * 8 ≤ (i 0).val ∧ (i 0).val < win0_15.index ⟨33, hN⟩ 0 * 8 + 8; omega
    | ⟨1, _⟩ => show win0_15.index ⟨33, hN⟩ 1 * 1024 ≤ (i 1).val ∧ (i 1).val < win0_15.index ⟨33, hN⟩ 1 * 1024 + 1024; omega

/-- The run, read: the four results are the gradients. -/
theorem run_results : θ_run defs (onTc (τ := τ) (main (F := Ideal))) ⟨m, fun _ => 0, ρ⟩ fun r => ∀ c : Dev nD,
      r.2.mem ((c : Thread nD τ).loc main_v0_0) = gradIn (ct m c) (a7 m c) (a8 m c) (a9 m c) (a10 m c)
      ∧ r.2.mem ((c : Thread nD τ).loc main_v0_1) = partsArr (dz m c)
      ∧ r.2.mem ((c : Thread nD τ).loc main_v0_2) = gradMod (ct m c) (a8 m c) (a9 m c)
      ∧ r.2.mem ((c : Thread nD τ).loc main_v0_3) = gradGain (ct m c) (a8 m c) (a10 m c) :=
  (θ_run defs _ _).mono (fun _ h c => ⟨((h.1 c).1 12).trans (final_in m c), ((h.1 c).1 13).trans (final_parts m c),
    ((h.1 c).1 14).trans (final_mod m c), ((h.1 c).1 15).trans (final_gain m c)⟩) (run_main m ρ)

end Cert.Kernel8Ideal.Norm

end
-- ==== Proof.EvenRef.lean ====
/- The reference's gradient of the even layers' norm, stage by stage, is the gradient of `NormMath`. The stages of the norm itself
   are those of the odd layers' reference. -/
module

public import proofs.«01_k».proof.Proof.NormRef
public import proofs.«01_k».proof.Proof.EvenIdeal
public import proofs.«01_k».proof.Proof.Gen.Reference8Ideal.Read

@[expose] public section

set_option maxRecDepth 16384

noncomputable section

namespace Cert.Reference8Ideal.Norm

open Cert.Reference8Ideal Cert.Reference8Ideal.Gen Cert.Reference8Ideal.Read Cert.Norm
open Cert.Kernel8Ideal.Norm (parts dy)
open Cert.KernelIdeal.Band (IsReal)
open Cert.Reference3Ideal.Norm (segments sum_first_two first_two_rows)
open Idealize.ShloMosaic Idealize.ShloMosaic.TcCoe Idealize.SL.Sem

variable (x0 : S2x4352x512.Idx → EReal) (x1 : S2x4352x256.Idx → EReal) (x2 x3 x4 x5 : S2x4352x512.Idx → EReal) (x6 : S1x512.Idx → EReal)
  (x7 x8 : S2x4352x1024.Idx → EReal) (x9 : S1x1024.Idx → EReal) (x10 : S2x2x8x1024.Idx → EReal) (x11 : S1024x2304.Idx → EReal)

/-! ## The norm's stages, as the odd layers have them -/

theorem v16 (b : Fin 2) (t : Fin 4352) : val_main_v16 (F := Ideal) x8 (ix3 b t 0) = recip (rowOf x8 b t) :=
  Cert.Reference3Ideal.Norm.v15 x8 b t

theorem v19 (b : Fin 2) (t : Fin 4352) : val_main_v19 (F := Ideal) x8 (ix3 b t 0)
    = Ideal.ofBits .f32 0xBF000000#32 * Ideal.div (recip (rowOf x8 b t)) (meanSq (rowOf x8 b t)) :=
  Cert.Reference3Ideal.Norm.v18 x8 b t

theorem v21 (b : Fin 2) (t : Fin 4352) (l : Fin 1024) : val_main_v21 (F := Ideal) x8 (ix3 b t l) = unit x8 b t l :=
  Cert.Reference3Ideal.Norm.v20 x8 b t l

theorem v24 (b : Fin 2) (t : Fin 4352) (l : Fin 1024) : val_main_v24 (F := Ideal) x8 x9 (ix3 b t l) = unit x8 b t l * x9 (ix2 0 l) :=
  Cert.Reference3Ideal.Norm.v23 x8 x9 b t l

theorem v31 (b : Fin 2) (t : Fin 4352) (l : Fin 1024) : val_main_v31 (F := Ideal) x10 (ix3 b t l) = onePlus x10 b t l :=
  Cert.Reference3Ideal.Norm.v30 x10 b t l

/-! ## The parts' gradient and the cotangent of the norm's result -/

theorem v52 (b : Fin 2) (t : Fin 4352) (k : Fin 2304) : val_main_v52 (F := Ideal) x0 x1 x2 x3 x4 x5 x6 (ix3 b t k) = parts x0 x1 x2 x3 x4 x5 x6 b t k := by
  pointwise [val_main_v52, val_main_v51, val_main_v50, val_main_v49, val_main_v46, val_main_v40, val_main_v0, val_main_v1, val_main_v2]
  rfl

theorem v53 (b : Fin 2) (t : Fin 4352) (l : Fin 1024) : val_main_v53 (F := Ideal) x0 x1 x2 x3 x4 x5 x6 x11 (ix3 b t l) = dy (parts x0 x1 x2 x3 x4 x5 x6) x11 b t l := by
  pointwise [val_main_v53, val_main_v3]
  exact Finset.sum_congr rfl fun k _ => congrArg (fun e : EReal => e * x11 (ix2 l k)) (v52 x0 x1 x2 x3 x4 x5 x6 b t k)

/-! ## The gradients -/

theorem v62 (b : Fin 2) (s : Fin 2) (l : Fin 1024) :
    val_main_v62 (F := Ideal) x0 x1 x2 x3 x4 x5 x6 x11 (ix3 b s l) = segSum (fun t => dy (parts x0 x1 x2 x3 x4 x5 x6) x11 b t l) s := by
  pointwise [val_main_v62, val_main_v61, val_main_v60, val_main_v59, val_main_v58, val_main_v57, val_main_v56, val_main_v55, val_main_v54, val_main_cst_4, val_main_cst_5, val_main_cst_6, val_main_cst_7]
  exact segments (fun t => val_main_v53 (F := Ideal) x0 x1 x2 x3 x4 x5 x6 x11 (ix3 b t l)) _ (fun t => v53 x0 x1 x2 x3 x4 x5 x6 x11 b t l) s

theorem v63 (b : Fin 2) (t : Fin 4352) (l : Fin 1024) : val_main_v63 (F := Ideal) x0 x1 x2 x3 x4 x5 x6 x8 x9 x11 (ix3 b t l)
    = dy (parts x0 x1 x2 x3 x4 x5 x6) x11 b t l * (unit x8 b t l * x9 (ix2 0 l)) := by
  pointwise [val_main_v63]
  rw [v24, v53, mul_comm]

theorem v73 (b : Fin 2) (s : Fin 2) (l : Fin 1024) : val_main_v73 (F := Ideal) x0 x1 x2 x3 x4 x5 x6 x8 x9 x11 (ix3 b s l)
    = segSum (fun t => dy (parts x0 x1 x2 x3 x4 x5 x6) x11 b t l * (unit x8 b t l * x9 (ix2 0 l))) s := by
  pointwise [val_main_v73, val_main_v72, val_main_v71, val_main_v70, val_main_v69, val_main_v68, val_main_v67, val_main_v66, val_main_v65, val_main_cst_8, val_main_cst_9, val_main_cst_10, val_main_cst_11]
  exact segments (fun t => val_main_v63 (F := Ideal) x0 x1 x2 x3 x4 x5 x6 x8 x9 x11 (ix3 b t l)) _ (fun t => v63 x0 x1 x2 x3 x4 x5 x6 x8 x9 x11 b t l) s

theorem v74 (b : Fin 2) (t : Fin 4352) (l : Fin 1024) : val_main_v74 (F := Ideal) x0 x1 x2 x3 x4 x5 x6 x8 x10 x11 (ix3 b t l)
    = dy (parts x0 x1 x2 x3 x4 x5 x6) x11 b t l * onePlus x10 b t l * unit x8 b t l := by
  pointwise [val_main_v74, val_main_v64]
  rw [v21, v53, v31, mul_comm]

theorem v76 (l : Fin 1024) : val_main_v76 (F := Ideal) x0 x1 x2 x3 x4 x5 x6 x8 x10 x11 (ix3 0 0 l)
    = ∑ b : Fin 2, ∑ t : Fin 4352, dy (parts x0 x1 x2 x3 x4 x5 x6) x11 b t l * onePlus x10 b t l * unit x8 b t l := by
  have e : val_main_v76 (F := Ideal) x0 x1 x2 x3 x4 x5 x6 x8 x10 x11 (ix3 0 0 l) = val_main_v75 (F := Ideal) x0 x1 x2 x3 x4 x5 x6 x8 x10 x11 (ix1 l) := by
    unfold val_main_v76
    generalize val_main_v75 (F := Ideal) x0 x1 x2 x3 x4 x5 x6 x8 x10 x11 = y
    pointwise
  rw [e]
  refine (sum_first_two _ _ _ l).trans ?_
  have z : (val_main_cst_12 (F := Ideal)) (Shape.Idx.first h_S_) = 0 := by pointwise [val_main_cst_12]
  rw [z, zero_add]
  exact Finset.sum_congr rfl fun b _ => Finset.sum_congr rfl fun t _ => v74 x0 x1 x2 x3 x4 x5 x6 x8 x10 x11 b t l

theorem v79 (l : Fin 1024) : val_main_v79 (F := Ideal) x0 x1 x2 x3 x4 x5 x6 x8 x10 x11 (ix1 l)
    = ∑ b : Fin 2, ∑ t : Fin 4352, dy (parts x0 x1 x2 x3 x4 x5 x6) x11 b t l * onePlus x10 b t l * unit x8 b t l := by
  refine (sum_first_two _ _ _ l).trans ?_
  have z : (val_main_cst_13 (F := Ideal)) (Shape.Idx.first h_S_) = 0 := by pointwise [val_main_cst_13]
  rw [z, zero_add, Fin.sum_univ_one, Fin.sum_univ_one]
  exact v76 x0 x1 x2 x3 x4 x5 x6 x8 x10 x11 l

theorem v78 (b : Fin 2) (t : Fin 4352) (l : Fin 1024) :
    val_main_v78 (F := Ideal) x0 x1 x2 x3 x4 x5 x6 x9 x10 x11 (ix3 b t l) = slope (dy (parts x0 x1 x2 x3 x4 x5 x6) x11) x9 x10 b t l := by
  pointwise [val_main_v78, val_main_v77, val_main_v64, val_main_v22, val_main_v4]
  rw [v53, v31]
  exact mul_right_comm _ _ _

theorem v89 (b : Fin 2) (t : Fin 4352) (l : Fin 1024) : val_main_v89 (F := Ideal) x0 x1 x2 x3 x4 x5 x6 x8 x9 x10 x11 (ix3 b t l)
    = Ideal.div ((∑ x, x8 (ix3 b t x) * slope (dy (parts x0 x1 x2 x3 x4 x5 x6) x11) x9 x10 b t x)
        * (Ideal.ofBits .f32 0xBF000000#32 * Ideal.div (recip (rowOf x8 b t)) (meanSq (rowOf x8 b t)))) width := by
  pointwise [val_main_v89, val_main_v88, val_main_v87, val_main_v86, val_main_v85, val_main_v82, val_main_v81, val_main_v80, val_main_cst_14, val_main_cst_15, val_main_cst_16]
  rw [Fin.sum_univ_one, v19, Finset.sum_congr rfl fun x _ => congrArg (fun e : EReal => x8 (ix3 b t x) * e) (v78 x0 x1 x2 x3 x4 x5 x6 x9 x10 x11 b t x)]

/-- The gradient of the rows, where the rows and the cotangent of the scaled rows are real. -/
theorem v94 (hh : ∀ i, IsReal (x8 i)) (hd : ∀ b t l, IsReal (slope (dy (parts x0 x1 x2 x3 x4 x5 x6) x11) x9 x10 b t l)) :
    val_main_v94 (F := Ideal) x0 x1 x2 x3 x4 x5 x6 x7 x8 x9 x10 x11 = gradIn (dy (parts x0 x1 x2 x3 x4 x5 x6) x11) x7 x8 x9 x10 := by
  funext i
  obtain ⟨b, t, l, rfl⟩ : ∃ b t l, i = ix3 b t l := ⟨i 0, i 1, i 2, eq_ix3 i⟩
  rw [gradIn_eq _ _ _ _ _ _ _ _ hh (hd b t)]
  pointwise [val_main_v94, val_main_v93, val_main_v92, val_main_v91, val_main_v90, val_main_v84, val_main_v83]
  rw [v78, v16, v89]

theorem v95 : val_main_v95 (F := Ideal) x0 x1 x2 x3 x4 x5 x6 = fun i => parts x0 x1 x2 x3 x4 x5 x6 (i 0) (i 1) (i 2) := by
  funext i
  obtain ⟨b, t, l, rfl⟩ : ∃ b t l, i = ix3 b t l := ⟨i 0, i 1, i 2, eq_ix3 i⟩
  pointwise [val_main_v95]
  exact v52 x0 x1 x2 x3 x4 x5 x6 b t l

theorem v99 : val_main_v99 (F := Ideal) x0 x1 x2 x3 x4 x5 x6 x8 x9 x11 = gradMod (dy (parts x0 x1 x2 x3 x4 x5 x6) x11) x8 x9 := by
  funext i
  obtain ⟨b, s, r, l, rfl⟩ : ∃ b s r l, i = ix4 b s r l := ⟨i 0, i 1, i 2, i 3, eq_ix4 i⟩
  pointwise [val_main_v99, val_main_v96, val_main_v97, val_main_v98, val_main_cst_17]
  show _ = if r.val = 1 then segSum (fun t => dy (parts x0 x1 x2 x3 x4 x5 x6) x11 b t l * (unit x8 b t l * x9 (ix2 0 l))) s
    else if r.val = 0 then segSum (fun t => dy (parts x0 x1 x2 x3 x4 x5 x6) x11 b t l) s else 0
  rw [v62, v73]
  exact first_two_rows _ _ r

theorem v102 : val_main_v102 (F := Ideal) x0 x1 x2 x3 x4 x5 x6 x8 x10 x11 = gradGain (dy (parts x0 x1 x2 x3 x4 x5 x6) x11) x8 x10 := by
  funext i
  obtain ⟨r, l, rfl⟩ : ∃ r l, i = ix2 r l := ⟨i 0, i 1, eq_ix2 i⟩
  pointwise [val_main_v102, val_main_v100, val_main_v101, val_main_cst_18]
  show _ = if r.val = 0 then ∑ b : Fin 2, ∑ t : Fin 4352, dy (parts x0 x1 x2 x3 x4 x5 x6) x11 b t l * onePlus x10 b t l * unit x8 b t l else 0
  rw [v79]
  by_cases h0 : r.val = 0
  · rw [dif_pos (by omega), if_pos h0]
  · rw [dif_neg (by omega), if_neg h0]

end Cert.Reference8Ideal.Norm

end
-- ==== Proof.EvenFinite.lean ====
/- What the even layers' precondition says over the reals: every element of the parts' cotangents, the skip, the rows, the gain, the
   modulation's scale and the weights is a real number, and so is every cotangent of the scaled rows. -/
module

public import proofs.«01_k».proof.Pre_finite8
public import proofs.«01_k».proof.Proof.NormFinite
public import proofs.«01_k».proof.Proof.EvenIdeal

@[expose] public section

noncomputable section

namespace Cert.EvenFinite

open Idealize.ShloMosaic Cert.Norm Cert.Finite Cert.NormFinite
open Cert.KernelIdeal.Band (IsReal)
open Cert.Kernel8Ideal.Norm (parts sideBySide dy)

instance [Cert.Pre_finite8.Facts] : Subsingleton Cert.Pre_finite8.S_.Idx := ⟨fun _ _ => funext fun a => a.elim0⟩

/-- The precondition, argument by argument. -/
theorem isReal_of_pre [Cert.Pre_finite8.Facts] (x0 : Cert.Pre_finite8.S2x4352x512.Idx → EReal) (x1 : Cert.Pre_finite8.S2x4352x256.Idx → EReal)
    (x2 x3 x4 x5 : Cert.Pre_finite8.S2x4352x512.Idx → EReal) (x6 : Cert.Pre_finite8.S1x512.Idx → EReal)
    (x7 x8 : Cert.Pre_finite8.S2x4352x1024.Idx → EReal) (x9 : Cert.Pre_finite8.S1x1024.Idx → EReal)
    (x10 : Cert.Pre_finite8.S2x2x8x1024.Idx → EReal) (x11 : Cert.Pre_finite8.S1024x2304.Idx → EReal)
    (h : Cert.Pre_finite8.fn (F := Ideal) x0 x1 x2 x3 x4 x5 x6 x7 x8 x9 x10 x11 = fun _ => 1#1) :
    ((∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)))
    ∧ (∀ i, IsReal (x8 i)) ∧ (∀ i, IsReal (x9 i)) ∧ (∀ b s l, IsReal (x10 (ix4 b s 1 l))) ∧ (∀ i, IsReal (x11 i)) := by
  have e := congrFun h ix0
  unfold Cert.Pre_finite8.fn Cert.Pre_finite8.fn_part1 Cert.Pre_finite8.fn_part2 Cert.Pre_finite8.fn_part3 at e
  obtain ⟨e, h11⟩ := (ands _ _).mp e
  obtain ⟨e, h10⟩ := (ands _ _).mp e
  obtain ⟨e, h9⟩ := (ands _ _).mp e
  obtain ⟨e, h8⟩ := (ands _ _).mp e
  obtain ⟨e, h6⟩ := (ands _ _).mp e
  obtain ⟨e, h5⟩ := (ands _ _).mp e
  obtain ⟨e, h4⟩ := (ands _ _).mp e
  obtain ⟨e, h3⟩ := (ands _ _).mp e
  obtain ⟨e, h2⟩ := (ands _ _).mp e
  obtain ⟨h0, h1⟩ := (ands _ _).mp e
  refine ⟨⟨fun i => ?_, fun i => ?_, fun i => ?_, fun i => ?_, fun i => ?_, fun i => ?_, fun i => ?_⟩, fun i => ?_, fun i => ?_, fun b s l => ?_, fun i => ?_⟩
  · have q := Host.reduce_andi_all _ _ _ _ _ h0 i
    revert q; pointwise; exact isReal_of_olt _
  · have q := Host.reduce_andi_all _ _ _ _ _ h1 i
    revert q; pointwise; exact isReal_of_olt _
  · have q := Host.reduce_andi_all _ _ _ _ _ h2 i
    revert q; pointwise; exact isReal_of_olt _
  · have q := Host.reduce_andi_all _ _ _ _ _ h3 i
    revert q; pointwise; exact isReal_of_olt _
  · have q := Host.reduce_andi_all _ _ _ _ _ h4 i
    revert q; pointwise; exact isReal_of_olt _
  · have q := Host.reduce_andi_all _ _ _ _ _ h5 i
    revert q; pointwise; exact isReal_of_olt _
  · have q := Host.reduce_andi_all _ _ _ _ _ h6 i
    revert q; pointwise; exact isReal_of_olt _
  · have q := Host.reduce_andi_all _ _ _ _ _ h8 i
    revert q; pointwise; exact isReal_of_olt _
  · have q := Host.reduce_andi_all _ _ _ _ _ h9 i
    revert q; pointwise; exact isReal_of_olt _
  · have q := Host.reduce_andi_all _ _ _ _ _ h10 (ix3 b s l)
    revert q; pointwise; exact isReal_of_olt _
  · have q := Host.reduce_andi_all _ _ _ _ _ h11 i
    revert q; pointwise; exact isReal_of_olt _

theorem sideBySide_real (p0 : Fin 512 → EReal) (p1 : Fin 256 → EReal) (p2 p3 p4 : Fin 512 → EReal) (h0 : ∀ l, IsReal (p0 l))
    (h1 : ∀ l, IsReal (p1 l)) (h2 : ∀ l, IsReal (p2 l)) (h3 : ∀ l, IsReal (p3 l)) (h4 : ∀ l, IsReal (p4 l)) (k : Fin 2304) :
    IsReal (sideBySide p0 p1 p2 p3 p4 k) := by
  unfold sideBySide
  split
  · exact h0 _
  · split
    · exact h1 _
    · split
      · exact h2 _
      · split
        · exact h3 _
        · exact h4 _

/-- Real cotangents, skip, gain, scales and weights make the cotangent of the scaled rows real. -/
theorem slope_real (x0 : Cert.Kernel8Ideal.S2x4352x512.Idx → EReal) (x1 : Cert.Kernel8Ideal.S2x4352x256.Idx → EReal)
    (x2 x3 x4 x5 : Cert.Kernel8Ideal.S2x4352x512.Idx → EReal) (x6 : Cert.Kernel8Ideal.S1x512.Idx → EReal) (g : Gain) (md : Modulation)
    (w : Cert.Kernel8Ideal.S1024x2304.Idx → EReal) (h0 : ∀ i, IsReal (x0 i)) (h1 : ∀ i, IsReal (x1 i)) (h2 : ∀ i, IsReal (x2 i))
    (h3 : ∀ i, IsReal (x3 i)) (h4 : ∀ i, IsReal (x4 i)) (h5 : ∀ i, IsReal (x5 i)) (h6 : ∀ i, IsReal (x6 i))
    (hg : ∀ i, IsReal (g i)) (hm : ∀ b s l, IsReal (md (ix4 b s 1 l))) (hw : ∀ i, IsReal (w i))
    (b : Fin 2) (t : Fin 4352) (l : Fin 1024) : IsReal (slope (dy (parts x0 x1 x2 x3 x4 x5 x6) w) g md b t l) := by
  have hv : ∀ k, IsReal (parts x0 x1 x2 x3 x4 x5 x6 b t k) :=
    sideBySide_real _ _ _ _ _ (fun _ => h0 _) (fun _ => h1 _) (fun _ => h2 _) (fun _ => isReal_add (h3 _) ((h5 _).mul (h6 _))) (fun _ => h4 _)
  exact ((isReal_sum fun k => (hv k).mul (hw _)).mul (hg _)).mul (isReal_add ⟨1, rfl⟩ (hm _ _ _))

end Cert.EvenFinite

end
-- ==== Proof.EvenClaim.lean ====
/- The claims about the gradient of the even layers' norm and input product. -/
module

public import proofs.«01_k».proof.Defs
public import proofs.«01_k».proof.Proof.EvenArray
public import proofs.«01_k».proof.Proof.EvenRef
public import proofs.«01_k».proof.Proof.EvenFinite
public import proofs.«01_k».proof.Proof.Gen.Reference8Ideal.Run
public import proofs.«01_k».proof.Proof.Gen.Kernel8
public import Idealize.ShloMosaic.Lib.Quiescent

@[expose] public section

set_option maxRecDepth 16384

noncomputable section

namespace Cert.EvenClaim

open Idealize.ShloMosaic Idealize.ShloMosaic.TcCoe Idealize.SL.Sem Cert.Norm
open Cert.Kernel8Ideal.Norm (ct dz a7 a8 a9 a10 partsArr)

set_option maxHeartbeats 4000000 in
/-- The two programs' body tables are one. -/
theorem bodies : @Cert.Kernel8.defs₀ Bits _ _ = @Cert.Kernel8Ideal.defs₀ Bits _ _ := by
  refine congrArg Defs.onTc ?_
  funext l a
  match l, a with
  | 0, (t, s) => rfl

theorem tables : @Cert.Kernel8.defs Bits _ _ = @Cert.Kernel8Ideal.defs Bits _ _ :=
  congrArg (Pipeline.defs Cert.Kernel8Ideal.pcfgs) bodies

theorem frame_kernel : Cert.quiescent_Kernel8 := by
  intro m ρ _
  rw [tables]
  exact Cert.Kernel8Ideal.Norm.frame (F := Bits) m ρ

theorem frame_reference : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

theorem algebraic [Cert.Pre_finite8.Facts] : Cert.algebraic_Kernel8Ideal_Reference8Ideal_pre_finite8 := by
  intro m ρ m' ρ' hp hagree
  refine ⟨fun c => gradIn (ct m c) (a7 m c) (a8 m c) (a9 m c) (a10 m c), fun c => partsArr (dz m c),
    fun c => gradMod (ct m c) (a8 m c) (a9 m c), fun c => gradGain (ct m c) (a8 m c) (a10 m c), ?_, ?_⟩
  · refine (θ_run Cert.Kernel8Ideal.defs _ _).mono (fun _ h c => ?_)
      (θ_run_and (Cert.Kernel8Ideal.Norm.run_results m ρ) (Cert.Kernel8Ideal.Norm.frame m ρ))
    obtain ⟨r0, r1, r2, r3⟩ := h.1 c
    exact ⟨r0, r1, r2, r3, h.2.1 c⟩
  · refine (θ_run Cert.Reference8Ideal.defs _ _).mono (fun _ h c => ?_) (Cert.Reference8Ideal.Value.run (F := Ideal) m' ρ')
    obtain ⟨r0, r1, r2, r3, rest⟩ := h c
    obtain ⟨h0, h1, h2, h3, h4, h5, h6, h7, h8, h9, h10, h11⟩ := hagree c
    obtain ⟨⟨f0, f1, f2, f3, f4, f5, f6⟩, f8, f9, f10, f11⟩ := Cert.EvenFinite.isReal_of_pre _ _ _ _ _ _ _ _ _ _ _ _ (hp c)
    refine ⟨r0.trans ?_, r1.trans ?_, r2.trans ?_, r3.trans ?_, rest⟩
    · refine (Cert.Reference8Ideal.Read.val_main_v94_eq m' c).trans ?_
      rw [h0, h1, h2, h3, h4, h5, h6, h7, h8, h9, h10, h11]
      exact Cert.Reference8Ideal.Norm.v94 _ _ _ _ _ _ _ _ _ _ _ _ f8
        (Cert.EvenFinite.slope_real _ _ _ _ _ _ _ _ _ _ f0 f1 f2 f3 f4 f5 f6 f9 f10 f11)
    · refine (Cert.Reference8Ideal.Read.val_main_v95_eq _ _ _ _ _ _ _).trans ?_
      rw [h0, h1, h2, h3, h4, h5, h6]
      exact Cert.Reference8Ideal.Norm.v95 _ _ _ _ _ _ _
    · refine (Cert.Reference8Ideal.Read.val_main_v99_eq m' c).trans ?_
      rw [h0, h1, h2, h3, h4, h5, h6, h8, h9, h11]
      exact Cert.Reference8Ideal.Norm.v99 _ _ _ _ _ _ _ _ _ _
    · refine (Cert.Reference8Ideal.Read.val_main_v102_eq _ _ _ _ _ _ _ _ _ _).trans ?_
      rw [h0, h1, h2, h3, h4, h5, h6, h8, h10, h11]
      exact Cert.Reference8Ideal.Norm.v102 _ _ _ _ _ _ _ _ _ _

end Cert.EvenClaim

end
-- ==== Proof.WeightIdeal.lean ====
/- The gradient of the odd layers' input weights, accumulated over blocks of 512 rows: one sum over all the rows. -/
module

public import proofs.«01_k».proof.Proof.Gen.Kernel4Ideal.Value
public import proofs.«01_k».proof.Proof.RowBlocks

@[expose] public section

set_option maxRecDepth 16384

noncomputable section

namespace Cert.Kernel4Ideal.Weight

open Cert.Kernel4Ideal Cert.Kernel4Ideal.Gen Idealize.ShloMosaic Idealize.ShloMosaic.TcCoe Idealize.SL.Sem
open Cert.RowBlocks

/-- One step of the accumulation at an entry: the product of the two blocks is added. -/
theorem step_apply (acc : Vec Ideal S1024x1024 .f32) (x y : Vec Ideal S512x1024 .bf16) (p q : Fin 1024) :
    (k0_pay2 acc x y : S1024x1024.Idx → EReal) (ix2 p q) = acc (ix2 p q) + ∑ k : Fin 512, (x (ix2 k p) : EReal) * y (ix2 k q) := by
  unfold k0_pay2
  pointwise

theorem zero_apply (p q : Fin 1024) : (k0_pay1 (F := Ideal) : S1024x1024.Idx → EReal) (ix2 p q) = 0 := by
  unfold k0_pay1
  pointwise

variable (m : (ℓ : Loc nD τ sig) → Buf (Elt Ideal) ℓ) (ρ : Dev nD → PrngReg)

/-- The rows the layer's norm left. -/
abbrev lhs (c : Dev nD) : S2x4352x1024.Idx → EReal := m ((c : Thread nD τ).loc main_arg0)
/-- The cotangent of the projection. -/
abbrev rhs (c : Dev nD) : S2x4352x2048.Idx → EReal := m ((c : Thread nD τ).loc main_arg1)

theorem V0_eq (c : Dev nD) : (V m c main_v0 : S8704x1024.Idx → EReal) = shapeCast S8704x1024 (lhs m c) shapeCasts_S2x4352x1024_S8704x1024 := by
  unfold V hostOps0; after_results; rfl

theorem V1_eq (c : Dev nD) : (V m c main_v1 : S8704x2048.Idx → EReal) = shapeCast S8704x2048 (rhs m c) shapeCasts_S2x4352x2048_S8704x2048 := by
  unfold V hostOps0; after_results; rfl

/-- Where the blocks of point `t` lie: block `t % 17` of the rows, and column block `t / 17` of the cotangent. -/
theorem idx_facts : ∀ t : Fin cfg0.N, win0_0.index t 0 = t.val % 17 ∧ win0_0.index t 1 = 0
    ∧ win0_1.index t 0 = t.val % 17 ∧ win0_1.index t 1 = t.val / 17 :=
  (by decide +kernel : ∀ t : Fin grid0.N, win0_0.index t 0 = t.val % 17 ∧ win0_0.index t 1 = 0
    ∧ win0_1.index t 0 = t.val % 17 ∧ win0_1.index t 1 = t.val / 17)

/-- The array the accumulation leaves: the rows times the cotangent, contracted over the rows of both sequences. -/
theorem G_eq (c : Dev nD) : Value.G2 m c = product (lhs m c) (rhs m c) := by
  funext i
  have hi0 : (i 0).val < 1024 := (i 0).isLt
  have hi1 : (i 1).val < 2048 := (i 1).isLt
  have hrun : Value.run2Of i = (i 1).val / 1024 := by
    show 2 * ((i 0).val / 1024 - 0) + 1 * ((i 1).val / 1024 - 0) = _; omega
  have hN : 17 * Value.run2Of i + 16 < cfg0.N := by rw [hrun]; show _ < 34; omega
  unfold Value.G2
  rw [dif_pos hN]
  refine accumulated (lhs m c) (rhs m c) _ _ (iblk m c 0) (iblk m c 1)
    (fun t k p => ⟨(win0_0.rect t).emb (ix2 k p), congrFun (V0_eq m c) _, ?_, ?_⟩)
    (fun t k q => ⟨(win0_1.rect t).emb (ix2 k q), congrFun (V1_eq m c) _, ?_, ?_⟩)
    (k0_pay1 (F := Ideal)) (k0_pay2 (F := Ideal)) zero_apply step_apply _ hN (Value.loc2Of i) i (Nat.mod_eq_of_lt hi0) ?_
  · rw [win0_0.rect_emb_val t, (idx_facts t).1]; rfl
  · rw [win0_0.rect_emb_val t, (idx_facts t).2.1]; rfl
  · rw [win0_1.rect_emb_val t, (idx_facts t).2.2.1]; rfl
  · rw [win0_1.rect_emb_val t, (idx_facts t).2.2.2]; rfl
  · rw [hrun]; exact (Nat.div_add_mod _ _).symm

/-- The run, read: the result is the gradient, the arguments unchanged. -/
theorem run : θ_run defs (onTc (τ := τ) (main (F := Ideal))) ⟨m, fun _ => 0, ρ⟩ fun r => ∀ c : Dev nD,
      r.2.mem ((c : Thread nD τ).loc main_v2) = product (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (G_eq m c), (h c).2⟩) (Value.run m ρ)

end Cert.Kernel4Ideal.Weight

end
-- ==== Proof.WeightClaim.lean ====
/- The claims about the gradient of the odd layers' input weights. -/
module

public import proofs.«01_k».proof.Defs
public import proofs.«01_k».proof.Proof.WeightIdeal
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Weight

open Idealize.ShloMosaic Idealize.ShloMosaic.TcCoe Idealize.SL.Sem Cert.RowBlocks

/-- The reference's product, transposed, is the same contraction. -/
theorem reference_eq (x : Cert.Reference4Ideal.S2x4352x1024.Idx → EReal) (y : Cert.Reference4Ideal.S2x4352x2048.Idx → EReal) :
    Cert.Reference4Ideal.Read.val_main_v5 (F := Ideal) x y = product x y :=
  transposed_product _ rfl rfl rfl (fun _ _ => ⟨rfl, rfl, rfl⟩) (fun _ _ => ⟨rfl, rfl, rfl⟩) _ _ _

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => product (Cert.Kernel4Ideal.Weight.lhs m c) (Cert.Kernel4Ideal.Weight.rhs m c), Cert.Kernel4Ideal.Weight.run m ρ, ?_⟩
  refine (θ_run Cert.Reference4Ideal.defs _ _).mono (fun _ h c => ⟨(h c).1.trans ?_, (h c).2⟩) (Cert.Reference4Ideal.Value.run (F := Ideal) m' ρ')
  refine (Cert.Reference4Ideal.Read.val_main_v5_eq _ _).trans ((reference_eq _ _).trans ?_)
  obtain ⟨h0, h1⟩ := hagree c
  rw [h0, h1]

end Cert.Weight

end
-- ==== Proof.OutWeight.lean ====
/- The claims about the gradient of a layer's output weights: `RowBlocks` at one tile of 1024 columns. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.RowBlocks
public import Idealize.ShloMosaic.Lib.Quiescent

@[expose] public section

set_option maxRecDepth 16384

noncomputable section

namespace Cert.Kernel5Ideal.Weight

open Cert.Kernel5Ideal Cert.Kernel5Ideal.Gen Idealize.ShloMosaic Idealize.ShloMosaic.TcCoe Idealize.SL.Sem
open Cert.RowBlocks

theorem step_apply (acc : Vec Ideal S1024x1024 .f32) (x y : Vec Ideal S512x1024 .bf16) (p q : Fin 1024) :
    (k0_pay2 acc x y : S1024x1024.Idx → EReal) (ix2 p q) = acc (ix2 p q) + ∑ k : Fin 512, (x (ix2 k p) : EReal) * y (ix2 k q) := by
  unfold k0_pay2
  pointwise

theorem zero_apply (p q : Fin 1024) : (k0_pay1 (F := Ideal) : S1024x1024.Idx → EReal) (ix2 p q) = 0 := by
  unfold k0_pay1
  pointwise

variable (m : (ℓ : Loc nD τ sig) → Buf (Elt Ideal) ℓ)

/-- The rows the layer mixed. -/
abbrev mix (c : Dev nD) : S2x4352x1024.Idx → EReal := m ((c : Thread nD τ).loc main_arg0)
/-- The cotangent of the layer's output. -/
abbrev dy (c : Dev nD) : S2x4352x1024.Idx → EReal := m ((c : Thread nD τ).loc main_arg1)

theorem V0_eq (c : Dev nD) : (V m c main_v0 : S8704x1024.Idx → EReal) = shapeCast S8704x1024 (mix m c) shapeCasts_S2x4352x1024_S8704x1024 := by
  unfold V hostOps0; after_results; rfl

theorem V1_eq (c : Dev nD) : (V m c main_v1 : S8704x1024.Idx → EReal) = shapeCast S8704x1024 (dy m c) shapeCasts_S2x4352x1024_S8704x1024 := by
  unfold V hostOps0; after_results; rfl

theorem idx_facts : ∀ t : Fin cfg0.N, win0_0.index t 0 = t.val % 17 ∧ win0_0.index t 1 = 0
    ∧ win0_1.index t 0 = t.val % 17 ∧ win0_1.index t 1 = t.val / 17 :=
  (by decide +kernel : ∀ t : Fin grid0.N, win0_0.index t 0 = t.val % 17 ∧ win0_0.index t 1 = 0
    ∧ win0_1.index t 0 = t.val % 17 ∧ win0_1.index t 1 = t.val / 17)

theorem G_eq (c : Dev nD) : Value.G2 m c = product (mix m c) (dy m c) := by
  funext i
  have hi0 : (i 0).val < 1024 := (i 0).isLt
  have hi1 : (i 1).val < 1024 := (i 1).isLt
  have hrun : Value.run2Of i = (i 1).val / 1024 := by
    show 1 * ((i 0).val / 1024 - 0) + 1 * ((i 1).val / 1024 - 0) = _; omega
  have hN : 17 * Value.run2Of i + 16 < cfg0.N := by rw [hrun]; show _ < 17; omega
  refine (dif_pos hN).trans (accumulated (mix m c) (dy m c) _ _ (iblk m c 0) (iblk m c 1)
    (fun t k p => ⟨(win0_0.rect t).emb (ix2 k p), congrFun (V0_eq m c) _, ?_, ?_⟩)
    (fun t k q => ⟨(win0_1.rect t).emb (ix2 k q), congrFun (V1_eq m c) _, ?_, ?_⟩)
    (k0_pay1 (F := Ideal)) (k0_pay2 (F := Ideal)) zero_apply step_apply _ hN (Value.loc2Of i) i (Nat.mod_eq_of_lt hi0)
    (hrun ▸ (Nat.div_add_mod _ _).symm))
  · rw [win0_0.rect_emb_val t, (idx_facts t).1]; rfl
  · rw [win0_0.rect_emb_val t, (idx_facts t).2.1]; rfl
  · rw [win0_1.rect_emb_val t, (idx_facts t).2.2.1]; rfl
  · rw [win0_1.rect_emb_val t, (idx_facts t).2.2.2]; rfl

theorem reference_eq (x y : Cert.Reference5Ideal.S2x4352x1024.Idx → EReal) :
    Cert.Reference5Ideal.Read.val_main_v5 (F := Ideal) x y = product x y :=
  transposed_product _ rfl rfl rfl (fun _ _ => ⟨rfl, rfl, rfl⟩) (fun _ _ => ⟨rfl, rfl, rfl⟩) _ _ _

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => product (mix m c) (dy m c),
    (θ_run defs _ _).mono (fun _ h c => ⟨(h c).1.trans (G_eq m c), (h c).2⟩) (Value.run m ρ),
    (θ_run Cert.Reference5Ideal.defs _ _).mono (fun _ h c => ⟨(h c).1.trans ?_, (h c).2⟩) (Cert.Reference5Ideal.Value.run (F := Ideal) m' ρ')⟩
  refine (Cert.Reference5Ideal.Read.val_main_v5_eq _ _).trans ((reference_eq _ _).trans ?_)
  rw [(hagree c).1, (hagree c).2]

end Cert.Kernel5Ideal.Weight

end
-- ==== Proof.EvenWeight.lean ====
/- The claims about the gradient of the even layers' input weights: `RowBlocks` at three tiles of 768 columns. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.RowBlocks
public import Idealize.ShloMosaic.Lib.Quiescent

@[expose] public section

set_option maxRecDepth 16384

noncomputable section

namespace Cert.Kernel6Ideal.Weight

open Cert.Kernel6Ideal Cert.Kernel6Ideal.Gen Idealize.ShloMosaic Idealize.ShloMosaic.TcCoe Idealize.SL.Sem
open Cert.RowBlocks

theorem step_apply (acc : Vec Ideal S1024x768 .f32) (x : Vec Ideal S512x1024 .bf16) (y : Vec Ideal S512x768 .bf16) (p : Fin 1024) (q : Fin 768) :
    (k0_pay2 acc x y : S1024x768.Idx → EReal) (ix2 p q) = acc (ix2 p q) + ∑ k : Fin 512, (x (ix2 k p) : EReal) * y (ix2 k q) := by
  unfold k0_pay2
  pointwise

theorem zero_apply (p : Fin 1024) (q : Fin 768) : (k0_pay1 (F := Ideal) : S1024x768.Idx → EReal) (ix2 p q) = 0 := by
  unfold k0_pay1
  pointwise

variable (m : (ℓ : Loc nD τ sig) → Buf (Elt Ideal) ℓ)

/-- The rows the layer's norm left. -/
abbrev normed (c : Dev nD) : S2x4352x1024.Idx → EReal := m ((c : Thread nD τ).loc main_arg0)
/-- The cotangent of the five projections, side by side. -/
abbrev dz (c : Dev nD) : S2x4352x2304.Idx → EReal := m ((c : Thread nD τ).loc main_arg1)

theorem V0_eq (c : Dev nD) : (V m c main_v0 : S8704x1024.Idx → EReal) = shapeCast S8704x1024 (normed m c) shapeCasts_S2x4352x1024_S8704x1024 := by
  unfold V hostOps0; after_results; rfl

theorem V1_eq (c : Dev nD) : (V m c main_v1 : S8704x2304.Idx → EReal) = shapeCast S8704x2304 (dz m c) shapeCasts_S2x4352x2304_S8704x2304 := by
  unfold V hostOps0; after_results; rfl

theorem idx_facts : ∀ t : Fin cfg0.N, win0_0.index t 0 = t.val % 17 ∧ win0_0.index t 1 = 0
    ∧ win0_1.index t 0 = t.val % 17 ∧ win0_1.index t 1 = t.val / 17 :=
  (by decide +kernel : ∀ t : Fin grid0.N, win0_0.index t 0 = t.val % 17 ∧ win0_0.index t 1 = 0
    ∧ win0_1.index t 0 = t.val % 17 ∧ win0_1.index t 1 = t.val / 17)

theorem G_eq (c : Dev nD) : Value.G2 m c = product (normed m c) (dz m c) := by
  funext i
  have hi0 : (i 0).val < 1024 := (i 0).isLt
  have hi1 : (i 1).val < 2304 := (i 1).isLt
  have hrun : Value.run2Of i = (i 1).val / 768 := by
    show 3 * ((i 0).val / 1024 - 0) + 1 * ((i 1).val / 768 - 0) = _; omega
  have hN : 17 * Value.run2Of i + 16 < cfg0.N := by rw [hrun]; show _ < 51; omega
  refine (dif_pos hN).trans (accumulated (normed m c) (dz m c) _ _ (iblk m c 0) (iblk m c 1)
    (fun t k p => ⟨(win0_0.rect t).emb (ix2 k p), congrFun (V0_eq m c) _, ?_, ?_⟩)
    (fun t k q => ⟨(win0_1.rect t).emb (ix2 k q), congrFun (V1_eq m c) _, ?_, ?_⟩)
    (k0_pay1 (F := Ideal)) (k0_pay2 (F := Ideal)) zero_apply step_apply _ hN (Value.loc2Of i) i (Nat.mod_eq_of_lt hi0)
    (hrun ▸ (Nat.div_add_mod _ _).symm))
  · rw [win0_0.rect_emb_val t, (idx_facts t).1]; rfl
  · rw [win0_0.rect_emb_val t, (idx_facts t).2.1]; rfl
  · rw [win0_1.rect_emb_val t, (idx_facts t).2.2.1]; rfl
  · rw [win0_1.rect_emb_val t, (idx_facts t).2.2.2]; rfl

theorem reference_eq (x : Cert.Reference6Ideal.S2x4352x1024.Idx → EReal) (y : Cert.Reference6Ideal.S2x4352x2304.Idx → EReal) :
    Cert.Reference6Ideal.Read.val_main_v5 (F := Ideal) x y = product x y :=
  transposed_product _ rfl rfl rfl (fun _ _ => ⟨rfl, rfl, rfl⟩) (fun _ _ => ⟨rfl, rfl, rfl⟩) _ _ _

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => product (normed m c) (dz m c),
    (θ_run defs _ _).mono (fun _ h c => ⟨(h c).1.trans (G_eq m c), (h c).2⟩) (Value.run m ρ),
    (θ_run Cert.Reference6Ideal.defs _ _).mono (fun _ h c => ⟨(h c).1.trans ?_, (h c).2⟩) (Cert.Reference6Ideal.Value.run (F := Ideal) m' ρ')⟩
  refine (Cert.Reference6Ideal.Read.val_main_v5_eq _ _).trans ((reference_eq _ _).trans ?_)
  rw [(hagree c).1, (hagree c).2]

end Cert.Kernel6Ideal.Weight

end
-- ==== Proof.GluWeight.lean ====
/- The claims about the gradient of the weights of the S5 branch's gate: `RowBlocks` at one tile of 512 columns. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.RowBlocks
public import Idealize.ShloMosaic.Lib.Quiescent

@[expose] public section

set_option maxRecDepth 16384

noncomputable section

namespace Cert.Kernel7Ideal.Weight

open Cert.Kernel7Ideal Cert.Kernel7Ideal.Gen Idealize.ShloMosaic Idealize.ShloMosaic.TcCoe Idealize.SL.Sem
open Cert.RowBlocks

theorem step_apply (acc : Vec Ideal S512x512 .f32) (x y : Vec Ideal S512x512 .bf16) (p q : Fin 512) :
    (k0_pay2 acc x y : S512x512.Idx → EReal) (ix2 p q) = acc (ix2 p q) + ∑ k : Fin 512, (x (ix2 k p) : EReal) * y (ix2 k q) := by
  unfold k0_pay2
  pointwise

theorem zero_apply (p q : Fin 512) : (k0_pay1 (F := Ideal) : S512x512.Idx → EReal) (ix2 p q) = 0 := by
  unfold k0_pay1
  pointwise

variable (m : (ℓ : Loc nD τ sig) → Buf (Elt Ideal) ℓ)

/-- The rows the gate is read from. -/
abbrev zz (c : Dev nD) : S2x4352x512.Idx → EReal := m ((c : Thread nD τ).loc main_arg0)
/-- The cotangent of the gate before its sigmoid. -/
abbrev ds (c : Dev nD) : S2x4352x512.Idx → EReal := m ((c : Thread nD τ).loc main_arg1)

theorem V0_eq (c : Dev nD) : (V m c main_v0 : S8704x512.Idx → EReal) = shapeCast S8704x512 (zz m c) shapeCasts_S2x4352x512_S8704x512 := by
  unfold V hostOps0; after_results; rfl

theorem V1_eq (c : Dev nD) : (V m c main_v1 : S8704x512.Idx → EReal) = shapeCast S8704x512 (ds m c) shapeCasts_S2x4352x512_S8704x512 := by
  unfold V hostOps0; after_results; rfl

theorem idx_facts : ∀ t : Fin cfg0.N, win0_0.index t 0 = t.val % 17 ∧ win0_0.index t 1 = 0
    ∧ win0_1.index t 0 = t.val % 17 ∧ win0_1.index t 1 = t.val / 17 :=
  (by decide +kernel : ∀ t : Fin grid0.N, win0_0.index t 0 = t.val % 17 ∧ win0_0.index t 1 = 0
    ∧ win0_1.index t 0 = t.val % 17 ∧ win0_1.index t 1 = t.val / 17)

theorem G_eq (c : Dev nD) : Value.G2 m c = product (zz m c) (ds m c) := by
  funext i
  have hi0 : (i 0).val < 512 := (i 0).isLt
  have hi1 : (i 1).val < 512 := (i 1).isLt
  have hrun : Value.run2Of i = (i 1).val / 512 := by
    show 1 * ((i 0).val / 512 - 0) + 1 * ((i 1).val / 512 - 0) = _; omega
  have hN : 17 * Value.run2Of i + 16 < cfg0.N := by rw [hrun]; show _ < 17; omega
  refine (dif_pos hN).trans (accumulated (zz m c) (ds m c) _ _ (iblk m c 0) (iblk m c 1)
    (fun t k p => ⟨(win0_0.rect t).emb (ix2 k p), congrFun (V0_eq m c) _, ?_, ?_⟩)
    (fun t k q => ⟨(win0_1.rect t).emb (ix2 k q), congrFun (V1_eq m c) _, ?_, ?_⟩)
    (k0_pay1 (F := Ideal)) (k0_pay2 (F := Ideal)) zero_apply step_apply _ hN (Value.loc2Of i) i (Nat.mod_eq_of_lt hi0)
    (hrun ▸ (Nat.div_add_mod _ _).symm))
  · rw [win0_0.rect_emb_val t, (idx_facts t).1]; rfl
  · rw [win0_0.rect_emb_val t, (idx_facts t).2.1]; rfl
  · rw [win0_1.rect_emb_val t, (idx_facts t).2.2.1]; rfl
  · rw [win0_1.rect_emb_val t, (idx_facts t).2.2.2]; rfl

theorem reference_eq (x y : Cert.Reference7Ideal.S2x4352x512.Idx → EReal) :
    Cert.Reference7Ideal.Read.val_main_v5 (F := Ideal) x y = product x y :=
  transposed_product _ rfl rfl rfl (fun _ _ => ⟨rfl, rfl, rfl⟩) (fun _ _ => ⟨rfl, rfl, rfl⟩) _ _ _

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => product (zz m c) (ds m c),
    (θ_run defs _ _).mono (fun _ h c => ⟨(h c).1.trans (G_eq m c), (h c).2⟩) (Value.run m ρ),
    (θ_run Cert.Reference7Ideal.defs _ _).mono (fun _ h c => ⟨(h c).1.trans ?_, (h c).2⟩) (Cert.Reference7Ideal.Value.run (F := Ideal) m' ρ')⟩
  refine (Cert.Reference7Ideal.Read.val_main_v5_eq _ _).trans ((reference_eq _ _).trans ?_)
  rw [(hagree c).1, (hagree c).2]

end Cert.Kernel7Ideal.Weight

end
-- ==== Proof.Forward.lean ====
/- The modulated norm of the rows, its product with the weights of the parts that leave it, and the columns of each part;
   and what one step of a launch over blocks of rows makes of its block. -/
module

public import proofs.«01_k».proof.Proof.NormCover
public import proofs.«01_k».proof.Proof.Gen.Kernel9Ideal.Value

@[expose] public section

set_option maxRecDepth 16384

noncomputable section

namespace Cert.Norm

open Idealize.ShloMosaic Cert.Rows

/-- The rows brought to unit mean square, times the gain, scaled and shifted by their segment's modulation. -/
def modulated (h : RowsOf) (g : Gain) (md : Modulation) : RowsOf := fun i =>
  unit h (i 0) (i 1) (i 2) * g (ix2 0 (i 2)) * onePlus md (i 0) (i 1) (i 2) + md (ix4 (i 0) (seg (i 1)) 0 (i 2))

/-- Rows times weights. -/
def projected {n : ℕ} (y : RowsOf) (w : (⟨2, ![1024, n]⟩ : Shape).Idx → EReal) (b : Fin 2) (t : Fin 4352) (k : Fin n) : EReal :=
  ∑ l : Fin 1024, y (ix3 b t l) * w (ix2 l k)

/-- The `k` columns of such a product from column `o` on. -/
def columns {n : ℕ} (o k : ℕ) (ho : o + k ≤ n) (y : RowsOf) (w : (⟨2, ![1024, n]⟩ : Shape).Idx → EReal) : (⟨3, ![2, 4352, k]⟩ : Shape).Idx → EReal :=
  fun i => projected y w (i 0) (i 1) ⟨o + (i 2).val, Nat.lt_of_lt_of_le (Nat.add_lt_add_left (i 2).isLt o) ho⟩

end Cert.Norm

namespace Cert.Kernel9Ideal.Forward

open Idealize.ShloMosaic Idealize.ShloMosaic.TcCoe Idealize.SL.Sem
open Cert.Kernel9Ideal.Gen Cert.Rows Cert.Norm

theorem normed_apply (x0 : Vec Ideal S1x256x1024 .f32) (x1 : Vec Ideal S1x1024 .f32) (s0 s1 : Vec Ideal S1x1x1x1024 .f32) (r : Fin 256) (l : Fin 1024) :
    (k0_pay3 (F := Ideal) x0 x1 s1 s0 : S256x1024.Idx → EReal) (ix2 r l)
      = (x0 : S1x256x1024.Idx → EReal) (ix3 0 r l) * recip (fun x => (x0 : S1x256x1024.Idx → EReal) (ix3 0 r x)) * (x1 : S1x1024.Idx → EReal) (ix2 0 l)
          * (1 + (s1 : S1x1x1x1024.Idx → EReal) (ix4 0 0 0 l)) + (s0 : S1x1x1x1024.Idx → EReal) (ix4 0 0 0 l) := by
  unfold k0_pay3 recip meanSq
  pointwise

/-- Row `k` of a segment's block. -/
theorem load_row (x2 : Vec Ideal S1x1x8x1024 .f32) (l : Fin 1024) :
    (View.ld x2 r0_2 : S1x1x1x1024.Idx → EReal) (ix4 0 0 0 l) = (x2 : S1x1x8x1024.Idx → EReal) (ix4 0 0 1 l)
    ∧ (View.ld x2 r0_3 : S1x1x1x1024.Idx → EReal) (ix4 0 0 0 l) = (x2 : S1x1x8x1024.Idx → EReal) (ix4 0 0 0 l) := by
  refine ⟨congrArg (x2 : S1x1x8x1024.Idx → EReal) (segment_idx 1 l _ rfl ?_), congrArg (x2 : S1x1x8x1024.Idx → EReal) (segment_idx 0 l _ rfl ?_)⟩
  · show 0 + 1 * l.val = l.val; omega
  · show 0 + 1 * l.val = l.val; omega

/-- The block of the modulated norm that a step makes of its blocks of rows and of the modulation. -/
def normedBlock (x0 : Vec Ideal S1x256x1024 .f32) (x1 : Vec Ideal S1x1024 .f32) (x2 : Vec Ideal S1x1x8x1024 .f32) : FVec Ideal S256x1024 .bf16 :=
  k0_pay3 (F := Ideal) x0 x1 (View.ld x2 r0_2) (View.ld x2 r0_3)

theorem normed_at {N : ℕ} (t : Fin N) (h : RowsOf) (g : Gain) (md : Modulation) (x0 : Vec Ideal S1x256x1024 .f32) (x1 : Vec Ideal S1x1024 .f32)
    (x2 : Vec Ideal S1x1x8x1024 .f32)
    (h0 : ∀ (r : Fin 256) (l : Fin 1024), (x0 : S1x256x1024.Idx → EReal) (ix3 0 r l) = h (ix3 (seqOf t) (rowAt t r) l))
    (h1 : ∀ l : Fin 1024, (x1 : S1x1024.Idx → EReal) (ix2 0 l) = g (ix2 0 l))
    (h2 : ∀ (r : Fin 8) (l : Fin 1024), (x2 : S1x1x8x1024.Idx → EReal) (ix4 0 0 r l) = md (ix4 (seqOf t) (segOf t) r l))
    (r : Fin 256) (l : Fin 1024) :
    (normedBlock x0 x1 x2 : S256x1024.Idx → EReal) (ix2 r l) = modulated h g md (ix3 (seqOf t) (rowAt t r) l) := by
  unfold normedBlock
  rw [normed_apply, (load_row x2 l).1, (load_row x2 l).2, h1, h2, h2, h0, show (fun x => (x0 : S1x256x1024.Idx → EReal) (ix3 0 r x)) = rowOf h (seqOf t) (rowAt t r) from funext fun x => h0 r x]
  show _ = unit h (seqOf t) (rowAt t r) l * g (ix2 0 l) * onePlus md (seqOf t) (rowAt t r) l + md (ix4 (seqOf t) (seg (rowAt t r)) 0 l)
  unfold onePlus
  rw [seg_rowAt]
  rfl

/-- A step's block of a product, from its block of the rows. -/
theorem product_at {N n : ℕ} (t : Fin N) (y : RowsOf) (w : (⟨2, ![1024, n]⟩ : Shape).Idx → EReal) (v : S256x1024.Idx → EReal)
    (x : (⟨2, ![1024, n]⟩ : Shape).Idx → EReal) (hv : ∀ (r : Fin 256) (l : Fin 1024), v (ix2 r l) = y (ix3 (seqOf t) (rowAt t r) l))
    (hx : ∀ (l : Fin 1024) (k : Fin n), x (ix2 l k) = w (ix2 l k)) (r : Fin 256) (k : Fin n) :
    ∑ l : Fin 1024, v (ix2 r l) * x (ix2 l k) = projected y w (seqOf t) (rowAt t r) k :=
  Finset.sum_congr rfl fun l _ => congrArg₂ (fun a b : EReal => a * b) (hv r l) (hx l k)

end Cert.Kernel9Ideal.Forward

end
-- ==== Proof.ForwardOdd.lean ====
/- The arrays the odd layers' norm-and-projection kernel leaves over the reals: the modulated norm of the rows, and the parts of
   its product with the weights. -/
module

public import proofs.«01_k».proof.Proof.Forward

@[expose] public section

set_option maxRecDepth 16384

noncomputable section

namespace Cert.Kernel9Ideal.Forward

open Idealize.ShloMosaic Idealize.ShloMosaic.TcCoe Idealize.SL.Sem
open Cert.Kernel9Ideal.Gen Cert.Rows Cert.Norm

/-! ## The step's values at an entry -/

private theorem hz (n : ℕ) : (![0, 0, 0] : Fin (⟨3, ![1, 256, n]⟩ : Shape).rank → ℕ) = fun _ => 0 := funext fun | ⟨0, _⟩ | ⟨1, _⟩ | ⟨2, _⟩ => rfl
private theorem hz2 (n0 n1 : ℕ) : (![0, 0] : Fin (⟨2, ![n0, n1]⟩ : Shape).rank → ℕ) = fun _ => 0 := funext fun | ⟨0, _⟩ | ⟨1, _⟩ => rfl

/-- A step's block of the product. -/
def productBlock (x0 : Vec Ideal S1x256x1024 .f32) (x1 : Vec Ideal S1x1024 .f32) (x2 : Vec Ideal S1x1x8x1024 .f32) (x3 : Vec Ideal S1024x2048 .bf16) :
    FVec Ideal S256x2048 .f32 := k0_pay5 (F := Ideal) x0 x1 (View.ld x2 r0_2) (View.ld x2 r0_3) (View.ld x3 r0_4)

theorem productBlock_apply (x0 : Vec Ideal S1x256x1024 .f32) (x1 : Vec Ideal S1x1024 .f32) (x2 : Vec Ideal S1x1x8x1024 .f32) (x3 : Vec Ideal S1024x2048 .bf16)
    (r : Fin 256) (k : Fin 2048) :
    (productBlock x0 x1 x2 x3 : S256x2048.Idx → EReal) (ix2 r k)
      = ∑ l : Fin 1024, (normedBlock x0 x1 x2 : S256x1024.Idx → EReal) (ix2 r l) * (x3 : S1024x2048.Idx → EReal) (ix2 l k) := by
  unfold productBlock k0_pay5
  rw [View.ld_unit_zero (hz2 1024 2048)]
  pointwise
  rfl

/-! ## The blocks of a step -/

variable (m : (ℓ : Loc nD τ sig) → Buf (Elt Ideal) ℓ) (ρ : Dev nD → PrngReg)

abbrev a0 (c : Dev nD) : RowsOf := m ((c : Thread nD τ).loc main_arg0)
abbrev a1 (c : Dev nD) : Gain := m ((c : Thread nD τ).loc main_arg1)
abbrev a2 (c : Dev nD) : Modulation := m ((c : Thread nD τ).loc main_arg2)
abbrev a3 (c : Dev nD) : S1024x2048.Idx → EReal := m ((c : Thread nD τ).loc main_arg3)

/-- The modulated norm of the launch's rows. -/
abbrev y (c : Dev nD) : RowsOf := modulated (a0 m c) (a1 m c) (a2 m c)

/-- Where the blocks of a step lie. -/
theorem idx_in : ∀ t : Fin cfg0.N,
    (win0_0.index t 0 = t.val / 17 % 2 ∧ win0_0.index t 1 = t.val % 17 ∧ win0_0.index t 2 = 0)
    ∧ (win0_1.index t 0 = 0 ∧ win0_1.index t 1 = 0)
    ∧ (win0_2.index t 0 = t.val / 17 % 2 ∧ win0_2.index t 1 = min (t.val % 17) 1 ∧ win0_2.index t 2 = 0 ∧ win0_2.index t 3 = 0)
    ∧ (win0_3.index t 0 = 0 ∧ win0_3.index t 1 = 0) :=
  (by decide +kernel : ∀ t : Fin grid0.N, _)

theorem idx_out : ∀ t : Fin cfg0.N,
    (win0_4.index t 0 = t.val / 17 % 2 ∧ win0_4.index t 1 = t.val % 17 ∧ win0_4.index t 2 = 0)
    ∧ (win0_5.index t 0 = t.val / 17 % 2 ∧ win0_5.index t 1 = t.val % 17 ∧ win0_5.index t 2 = 0)
    ∧ (win0_6.index t 0 = t.val / 17 % 2 ∧ win0_6.index t 1 = t.val % 17 ∧ win0_6.index t 2 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) :=
  congrArg (a0 m c) (rows_idx t r l ((win0_0.rect t).emb (ix3 0 r l)) _ _ _ (idx_in t).1
    (win0_0.rect_emb_val t _ 0) (win0_0.rect_emb_val t _ 1) (win0_0.rect_emb_val t _ 2))

theorem iblk1_apply (c : Dev nD) (t : Fin cfg0.N) (l : Fin 1024) : (iblk m c 1 t : S1x1024.Idx → EReal) (ix2 0 l) = a1 m c (ix2 0 l) :=
  congrArg (a1 m c) (whole_idx 0 l ((win0_1.rect t).emb (ix2 0 l)) _ _ (idx_in t).2.1 (win0_1.rect_emb_val t _ 0) (win0_1.rect_emb_val t _ 1))

theorem iblk2_apply (c : Dev nD) (t : Fin cfg0.N) (r : Fin 8) (l : Fin 1024) :
    (iblk m c 2 t : S1x1x8x1024.Idx → EReal) (ix4 0 0 r l) = a2 m c (ix4 (seqOf t) (segOf t) r l) :=
  congrArg (a2 m c) (segs_idx t r l ((win0_2.rect t).emb (ix4 0 0 r l)) _ _ _ _ (idx_in t).2.2.1
    (win0_2.rect_emb_val t _ 0) (win0_2.rect_emb_val t _ 1) (win0_2.rect_emb_val t _ 2) (win0_2.rect_emb_val t _ 3))

theorem iblk3_apply (c : Dev nD) (t : Fin cfg0.N) (l : Fin 1024) (k : Fin 2048) : (iblk m c 3 t : S1024x2048.Idx → EReal) (ix2 l k) = a3 m c (ix2 l k) :=
  congrArg (a3 m c) (whole_idx l k ((win0_3.rect t).emb (ix2 l k)) _ _ (idx_in t).2.2.2 (win0_3.rect_emb_val t _ 0) (win0_3.rect_emb_val t _ 1))

/-- A step's block of the modulated norm, and of the product. -/
theorem normed_step (c : Dev nD) (t : Fin cfg0.N) (r : Fin 256) (l : Fin 1024) :
    (normedBlock (iblk m c 0 t) (iblk m c 1 t) (iblk m c 2 t) : S256x1024.Idx → EReal) (ix2 r l) = y m c (ix3 (seqOf t) (rowAt t r) l) :=
  normed_at t _ _ _ _ _ _ (iblk0_apply m c t) (iblk1_apply m c t) (iblk2_apply m c t) r l

theorem product_step (c : Dev nD) (t : Fin cfg0.N) (r : Fin 256) (k : Fin 2048) :
    (productBlock (iblk m c 0 t) (iblk m c 1 t) (iblk m c 2 t) (iblk m c 3 t) : S256x2048.Idx → EReal) (ix2 r k)
      = projected (y m c) (a3 m c) (seqOf t) (rowAt t r) k :=
  (productBlock_apply _ _ _ _ r k).trans (product_at t _ _ _ _ (normed_step m c t) (iblk3_apply m c t) r k)

/-! ## The arrays -/

theorem out4_apply (x0 : Vec Ideal S1x256x1024 .f32) (x1 : Vec Ideal S1x1024 .f32) (x2 : Vec Ideal S1x1x8x1024 .f32) (x3 : Vec Ideal S1024x2048 .bf16)
    (r : Fin 256) (l : Fin 1024) :
    (out0_4 (F := Ideal) x0 x1 x2 x3 : S1x256x1024.Idx → EReal) (ix3 0 r l) = (normedBlock x0 x1 x2 : S256x1024.Idx → EReal) (ix2 r l) := by
  unfold out0_4
  rw [View.canon_unit_zero (hz 1024), View.ld_unit_zero (hz 1024), View.ld_unit_zero (hz2 1 1024)]
  unfold k0_pay4
  pointwise
  rfl

theorem final_normed (c : Dev nD) : (dats m 0 c).arrAt 4 cfg0.N = y m c := by
  refine (dats m 0 c).arrAt_eq_of_cover 4 _ (fun t _ => ?_) (fun i => ?_)
  · show (cfg0.win 4).cut (grid0.coords t) ((dats m 0 c).after 4 t) = _
    rw [after0_4]
    funext x
    exact rows_block t (out0_4 (F := Ideal) (iblk m c 0 t) (iblk m c 1 t) (iblk m c 2 t) (iblk m c 3 t)) (y m c) (fun r l => (out4_apply _ _ _ _ r l).trans (normed_step m c t r l)) _ _ _ (idx_out t).1
      ((cfg0.win 4).xinj (grid0.coords t) x) (((cfg0.win 4).blk t).view.emb x) rfl rfl rfl
  · obtain ⟨t, h⟩ := rows_covered N_0 i
    refine ⟨t, flush0_4 t, ?_⟩
    show i ∈ ((View.whole main_v0_0).slice (win0_4.rect t)).set
    rw [View.set_slice_whole, Rect.mem_set_unit]
    exact rows_inside t i (win0_4.index t) (idx_out t).1 h

theorem out5_apply (x0 : Vec Ideal S1x256x1024 .f32) (x1 : Vec Ideal S1x1024 .f32) (x2 : Vec Ideal S1x1x8x1024 .f32) (x3 : Vec Ideal S1024x2048 .bf16)
    (r : Fin 256) (l : Fin 1024) :
    (out0_5 (F := Ideal) x0 x1 x2 x3 : S1x256x1024.Idx → EReal) (ix3 0 r l) = (productBlock x0 x1 x2 x3 : S256x2048.Idx → EReal) (ix2 r ⟨0 + l.val, by omega⟩) := by
  unfold out0_5
  rw [View.canon_unit_zero (hz 1024), View.ld_unit_zero (hz 1024), View.ld_unit_zero (hz2 1 1024)]
  unfold k0_pay1 k0_pay6
  pointwise
  rfl

theorem final_left (c : Dev nD) : (dats m 0 c).arrAt 5 cfg0.N = columns 0 1024 (by decide) (y m c) (a3 m c) := by
  refine (dats m 0 c).arrAt_eq_of_cover 5 _ (fun t _ => ?_) (fun i => ?_)
  · show (cfg0.win 5).cut (grid0.coords t) ((dats m 0 c).after 5 t) = _
    rw [after0_5]
    funext x
    exact rows_block t (out0_5 (F := Ideal) (iblk m c 0 t) (iblk m c 1 t) (iblk m c 2 t) (iblk m c 3 t)) (columns 0 1024 (by decide) (y m c) (a3 m c)) (fun r l => (out5_apply _ _ _ _ r l).trans (product_step m c t r ⟨0 + l.val, by omega⟩)) _ _ _ (idx_out t).2.1
      ((cfg0.win 5).xinj (grid0.coords t) x) (((cfg0.win 5).blk t).view.emb x) rfl rfl rfl
  · obtain ⟨t, h⟩ := rows_covered N_0 i
    refine ⟨t, flush0_5 t, ?_⟩
    show i ∈ ((View.whole main_v0_1).slice (win0_5.rect t)).set
    rw [View.set_slice_whole, Rect.mem_set_unit]
    exact rows_inside t i (win0_5.index t) (idx_out t).2.1 h

theorem out6_apply (x0 : Vec Ideal S1x256x1024 .f32) (x1 : Vec Ideal S1x1024 .f32) (x2 : Vec Ideal S1x1x8x1024 .f32) (x3 : Vec Ideal S1024x2048 .bf16)
    (r : Fin 256) (l : Fin 1024) :
    (out0_6 (F := Ideal) x0 x1 x2 x3 : S1x256x1024.Idx → EReal) (ix3 0 r l) = (productBlock x0 x1 x2 x3 : S256x2048.Idx → EReal) (ix2 r ⟨1024 + l.val, by omega⟩) := by
  unfold out0_6
  rw [View.canon_unit_zero (hz 1024), View.ld_unit_zero (hz 1024), View.ld_unit_zero (hz2 1 1024)]
  unfold k0_pay2
  pointwise
  rfl

theorem final_gate (c : Dev nD) : (dats m 0 c).arrAt 6 cfg0.N = columns 1024 1024 (by decide) (y m c) (a3 m c) := by
  refine (dats m 0 c).arrAt_eq_of_cover 6 _ (fun t _ => ?_) (fun i => ?_)
  · show (cfg0.win 6).cut (grid0.coords t) ((dats m 0 c).after 6 t) = _
    rw [after0_6]
    funext x
    exact rows_block t (out0_6 (F := Ideal) (iblk m c 0 t) (iblk m c 1 t) (iblk m c 2 t) (iblk m c 3 t)) (columns 1024 1024 (by decide) (y m c) (a3 m c)) (fun r l => (out6_apply _ _ _ _ r l).trans (product_step m c t r ⟨1024 + l.val, by omega⟩)) _ _ _ (idx_out t).2.2
      ((cfg0.win 6).xinj (grid0.coords t) x) (((cfg0.win 6).blk t).view.emb x) rfl rfl rfl
  · obtain ⟨t, h⟩ := rows_covered N_0 i
    refine ⟨t, flush0_6 t, ?_⟩
    show i ∈ ((View.whole main_v0_2).slice (win0_6.rect t)).set
    rw [View.set_slice_whole, Rect.mem_set_unit]
    exact rows_inside t i (win0_6.index t) (idx_out t).2.2 h

/-- The run, read: the norm and the parts, the arguments unchanged. -/
theorem run : θ_run defs (onTc (τ := τ) (main (F := Ideal))) ⟨m, fun _ => 0, ρ⟩ fun r => ∀ c : Dev nD,
      r.2.mem ((c : Thread nD τ).loc main_v0_0) = y m c
      ∧ r.2.mem ((c : Thread nD τ).loc main_v0_1) = columns 0 1024 (by decide) (y m c) (a3 m c)
      ∧ r.2.mem ((c : Thread nD τ).loc main_v0_2) = columns 1024 1024 (by decide) (y m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_normed m c), (h c).2.1.trans (final_left m c), (h c).2.2.1.trans (final_gate m c), (h c).2.2.2⟩) (Value.run_blocks m ρ)

end Cert.Kernel9Ideal.Forward

end
-- ==== Proof.ForwardEven.lean ====
/- The arrays the even layers' norm-and-projection kernel leaves over the reals: the modulated norm of the rows, and the parts of
   its product with the weights. -/
module

public import proofs.«01_k».proof.Proof.Forward
public import proofs.«01_k».proof.Proof.Gen.Kernel10Ideal.Value

@[expose] public section

set_option maxRecDepth 16384

noncomputable section

namespace Cert.Kernel10Ideal.Forward

open Idealize.ShloMosaic Idealize.ShloMosaic.TcCoe Idealize.SL.Sem
open Cert.Kernel10Ideal.Gen Cert.Rows Cert.Norm
open Cert.Kernel9Ideal.Forward (normedBlock normed_at product_at)

/-! ## The step's values at an entry -/

private theorem hz (n : ℕ) : (![0, 0, 0] : Fin (⟨3, ![1, 256, n]⟩ : Shape).rank → ℕ) = fun _ => 0 := funext fun | ⟨0, _⟩ | ⟨1, _⟩ | ⟨2, _⟩ => rfl
private theorem hz2 (n0 n1 : ℕ) : (![0, 0] : Fin (⟨2, ![n0, n1]⟩ : Shape).rank → ℕ) = fun _ => 0 := funext fun | ⟨0, _⟩ | ⟨1, _⟩ => rfl

/-- A step's block of the product. -/
def productBlock (x0 : Vec Ideal S1x256x1024 .f32) (x1 : Vec Ideal S1x1024 .f32) (x2 : Vec Ideal S1x1x8x1024 .f32) (x3 : Vec Ideal S1024x2304 .bf16) :
    FVec Ideal S256x2304 .f32 := k0_pay8 (F := Ideal) x0 x1 (View.ld x2 r0_2) (View.ld x2 r0_3) (View.ld x3 r0_4)

theorem productBlock_apply (x0 : Vec Ideal S1x256x1024 .f32) (x1 : Vec Ideal S1x1024 .f32) (x2 : Vec Ideal S1x1x8x1024 .f32) (x3 : Vec Ideal S1024x2304 .bf16)
    (r : Fin 256) (k : Fin 2304) :
    (productBlock x0 x1 x2 x3 : S256x2304.Idx → EReal) (ix2 r k)
      = ∑ l : Fin 1024, (normedBlock x0 x1 x2 : S256x1024.Idx → EReal) (ix2 r l) * (x3 : S1024x2304.Idx → EReal) (ix2 l k) := by
  unfold productBlock k0_pay8
  rw [View.ld_unit_zero (hz2 1024 2304)]
  pointwise
  rfl

/-! ## The blocks of a step -/

variable (m : (ℓ : Loc nD τ sig) → Buf (Elt Ideal) ℓ) (ρ : Dev nD → PrngReg)

abbrev a0 (c : Dev nD) : RowsOf := m ((c : Thread nD τ).loc main_arg0)
abbrev a1 (c : Dev nD) : Gain := m ((c : Thread nD τ).loc main_arg1)
abbrev a2 (c : Dev nD) : Modulation := m ((c : Thread nD τ).loc main_arg2)
abbrev a3 (c : Dev nD) : S1024x2304.Idx → EReal := m ((c : Thread nD τ).loc main_arg3)

/-- The modulated norm of the launch's rows. -/
abbrev y (c : Dev nD) : RowsOf := modulated (a0 m c) (a1 m c) (a2 m c)

/-- Where the blocks of a step lie. -/
theorem idx_in : ∀ t : Fin cfg0.N,
    (win0_0.index t 0 = t.val / 17 % 2 ∧ win0_0.index t 1 = t.val % 17 ∧ win0_0.index t 2 = 0)
    ∧ (win0_1.index t 0 = 0 ∧ win0_1.index t 1 = 0)
    ∧ (win0_2.index t 0 = t.val / 17 % 2 ∧ win0_2.index t 1 = min (t.val % 17) 1 ∧ win0_2.index t 2 = 0 ∧ win0_2.index t 3 = 0)
    ∧ (win0_3.index t 0 = 0 ∧ win0_3.index t 1 = 0) :=
  (by decide +kernel : ∀ t : Fin grid0.N, _)

theorem idx_out : ∀ t : Fin cfg0.N,
    (win0_4.index t 0 = t.val / 17 % 2 ∧ win0_4.index t 1 = t.val % 17 ∧ win0_4.index t 2 = 0)
    ∧ (win0_5.index t 0 = t.val / 17 % 2 ∧ win0_5.index t 1 = t.val % 17 ∧ win0_5.index t 2 = 0)
    ∧ (win0_6.index t 0 = t.val / 17 % 2 ∧ win0_6.index t 1 = t.val % 17 ∧ win0_6.index t 2 = 0)
    ∧ (win0_7.index t 0 = t.val / 17 % 2 ∧ win0_7.index t 1 = t.val % 17 ∧ win0_7.index t 2 = 0)
    ∧ (win0_8.index t 0 = t.val / 17 % 2 ∧ win0_8.index t 1 = t.val % 17 ∧ win0_8.index t 2 = 0)
    ∧ (win0_9.index t 0 = t.val / 17 % 2 ∧ win0_9.index t 1 = t.val % 17 ∧ win0_9.index t 2 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) :=
  congrArg (a0 m c) (rows_idx t r l ((win0_0.rect t).emb (ix3 0 r l)) _ _ _ (idx_in t).1
    (win0_0.rect_emb_val t _ 0) (win0_0.rect_emb_val t _ 1) (win0_0.rect_emb_val t _ 2))

theorem iblk1_apply (c : Dev nD) (t : Fin cfg0.N) (l : Fin 1024) : (iblk m c 1 t : S1x1024.Idx → EReal) (ix2 0 l) = a1 m c (ix2 0 l) :=
  congrArg (a1 m c) (whole_idx 0 l ((win0_1.rect t).emb (ix2 0 l)) _ _ (idx_in t).2.1 (win0_1.rect_emb_val t _ 0) (win0_1.rect_emb_val t _ 1))

theorem iblk2_apply (c : Dev nD) (t : Fin cfg0.N) (r : Fin 8) (l : Fin 1024) :
    (iblk m c 2 t : S1x1x8x1024.Idx → EReal) (ix4 0 0 r l) = a2 m c (ix4 (seqOf t) (segOf t) r l) :=
  congrArg (a2 m c) (segs_idx t r l ((win0_2.rect t).emb (ix4 0 0 r l)) _ _ _ _ (idx_in t).2.2.1
    (win0_2.rect_emb_val t _ 0) (win0_2.rect_emb_val t _ 1) (win0_2.rect_emb_val t _ 2) (win0_2.rect_emb_val t _ 3))

theorem iblk3_apply (c : Dev nD) (t : Fin cfg0.N) (l : Fin 1024) (k : Fin 2304) : (iblk m c 3 t : S1024x2304.Idx → EReal) (ix2 l k) = a3 m c (ix2 l k) :=
  congrArg (a3 m c) (whole_idx l k ((win0_3.rect t).emb (ix2 l k)) _ _ (idx_in t).2.2.2 (win0_3.rect_emb_val t _ 0) (win0_3.rect_emb_val t _ 1))

/-- A step's block of the modulated norm, and of the product. -/
theorem normed_step (c : Dev nD) (t : Fin cfg0.N) (r : Fin 256) (l : Fin 1024) :
    (normedBlock (iblk m c 0 t) (iblk m c 1 t) (iblk m c 2 t) : S256x1024.Idx → EReal) (ix2 r l) = y m c (ix3 (seqOf t) (rowAt t r) l) :=
  normed_at t _ _ _ _ _ _ (iblk0_apply m c t) (iblk1_apply m c t) (iblk2_apply m c t) r l

theorem product_step (c : Dev nD) (t : Fin cfg0.N) (r : Fin 256) (k : Fin 2304) :
    (productBlock (iblk m c 0 t) (iblk m c 1 t) (iblk m c 2 t) (iblk m c 3 t) : S256x2304.Idx → EReal) (ix2 r k)
      = projected (y m c) (a3 m c) (seqOf t) (rowAt t r) k :=
  (productBlock_apply _ _ _ _ r k).trans (product_at t _ _ _ _ (normed_step m c t) (iblk3_apply m c t) r k)

/-! ## The arrays -/

theorem out4_apply (x0 : Vec Ideal S1x256x1024 .f32) (x1 : Vec Ideal S1x1024 .f32) (x2 : Vec Ideal S1x1x8x1024 .f32) (x3 : Vec Ideal S1024x2304 .bf16)
    (r : Fin 256) (l : Fin 1024) :
    (out0_4 (F := Ideal) x0 x1 x2 x3 : S1x256x1024.Idx → EReal) (ix3 0 r l) = (normedBlock x0 x1 x2 : S256x1024.Idx → EReal) (ix2 r l) := by
  unfold out0_4
  rw [View.canon_unit_zero (hz 1024), View.ld_unit_zero (hz 1024), View.ld_unit_zero (hz2 1 1024)]
  unfold k0_pay7
  pointwise
  rfl

theorem final_normed (c : Dev nD) : (dats m 0 c).arrAt 4 cfg0.N = y m c := by
  refine (dats m 0 c).arrAt_eq_of_cover 4 _ (fun t _ => ?_) (fun i => ?_)
  · show (cfg0.win 4).cut (grid0.coords t) ((dats m 0 c).after 4 t) = _
    rw [after0_4]
    funext x
    exact rows_block t (out0_4 (F := Ideal) (iblk m c 0 t) (iblk m c 1 t) (iblk m c 2 t) (iblk m c 3 t)) (y m c) (fun r l => (out4_apply _ _ _ _ r l).trans (normed_step m c t r l)) _ _ _ (idx_out t).1
      ((cfg0.win 4).xinj (grid0.coords t) x) (((cfg0.win 4).blk t).view.emb x) rfl rfl rfl
  · obtain ⟨t, h⟩ := rows_covered N_0 i
    refine ⟨t, flush0_4 t, ?_⟩
    show i ∈ ((View.whole main_v0_0).slice (win0_4.rect t)).set
    rw [View.set_slice_whole, Rect.mem_set_unit]
    exact rows_inside t i (win0_4.index t) (idx_out t).1 h

theorem out5_apply (x0 : Vec Ideal S1x256x1024 .f32) (x1 : Vec Ideal S1x1024 .f32) (x2 : Vec Ideal S1x1x8x1024 .f32) (x3 : Vec Ideal S1024x2304 .bf16)
    (r : Fin 256) (l : Fin 512) :
    (out0_5 (F := Ideal) x0 x1 x2 x3 : S1x256x512.Idx → EReal) (ix3 0 r l) = (productBlock x0 x1 x2 x3 : S256x2304.Idx → EReal) (ix2 r ⟨0 + l.val, by omega⟩) := by
  unfold out0_5
  rw [View.canon_unit_zero (hz 512), View.ld_unit_zero (hz 1024), View.ld_unit_zero (hz2 1 1024)]
  unfold k0_pay1 k0_pay9
  pointwise
  rfl

theorem final_q (c : Dev nD) : (dats m 0 c).arrAt 5 cfg0.N = columns 0 512 (by decide) (y m c) (a3 m c) := by
  refine (dats m 0 c).arrAt_eq_of_cover 5 _ (fun t _ => ?_) (fun i => ?_)
  · show (cfg0.win 5).cut (grid0.coords t) ((dats m 0 c).after 5 t) = _
    rw [after0_5]
    funext x
    exact rows_block t (out0_5 (F := Ideal) (iblk m c 0 t) (iblk m c 1 t) (iblk m c 2 t) (iblk m c 3 t)) (columns 0 512 (by decide) (y m c) (a3 m c)) (fun r l => (out5_apply _ _ _ _ r l).trans (product_step m c t r ⟨0 + l.val, by omega⟩)) _ _ _ (idx_out t).2.1
      ((cfg0.win 5).xinj (grid0.coords t) x) (((cfg0.win 5).blk t).view.emb x) rfl rfl rfl
  · obtain ⟨t, h⟩ := rows_covered N_0 i
    refine ⟨t, flush0_5 t, ?_⟩
    show i ∈ ((View.whole main_v0_1).slice (win0_5.rect t)).set
    rw [View.set_slice_whole, Rect.mem_set_unit]
    exact rows_inside t i (win0_5.index t) (idx_out t).2.1 h

theorem out6_apply (x0 : Vec Ideal S1x256x1024 .f32) (x1 : Vec Ideal S1x1024 .f32) (x2 : Vec Ideal S1x1x8x1024 .f32) (x3 : Vec Ideal S1024x2304 .bf16)
    (r : Fin 256) (l : Fin 256) :
    (out0_6 (F := Ideal) x0 x1 x2 x3 : S1x256x256.Idx → EReal) (ix3 0 r l) = (productBlock x0 x1 x2 x3 : S256x2304.Idx → EReal) (ix2 r ⟨512 + l.val, by omega⟩) := by
  unfold out0_6 k0_pay10
  rw [View.canon_unit_zero (hz 256), View.ld_unit_zero (hz 1024), View.ld_unit_zero (hz2 1 1024)]
  unfold k0_pay2
  pointwise
  rfl

theorem final_kv (c : Dev nD) : (dats m 0 c).arrAt 6 cfg0.N = columns 512 256 (by decide) (y m c) (a3 m c) := by
  refine (dats m 0 c).arrAt_eq_of_cover 6 _ (fun t _ => ?_) (fun i => ?_)
  · show (cfg0.win 6).cut (grid0.coords t) ((dats m 0 c).after 6 t) = _
    rw [after0_6]
    funext x
    exact rows_block t (out0_6 (F := Ideal) (iblk m c 0 t) (iblk m c 1 t) (iblk m c 2 t) (iblk m c 3 t)) (columns 512 256 (by decide) (y m c) (a3 m c)) (fun r l => (out6_apply _ _ _ _ r l).trans (product_step m c t r ⟨512 + l.val, by omega⟩)) _ _ _ (idx_out t).2.2.1
      ((cfg0.win 6).xinj (grid0.coords t) x) (((cfg0.win 6).blk t).view.emb x) rfl rfl rfl
  · obtain ⟨t, h⟩ := rows_covered N_0 i
    refine ⟨t, flush0_6 t, ?_⟩
    show i ∈ ((View.whole main_v0_2).slice (win0_6.rect t)).set
    rw [View.set_slice_whole, Rect.mem_set_unit]
    exact rows_inside t i (win0_6.index t) (idx_out t).2.2.1 h

theorem out7_apply (x0 : Vec Ideal S1x256x1024 .f32) (x1 : Vec Ideal S1x1024 .f32) (x2 : Vec Ideal S1x1x8x1024 .f32) (x3 : Vec Ideal S1024x2304 .bf16)
    (r : Fin 256) (l : Fin 512) :
    (out0_7 (F := Ideal) x0 x1 x2 x3 : S1x256x512.Idx → EReal) (ix3 0 r l) = (productBlock x0 x1 x2 x3 : S256x2304.Idx → EReal) (ix2 r ⟨768 + l.val, by omega⟩) := by
  unfold out0_7 k0_pay10
  rw [View.canon_unit_zero (hz 512), View.ld_unit_zero (hz 1024), View.ld_unit_zero (hz2 1 1024)]
  unfold k0_pay3
  pointwise
  rfl

theorem final_ga (c : Dev nD) : (dats m 0 c).arrAt 7 cfg0.N = columns 768 512 (by decide) (y m c) (a3 m c) := by
  refine (dats m 0 c).arrAt_eq_of_cover 7 _ (fun t _ => ?_) (fun i => ?_)
  · show (cfg0.win 7).cut (grid0.coords t) ((dats m 0 c).after 7 t) = _
    rw [after0_7]
    funext x
    exact rows_block t (out0_7 (F := Ideal) (iblk m c 0 t) (iblk m c 1 t) (iblk m c 2 t) (iblk m c 3 t)) (columns 768 512 (by decide) (y m c) (a3 m c)) (fun r l => (out7_apply _ _ _ _ r l).trans (product_step m c t r ⟨768 + l.val, by omega⟩)) _ _ _ (idx_out t).2.2.2.1
      ((cfg0.win 7).xinj (grid0.coords t) x) (((cfg0.win 7).blk t).view.emb x) rfl rfl rfl
  · obtain ⟨t, h⟩ := rows_covered N_0 i
    refine ⟨t, flush0_7 t, ?_⟩
    show i ∈ ((View.whole main_v0_3).slice (win0_7.rect t)).set
    rw [View.set_slice_whole, Rect.mem_set_unit]
    exact rows_inside t i (win0_7.index t) (idx_out t).2.2.2.1 h

theorem out8_apply (x0 : Vec Ideal S1x256x1024 .f32) (x1 : Vec Ideal S1x1024 .f32) (x2 : Vec Ideal S1x1x8x1024 .f32) (x3 : Vec Ideal S1024x2304 .bf16)
    (r : Fin 256) (l : Fin 512) :
    (out0_8 (F := Ideal) x0 x1 x2 x3 : S1x256x512.Idx → EReal) (ix3 0 r l) = (productBlock x0 x1 x2 x3 : S256x2304.Idx → EReal) (ix2 r ⟨1280 + l.val, by omega⟩) := by
  unfold out0_8 k0_pay10
  rw [View.canon_unit_zero (hz 512), View.ld_unit_zero (hz 1024), View.ld_unit_zero (hz2 1 1024)]
  unfold k0_pay4
  pointwise
  rfl

theorem final_u (c : Dev nD) : (dats m 0 c).arrAt 8 cfg0.N = columns 1280 512 (by decide) (y m c) (a3 m c) := by
  refine (dats m 0 c).arrAt_eq_of_cover 8 _ (fun t _ => ?_) (fun i => ?_)
  · show (cfg0.win 8).cut (grid0.coords t) ((dats m 0 c).after 8 t) = _
    rw [after0_8]
    funext x
    exact rows_block t (out0_8 (F := Ideal) (iblk m c 0 t) (iblk m c 1 t) (iblk m c 2 t) (iblk m c 3 t)) (columns 1280 512 (by decide) (y m c) (a3 m c)) (fun r l => (out8_apply _ _ _ _ r l).trans (product_step m c t r ⟨1280 + l.val, by omega⟩)) _ _ _ (idx_out t).2.2.2.2.1
      ((cfg0.win 8).xinj (grid0.coords t) x) (((cfg0.win 8).blk t).view.emb x) rfl rfl rfl
  · obtain ⟨t, h⟩ := rows_covered N_0 i
    refine ⟨t, flush0_8 t, ?_⟩
    show i ∈ ((View.whole main_v0_4).slice (win0_8.rect t)).set
    rw [View.set_slice_whole, Rect.mem_set_unit]
    exact rows_inside t i (win0_8.index t) (idx_out t).2.2.2.2.1 h

theorem out9_apply (x0 : Vec Ideal S1x256x1024 .f32) (x1 : Vec Ideal S1x1024 .f32) (x2 : Vec Ideal S1x1x8x1024 .f32) (x3 : Vec Ideal S1024x2304 .bf16)
    (r : Fin 256) (l : Fin 512) :
    (out0_9 (F := Ideal) x0 x1 x2 x3 : S1x256x512.Idx → EReal) (ix3 0 r l) = (productBlock x0 x1 x2 x3 : S256x2304.Idx → EReal) (ix2 r ⟨1792 + l.val, by omega⟩) := by
  unfold out0_9 k0_pay10
  rw [View.canon_unit_zero (hz 512), View.ld_unit_zero (hz 1024), View.ld_unit_zero (hz2 1 1024)]
  unfold k0_pay5
  pointwise
  rfl

theorem final_gs (c : Dev nD) : (dats m 0 c).arrAt 9 cfg0.N = columns 1792 512 (by decide) (y m c) (a3 m c) := by
  refine (dats m 0 c).arrAt_eq_of_cover 9 _ (fun t _ => ?_) (fun i => ?_)
  · show (cfg0.win 9).cut (grid0.coords t) ((dats m 0 c).after 9 t) = _
    rw [after0_9]
    funext x
    exact rows_block t (out0_9 (F := Ideal) (iblk m c 0 t) (iblk m c 1 t) (iblk m c 2 t) (iblk m c 3 t)) (columns 1792 512 (by decide) (y m c) (a3 m c)) (fun r l => (out9_apply _ _ _ _ r l).trans (product_step m c t r ⟨1792 + l.val, by omega⟩)) _ _ _ (idx_out t).2.2.2.2.2
      ((cfg0.win 9).xinj (grid0.coords t) x) (((cfg0.win 9).blk t).view.emb x) rfl rfl rfl
  · obtain ⟨t, h⟩ := rows_covered N_0 i
    refine ⟨t, flush0_9 t, ?_⟩
    show i ∈ ((View.whole main_v0_5).slice (win0_9.rect t)).set
    rw [View.set_slice_whole, Rect.mem_set_unit]
    exact rows_inside t i (win0_9.index t) (idx_out t).2.2.2.2.2 h

/-- The run, read: the norm and the parts, the arguments unchanged. -/
theorem run : θ_run defs (onTc (τ := τ) (main (F := Ideal))) ⟨m, fun _ => 0, ρ⟩ fun r => ∀ c : Dev nD,
      r.2.mem ((c : Thread nD τ).loc main_v0_0) = y m c
      ∧ r.2.mem ((c : Thread nD τ).loc main_v0_1) = columns 0 512 (by decide) (y m c) (a3 m c)
      ∧ r.2.mem ((c : Thread nD τ).loc main_v0_2) = columns 512 256 (by decide) (y m c) (a3 m c)
      ∧ r.2.mem ((c : Thread nD τ).loc main_v0_3) = columns 768 512 (by decide) (y m c) (a3 m c)
      ∧ r.2.mem ((c : Thread nD τ).loc main_v0_4) = columns 1280 512 (by decide) (y m c) (a3 m c)
      ∧ r.2.mem ((c : Thread nD τ).loc main_v0_5) = columns 1792 512 (by decide) (y m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_normed m c), (h c).2.1.trans (final_q m c), (h c).2.2.1.trans (final_kv m c), (h c).2.2.2.1.trans (final_ga m c), (h c).2.2.2.2.1.trans (final_u m c), (h c).2.2.2.2.2.1.trans (final_gs m c), (h c).2.2.2.2.2.2⟩) (Value.run_blocks m ρ)

end Cert.Kernel10Ideal.Forward

end
-- ==== Proof.ForwardRef.lean ====
/- The references' modulated norm and its product with the weights, stage by stage, are those of `Forward`. -/
module

public import proofs.«01_k».proof.Proof.Forward
public import proofs.«01_k».proof.Proof.NormRef
public import proofs.«01_k».proof.Proof.Gen.Reference9Ideal.Read
public import proofs.«01_k».proof.Proof.Gen.Reference10Ideal.Read

@[expose] public section

set_option maxRecDepth 16384

noncomputable section

namespace Cert.Reference9Ideal.Forward

open Cert.Reference9Ideal Cert.Reference9Ideal.Gen Cert.Reference9Ideal.Read Cert.Norm
open Idealize.ShloMosaic Idealize.ShloMosaic.TcCoe Idealize.SL.Sem

variable (x0 : S2x4352x1024.Idx → EReal) (x1 : S1x1024.Idx → EReal) (x2 : S2x2x8x1024.Idx → EReal) (x3 : S1024x2048.Idx → EReal)

theorem v30 (b : Fin 2) (t : Fin 4352) (l : Fin 1024) : val_main_v30 (F := Ideal) x2 (ix3 b t l) = x2 (ix4 b (seg t) 0 l) := by
  pointwise [val_main_v30, val_main_v29, val_main_v28, val_main_v27, val_main_v26, val_main_v25, val_main_v24]
  unfold seg
  by_cases h : t.val < 256
  · rw [dif_pos h, if_pos h]
  · rw [dif_neg h, if_neg h]

theorem v31 (b : Fin 2) (t : Fin 4352) (l : Fin 1024) : val_main_v31 (F := Ideal) x0 x1 x2 (ix3 b t l) = modulated x0 x1 x2 (ix3 b t l) := by
  pointwise [val_main_v31, val_main_v23]
  exact congrArg₂ (fun a b : EReal => a + b)
    (congrArg₂ (fun a b : EReal => a * b) (Cert.Reference3Ideal.Norm.v23 x0 x1 b t l) (Cert.Reference3Ideal.Norm.v30 x2 b t l)) (v30 x2 b t l)

theorem v33 (b : Fin 2) (t : Fin 4352) (k : Fin 2048) :
    val_main_v33 (F := Ideal) x0 x1 x2 x3 (ix3 b t k) = projected (modulated x0 x1 x2) x3 b t k := by
  pointwise [val_main_v33, val_main_v32]
  exact Finset.sum_congr rfl fun l _ => congrArg (fun e : EReal => e * x3 (ix2 l k)) (v31 x0 x1 x2 b t l)

theorem normed_eq : val_main_v36 (F := Ideal) x0 x1 x2 = modulated x0 x1 x2 := by
  funext i
  obtain ⟨b, t, l, rfl⟩ : ∃ b t l, i = ix3 b t l := ⟨i 0, i 1, i 2, eq_ix3 i⟩
  pointwise [val_main_v36]
  exact v31 x0 x1 x2 _ _ _

theorem left_eq : val_main_v34 (F := Ideal) x0 x1 x2 x3 = columns 0 1024 (by decide) (modulated x0 x1 x2) x3 := by
  funext i
  obtain ⟨b, t, l, rfl⟩ : ∃ b t l, i = ix3 b t l := ⟨i 0, i 1, i 2, eq_ix3 i⟩
  pointwise [val_main_v34]
  exact (v33 x0 x1 x2 x3 b t _).trans (congrArg (projected (modulated x0 x1 x2) x3 b t) (Fin.ext (Nat.zero_add l.val).symm))

theorem gate_eq : val_main_v37 (F := Ideal) x0 x1 x2 x3 = columns 1024 1024 (by decide) (modulated x0 x1 x2) x3 := by
  funext i
  obtain ⟨b, t, l, rfl⟩ : ∃ b t l, i = ix3 b t l := ⟨i 0, i 1, i 2, eq_ix3 i⟩
  pointwise [val_main_v37, val_main_v35]
  exact v33 x0 x1 x2 x3 _ _ _

end Cert.Reference9Ideal.Forward

namespace Cert.Reference10Ideal.Forward

open Cert.Reference10Ideal Cert.Reference10Ideal.Gen Cert.Reference10Ideal.Read Cert.Norm
open Idealize.ShloMosaic Idealize.ShloMosaic.TcCoe Idealize.SL.Sem

variable (x0 : S2x4352x1024.Idx → EReal) (x1 : S1x1024.Idx → EReal) (x2 : S2x2x8x1024.Idx → EReal) (x3 : S1024x2304.Idx → EReal)

theorem v31 (b : Fin 2) (t : Fin 4352) (l : Fin 1024) : val_main_v31 (F := Ideal) x0 x1 x2 (ix3 b t l) = modulated x0 x1 x2 (ix3 b t l) :=
  Cert.Reference9Ideal.Forward.v31 x0 x1 x2 b t l

theorem v33 (b : Fin 2) (t : Fin 4352) (k : Fin 2304) :
    val_main_v33 (F := Ideal) x0 x1 x2 x3 (ix3 b t k) = projected (modulated x0 x1 x2) x3 b t k := by
  pointwise [val_main_v33, val_main_v32]
  exact Finset.sum_congr rfl fun l _ => congrArg (fun e : EReal => e * x3 (ix2 l k)) (v31 x0 x1 x2 b t l)

theorem normed_eq : val_main_v39 (F := Ideal) x0 x1 x2 = modulated x0 x1 x2 := by
  funext i
  obtain ⟨b, t, l, rfl⟩ : ∃ b t l, i = ix3 b t l := ⟨i 0, i 1, i 2, eq_ix3 i⟩
  pointwise [val_main_v39]
  exact v31 x0 x1 x2 _ _ _

theorem q_eq : val_main_v34 (F := Ideal) x0 x1 x2 x3 = columns 0 512 (by decide) (modulated x0 x1 x2) x3 := by
  funext i
  obtain ⟨b, t, l, rfl⟩ : ∃ b t l, i = ix3 b t l := ⟨i 0, i 1, i 2, eq_ix3 i⟩
  pointwise [val_main_v34]
  exact (v33 x0 x1 x2 x3 b t _).trans (congrArg (projected (modulated x0 x1 x2) x3 b t) (Fin.ext (Nat.zero_add l.val).symm))

theorem kv_eq : val_main_v35 (F := Ideal) x0 x1 x2 x3 = columns 512 256 (by decide) (modulated x0 x1 x2) x3 := by
  funext i
  obtain ⟨b, t, l, rfl⟩ : ∃ b t l, i = ix3 b t l := ⟨i 0, i 1, i 2, eq_ix3 i⟩
  pointwise [val_main_v35]
  exact v33 x0 x1 x2 x3 _ _ _

theorem ga_eq : val_main_v40 (F := Ideal) x0 x1 x2 x3 = columns 768 512 (by decide) (modulated x0 x1 x2) x3 := by
  funext i
  obtain ⟨b, t, l, rfl⟩ : ∃ b t l, i = ix3 b t l := ⟨i 0, i 1, i 2, eq_ix3 i⟩
  pointwise [val_main_v40, val_main_v36]
  exact v33 x0 x1 x2 x3 _ _ _

theorem u_eq : val_main_v37 (F := Ideal) x0 x1 x2 x3 = columns 1280 512 (by decide) (modulated x0 x1 x2) x3 := by
  funext i
  obtain ⟨b, t, l, rfl⟩ : ∃ b t l, i = ix3 b t l := ⟨i 0, i 1, i 2, eq_ix3 i⟩
  pointwise [val_main_v37]
  exact v33 x0 x1 x2 x3 _ _ _

theorem gs_eq : val_main_v41 (F := Ideal) x0 x1 x2 x3 = columns 1792 512 (by decide) (modulated x0 x1 x2) x3 := by
  funext i
  obtain ⟨b, t, l, rfl⟩ : ∃ b t l, i = ix3 b t l := ⟨i 0, i 1, i 2, eq_ix3 i⟩
  pointwise [val_main_v41, val_main_v38]
  exact v33 x0 x1 x2 x3 _ _ _

end Cert.Reference10Ideal.Forward

end
-- ==== Proof.ForwardClaim.lean ====
/- The claims about the odd and the even layers' norm and input product. -/
module

public import proofs.«01_k».proof.Defs
public import proofs.«01_k».proof.Proof.ForwardOdd
public import proofs.«01_k».proof.Proof.ForwardEven
public import proofs.«01_k».proof.Proof.ForwardRef
public import proofs.«01_k».proof.Proof.Gen.Reference9Ideal.Run
public import proofs.«01_k».proof.Proof.Gen.Reference10Ideal.Run
public import Idealize.ShloMosaic.Lib.Quiescent

@[expose] public section

set_option maxRecDepth 16384

noncomputable section

namespace Cert.ForwardClaim

open Idealize.ShloMosaic Idealize.ShloMosaic.TcCoe Idealize.SL.Sem Cert.Norm

theorem frame_reference_odd : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem frame_reference_even : Cert.quiescent_Reference10Ideal := fun m ρ _ =>
  (θ_run Cert.Reference10Ideal.defs _ _).mono (fun r h => ⟨fun c => (h c).2.2.2.2.2.2, sem_eq_zero_of_no_sems (by decide) r.2⟩)
    (Cert.Reference10Ideal.Value.run (F := Ideal) m ρ)

section odd
open Cert.Kernel9Ideal.Forward Cert.Reference9Ideal.Forward

theorem algebraic_odd : Cert.algebraic_Kernel9Ideal_Reference9Ideal := by
  intro m ρ m' ρ' _ hagree
  refine ⟨fun c => y m c, fun c => columns 0 1024 (by decide) (y m c) (a3 m c), fun c => columns 1024 1024 (by decide) (y m c) (a3 m c),
    Cert.Kernel9Ideal.Forward.run m ρ, ?_⟩
  refine (θ_run Cert.Reference9Ideal.defs _ _).mono (fun _ h c => ?_) (Cert.Reference9Ideal.Value.run (F := Ideal) m' ρ')
  obtain ⟨r0, r1, r2, rest⟩ := h c
  obtain ⟨h0, h1, h2, h3⟩ := hagree c
  refine ⟨r0.trans ?_, r1.trans ?_, r2.trans ?_, rest⟩
  · refine (Cert.Reference9Ideal.Read.val_main_v36_eq _ _ _).trans ((normed_eq _ _ _).trans ?_)
    rw [h0, h1, h2]
  · refine (Cert.Reference9Ideal.Read.val_main_v34_eq _ _ _ _).trans ((left_eq _ _ _ _).trans ?_)
    rw [h0, h1, h2, h3]
  · refine (Cert.Reference9Ideal.Read.val_main_v37_eq _ _ _ _).trans ((gate_eq _ _ _ _).trans ?_)
    rw [h0, h1, h2, h3]

end odd

section even
open Cert.Kernel10Ideal.Forward Cert.Reference10Ideal.Forward

theorem algebraic_even : Cert.algebraic_Kernel10Ideal_Reference10Ideal := by
  intro m ρ m' ρ' _ hagree
  refine ⟨fun c => y m c, fun c => columns 0 512 (by decide) (y m c) (a3 m c), fun c => columns 512 256 (by decide) (y m c) (a3 m c),
    fun c => columns 768 512 (by decide) (y m c) (a3 m c), fun c => columns 1280 512 (by decide) (y m c) (a3 m c),
    fun c => columns 1792 512 (by decide) (y m c) (a3 m c), Cert.Kernel10Ideal.Forward.run m ρ, ?_⟩
  refine (θ_run Cert.Reference10Ideal.defs _ _).mono (fun _ h c => ?_) (Cert.Reference10Ideal.Value.run (F := Ideal) m' ρ')
  obtain ⟨r0, r1, r2, r3, r4, r5, rest⟩ := h c
  obtain ⟨h0, h1, h2, h3⟩ := hagree c
  refine ⟨r0.trans ?_, r1.trans ?_, r2.trans ?_, r3.trans ?_, r4.trans ?_, r5.trans ?_, rest⟩
  · refine (Cert.Reference10Ideal.Read.val_main_v39_eq _ _ _).trans ((normed_eq _ _ _).trans ?_)
    rw [h0, h1, h2]
  · refine (Cert.Reference10Ideal.Read.val_main_v34_eq _ _ _ _).trans ((q_eq _ _ _ _).trans ?_)
    rw [h0, h1, h2, h3]
  · refine (Cert.Reference10Ideal.Read.val_main_v35_eq _ _ _ _).trans ((kv_eq _ _ _ _).trans ?_)
    rw [h0, h1, h2, h3]
  · refine (Cert.Reference10Ideal.Read.val_main_v40_eq _ _ _ _).trans ((ga_eq _ _ _ _).trans ?_)
    rw [h0, h1, h2, h3]
  · refine (Cert.Reference10Ideal.Read.val_main_v37_eq _ _ _ _).trans ((u_eq _ _ _ _).trans ?_)
    rw [h0, h1, h2, h3]
  · refine (Cert.Reference10Ideal.Read.val_main_v41_eq _ _ _ _).trans ((gs_eq _ _ _ _).trans ?_)
    rw [h0, h1, h2, h3]

end even

end Cert.ForwardClaim

end
-- ==== Proof.Output.lean ====
/- The rows a layer's output forward leaves: the gated sum of a mixture's projection onto the rows, and the two layers' mixtures,
   pooled in groups of columns in the odd layers, of attention and a gated scan in the even ones. -/
module

public import proofs.«01_k».proof.Proof.Forward

@[expose] public section

set_option maxRecDepth 16384

noncomputable section

namespace Cert.Output

open Idealize.ShloMosaic Cert.Rows Cert.Norm

/-- An array of half as many columns as the rows'. -/
abbrev HalfRows := (⟨3, ![2, 4352, 512]⟩ : Shape).Idx → EReal

def sigmoid (x : EReal) : EReal := Ideal.div 1 (1 + Ideal.exp (-x))

def silu (x : EReal) : EReal := x * sigmoid x

theorem sigmoid_sub (x : EReal) : Ideal.div 1 (1 + Ideal.exp (0 - x)) = sigmoid x := by rw [zero_sub]; rfl

/-- The smooth rectifier in its form with a hyperbolic tangent. -/
def gelu (x : EReal) : EReal :=
  x * (Ideal.ofBits .f32 0x3F000000#32
    * (1 + Ideal.tanh (Ideal.ofBits .f32 0x3F4C422A#32 * (x + Ideal.ofBits .f32 0x3D372713#32 * (x * x * x)))))

theorem gelu_scaled (x : EReal) :
    Ideal.ofBits .f32 0x3F000000#32 * x
        * (1 + Ideal.tanh (Ideal.ofBits .f32 0x3F4C422A#32 * (x + Ideal.ofBits .f32 0x3D372713#32 * x * x * x)))
      = gelu x := by
  unfold gelu
  rw [mul_comm (Ideal.ofBits .f32 0x3F000000#32) x, mul_assoc x, mul_assoc _ x x, mul_assoc (Ideal.ofBits .f32 0x3D372713#32) x (x * x),
    mul_assoc x x x]

/-! ## The rows that leave -/

/-- A mixture times the output weights. -/
def product (mix : RowsOf) (w : (⟨2, ![1024, 1024]⟩ : Shape).Idx → EReal) : RowsOf := fun i => projected mix w (i 0) (i 1) (i 2)

/-- The rows plus the product, gated by their segment's modulation. -/
def residual (h : RowsOf) (md : Modulation) (mix : RowsOf) (w : (⟨2, ![1024, 1024]⟩ : Shape).Idx → EReal) : RowsOf := fun i =>
  h i + md (ix4 (i 0) (seg (i 1)) 2 (i 2)) * product mix w i

/-- A step's block of them, from its blocks of the rows, of the modulation and of the product. -/
theorem residual_at {N : ℕ} (t : Fin N) (h : RowsOf) (md : Modulation) (mix : RowsOf) (w : (⟨2, ![1024, 1024]⟩ : Shape).Idx → EReal) (r : Fin 256)
    (l : Fin 1024) (x g p : EReal) (hx : x = h (ix3 (seqOf t) (rowAt t r) l)) (hg : g = md (ix4 (seqOf t) (segOf t) 2 l))
    (hp : p = projected mix w (seqOf t) (rowAt t r) l) : x + g * p = residual h md mix w (ix3 (seqOf t) (rowAt t r) l) := by
  subst hx hg hp
  show _ = h _ + md (ix4 (seqOf t) (seg (rowAt t r)) 2 l) * _
  rw [seg_rowAt]
  rfl

/-! ## The odd layers' mixture -/

/-- Column `l` of a row times its group's weights: each group of 256 columns has its own. -/
def grouped (p : Fin 1024 → EReal) (w : (⟨3, ![4, 256, 256]⟩ : Shape).Idx → EReal) (l : Fin 1024) : EReal :=
  ∑ k : Fin 256, p ⟨l.val / 256 * 256 + k.val, by omega⟩ * w (ix3 ⟨l.val / 256, by omega⟩ k ⟨l.val % 256, Nat.mod_lt _ (by decide)⟩)

/-- It is the product of group `g` at the column within the group. -/
theorem grouped_at (p : Fin 1024 → EReal) (w : (⟨3, ![4, 256, 256]⟩ : Shape).Idx → EReal) (l : Fin 1024) (g : Fin 4) (c : Fin 256)
    (h : l.val = g.val * 256 + c.val) (f v : Fin 256 → EReal) (hf : ∀ k : Fin 256, f k = p ⟨g.val * 256 + k.val, by omega⟩)
    (hv : ∀ k : Fin 256, v k = w (ix3 g k c)) : ∑ k : Fin 256, f k * v k = grouped p w l := by
  have hg : g.val = l.val / 256 := by omega
  have hc : c.val = l.val % 256 := by omega
  exact Finset.sum_congr rfl fun k _ => congrArg₂ (fun a b : EReal => a * b)
    ((hf k).trans (congrArg p (Fin.ext (congrArg (fun v => v * 256 + k.val) hg))))
    ((hv k).trans (congrArg w (congrArg₂ (fun a b => ix3 a k b) (Fin.ext hg) (Fin.ext hc))))

/-- An index of the groups' weights is that of group `g` when its coordinates are. -/
theorem group_idx (g : Fin 4) (k c : Fin 256) (j : (⟨3, ![4, 256, 256]⟩ : Shape).Idx) (h0 : (j 0).val = g.val) (h1 : (j 1).val = k.val)
    (h2 : (j 2).val = c.val) : j = ix3 g k c :=
  funext fun | ⟨0, _⟩ => Fin.ext h0 | ⟨1, _⟩ => Fin.ext h1 | ⟨2, _⟩ => Fin.ext h2

/-- The pooled rows, scaled and gated. -/
def mixOdd (pm gate : RowsOf) (w : (⟨3, ![4, 256, 256]⟩ : Shape).Idx → EReal) (s : Gain) : RowsOf := fun i =>
  grouped (rowOf pm (i 0) (i 1)) w (i 2) * s (ix2 0 (i 2)) * silu (gate i)

/-! ## The even layers' mixture -/

/-- A row of the scan and its input's share of it, through the rectifier. -/
def scanned (u d y : Fin 512 → EReal) (l : Fin 512) : EReal := gelu (u l * d l + y l)

/-- That row times the sigmoid of its own projection. -/
def gated (z : Fin 512 → EReal) (w : (⟨2, ![512, 512]⟩ : Shape).Idx → EReal) (g : (⟨2, ![1, 512]⟩ : Shape).Idx → EReal) (l : Fin 512) : EReal :=
  z l * sigmoid ((∑ k : Fin 512, z k * w (ix2 k l)) + g (ix2 0 l))

/-- Attention's row in the left half of the columns, the scan's in the right half, each gated. -/
def halves (a ga o gs : Fin 512 → EReal) (l : Fin 1024) : EReal :=
  if h : l.val < 512 then a ⟨l.val, h⟩ * silu (ga ⟨l.val, h⟩) else o ⟨l.val - 512, by omega⟩ * silu (gs ⟨l.val - 512, by omega⟩)

/-- Row `t` of sequence `b`. -/
def halfRow (x : HalfRows) (b : Fin 2) (t : Fin 4352) : Fin 512 → EReal := fun l => x (ix3 b t l)

def mixEven (a ga y u gs : HalfRows) (d g : (⟨2, ![1, 512]⟩ : Shape).Idx → EReal) (w : (⟨2, ![512, 512]⟩ : Shape).Idx → EReal) : RowsOf := fun i =>
  halves (halfRow a (i 0) (i 1)) (halfRow ga (i 0) (i 1))
    (gated (scanned (halfRow u (i 0) (i 1)) (fun l => d (ix2 0 l)) (halfRow y (i 0) (i 1))) w g) (halfRow gs (i 0) (i 1)) (i 2)

end Cert.Output

end
-- ==== Proof.PoolOut.lean ====
/- The arrays the odd layers' output kernel leaves over the reals: the rows with the gated product added, the mixture, and its
   product with the output weights. -/
module

public import proofs.«01_k».proof.Proof.Output
public import proofs.«01_k».proof.Proof.Gen.Kernel11Ideal.Value

@[expose] public section

set_option maxRecDepth 16384

noncomputable section

namespace Cert.Kernel11Ideal.Output

open Idealize.ShloMosaic Idealize.ShloMosaic.TcCoe Idealize.SL.Sem
open Cert.Kernel11Ideal.Gen Cert.Rows Cert.Norm Cert.Output

/-! ## The step's values at an entry -/

private theorem hz (n : ℕ) : (![0, 0, 0] : Fin (⟨3, ![1, 256, n]⟩ : Shape).rank → ℕ) = fun _ => 0 := funext fun | ⟨0, _⟩ | ⟨1, _⟩ | ⟨2, _⟩ => rfl
private theorem hz2 (n0 n1 : ℕ) : (![0, 0] : Fin (⟨2, ![n0, n1]⟩ : Shape).rank → ℕ) = fun _ => 0 := funext fun | ⟨0, _⟩ | ⟨1, _⟩ => rfl

theorem gate_apply (x : Vec Ideal S1x256x1024 .bf16) (r : Fin 256) (l : Fin 1024) :
    (k0_pay7 (F := Ideal) x : S256x1024.Idx → EReal) (ix2 r l) = silu ((x : S1x256x1024.Idx → EReal) (ix3 0 r l)) := by
  unfold k0_pay7 silu
  pointwise
  rw [sigmoid_sub]

theorem pool_apply (x : Vec Ideal S1x256x1024 .bf16) (w : Vec Ideal S4x256x256 .bf16) (r : Fin 256) (l : Fin 1024) :
    (k0_pay6 (F := Ideal) x (View.ld w r0_1) (View.ld w r0_2) (View.ld w r0_3) (View.ld w r0_4) : S256x1024.Idx → EReal) (ix2 r l)
      = grouped (fun k => (x : S1x256x1024.Idx → EReal) (ix3 0 r k)) w l := by
  unfold k0_pay6
  pointwise
  have hl : l.val < 1024 := l.isLt
  split
  · next h =>
    exact grouped_at _ _ l 0 ⟨l.val, h⟩ (by show l.val = 0 * 256 + l.val; omega) _ _
      (fun k => congrArg (fun k => (x : S1x256x1024.Idx → EReal) (ix3 0 r k)) (Fin.ext (by show k.val = 0 * 256 + k.val; omega))) (fun _ => rfl)
  split
  · next h =>
    exact grouped_at _ _ l 1 ⟨l.val - 256, h⟩ (by show l.val = 1 * 256 + (l.val - 256); omega) _ _ (fun _ => rfl) (fun _ => rfl)
  split
  · next h =>
    exact grouped_at _ _ l 2 ⟨l.val - 256 - 256, h⟩ (by show l.val = 2 * 256 + (l.val - 256 - 256); omega) _ _ (fun _ => rfl) (fun _ => rfl)
  · exact grouped_at _ _ l 3 ⟨l.val - 256 - 256 - 256, by omega⟩ (by show l.val = 3 * 256 + (l.val - 256 - 256 - 256); omega) _ _ (fun _ => rfl) (fun _ => rfl)

/-- A step's block of the mixture, and of its product with the output weights. -/
def mixBlock (x2 x3 : Vec Ideal S1x256x1024 .bf16) (x4 : Vec Ideal S4x256x256 .bf16) (x5 : Vec Ideal S1x1024 .f32) : FVec Ideal S256x1024 .bf16 :=
  k0_pay1 (F := Ideal) (k0_pay6 x2 (View.ld x4 r0_1) (View.ld x4 r0_2) (View.ld x4 r0_3) (View.ld x4 r0_4)) (k0_pay7 x3) x5

def productBlock (x2 x3 : Vec Ideal S1x256x1024 .bf16) (x4 : Vec Ideal S4x256x256 .bf16) (x5 : Vec Ideal S1x1024 .f32) (x6 : Vec Ideal S1024x1024 .bf16) :
    FVec Ideal S256x1024 .f32 :=
  k0_pay3 (F := Ideal) (k0_pay6 x2 (View.ld x4 r0_1) (View.ld x4 r0_2) (View.ld x4 r0_3) (View.ld x4 r0_4)) (k0_pay7 x3) x5 x6

theorem mixBlock_apply (x2 x3 : Vec Ideal S1x256x1024 .bf16) (x4 : Vec Ideal S4x256x256 .bf16) (x5 : Vec Ideal S1x1024 .f32) (r : Fin 256) (l : Fin 1024) :
    (mixBlock x2 x3 x4 x5 : S256x1024.Idx → EReal) (ix2 r l)
      = grouped (fun k => (x2 : S1x256x1024.Idx → EReal) (ix3 0 r k)) x4 l * (x5 : S1x1024.Idx → EReal) (ix2 0 l)
          * silu ((x3 : S1x256x1024.Idx → EReal) (ix3 0 r l)) := by
  unfold mixBlock k0_pay1
  pointwise
  exact congrArg₂ (fun a b : EReal => a * (x5 : S1x1024.Idx → EReal) (ix2 0 l) * b) (pool_apply x2 x4 r l) (gate_apply x3 r l)

theorem productBlock_apply (x2 x3 : Vec Ideal S1x256x1024 .bf16) (x4 : Vec Ideal S4x256x256 .bf16) (x5 : Vec Ideal S1x1024 .f32)
    (x6 : Vec Ideal S1024x1024 .bf16) (r : Fin 256) (k : Fin 1024) :
    (productBlock x2 x3 x4 x5 x6 : S256x1024.Idx → EReal) (ix2 r k)
      = ∑ l : Fin 1024, (mixBlock x2 x3 x4 x5 : S256x1024.Idx → EReal) (ix2 r l) * (x6 : S1024x1024.Idx → EReal) (ix2 l k) := by
  unfold productBlock k0_pay3
  pointwise
  rfl

/-! ## The blocks of a step -/

variable (m : (ℓ : Loc nD τ sig) → Buf (Elt Ideal) ℓ) (ρ : Dev nD → PrngReg)

abbrev a0 (c : Dev nD) : RowsOf := m ((c : Thread nD τ).loc main_arg0)
abbrev a1 (c : Dev nD) : Modulation := m ((c : Thread nD τ).loc main_arg1)
abbrev a2 (c : Dev nD) : RowsOf := m ((c : Thread nD τ).loc main_arg2)
abbrev a3 (c : Dev nD) : RowsOf := m ((c : Thread nD τ).loc main_arg3)
abbrev a4 (c : Dev nD) : S4x256x256.Idx → EReal := m ((c : Thread nD τ).loc main_arg4)
abbrev a5 (c : Dev nD) : Gain := m ((c : Thread nD τ).loc main_arg5)
abbrev a6 (c : Dev nD) : S1024x1024.Idx → EReal := m ((c : Thread nD τ).loc main_arg6)

/-- The mixture of the launch's rows. -/
abbrev mix (c : Dev nD) : RowsOf := mixOdd (a2 m c) (a3 m c) (a4 m c) (a5 m c)

/-- Where the blocks of a step lie. -/
theorem idx_rows : ∀ t : Fin cfg0.N,
    (win0_0.index t 0 = t.val / 17 % 2 ∧ win0_0.index t 1 = t.val % 17 ∧ win0_0.index t 2 = 0)
    ∧ (win0_2.index t 0 = t.val / 17 % 2 ∧ win0_2.index t 1 = t.val % 17 ∧ win0_2.index t 2 = 0)
    ∧ (win0_3.index t 0 = t.val / 17 % 2 ∧ win0_3.index t 1 = t.val % 17 ∧ win0_3.index t 2 = 0) :=
  (by decide +kernel : ∀ t : Fin grid0.N, _)

theorem idx_whole : ∀ t : Fin cfg0.N,
    (win0_1.index t 0 = t.val / 17 % 2 ∧ win0_1.index t 1 = min (t.val % 17) 1 ∧ win0_1.index t 2 = 0 ∧ win0_1.index t 3 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, _)

theorem idx_out : ∀ t : Fin cfg0.N,
    (win0_7.index t 0 = t.val / 17 % 2 ∧ win0_7.index t 1 = t.val % 17 ∧ win0_7.index t 2 = 0)
    ∧ (win0_8.index t 0 = t.val / 17 % 2 ∧ win0_8.index t 1 = t.val % 17 ∧ win0_8.index t 2 = 0)
    ∧ (win0_9.index t 0 = t.val / 17 % 2 ∧ win0_9.index t 1 = t.val % 17 ∧ win0_9.index t 2 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) :=
  congrArg (a0 m c) (rows_idx t r l ((win0_0.rect t).emb (ix3 0 r l)) _ _ _ (idx_rows t).1
    (win0_0.rect_emb_val t _ 0) (win0_0.rect_emb_val t _ 1) (win0_0.rect_emb_val t _ 2))

theorem iblk1_apply (c : Dev nD) (t : Fin cfg0.N) (r : Fin 8) (l : Fin 1024) :
    (iblk m c 1 t : S1x1x8x1024.Idx → EReal) (ix4 0 0 r l) = a1 m c (ix4 (seqOf t) (segOf t) r l) :=
  congrArg (a1 m c) (segs_idx t r l ((win0_1.rect t).emb (ix4 0 0 r l)) _ _ _ _ (idx_whole t).1
    (win0_1.rect_emb_val t _ 0) (win0_1.rect_emb_val t _ 1) (win0_1.rect_emb_val t _ 2) (win0_1.rect_emb_val t _ 3))

theorem iblk2_apply (c : Dev nD) (t : Fin cfg0.N) (r : Fin 256) (l : Fin 1024) :
    (iblk m c 2 t : S1x256x1024.Idx → EReal) (ix3 0 r l) = a2 m c (ix3 (seqOf t) (rowAt t r) l) :=
  congrArg (a2 m c) (rows_idx t r l ((win0_2.rect t).emb (ix3 0 r l)) _ _ _ (idx_rows t).2.1
    (win0_2.rect_emb_val t _ 0) (win0_2.rect_emb_val t _ 1) (win0_2.rect_emb_val t _ 2))

theorem iblk3_apply (c : Dev nD) (t : Fin cfg0.N) (r : Fin 256) (l : Fin 1024) :
    (iblk m c 3 t : S1x256x1024.Idx → EReal) (ix3 0 r l) = a3 m c (ix3 (seqOf t) (rowAt t r) l) :=
  congrArg (a3 m c) (rows_idx t r l ((win0_3.rect t).emb (ix3 0 r l)) _ _ _ (idx_rows t).2.2
    (win0_3.rect_emb_val t _ 0) (win0_3.rect_emb_val t _ 1) (win0_3.rect_emb_val t _ 2))

theorem iblk4_eq (c : Dev nD) (t : Fin cfg0.N) : (iblk m c 4 t : S4x256x256.Idx → EReal) = a4 m c := by
  obtain ⟨e0, e1, e2⟩ := (idx_whole t).2.1
  funext i
  refine congrArg (a4 m c) ((group_idx (i 0) (i 1) (i 2) ((win0_4.rect t).emb i) ?_ ?_ ?_).trans (eq_ix3 i).symm)
  · exact (win0_4.rect_emb_val t i 0).trans (by rw [e0, Nat.zero_mul, Nat.zero_add])
  · exact (win0_4.rect_emb_val t i 1).trans (by rw [e1, Nat.zero_mul, Nat.zero_add])
  · exact (win0_4.rect_emb_val t i 2).trans (by rw [e2, Nat.zero_mul, Nat.zero_add])

theorem iblk5_apply (c : Dev nD) (t : Fin cfg0.N) (l : Fin 1024) : (iblk m c 5 t : S1x1024.Idx → EReal) (ix2 0 l) = a5 m c (ix2 0 l) :=
  congrArg (a5 m c) (whole_idx 0 l ((win0_5.rect t).emb (ix2 0 l)) _ _ (idx_whole t).2.2.1 (win0_5.rect_emb_val t _ 0) (win0_5.rect_emb_val t _ 1))

theorem iblk6_apply (c : Dev nD) (t : Fin cfg0.N) (l k : Fin 1024) : (iblk m c 6 t : S1024x1024.Idx → EReal) (ix2 l k) = a6 m c (ix2 l k) :=
  congrArg (a6 m c) (whole_idx l k ((win0_6.rect t).emb (ix2 l k)) _ _ (idx_whole t).2.2.2 (win0_6.rect_emb_val t _ 0) (win0_6.rect_emb_val t _ 1))

theorem mix_step (c : Dev nD) (t : Fin cfg0.N) (r : Fin 256) (l : Fin 1024) :
    (mixBlock (iblk m c 2 t) (iblk m c 3 t) (iblk m c 4 t) (iblk m c 5 t) : S256x1024.Idx → EReal) (ix2 r l) = mix m c (ix3 (seqOf t) (rowAt t r) l) := by
  rw [mixBlock_apply, iblk5_apply, iblk3_apply, show (fun k => (iblk m c 2 t : S1x256x1024.Idx → EReal) (ix3 0 r k)) = rowOf (a2 m c) (seqOf t) (rowAt t r) from
    funext fun k => iblk2_apply m c t r k, iblk4_eq]
  rfl

theorem product_step (c : Dev nD) (t : Fin cfg0.N) (r : Fin 256) (k : Fin 1024) :
    (productBlock (iblk m c 2 t) (iblk m c 3 t) (iblk m c 4 t) (iblk m c 5 t) (iblk m c 6 t) : S256x1024.Idx → EReal) (ix2 r k)
      = projected (mix m c) (a6 m c) (seqOf t) (rowAt t r) k :=
  (productBlock_apply _ _ _ _ _ r k).trans (Cert.Kernel9Ideal.Forward.product_at t _ _ _ _ (mix_step m c t) (iblk6_apply m c t) r k)

/-! ## The arrays -/

section blocks
variable (x0 : Vec Ideal S1x256x1024 .f32) (x1 : Vec Ideal S1x1x8x1024 .f32) (x2 x3 : Vec Ideal S1x256x1024 .bf16) (x4 : Vec Ideal S4x256x256 .bf16)
  (x5 : Vec Ideal S1x1024 .f32) (x6 : Vec Ideal S1024x1024 .bf16) (r : Fin 256) (l : Fin 1024)

theorem out7_apply :
    (out0_7 (F := Ideal) x0 x1 x2 x3 x4 x5 x6 : S1x256x1024.Idx → EReal) (ix3 0 r l)
      = (x0 : S1x256x1024.Idx → EReal) (ix3 0 r l)
          + (x1 : S1x1x8x1024.Idx → EReal) (ix4 0 0 2 l) * (productBlock x2 x3 x4 x5 x6 : S256x1024.Idx → EReal) (ix2 r l) := by
  unfold out0_7 k0_pay9 k0_pay8
  rw [View.canon_unit_zero (hz 1024), View.ld_unit_zero (hz 1024), View.ld_unit_zero (hz 1024), View.ld_unit_zero (hz2 1 1024), View.ld_unit_zero (hz2 1024 1024),
    View.ld_unit_zero (hz 1024)]
  unfold k0_pay5
  pointwise
  rfl

theorem out8_apply :
    (out0_8 (F := Ideal) x0 x1 x2 x3 x4 x5 x6 : S1x256x1024.Idx → EReal) (ix3 0 r l) = (mixBlock x2 x3 x4 x5 : S256x1024.Idx → EReal) (ix2 r l) := by
  unfold out0_8 k0_pay9 k0_pay8
  rw [View.canon_unit_zero (hz 1024), View.ld_unit_zero (hz 1024), View.ld_unit_zero (hz 1024), View.ld_unit_zero (hz2 1 1024)]
  unfold k0_pay2
  pointwise
  rfl

theorem out9_apply :
    (out0_9 (F := Ideal) x0 x1 x2 x3 x4 x5 x6 : S1x256x1024.Idx → EReal) (ix3 0 r l) = (productBlock x2 x3 x4 x5 x6 : S256x1024.Idx → EReal) (ix2 r l) := by
  unfold out0_9 k0_pay9 k0_pay8
  rw [View.canon_unit_zero (hz 1024), View.ld_unit_zero (hz 1024), View.ld_unit_zero (hz 1024), View.ld_unit_zero (hz2 1 1024), View.ld_unit_zero (hz2 1024 1024)]
  unfold k0_pay4
  pointwise
  rfl

end blocks

theorem final_rows (c : Dev nD) : (dats m 0 c).arrAt 7 cfg0.N = residual (a0 m c) (a1 m c) (mix m c) (a6 m c) := by
  refine (dats m 0 c).arrAt_eq_of_cover 7 _ (fun t _ => ?_) (fun i => ?_)
  · show (cfg0.win 7).cut (grid0.coords t) ((dats m 0 c).after 7 t) = _
    rw [after0_7]
    funext x
    exact rows_block t (out0_7 (F := Ideal) (iblk m c 0 t) (iblk m c 1 t) (iblk m c 2 t) (iblk m c 3 t) (iblk m c 4 t) (iblk m c 5 t) (iblk m c 6 t))
      (residual (a0 m c) (a1 m c) (mix m c) (a6 m c))
      (fun r l => (out7_apply _ _ _ _ _ _ _ r l).trans
        (residual_at t _ _ _ _ r l _ _ _ (iblk0_apply m c t r l) (iblk1_apply m c t 2 l) (product_step m c t r l))) _ _ _ (idx_out t).1
      ((cfg0.win 7).xinj (grid0.coords t) x) (((cfg0.win 7).blk t).view.emb x) rfl rfl rfl
  · obtain ⟨t, h⟩ := rows_covered N_0 i
    refine ⟨t, flush0_7 t, ?_⟩
    show i ∈ ((View.whole main_v0_0).slice (win0_7.rect t)).set
    rw [View.set_slice_whole, Rect.mem_set_unit]
    exact rows_inside t i (win0_7.index t) (idx_out t).1 h

theorem final_mix (c : Dev nD) : (dats m 0 c).arrAt 8 cfg0.N = mix m c := by
  refine (dats m 0 c).arrAt_eq_of_cover 8 _ (fun t _ => ?_) (fun i => ?_)
  · show (cfg0.win 8).cut (grid0.coords t) ((dats m 0 c).after 8 t) = _
    rw [after0_8]
    funext x
    exact rows_block t (out0_8 (F := Ideal) (iblk m c 0 t) (iblk m c 1 t) (iblk m c 2 t) (iblk m c 3 t) (iblk m c 4 t) (iblk m c 5 t) (iblk m c 6 t))
      (mix m c) (fun r l => (out8_apply _ _ _ _ _ _ _ r l).trans (mix_step m c t r l)) _ _ _ (idx_out t).2.1
      ((cfg0.win 8).xinj (grid0.coords t) x) (((cfg0.win 8).blk t).view.emb x) rfl rfl rfl
  · obtain ⟨t, h⟩ := rows_covered N_0 i
    refine ⟨t, flush0_8 t, ?_⟩
    show i ∈ ((View.whole main_v0_1).slice (win0_8.rect t)).set
    rw [View.set_slice_whole, Rect.mem_set_unit]
    exact rows_inside t i (win0_8.index t) (idx_out t).2.1 h

theorem final_product (c : Dev nD) : (dats m 0 c).arrAt 9 cfg0.N = product (mix m c) (a6 m c) := by
  refine (dats m 0 c).arrAt_eq_of_cover 9 _ (fun t _ => ?_) (fun i => ?_)
  · show (cfg0.win 9).cut (grid0.coords t) ((dats m 0 c).after 9 t) = _
    rw [after0_9]
    funext x
    exact rows_block t (out0_9 (F := Ideal) (iblk m c 0 t) (iblk m c 1 t) (iblk m c 2 t) (iblk m c 3 t) (iblk m c 4 t) (iblk m c 5 t) (iblk m c 6 t))
      (product (mix m c) (a6 m c)) (fun r l => (out9_apply _ _ _ _ _ _ _ r l).trans (product_step m c t r l)) _ _ _ (idx_out t).2.2
      ((cfg0.win 9).xinj (grid0.coords t) x) (((cfg0.win 9).blk t).view.emb x) rfl rfl rfl
  · obtain ⟨t, h⟩ := rows_covered N_0 i
    refine ⟨t, flush0_9 t, ?_⟩
    show i ∈ ((View.whole main_v0_2).slice (win0_9.rect t)).set
    rw [View.set_slice_whole, Rect.mem_set_unit]
    exact rows_inside t i (win0_9.index t) (idx_out t).2.2 h

/-- The run, read: the rows, the mixture and its product, the arguments unchanged. -/
theorem run : θ_run defs (onTc (τ := τ) (main (F := Ideal))) ⟨m, fun _ => 0, ρ⟩ fun r => ∀ c : Dev nD,
      r.2.mem ((c : Thread nD τ).loc main_v0_0) = residual (a0 m c) (a1 m c) (mix m c) (a6 m c)
      ∧ r.2.mem ((c : Thread nD τ).loc main_v0_1) = mix m c
      ∧ r.2.mem ((c : Thread nD τ).loc main_v0_2) = product (mix m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_rows m c), (h c).2.1.trans (final_mix m c), (h c).2.2.1.trans (final_product m c), (h c).2.2.2⟩)
    (Value.run_blocks m ρ)

end Cert.Kernel11Ideal.Output

end
-- ==== Proof.EvenOut.lean ====
/- The arrays the even layers' output kernel leaves over the reals: the rows with the gated product added, the mixture, and its
   product with the output weights. -/
module

public import proofs.«01_k».proof.Proof.Output
public import proofs.«01_k».proof.Proof.Gen.Kernel12Ideal.Value

@[expose] public section

set_option maxRecDepth 16384

noncomputable section

namespace Cert.Kernel12Ideal.Output

open Idealize.ShloMosaic Idealize.ShloMosaic.TcCoe Idealize.SL.Sem
open Cert.Kernel12Ideal.Gen Cert.Rows Cert.Norm Cert.Output

/-! ## The step's values at an entry -/

private theorem hz (n : ℕ) : (![0, 0, 0] : Fin (⟨3, ![1, 256, n]⟩ : Shape).rank → ℕ) = fun _ => 0 := funext fun | ⟨0, _⟩ | ⟨1, _⟩ | ⟨2, _⟩ => rfl
private theorem hz2 (n0 n1 : ℕ) : (![0, 0] : Fin (⟨2, ![n0, n1]⟩ : Shape).rank → ℕ) = fun _ => 0 := funext fun | ⟨0, _⟩ | ⟨1, _⟩ => rfl

/-- A row of a block. -/
def blockRow (x : S1x256x512.Idx → EReal) (r : Fin 256) : Fin 512 → EReal := fun l => x (ix3 0 r l)

theorem scan_apply (y u : Vec Ideal S1x256x512 .f32) (d g : Vec Ideal S1x512 .f32) (w : Vec Ideal S512x512 .bf16) (r : Fin 256) (l : Fin 512) :
    (k0_pay2 (F := Ideal) y u d w g : S256x512.Idx → EReal) (ix2 r l)
      = gated (scanned (blockRow u r) (fun l => (d : S1x512.Idx → EReal) (ix2 0 l)) (blockRow y r)) w g l := by
  unfold k0_pay2 gated
  pointwise
  simp only [gelu_scaled, sigmoid_sub, add_comm ((y : S1x256x512.Idx → EReal) _)]
  rfl

theorem halves_apply (v : FVec Ideal S256x512 .f32) (ga gs : Vec Ideal S1x256x512 .bf16) (o : Vec Ideal S1x256x512 .f32) (r : Fin 256) (l : Fin 1024) :
    (k0_pay3 (F := Ideal) v ga gs o : S256x1024.Idx → EReal) (ix2 r l)
      = halves (blockRow o r) (blockRow ga r) (fun k => (v : S256x512.Idx → EReal) (ix2 r k)) (blockRow gs r) l := by
  unfold k0_pay3 halves
  pointwise
  simp only [sigmoid_sub]
  rfl

/-- A step's block of the mixture, and of its product with the output weights. -/
def mixBlock (x2 : Vec Ideal S1x256x512 .f32) (x3 : Vec Ideal S1x256x512 .bf16) (x4 x5 : Vec Ideal S1x256x512 .f32) (x6 : Vec Ideal S1x512 .f32)
    (x7 : Vec Ideal S1x256x512 .bf16) (x8 : Vec Ideal S512x512 .bf16) (x9 : Vec Ideal S1x512 .f32) :
    FVec Ideal S256x1024 .bf16 := k0_pay3 (F := Ideal) (k0_pay2 x4 x5 x6 x8 x9) x3 x7 x2

def productBlock (x2 : Vec Ideal S1x256x512 .f32) (x3 : Vec Ideal S1x256x512 .bf16) (x4 x5 : Vec Ideal S1x256x512 .f32) (x6 : Vec Ideal S1x512 .f32)
    (x7 : Vec Ideal S1x256x512 .bf16) (x8 : Vec Ideal S512x512 .bf16) (x9 : Vec Ideal S1x512 .f32)
    (x10 : Vec Ideal S1024x1024 .bf16) : FVec Ideal S256x1024 .f32 := k0_pay5 (F := Ideal) (k0_pay2 x4 x5 x6 x8 x9) x3 x7 x2 x10

section values
variable (x2 : Vec Ideal S1x256x512 .f32) (x3 : Vec Ideal S1x256x512 .bf16) (x4 x5 : Vec Ideal S1x256x512 .f32) (x6 : Vec Ideal S1x512 .f32)
    (x7 : Vec Ideal S1x256x512 .bf16) (x8 : Vec Ideal S512x512 .bf16) (x9 : Vec Ideal S1x512 .f32)
  (x10 : Vec Ideal S1024x1024 .bf16) (r : Fin 256) (l : Fin 1024)

theorem mixBlock_apply :
    (mixBlock x2 x3 x4 x5 x6 x7 x8 x9 : S256x1024.Idx → EReal) (ix2 r l)
      = halves (blockRow x2 r) (blockRow x3 r)
          (gated (scanned (blockRow x5 r) (fun l => (x6 : S1x512.Idx → EReal) (ix2 0 l)) (blockRow x4 r)) x8 x9) (blockRow x7 r) l := by
  unfold mixBlock
  rw [halves_apply, show (fun k => (k0_pay2 (F := Ideal) x4 x5 x6 x8 x9 : S256x512.Idx → EReal) (ix2 r k)) = _ from
    funext fun k => scan_apply x4 x5 x6 x9 x8 r k]

theorem productBlock_apply :
    (productBlock x2 x3 x4 x5 x6 x7 x8 x9 x10 : S256x1024.Idx → EReal) (ix2 r l)
      = ∑ k : Fin 1024, (mixBlock x2 x3 x4 x5 x6 x7 x8 x9 : S256x1024.Idx → EReal) (ix2 r k) * (x10 : S1024x1024.Idx → EReal) (ix2 k l) := by
  unfold productBlock k0_pay5
  pointwise
  rfl

end values

/-! ## The blocks of a step -/

variable (m : (ℓ : Loc nD τ sig) → Buf (Elt Ideal) ℓ) (ρ : Dev nD → PrngReg)

abbrev a0 (c : Dev nD) : RowsOf := m ((c : Thread nD τ).loc main_arg0)
abbrev a1 (c : Dev nD) : Modulation := m ((c : Thread nD τ).loc main_arg1)
abbrev a2 (c : Dev nD) : HalfRows := m ((c : Thread nD τ).loc main_arg2)
abbrev a3 (c : Dev nD) : HalfRows := m ((c : Thread nD τ).loc main_arg3)
abbrev a4 (c : Dev nD) : HalfRows := m ((c : Thread nD τ).loc main_arg4)
abbrev a5 (c : Dev nD) : HalfRows := m ((c : Thread nD τ).loc main_arg5)
abbrev a6 (c : Dev nD) : S1x512.Idx → EReal := m ((c : Thread nD τ).loc main_arg6)
abbrev a7 (c : Dev nD) : HalfRows := m ((c : Thread nD τ).loc main_arg7)
abbrev a8 (c : Dev nD) : S512x512.Idx → EReal := m ((c : Thread nD τ).loc main_arg8)
abbrev a9 (c : Dev nD) : S1x512.Idx → EReal := m ((c : Thread nD τ).loc main_arg9)
abbrev a10 (c : Dev nD) : S1024x1024.Idx → EReal := m ((c : Thread nD τ).loc main_arg10)

/-- The mixture of the launch's rows. -/
abbrev mix (c : Dev nD) : RowsOf := mixEven (a2 m c) (a3 m c) (a4 m c) (a5 m c) (a7 m c) (a6 m c) (a9 m c) (a8 m c)

/-- Where the blocks of a step lie. -/
theorem idx_rows : ∀ t : Fin cfg0.N,
    (win0_0.index t 0 = t.val / 17 % 2 ∧ win0_0.index t 1 = t.val % 17 ∧ win0_0.index t 2 = 0)
    ∧ (win0_2.index t 0 = t.val / 17 % 2 ∧ win0_2.index t 1 = t.val % 17 ∧ win0_2.index t 2 = 0)
    ∧ (win0_3.index t 0 = t.val / 17 % 2 ∧ win0_3.index t 1 = t.val % 17 ∧ win0_3.index t 2 = 0)
    ∧ (win0_4.index t 0 = t.val / 17 % 2 ∧ win0_4.index t 1 = t.val % 17 ∧ win0_4.index t 2 = 0)
    ∧ (win0_5.index t 0 = t.val / 17 % 2 ∧ win0_5.index t 1 = t.val % 17 ∧ win0_5.index t 2 = 0)
    ∧ (win0_7.index t 0 = t.val / 17 % 2 ∧ win0_7.index t 1 = t.val % 17 ∧ win0_7.index t 2 = 0) :=
  (by decide +kernel : ∀ t : Fin grid0.N, _)

theorem idx_whole : ∀ t : Fin cfg0.N,
    (win0_1.index t 0 = t.val / 17 % 2 ∧ win0_1.index t 1 = min (t.val % 17) 1 ∧ win0_1.index t 2 = 0 ∧ win0_1.index t 3 = 0)
    ∧ (win0_6.index t 0 = 0 ∧ win0_6.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0) :=
  (by decide +kernel : ∀ t : Fin grid0.N, _)

theorem idx_out : ∀ t : Fin cfg0.N,
    (win0_11.index t 0 = t.val / 17 % 2 ∧ win0_11.index t 1 = t.val % 17 ∧ win0_11.index t 2 = 0)
    ∧ (win0_12.index t 0 = t.val / 17 % 2 ∧ win0_12.index t 1 = t.val % 17 ∧ win0_12.index t 2 = 0)
    ∧ (win0_13.index t 0 = t.val / 17 % 2 ∧ win0_13.index t 1 = t.val % 17 ∧ win0_13.index t 2 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) :=
  congrArg (a0 m c) (rows_idx t r l ((win0_0.rect t).emb (ix3 0 r l)) _ _ _ (idx_rows t).1
    (win0_0.rect_emb_val t _ 0) (win0_0.rect_emb_val t _ 1) (win0_0.rect_emb_val t _ 2))

theorem iblk1_apply (c : Dev nD) (t : Fin cfg0.N) (r : Fin 8) (l : Fin 1024) :
    (iblk m c 1 t : S1x1x8x1024.Idx → EReal) (ix4 0 0 r l) = a1 m c (ix4 (seqOf t) (segOf t) r l) :=
  congrArg (a1 m c) (segs_idx t r l ((win0_1.rect t).emb (ix4 0 0 r l)) _ _ _ _ (idx_whole t).1
    (win0_1.rect_emb_val t _ 0) (win0_1.rect_emb_val t _ 1) (win0_1.rect_emb_val t _ 2) (win0_1.rect_emb_val t _ 3))

theorem iblk2_apply (c : Dev nD) (t : Fin cfg0.N) (r : Fin 256) (l : Fin 512) :
    (iblk m c 2 t : S1x256x512.Idx → EReal) (ix3 0 r l) = a2 m c (ix3 (seqOf t) (rowAt t r) l) :=
  congrArg (a2 m c) (rows_idx t r l ((win0_2.rect t).emb (ix3 0 r l)) _ _ _ (idx_rows t).2.1
    (win0_2.rect_emb_val t _ 0) (win0_2.rect_emb_val t _ 1) (win0_2.rect_emb_val t _ 2))

theorem iblk3_apply (c : Dev nD) (t : Fin cfg0.N) (r : Fin 256) (l : Fin 512) :
    (iblk m c 3 t : S1x256x512.Idx → EReal) (ix3 0 r l) = a3 m c (ix3 (seqOf t) (rowAt t r) l) :=
  congrArg (a3 m c) (rows_idx t r l ((win0_3.rect t).emb (ix3 0 r l)) _ _ _ (idx_rows t).2.2.1
    (win0_3.rect_emb_val t _ 0) (win0_3.rect_emb_val t _ 1) (win0_3.rect_emb_val t _ 2))

theorem iblk4_apply (c : Dev nD) (t : Fin cfg0.N) (r : Fin 256) (l : Fin 512) :
    (iblk m c 4 t : S1x256x512.Idx → EReal) (ix3 0 r l) = a4 m c (ix3 (seqOf t) (rowAt t r) l) :=
  congrArg (a4 m c) (rows_idx t r l ((win0_4.rect t).emb (ix3 0 r l)) _ _ _ (idx_rows t).2.2.2.1
    (win0_4.rect_emb_val t _ 0) (win0_4.rect_emb_val t _ 1) (win0_4.rect_emb_val t _ 2))

theorem iblk5_apply (c : Dev nD) (t : Fin cfg0.N) (r : Fin 256) (l : Fin 512) :
    (iblk m c 5 t : S1x256x512.Idx → EReal) (ix3 0 r l) = a5 m c (ix3 (seqOf t) (rowAt t r) l) :=
  congrArg (a5 m c) (rows_idx t r l ((win0_5.rect t).emb (ix3 0 r l)) _ _ _ (idx_rows t).2.2.2.2.1
    (win0_5.rect_emb_val t _ 0) (win0_5.rect_emb_val t _ 1) (win0_5.rect_emb_val t _ 2))

theorem iblk7_apply (c : Dev nD) (t : Fin cfg0.N) (r : Fin 256) (l : Fin 512) :
    (iblk m c 7 t : S1x256x512.Idx → EReal) (ix3 0 r l) = a7 m c (ix3 (seqOf t) (rowAt t r) l) :=
  congrArg (a7 m c) (rows_idx t r l ((win0_7.rect t).emb (ix3 0 r l)) _ _ _ (idx_rows t).2.2.2.2.2
    (win0_7.rect_emb_val t _ 0) (win0_7.rect_emb_val t _ 1) (win0_7.rect_emb_val t _ 2))

theorem iblk6_eq (c : Dev nD) (t : Fin cfg0.N) : (iblk m c 6 t : S1x512.Idx → EReal) = a6 m c :=
  funext fun i => congrArg (a6 m c) ((whole_idx (i 0) (i 1) ((win0_6.rect t).emb i) _ _ (idx_whole t).2.1 (win0_6.rect_emb_val t i 0)
    (win0_6.rect_emb_val t i 1)).trans (eq_ix2 i).symm)

theorem iblk8_eq (c : Dev nD) (t : Fin cfg0.N) : (iblk m c 8 t : S512x512.Idx → EReal) = a8 m c :=
  funext fun i => congrArg (a8 m c) ((whole_idx (i 0) (i 1) ((win0_8.rect t).emb i) _ _ (idx_whole t).2.2.1 (win0_8.rect_emb_val t i 0)
    (win0_8.rect_emb_val t i 1)).trans (eq_ix2 i).symm)

theorem iblk9_eq (c : Dev nD) (t : Fin cfg0.N) : (iblk m c 9 t : S1x512.Idx → EReal) = a9 m c :=
  funext fun i => congrArg (a9 m c) ((whole_idx (i 0) (i 1) ((win0_9.rect t).emb i) _ _ (idx_whole t).2.2.2.1 (win0_9.rect_emb_val t i 0)
    (win0_9.rect_emb_val t i 1)).trans (eq_ix2 i).symm)

theorem iblk10_eq (c : Dev nD) (t : Fin cfg0.N) : (iblk m c 10 t : S1024x1024.Idx → EReal) = a10 m c :=
  funext fun i => congrArg (a10 m c) ((whole_idx (i 0) (i 1) ((win0_10.rect t).emb i) _ _ (idx_whole t).2.2.2.2 (win0_10.rect_emb_val t i 0)
    (win0_10.rect_emb_val t i 1)).trans (eq_ix2 i).symm)

/-- A row of a step's block is the row of the array. -/
theorem blockRow_at (t : Fin cfg0.N) (A : HalfRows) (x : S1x256x512.Idx → EReal)
    (h : ∀ (r : Fin 256) (l : Fin 512), x (ix3 0 r l) = A (ix3 (seqOf t) (rowAt t r) l)) (r : Fin 256) :
    blockRow x r = halfRow A (seqOf t) (rowAt t r) := funext fun l => h r l

theorem mix_step (c : Dev nD) (t : Fin cfg0.N) (r : Fin 256) (l : Fin 1024) :
    (mixBlock (iblk m c 2 t) (iblk m c 3 t) (iblk m c 4 t) (iblk m c 5 t) (iblk m c 6 t) (iblk m c 7 t) (iblk m c 8 t) (iblk m c 9 t) :
      S256x1024.Idx → EReal) (ix2 r l) = mix m c (ix3 (seqOf t) (rowAt t r) l) := by
  rw [mixBlock_apply, blockRow_at t _ _ (iblk2_apply m c t), blockRow_at t _ _ (iblk3_apply m c t), blockRow_at t _ _ (iblk4_apply m c t),
    blockRow_at t _ _ (iblk5_apply m c t), blockRow_at t _ _ (iblk7_apply m c t), iblk6_eq, iblk8_eq, iblk9_eq]
  rfl

theorem product_step (c : Dev nD) (t : Fin cfg0.N) (r : Fin 256) (k : Fin 1024) :
    (productBlock (iblk m c 2 t) (iblk m c 3 t) (iblk m c 4 t) (iblk m c 5 t) (iblk m c 6 t) (iblk m c 7 t) (iblk m c 8 t) (iblk m c 9 t) (iblk m c 10 t) :
      S256x1024.Idx → EReal) (ix2 r k) = projected (mix m c) (a10 m c) (seqOf t) (rowAt t r) k :=
  (productBlock_apply _ _ _ _ _ _ _ _ _ r k).trans
    (Cert.Kernel9Ideal.Forward.product_at t _ _ _ _ (mix_step m c t) (fun l k => congrFun (iblk10_eq m c t) (ix2 l k)) r k)

/-! ## The arrays -/

section blocks
variable (x0 : Vec Ideal S1x256x1024 .f32) (x1 : Vec Ideal S1x1x8x1024 .f32) (x2 : Vec Ideal S1x256x512 .f32) (x3 : Vec Ideal S1x256x512 .bf16) (x4 x5 : Vec Ideal S1x256x512 .f32) (x6 : Vec Ideal S1x512 .f32)
    (x7 : Vec Ideal S1x256x512 .bf16) (x8 : Vec Ideal S512x512 .bf16) (x9 : Vec Ideal S1x512 .f32)
  (x10 : Vec Ideal S1024x1024 .bf16) (r : Fin 256) (l : Fin 1024)

theorem out11_apply :
    (out0_11 (F := Ideal) x0 x1 x2 x3 x4 x5 x6 x7 x8 x9 x10 : S1x256x1024.Idx → EReal) (ix3 0 r l)
      = (x0 : S1x256x1024.Idx → EReal) (ix3 0 r l)
          + (x1 : S1x1x8x1024.Idx → EReal) (ix4 0 0 2 l) * (productBlock x2 x3 x4 x5 x6 x7 x8 x9 x10 : S256x1024.Idx → EReal) (ix2 r l) := by
  unfold out0_11 k0_pay7
  rw [View.canon_unit_zero (hz 1024), View.ld_unit_zero (hz 512), View.ld_unit_zero (hz 512), View.ld_unit_zero (hz2 1 512), View.ld_unit_zero (hz2 512 512), View.ld_unit_zero (hz2 1 512), View.ld_unit_zero (hz 512), View.ld_unit_zero (hz 512), View.ld_unit_zero (hz 512), View.ld_unit_zero (hz2 1024 1024), View.ld_unit_zero (hz 1024)]
  unfold k0_pay1
  pointwise
  rfl

theorem out12_apply :
    (out0_12 (F := Ideal) x0 x1 x2 x3 x4 x5 x6 x7 x8 x9 x10 : S1x256x1024.Idx → EReal) (ix3 0 r l)
      = (mixBlock x2 x3 x4 x5 x6 x7 x8 x9 : S256x1024.Idx → EReal) (ix2 r l) := by
  unfold out0_12 k0_pay7
  rw [View.canon_unit_zero (hz 1024), View.ld_unit_zero (hz 512), View.ld_unit_zero (hz 512), View.ld_unit_zero (hz2 1 512), View.ld_unit_zero (hz2 512 512), View.ld_unit_zero (hz2 1 512), View.ld_unit_zero (hz 512), View.ld_unit_zero (hz 512), View.ld_unit_zero (hz 512)]
  unfold k0_pay4
  pointwise
  rfl

theorem out13_apply :
    (out0_13 (F := Ideal) x0 x1 x2 x3 x4 x5 x6 x7 x8 x9 x10 : S1x256x1024.Idx → EReal) (ix3 0 r l)
      = (productBlock x2 x3 x4 x5 x6 x7 x8 x9 x10 : S256x1024.Idx → EReal) (ix2 r l) := by
  unfold out0_13 k0_pay7
  rw [View.canon_unit_zero (hz 1024), View.ld_unit_zero (hz 512), View.ld_unit_zero (hz 512), View.ld_unit_zero (hz2 1 512), View.ld_unit_zero (hz2 512 512), View.ld_unit_zero (hz2 1 512), View.ld_unit_zero (hz 512), View.ld_unit_zero (hz 512), View.ld_unit_zero (hz 512), View.ld_unit_zero (hz2 1024 1024)]
  unfold k0_pay6
  pointwise
  rfl

end blocks

theorem final_rows (c : Dev nD) : (dats m 0 c).arrAt 11 cfg0.N = residual (a0 m c) (a1 m c) (mix m c) (a10 m c) := by
  refine (dats m 0 c).arrAt_eq_of_cover 11 _ (fun t _ => ?_) (fun i => ?_)
  · show (cfg0.win 11).cut (grid0.coords t) ((dats m 0 c).after 11 t) = _
    rw [after0_11]
    funext x
    exact rows_block t (out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t))
      (residual (a0 m c) (a1 m c) (mix m c) (a10 m c))
      (fun r l => (out11_apply _ _ _ _ _ _ _ _ _ _ _ r l).trans
        (residual_at t _ _ _ _ r l _ _ _ (iblk0_apply m c t r l) (iblk1_apply m c t 2 l) (product_step m c t r l))) _ _ _ (idx_out t).1
      ((cfg0.win 11).xinj (grid0.coords t) x) (((cfg0.win 11).blk t).view.emb x) rfl rfl rfl
  · obtain ⟨t, h⟩ := rows_covered N_0 i
    refine ⟨t, flush0_11 t, ?_⟩
    show i ∈ ((View.whole main_v0_0).slice (win0_11.rect t)).set
    rw [View.set_slice_whole, Rect.mem_set_unit]
    exact rows_inside t i (win0_11.index t) (idx_out t).1 h

theorem final_mix (c : Dev nD) : (dats m 0 c).arrAt 12 cfg0.N = mix m c := by
  refine (dats m 0 c).arrAt_eq_of_cover 12 _ (fun t _ => ?_) (fun i => ?_)
  · show (cfg0.win 12).cut (grid0.coords t) ((dats m 0 c).after 12 t) = _
    rw [after0_12]
    funext x
    exact rows_block t (out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t))
      (mix m c) (fun r l => (out12_apply _ _ _ _ _ _ _ _ _ _ _ r l).trans (mix_step m c t r l)) _ _ _ (idx_out t).2.1
      ((cfg0.win 12).xinj (grid0.coords t) x) (((cfg0.win 12).blk t).view.emb x) rfl rfl rfl
  · obtain ⟨t, h⟩ := rows_covered N_0 i
    refine ⟨t, flush0_12 t, ?_⟩
    show i ∈ ((View.whole main_v0_1).slice (win0_12.rect t)).set
    rw [View.set_slice_whole, Rect.mem_set_unit]
    exact rows_inside t i (win0_12.index t) (idx_out t).2.1 h

theorem final_product (c : Dev nD) : (dats m 0 c).arrAt 13 cfg0.N = product (mix m c) (a10 m c) := by
  refine (dats m 0 c).arrAt_eq_of_cover 13 _ (fun t _ => ?_) (fun i => ?_)
  · show (cfg0.win 13).cut (grid0.coords t) ((dats m 0 c).after 13 t) = _
    rw [after0_13]
    funext x
    exact rows_block t (out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t))
      (product (mix m c) (a10 m c)) (fun r l => (out13_apply _ _ _ _ _ _ _ _ _ _ _ r l).trans (product_step m c t r l)) _ _ _ (idx_out t).2.2
      ((cfg0.win 13).xinj (grid0.coords t) x) (((cfg0.win 13).blk t).view.emb x) rfl rfl rfl
  · obtain ⟨t, h⟩ := rows_covered N_0 i
    refine ⟨t, flush0_13 t, ?_⟩
    show i ∈ ((View.whole main_v0_2).slice (win0_13.rect t)).set
    rw [View.set_slice_whole, Rect.mem_set_unit]
    exact rows_inside t i (win0_13.index t) (idx_out t).2.2 h

/-- The run, read: the rows, the mixture and its product, the arguments unchanged. -/
theorem run : θ_run defs (onTc (τ := τ) (main (F := Ideal))) ⟨m, fun _ => 0, ρ⟩ fun r => ∀ c : Dev nD,
      r.2.mem ((c : Thread nD τ).loc main_v0_0) = residual (a0 m c) (a1 m c) (mix m c) (a10 m c)
      ∧ r.2.mem ((c : Thread nD τ).loc main_v0_1) = mix m c
      ∧ r.2.mem ((c : Thread nD τ).loc main_v0_2) = product (mix m c) (a10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final_rows m c), (h c).2.1.trans (final_mix m c), (h c).2.2.1.trans (final_product m c), (h c).2.2.2⟩)
    (Value.run_blocks m ρ)

end Cert.Kernel12Ideal.Output

end
-- ==== Proof.OutputRef.lean ====
/- The references' output forwards, stage by stage, are those of `Output`. -/
module

public import proofs.«01_k».proof.Proof.Output
public import proofs.«01_k».proof.Proof.Gen.Reference11Ideal.Read
public import proofs.«01_k».proof.Proof.Gen.Reference12Ideal.Read

@[expose] public section

set_option maxRecDepth 16384

noncomputable section

namespace Cert.Reference11Ideal.Output

open Cert.Reference11Ideal Cert.Reference11Ideal.Gen Cert.Reference11Ideal.Read Cert.Norm Cert.Output
open Idealize.ShloMosaic Idealize.ShloMosaic.TcCoe Idealize.SL.Sem

variable (x0 : S2x4352x1024.Idx → EReal) (x1 : S2x2x8x1024.Idx → EReal) (x2 x3 : S2x4352x1024.Idx → EReal) (x4 : S4x256x256.Idx → EReal)
  (x5 : S1x1024.Idx → EReal) (x6 : S1024x1024.Idx → EReal)

theorem gate (b : Fin 2) (t : Fin 4352) (l : Fin 1024) : val_main_v21 (F := Ideal) x1 (ix3 b t l) = x1 (ix4 b (seg t) 2 l) := by
  pointwise [val_main_v21, val_main_v20, val_main_v19, val_main_v18, val_main_v17, val_main_v16, val_main_v15]
  unfold seg
  by_cases h : t.val < 256
  · rw [dif_pos h, if_pos h]
  · rw [dif_neg h, if_neg h]

theorem silu_apply (b : Fin 2) (t : Fin 4352) (l : Fin 1024) : val_main_v12 (F := Ideal) x3 (ix3 b t l) = silu (x3 (ix3 b t l)) := by
  unfold silu sigmoid
  pointwise [val_main_v12, val_main_call0_v5, val_main_call0_v4, val_main_call0_v3, val_main_call0_v2, val_main_call0_v1, val_main_call0_v0,
    val_main_call0_cst, val_main_call0_cst_0, val_main_v1]

theorem pooled (b : Fin 2) (t : Fin 4352) (l : Fin 1024) : val_main_v7 (F := Ideal) x2 x4 (ix3 b t l) = grouped (rowOf x2 b t) x4 l := by
  pointwise [val_main_v7, val_main_v6, val_main_v5, val_main_v4, val_main_v2, val_main_v0]
  exact Finset.sum_congr rfl fun k _ => mul_comm _ _

theorem mix (b : Fin 2) (t : Fin 4352) (l : Fin 1024) : val_main_v13 (F := Ideal) x2 x3 x4 x5 (ix3 b t l) = mixOdd x2 x3 x4 x5 (ix3 b t l) := by
  pointwise [val_main_v13, val_main_v11, val_main_v10, val_main_v9, val_main_v8]
  exact congrArg₂ (fun a b : EReal => a * x5 (ix2 0 l) * b) (pooled x2 x4 b t l) (silu_apply x3 b t l)

theorem prod (b : Fin 2) (t : Fin 4352) (l : Fin 1024) :
    val_main_v14 (F := Ideal) x2 x3 x4 x5 x6 (ix3 b t l) = projected (mixOdd x2 x3 x4 x5) x6 b t l := by
  pointwise [val_main_v14, val_main_v3]
  exact Finset.sum_congr rfl fun k _ => congrArg (fun e : EReal => e * x6 (ix2 k l)) (mix x2 x3 x4 x5 b t k)

theorem rows_eq : val_main_v23 (F := Ideal) x0 x1 x2 x3 x4 x5 x6 = residual x0 x1 (mixOdd x2 x3 x4 x5) x6 := by
  funext i
  obtain ⟨b, t, l, rfl⟩ : ∃ b t l, i = ix3 b t l := ⟨i 0, i 1, i 2, eq_ix3 i⟩
  pointwise [val_main_v23, val_main_v22]
  exact congrArg₂ (fun a c : EReal => x0 (ix3 b t l) + a * c) (gate x1 b t l) (prod x2 x3 x4 x5 x6 b t l)

theorem mix_eq : val_main_v24 (F := Ideal) x2 x3 x4 x5 = mixOdd x2 x3 x4 x5 := by
  funext i
  obtain ⟨b, t, l, rfl⟩ : ∃ b t l, i = ix3 b t l := ⟨i 0, i 1, i 2, eq_ix3 i⟩
  pointwise [val_main_v24]
  exact mix x2 x3 x4 x5 b t l

theorem product_eq : val_main_v25 (F := Ideal) x2 x3 x4 x5 x6 = product (mixOdd x2 x3 x4 x5) x6 := by
  funext i
  obtain ⟨b, t, l, rfl⟩ : ∃ b t l, i = ix3 b t l := ⟨i 0, i 1, i 2, eq_ix3 i⟩
  pointwise [val_main_v25]
  exact prod x2 x3 x4 x5 x6 b t l

end Cert.Reference11Ideal.Output

namespace Cert.Reference12Ideal.Output

open Cert.Reference12Ideal Cert.Reference12Ideal.Gen Cert.Reference12Ideal.Read Cert.Norm Cert.Output
open Idealize.ShloMosaic Idealize.ShloMosaic.TcCoe Idealize.SL.Sem

variable (x0 : S2x4352x1024.Idx → EReal) (x1 : S2x2x8x1024.Idx → EReal) (x2 x3 x4 x5 : S2x4352x512.Idx → EReal) (x6 : S1x512.Idx → EReal)
  (x7 : S2x4352x512.Idx → EReal) (x8 : S512x512.Idx → EReal) (x9 : S1x512.Idx → EReal) (x10 : S1024x1024.Idx → EReal)

theorem gate (b : Fin 2) (t : Fin 4352) (l : Fin 1024) : val_main_v46 (F := Ideal) x1 (ix3 b t l) = x1 (ix4 b (seg t) 2 l) :=
  Cert.Reference11Ideal.Output.gate x1 b t l

theorem silu_attn (b : Fin 2) (t : Fin 4352) (l : Fin 512) : val_main_v34 (F := Ideal) x3 (ix3 b t l) = silu (x3 (ix3 b t l)) := by
  unfold silu sigmoid
  pointwise [val_main_v34, val_main_call0_v5, val_main_call0_v4, val_main_call0_v3, val_main_call0_v2, val_main_call0_v1, val_main_call0_v0,
    val_main_call0_cst, val_main_call0_cst_0, val_main_v0]

/-- The other gate goes through the same stages. -/
theorem silu_scan (b : Fin 2) (t : Fin 4352) (l : Fin 512) : val_main_v36 (F := Ideal) x7 (ix3 b t l) = silu (x7 (ix3 b t l)) :=
  silu_attn x7 b t l

theorem rectified (b : Fin 2) (t : Fin 4352) (l : Fin 512) :
    val_main_v21 (F := Ideal) x4 x5 x6 (ix3 b t l) = scanned (halfRow x5 b t) (fun l => x6 (ix2 0 l)) (halfRow x4 b t) l := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_cst, val_main_cst_0,
    val_main_cst_1, val_main_cst_2]
  rfl

theorem own_projection (b : Fin 2) (t : Fin 4352) (l : Fin 512) :
    val_main_v22 (F := Ideal) x4 x5 x6 x8 (ix3 b t l)
      = ∑ k : Fin 512, scanned (halfRow x5 b t) (fun l => x6 (ix2 0 l)) (halfRow x4 b t) k * x8 (ix2 k l) := by
  pointwise [val_main_v22, val_main_v2]
  exact Finset.sum_congr rfl fun k _ => congrArg (fun e : EReal => e * x8 (ix2 k l)) (rectified x4 x5 x6 b t k)

theorem scan_gated (b : Fin 2) (t : Fin 4352) (l : Fin 512) :
    val_main_v33 (F := Ideal) x4 x5 x6 x8 x9 (ix3 b t l)
      = gated (scanned (halfRow x5 b t) (fun l => x6 (ix2 0 l)) (halfRow x4 b t)) x8 x9 l := by
  pointwise [val_main_v33, val_main_v32, val_main_v31, val_main_v30, val_main_v29, val_main_v28, val_main_v27, val_main_v26, val_main_v25,
    val_main_v24, val_main_v23, val_main_cst_3, val_main_cst_4]
  exact congrArg₂ (fun z p : EReal => z * sigmoid (p + x9 (ix2 0 l))) (rectified x4 x5 x6 b t l) (own_projection x4 x5 x6 x8 b t l)

theorem mix (b : Fin 2) (t : Fin 4352) (l : Fin 1024) :
    val_main_v38 (F := Ideal) x2 x3 x4 x5 x6 x7 x8 x9 (ix3 b t l) = mixEven x2 x3 x4 x5 x7 x6 x9 x8 (ix3 b t l) := by
  show _ = halves _ _ _ _ l
  unfold halves
  pointwise [val_main_v38, val_main_v37, val_main_v35]
  split
  · exact congrArg (fun e : EReal => x2 _ * e) (silu_attn x3 b t _)
  · exact congrArg₂ (fun a c : EReal => a * c) (scan_gated x4 x5 x6 x8 x9 b t _) (silu_scan x7 b t _)

theorem prod (b : Fin 2) (t : Fin 4352) (l : Fin 1024) :
    val_main_v39 (F := Ideal) x2 x3 x4 x5 x6 x7 x8 x9 x10 (ix3 b t l) = projected (mixEven x2 x3 x4 x5 x7 x6 x9 x8) x10 b t l := by
  pointwise [val_main_v39, val_main_v3]
  exact Finset.sum_congr rfl fun k _ => congrArg (fun e : EReal => e * x10 (ix2 k l)) (mix x2 x3 x4 x5 x6 x7 x8 x9 b t k)

theorem rows_eq : val_main_v48 (F := Ideal) x0 x1 x2 x3 x4 x5 x6 x7 x8 x9 x10 = residual x0 x1 (mixEven x2 x3 x4 x5 x7 x6 x9 x8) x10 := by
  funext i
  obtain ⟨b, t, l, rfl⟩ : ∃ b t l, i = ix3 b t l := ⟨i 0, i 1, i 2, eq_ix3 i⟩
  pointwise [val_main_v48, val_main_v47]
  exact congrArg₂ (fun a c : EReal => x0 (ix3 b t l) + a * c) (gate x1 b t l) (prod x2 x3 x4 x5 x6 x7 x8 x9 x10 b t l)

theorem mix_eq : val_main_v49 (F := Ideal) x2 x3 x4 x5 x6 x7 x8 x9 = mixEven x2 x3 x4 x5 x7 x6 x9 x8 := by
  funext i
  obtain ⟨b, t, l, rfl⟩ : ∃ b t l, i = ix3 b t l := ⟨i 0, i 1, i 2, eq_ix3 i⟩
  pointwise [val_main_v49]
  exact mix x2 x3 x4 x5 x6 x7 x8 x9 b t l

theorem product_eq : val_main_v50 (F := Ideal) x2 x3 x4 x5 x6 x7 x8 x9 x10 = product (mixEven x2 x3 x4 x5 x7 x6 x9 x8) x10 := by
  funext i
  obtain ⟨b, t, l, rfl⟩ : ∃ b t l, i = ix3 b t l := ⟨i 0, i 1, i 2, eq_ix3 i⟩
  pointwise [val_main_v50]
  exact prod x2 x3 x4 x5 x6 x7 x8 x9 x10 b t l

end Cert.Reference12Ideal.Output

end
-- ==== Proof.OutputClaim.lean ====
/- The claims about the odd and the even layers' output forward. -/
module

public import proofs.«01_k».proof.Defs
public import proofs.«01_k».proof.Proof.PoolOut
public import proofs.«01_k».proof.Proof.EvenOut
public import proofs.«01_k».proof.Proof.OutputRef
public import proofs.«01_k».proof.Proof.Gen.Reference11Ideal.Run
public import proofs.«01_k».proof.Proof.Gen.Reference12Ideal.Run
public import Idealize.ShloMosaic.Lib.Quiescent

@[expose] public section

set_option maxRecDepth 16384

noncomputable section

namespace Cert.OutputClaim

open Idealize.ShloMosaic Idealize.ShloMosaic.TcCoe Idealize.SL.Sem Cert.Norm Cert.Output

theorem frame_reference_odd : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_reference_even : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

section odd
open Cert.Kernel11Ideal.Output Cert.Reference11Ideal.Output

theorem algebraic_odd : Cert.algebraic_Kernel11Ideal_Reference11Ideal := by
  intro m ρ m' ρ' _ hagree
  refine ⟨fun c => residual (a0 m c) (a1 m c) (Cert.Kernel11Ideal.Output.mix m c) (a6 m c), fun c => Cert.Kernel11Ideal.Output.mix m c,
    fun c => product (Cert.Kernel11Ideal.Output.mix m c) (a6 m c), Cert.Kernel11Ideal.Output.run m ρ, ?_⟩
  refine (θ_run Cert.Reference11Ideal.defs _ _).mono (fun _ h c => ?_) (Cert.Reference11Ideal.Value.run (F := Ideal) m' ρ')
  obtain ⟨r0, r1, r2, rest⟩ := h c
  obtain ⟨h0, h1, h2, h3, h4, h5, h6⟩ := hagree c
  refine ⟨r0.trans ?_, r1.trans ?_, r2.trans ?_, rest⟩
  · refine (Cert.Reference11Ideal.Read.val_main_v23_eq _ _ _ _ _ _ _).trans ((rows_eq _ _ _ _ _ _ _).trans ?_)
    rw [h0, h1, h2, h3, h4, h5, h6]
  · refine (Cert.Reference11Ideal.Read.val_main_v24_eq _ _ _ _).trans ((mix_eq _ _ _ _).trans ?_)
    rw [h2, h3, h4, h5]
  · refine (Cert.Reference11Ideal.Read.val_main_v25_eq _ _ _ _ _).trans ((product_eq _ _ _ _ _).trans ?_)
    rw [h2, h3, h4, h5, h6]

end odd

section even
open Cert.Kernel12Ideal.Output Cert.Reference12Ideal.Output

theorem algebraic_even : Cert.algebraic_Kernel12Ideal_Reference12Ideal := by
  intro m ρ m' ρ' _ hagree
  refine ⟨fun c => residual (a0 m c) (a1 m c) (Cert.Kernel12Ideal.Output.mix m c) (a10 m c), fun c => Cert.Kernel12Ideal.Output.mix m c,
    fun c => product (Cert.Kernel12Ideal.Output.mix m c) (a10 m c), Cert.Kernel12Ideal.Output.run m ρ, ?_⟩
  refine (θ_run Cert.Reference12Ideal.defs _ _).mono (fun _ h c => ?_) (Cert.Reference12Ideal.Value.run (F := Ideal) m' ρ')
  obtain ⟨r0, r1, r2, rest⟩ := h c
  obtain ⟨h0, h1, h2, h3, h4, h5, h6, h7, h8, h9, h10⟩ := hagree c
  refine ⟨r0.trans ?_, r1.trans ?_, r2.trans ?_, rest⟩
  · refine (Cert.Reference12Ideal.Read.val_main_v48_eq m' c).trans ((rows_eq _ _ _ _ _ _ _ _ _ _ _).trans ?_)
    rw [h0, h1, h2, h3, h4, h5, h6, h7, h8, h9, h10]
  · refine (Cert.Reference12Ideal.Read.val_main_v49_eq m' c).trans ((mix_eq _ _ _ _ _ _ _ _).trans ?_)
    rw [h2, h3, h4, h5, h6, h7, h8, h9]
  · refine (Cert.Reference12Ideal.Read.val_main_v50_eq m' c).trans ((product_eq _ _ _ _ _ _ _ _ _).trans ?_)
    rw [h2, h3, h4, h5, h6, h7, h8, h9, h10]

end even

end Cert.OutputClaim

end
-- ==== Proof.PoolGradRun.lean ====
/- One grid step of the odd layers' backward kernel before the pooling, at any values: what the body leaves in its six
   results' blocks, from the blocks it reads and, for the two sums, from what the step before left. -/
module

public import proofs.«01_k».proof.Proof.Gen.Kernel13Ideal.Frame
public import proofs.«01_k».proof.Proof.Gen.Kernel13Ideal.Skeleton
public import proofs.«01_k».proof.Proof.Rows

@[expose] public section

set_option maxRecDepth 16384

noncomputable section

namespace Cert.Kernel13Ideal.PoolGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel13Ideal.Gen Cert.Rows

variable {F : FTy → Type} [FloatOps F]

local notation "𝕄" => MT nD τ sig Unit (Elt F) ℕ (UR sig nD τ) ℕ

/-- The step starts a new block of the gate's gradient. -/
abbrev startsMod (i : grid0.Coords) : Prop :=
  (Scalar.cmpi .ne (Scalar.extui (Scalar.cmpi .sle (BitVec.ofNat 32 (i 1).val) 1#32)) 0#32) = 1#1

/-- The step is the first of all: it starts the scale's gradient. -/
abbrev startsScale (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- One, as the kernel's constant. -/
abbrev one : F .f32 := Scalar.ofBits .f32 0x3F800000#32

/-- The block of the product's gradient: the rows' gradient times their segment's gate. -/
abbrev outGrad (x0 : Vec F S1x256x1024 .f32) (x1 : Vec F S1x1x8x1024 .f32) : FVec F S256x1024 .bf16 := k0_pay6 x0 (blockRow 2 x1)

/-- The block of the mixture's gradient, from the product's. -/
abbrev mixGrad (u : FVec F S256x1024 .bf16) (x6 : Vec F S1024x1024 .bf16) : FVec F S256x1024 .f32 := k0_pay8 u x6

/-- The block of the pooled rows times their groups' weights. -/
abbrev groupedRows (x2 : Vec F S1x256x1024 .bf16) (x4 : Vec F S4x256x256 .bf16) : FVec F S256x1024 .f32 :=
  k0_pay9 x2 (plane 0 x4) (plane 1 x4) (plane 2 x4) (plane 3 x4)

/-- The block left in the gradient of the gate's rows, from the mixture's gradient `v` and the grouped rows `p`. -/
def leftGate (v p : FVec F S256x1024 .f32) (x3 : Vec F S1x256x1024 .bf16) (x5 : Vec F S1x1024 .f32) : Vec F S1x256x1024 .bf16 :=
  k0_pay14 v p x5 (k0_pay10 x3) (k0_pay11 x3) one

/-- The block left in the gradient of the grouped rows. -/
def leftGrouped (v : FVec F S256x1024 .f32) (x3 : Vec F S1x256x1024 .bf16) (x5 : Vec F S1x1024 .f32) : Vec F S1x256x1024 .bf16 :=
  k0_pay17 v x5 (k0_pay10 x3) (k0_pay11 x3) one

/-- The block left in the gradient of the pooled rows. -/
def leftPooled (v : FVec F S256x1024 .f32) (x3 : Vec F S1x256x1024 .bf16) (x4 : Vec F S4x256x256 .bf16) (x5 : Vec F S1x1024 .f32) :
    Vec F S1x256x1024 .f32 :=
  k0_pay1 (k0_pay16 v x5 (k0_pay10 x3) (k0_pay11 x3) one) (k0_pay18 v x5 (k0_pay10 x3) (k0_pay11 x3) one (plane 0 x4))
    (k0_pay19 v x5 (k0_pay10 x3) (k0_pay11 x3) one) (plane 1 x4) (plane 2 x4) (plane 3 x4)

/-- The block left in the modulation's gradient: its first row raised, of the block before or of zeros where the step starts one. -/
def leftMod (starts : Prop) [Decidable starts] (x0 : Vec F S1x256x1024 .f32) (x7 : Vec F S1x256x1024 .bf16)
    (d : Vec F S1x1x8x1024 .f32) : Vec F S1x1x8x1024 .f32 :=
  let d' : Vec F S1x1x8x1024 .f32 := if starts then k0_pay3 else d
  setFirst d' (k0_pay5 x0 (blockRow 0 d') x7)

/-- The block left in the scale's gradient: the first row raised, of the block before or of zeros where the step starts it. -/
def leftScale (starts : Prop) [Decidable starts] (v p : FVec F S256x1024 .f32) (x3 : Vec F S1x256x1024 .bf16)
    (d : Vec F S8x1024 .f32) : Vec F S8x1024 .f32 :=
  let d' : Vec F S8x1024 .f32 := if starts then k0_pay4 else d
  setEight d' (k0_pay15 v p (k0_pay10 x3) (k0_pay11 x3) one (eightRow d'))

set_option maxHeartbeats 4000000 in
/-- The body run on whole staging memrefs: the inputs' blocks stay, the results' blocks end as stated. The four ways
    the two branches can fall run alike. -/
theorem body_run (c : Dev nD) (i : grid0.Coords)
    (arg2 : Memref sig .tc .vmem S1x256x1024 .f32) (harg2 : arg2.IsWhole)
    (arg3 : Memref sig .tc .vmem S1x1x8x1024 .f32) (harg3 : arg3.IsWhole)
    (arg4 : Memref sig .tc .vmem S1x256x1024 .bf16) (harg4 : arg4.IsWhole)
    (arg5 : Memref sig .tc .vmem S1x256x1024 .bf16) (harg5 : arg5.IsWhole)
    (arg6 : Memref sig .tc .vmem S4x256x256 .bf16) (harg6 : arg6.IsWhole)
    (arg7 : Memref sig .tc .vmem S1x1024 .f32) (harg7 : arg7.IsWhole)
    (arg8 : Memref sig .tc .vmem S1024x1024 .bf16) (harg8 : arg8.IsWhole)
    (arg9 : Memref sig .tc .vmem S1x256x1024 .bf16) (harg9 : arg9.IsWhole)
    (arg10 : Memref sig .tc .vmem S1x256x1024 .f32) (harg10 : arg10.IsWhole)
    (arg11 : Memref sig .tc .vmem S1x256x1024 .bf16) (harg11 : arg11.IsWhole)
    (arg12 : Memref sig .tc .vmem S1x256x1024 .bf16) (harg12 : arg12.IsWhole)
    (arg13 : Memref sig .tc .vmem S1x256x1024 .bf16) (harg13 : arg13.IsWhole)
    (arg14 : Memref sig .tc .vmem S1x1x8x1024 .f32) (harg14 : arg14.IsWhole)
    (arg15 : Memref sig .tc .vmem S8x1024 .f32) (harg15 : arg15.IsWhole)
    (x0 : Vec F S1x256x1024 .f32) (x1 : Vec F S1x1x8x1024 .f32) (x2 : Vec F S1x256x1024 .bf16) (x3 : Vec F S1x256x1024 .bf16) (x4 : Vec F S4x256x256 .bf16) (x5 : Vec F S1x1024 .f32) (x6 : Vec F S1024x1024 .bf16) (x7 : Vec F S1x256x1024 .bf16) (x12 : Vec F S1x1x8x1024 .f32) (x13 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x12 ∗ owns (c : Thread nD τ) arg15 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (leftPooled (mixGrad (outGrad x0 x1) x6) x3 x4 x5) ∗ owns (c : Thread nD τ) arg11 fullShare (leftGate (mixGrad (outGrad x0 x1) x6) (groupedRows x2 x4) x3 x5) ∗ owns (c : Thread nD τ) arg12 fullShare (k0_pay7 (outGrad x0 x1)) ∗ owns (c : Thread nD τ) arg13 fullShare (leftGrouped (mixGrad (outGrad x0 x1) x6) x3 x5) ∗ owns (c : Thread nD τ) arg14 fullShare (leftMod (startsMod i) x0 x7 x12) ∗ owns (c : Thread nD τ) arg15 fullShare (leftScale (startsScale i) (mixGrad (outGrad x0 x1) x6) (groupedRows x2 x4) x3 x13)) -∗ K ⟨⟩))
      ⊢ wp frame (wpE (defs₀ (F := F)) Variants.none c none) E
          (cc0_pool_out_bwd i arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : startsMod i <;> by_cases hc1 : startsScale i
  all_goals
    have e0 : View.readAt (Elt F) arg2.view (Rect.unit ![0, 0, 0] S1x256x1024.size inb_S1x256x1024_S1x256x1024_0_0_0).toLoadRect (harg2.unread x0) = x0 :=
      (View.readAt_full ..).trans (harg2.read_unread _)
    have e2 : View.readAt (Elt F) arg4.view (Rect.unit ![0, 0, 0] S1x256x1024.size inb_S1x256x1024_S1x256x1024_0_0_0).toLoadRect (harg4.unread x2) = x2 :=
      (View.readAt_full ..).trans (harg4.read_unread _)
    have e3 : View.readAt (Elt F) arg5.view (Rect.unit ![0, 0, 0] S1x256x1024.size inb_S1x256x1024_S1x256x1024_0_0_0).toLoadRect (harg5.unread x3) = x3 :=
      (View.readAt_full ..).trans (harg5.read_unread _)
    have e5 : View.readAt (Elt F) arg7.view (Rect.unit ![0, 0] S1x1024.size inb_S1x1024_S1x1024_0_0).toLoadRect (harg7.unread x5) = x5 :=
      (View.readAt_full ..).trans (harg7.read_unread _)
    have e6 : View.readAt (Elt F) arg8.view (Rect.unit ![0, 0] S1024x1024.size inb_S1024x1024_S1024x1024_0_0).toLoadRect (harg8.unread x6) = x6 :=
      (View.readAt_full ..).trans (harg8.read_unread _)
    have e7 : View.readAt (Elt F) arg9.view (Rect.unit ![0, 0, 0] S1x256x1024.size inb_S1x256x1024_S1x256x1024_0_0_0).toLoadRect (harg9.unread x7) = x7 :=
      (View.readAt_full ..).trans (harg9.read_unread _)
    have e1 : View.readAt (Elt F) arg3.view (Rect.unit (s := S1x1x8x1024) ![0, 0, 2, 0] S1x1x1x1024.size inb_S1x1x8x1024_S1x1x1x1024_0_0_2_0).toLoadRect (harg3.unread x1) = blockRow 2 x1 :=
      (readAt_blockRow arg3.view _ 2 _ rfl _).trans (congrArg _ (harg3.read_unread _))
    have e4 (g : Fin 4) (inb) : View.readAt (Elt F) arg6.view (Rect.unit (s := S4x256x256) ![g.val, 0, 0] S1x256x256.size inb).toLoadRect (harg6.unread x4) = plane g x4 :=
      (readAt_plane arg6.view _ g _ rfl _).trans (congrArg _ (harg6.read_unread _))
    have e40 := e4 0 inb_S4x256x256_S1x256x256_0_0_0
    have e41 := e4 1 inb_S4x256x256_S1x256x256_1_0_0
    have e42 := e4 2 inb_S4x256x256_S1x256x256_2_0_0
    have e43 := e4 3 inb_S4x256x256_S1x256x256_3_0_0
    simp only [cc0_pool_out_bwd_eq_skeleton]; unfold cc0_pool_out_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      exact View.read_writes_full ..
    isplitl [H9]
    · iexists _; isplitr; swap; · iexact H9
      ipureintro
      exact View.read_writes_full ..
    isplitl [H10]
    · iexists _; isplitr; swap; · iexact H10
      ipureintro
      exact View.read_writes_full ..
    isplitl [H11]
    · iexists _; isplitr; swap; · iexact H11
      ipureintro
      exact View.read_writes_full ..
    isplitl [H12]
    · iexists _; isplitr; swap; · iexact H12
      ipureintro
      unfold leftMod
      refine (read_setFirst arg14.view ..).trans (congrArg₂ setFirst ?_ (congrArg (fun w => k0_pay5 x0 w x7) ?_))
      · first
          | (refine Eq.trans ?_ (if_neg hc0).symm; exact harg14.read_unread _)
          | (refine Eq.trans ?_ (if_pos hc0).symm; exact View.read_writes_full ..)
      · first
          | (refine Eq.trans ?_ (congrArg (blockRow 0) (if_neg hc0)).symm
             exact (readAt_blockRow arg14.view _ 0 ![0, 0, 0, 0] rfl _).trans (congrArg (blockRow 0) (harg14.read_unread _)))
          | (refine Eq.trans ?_ (congrArg (blockRow 0) (if_pos hc0)).symm
             exact (readAt_blockRow arg14.view _ 0 ![0, 0, 0, 0] rfl _).trans (congrArg (blockRow 0) (View.read_writes_full ..)))
    iexists _; isplitr; swap; · iexact H13
    ipureintro
    unfold leftScale
    refine (read_setEight arg15.view ..).trans (congrArg₂ setEight ?_
      (congrArg (k0_pay15 (mixGrad (outGrad x0 x1) x6) (groupedRows x2 x4) (k0_pay10 x3) (k0_pay11 x3) one) ?_))
    · first
        | (refine Eq.trans ?_ (if_neg hc1).symm; exact harg15.read_unread _)
        | (refine Eq.trans ?_ (if_pos hc1).symm; exact View.read_writes_full ..)
    · first
        | (refine Eq.trans ?_ (congrArg eightRow (if_neg hc1)).symm
           exact (readAt_eightRow arg15.view _ ![0, 0] rfl _).trans (congrArg eightRow (harg15.read_unread _)))
        | (refine Eq.trans ?_ (congrArg eightRow (if_pos hc1)).symm
           exact (readAt_eightRow arg15.view _ ![0, 0] rfl _).trans (congrArg eightRow (View.read_writes_full ..)))

end Cert.Kernel13Ideal.PoolGrad

end
-- ==== Proof.PoolGradFrame.lean ====
/- The odd layers' backward kernel before the pooling launched, at any values: what its six results' blocks hold after every
   grid step, the body at every step, and the run with every array named. -/
module

public import proofs.«01_k».proof.Proof.PoolGradRun
public import proofs.«01_k».proof.Proof.NormSteps
public import Idealize.ShloMosaic.Lib.Pipeline.FrameBody
public import Idealize.ShloMosaic.Lib.WordCmp
public import Idealize.ShloMosaic.Lib.Claim

@[expose] public section

set_option maxRecDepth 16384

noncomputable section

namespace Cert.Kernel13Ideal.PoolGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen Cert.Rows
open Cert.Norm (afterSteps afterSteps_left)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The modulation's gradient's block is started at the first two steps of a sequence. -/
theorem startsMod_iff : ∀ t : Fin cfg0.N, startsMod (grid0.coords t) ↔ t.val % 17 ≤ 1 :=
  (by decide +kernel : ∀ t : Fin grid0.N, startsMod (grid0.coords t) ↔ t.val % 17 ≤ 1)

/-- The scale's gradient is started at the first step. -/
theorem startsScale_iff : ∀ t : Fin cfg0.N, startsScale (grid0.coords t) ↔ t.val = 0 :=
  (by decide +kernel : ∀ t : Fin grid0.N, startsScale (grid0.coords t) ↔ t.val = 0)

/-- The modulation's gradient's block is written back after the first and the last step of a sequence. -/
theorem flush_mod : ∀ t : Fin cfg0.N, (cfg0.win 12).flush t = true ↔ t.val % 17 = 0 ∨ t.val % 17 = 16 :=
  (by decide +kernel : ∀ t : Fin grid0.N, win0_12.flush t = true ↔ t.val % 17 = 0 ∨ t.val % 17 = 16)

/-- A step's block of the product's gradient. -/
abbrev outAt (c : Dev nD) (t : Fin cfg0.N) : FVec F S256x1024 .bf16 := outGrad (iblk m c 0 t) (iblk m c 1 t)

/-- A step's block of the mixture's gradient. -/
abbrev mixAt (c : Dev nD) (t : Fin cfg0.N) : FVec F S256x1024 .f32 := mixGrad (outAt m c t) (iblk m c 6 t)

/-- A step's block of the grouped rows. -/
abbrev groupedAt (c : Dev nD) (t : Fin cfg0.N) : FVec F S256x1024 .f32 := groupedRows (iblk m c 2 t) (iblk m c 4 t)

/-- A step's block of the modulation's gradient over what was there. -/
abbrev stepMod (c : Dev nD) (t : Fin cfg0.N) (d : Vec F S1x1x8x1024 .f32) : Vec F S1x1x8x1024 .f32 :=
  leftMod (startsMod (grid0.coords t)) (iblk m c 0 t) (iblk m c 7 t) d

/-- A step's gradient of the scale over what was there. -/
abbrev stepScale (c : Dev nD) (t : Fin cfg0.N) (d : Vec F S8x1024 .f32) : Vec F S8x1024 .f32 :=
  leftScale (startsScale (grid0.coords t)) (mixAt m c t) (groupedAt m c t) (iblk m c 3 t) d

/-- A step that starts a block takes nothing from what was there. -/
theorem leftMod_start (p : Prop) [Decidable p] (h : p) (x0 : Vec F S1x256x1024 .f32) (x7 : Vec F S1x256x1024 .bf16)
    (d d' : Vec F S1x1x8x1024 .f32) : leftMod p x0 x7 d = leftMod p x0 x7 d' := by
  unfold leftMod
  simp only [if_pos h]

theorem leftScale_start (p : Prop) [Decidable p] (h : p) (v u : FVec F S256x1024 .f32) (x3 : Vec F S1x256x1024 .bf16)
    (d d' : Vec F S8x1024 .f32) : leftScale p v u x3 d = leftScale p v u x3 d' := by
  unfold leftScale
  simp only [if_pos h]

/-- The modulation's gradient's block after step `n`. -/
abbrev modAfter (c : Dev nD) (n : ℕ) (h : n < cfg0.N) : Vec F S1x1x8x1024 .f32 := afterSteps (stepMod m c) k0_pay3 n h

/-- The scale's gradient after step `n`. -/
abbrev scaleAfter (c : Dev nD) (n : ℕ) (h : n < cfg0.N) : Vec F S8x1024 .f32 := afterSteps (stepScale m c) k0_pay4 n h

/-- The blocks of the four gradients of rows after a step: the pooled rows', the gate's, the product's, the grouped rows'. -/
def pooledAfter (c : Dev nD) (t : Fin cfg0.N) : Vec F S1x256x1024 .f32 :=
  leftPooled (mixAt m c t) (iblk m c 3 t) (iblk m c 4 t) (iblk m c 5 t)
def gateAfter (c : Dev nD) (t : Fin cfg0.N) : Vec F S1x256x1024 .bf16 :=
  leftGate (mixAt m c t) (groupedAt m c t) (iblk m c 3 t) (iblk m c 5 t)
def outAfter (c : Dev nD) (t : Fin cfg0.N) : Vec F S1x256x1024 .bf16 := k0_pay7 (outAt m c t)
def groupedAfter (c : Dev nD) (t : Fin cfg0.N) : Vec F S1x256x1024 .bf16 := leftGrouped (mixAt m c t) (iblk m c 3 t) (iblk m c 5 t)

/-- The arrays as the region finds them, and each window's block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pooledAfter m c t
    | ⟨9, _⟩ => gateAfter m c t
    | ⟨10, _⟩ => outAfter m c t
    | ⟨11, _⟩ => groupedAfter m c t
    | ⟨12, _⟩ => modAfter m c t.val t.isLt
    | ⟨13, _⟩ => scaleAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = pooledAfter m c t := by dsimp only [dats]
theorem after_9 (c : Dev nD) (t : Fin cfg0.N) : (dats m 0 c).after 9 t = gateAfter m c t := by dsimp only [dats]
theorem after_10 (c : Dev nD) (t : Fin cfg0.N) : (dats m 0 c).after 10 t = outAfter m c t := by dsimp only [dats]
theorem after_11 (c : Dev nD) (t : Fin cfg0.N) : (dats m 0 c).after 11 t = groupedAfter m c t := by dsimp only [dats]
theorem after_12 (c : Dev nD) (t : Fin cfg0.N) : (dats m 0 c).after 12 t = modAfter m c t.val t.isLt := by dsimp only [dats]
theorem after_13 (c : Dev nD) (t : Fin cfg0.N) : (dats m 0 c).after 13 t = scaleAfter m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past the first two steps of a sequence the modulation's gradient's block holds what the step before left. -/
theorem before_12 (c : Dev nD) (t : Fin cfg0.N) (h : ¬ t.val % 17 ≤ 1) (d) :
    (dats m 0 c).before 12 t d = modAfter m c (t.val - 1) (Nat.lt_of_le_of_lt (Nat.sub_le _ _) t.isLt) := by
  rw [Dat.before_out_kept _ 12 rfl t (by omega)
    (Bool.eq_false_iff.mpr fun e => by have := (flush_mod _).mp e; dsimp only at this; omega) (fun _ => rfl) (fun _ _ => rfl)]
  dsimp only [dats]

/-- Past the first step the scale's gradient holds what the step before left. -/
theorem before_13 (c : Dev nD) (t : Fin cfg0.N) (h : t.val ≠ 0) (d) :
    (dats m 0 c).before 13 t d = scaleAfter m c (t.val - 1) (Nat.lt_of_le_of_lt (Nat.sub_le _ _) t.isLt) := by
  have hN : t.val < 34 := lt_of_lt_of_eq t.isLt (show cfg0.N = 34 from N_0)
  rw [Dat.before_out_kept _ 13 rfl t (by omega)
    (Bool.eq_false_iff.mpr fun e => by have := (flush0_13 _).mp e; dsimp only at this; omega) (fun _ => rfl) (fun _ _ => rfl)]
  dsimp only [dats]

/-- A step over what it finds leaves the modulation's gradient's block as named. -/
theorem mod_left (c : Dev nD) (t : Fin cfg0.N) (d) :
    stepMod m c t ((dats m 0 c).before 12 t d) = modAfter m c t.val t.isLt :=
  afterSteps_left _ _ t _ (t.val % 17 ≤ 1) (by omega) (fun h => leftMod_start _ ((startsMod_iff t).mpr h) _ _) (fun h => before_12 m c t h d)

/-- A step over what it finds leaves the scale's gradient as named. -/
theorem scale_left (c : Dev nD) (t : Fin cfg0.N) (d) :
    stepScale m c t ((dats m 0 c).before 13 t d) = scaleAfter m c t.val t.isLt :=
  afterSteps_left _ _ t _ (t.val = 0) id (fun h => leftScale_start _ ((startsScale_iff t).mpr h) _ _ _) (fun h => before_13 m c t h d)

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

set_option maxHeartbeats 2400000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [← mod_left m c t d12, ← scale_left m c t d13]
  iapply (body_run c (grid0.coords t) _ _ _ _ _ _ _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a step is the body. -/
theorem defs₀_row (t : Fin cfg0.N) : defs₀ (F := F) .tc cfg0.body (cfg0.bodyArgs t (cfg0.slots t)) = bodyAt0 t := by
  unfold defs₀; rw [Defs.onTc_tc]

/-- The body does what the launch asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as named, every counter back at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel13Ideal.PoolGrad

end
-- ==== Proof.PoolGrad.lean ====
/- The gradients the odd layers' backward kernel before the pooling leaves: of the product with the output weights, of the gate's
   rows, of the grouped rows, of the pooled rows, and the sums over the rows for the gate of the modulation and for the scale. -/
module

public import proofs.«01_k».proof.Proof.Output

@[expose] public section

noncomputable section

namespace Cert.PoolGrad

open Idealize.ShloMosaic Cert.Rows Cert.Norm Cert.Output

/-- The product's gradient: the rows' gradient times the gate of their segment. -/
def ofProduct (dh : RowsOf) (md : Modulation) : RowsOf := fun i => md (ix4 (i 0) (seg (i 1)) 2 (i 2)) * dh i

/-- The mixture's gradient: the product's times the output weights turned. -/
def ofMixture (u : RowsOf) (w : (⟨2, ![1024, 1024]⟩ : Shape).Idx → EReal) : RowsOf := fun i =>
  ∑ k : Fin 1024, u (ix3 (i 0) (i 1) k) * w (ix2 (i 2) k)

/-- The rows times their groups' weights. -/
def groupedArr (p : RowsOf) (w : (⟨3, ![4, 256, 256]⟩ : Shape).Idx → EReal) : RowsOf := fun i => grouped (rowOf p (i 0) (i 1)) w (i 2)

/-- The grouped rows' gradient, from the mixture's `v`. -/
def ofGrouped (v gate : RowsOf) (s : Gain) : RowsOf := fun i => v i * silu (gate i) * s (ix2 0 (i 2))

/-- The slope of `silu`. -/
def siluSlope (x : EReal) : EReal := sigmoid x * (1 + x * (1 - sigmoid x))

/-- The gate's rows' gradient, from the mixture's `v` and the grouped rows `p`. -/
def ofGate (v p gate : RowsOf) (s : Gain) : RowsOf := fun i => v i * (p i * s (ix2 0 (i 2))) * siluSlope (gate i)

/-- The groups' weights, each turned. -/
def turned (w : (⟨3, ![4, 256, 256]⟩ : Shape).Idx → EReal) : (⟨3, ![4, 256, 256]⟩ : Shape).Idx → EReal := fun i => w (ix3 (i 0) (i 2) (i 1))

/-- The pooled rows' gradient, from the grouped rows'. -/
def ofPooled (d : RowsOf) (w : (⟨3, ![4, 256, 256]⟩ : Shape).Idx → EReal) : RowsOf := groupedArr d (turned w)

/-- A row's part of the sum for the gate of the modulation. -/
def modPart (dh y : RowsOf) : Parts := fun b l t => dh (ix3 b t l) * y (ix3 b t l)

/-- The modulation's gradient: the sums for the gate in the first row of a block each. -/
def ofModulation (dh y : RowsOf) : Modulation := segmentRows (fun _ _ _ => 0) (modPart dh y)

/-- A row's part of the sum for the scale. -/
def scalePart (v p gate : RowsOf) (l : Fin 1024) (b : Fin 2) (t : Fin 4352) : EReal :=
  v (ix3 b t l) * silu (gate (ix3 b t l)) * p (ix3 b t l)

/-- The scale's gradient. -/
def ofScale (v p gate : RowsOf) : (Eight 1024).Idx → EReal := firstRow (scalePart v p gate)

/-! ## The slope of `silu` -/

open Cert.KernelIdeal.Band (IsReal)

theorem sigmoid_bot : sigmoid ⊥ = 0 := by
  unfold sigmoid
  rw [EReal.neg_bot, Ideal.exp_top, ← EReal.coe_one, EReal.coe_add_top]
  simp [Ideal.div]

theorem sigmoid_top : sigmoid ⊤ = 1 := by
  unfold sigmoid
  rw [EReal.neg_top, Ideal.exp_bot, add_zero, ← EReal.coe_one, Ideal.div_coe one_ne_zero]
  simp

theorem isReal_sigmoid {x : EReal} (h : IsReal x) : IsReal (sigmoid x) := by
  obtain ⟨a, rfl⟩ := h
  have h0 : (1 + Real.exp (-a) : ℝ) ≠ 0 := ne_of_gt (by positivity)
  refine ⟨1 / (1 + Real.exp (-a)), ?_⟩
  unfold sigmoid
  rw [← EReal.coe_neg, Ideal.exp_coe, ← EReal.coe_one, ← EReal.coe_add, Ideal.div_coe h0, ← EReal.coe_mul, one_mul]

/-- The slope as the sum of its two factors' slopes, among reals. -/
theorem slope_parts_real {x d : EReal} (hx : IsReal x) (hd : IsReal d) :
    d * sigmoid x + x * d * (sigmoid x * (1 - sigmoid x)) = d * siluSlope x := by
  unfold siluSlope
  obtain ⟨s, hs⟩ := isReal_sigmoid hx
  obtain ⟨a, rfl⟩ := hx
  obtain ⟨b, rfl⟩ := hd
  rw [hs, ← EReal.coe_one]
  simp only [← EReal.coe_mul, ← EReal.coe_add, ← EReal.coe_sub]
  exact congrArg _ (by ring)

/-- The same at every argument: at an infinite one the second term vanishes. -/
theorem slope_parts {d : EReal} (hd : IsReal d) (x : EReal) :
    d * sigmoid x + x * d * (sigmoid x * (1 - sigmoid x)) = d * siluSlope x := by
  induction x with
  | bot => unfold siluSlope; rw [sigmoid_bot]; simp
  | top =>
    have e : (1 : EReal) - 1 = 0 := by rw [← EReal.coe_one, ← EReal.coe_sub]; simp
    unfold siluSlope; rw [sigmoid_top, e]; simp
  | coe a => exact slope_parts_real ⟨a, rfl⟩ hd

end Cert.PoolGrad

end
-- ==== Proof.PoolGradBlocks.lean ====
/- What one step of the odd layers' backward kernel before the pooling computes over the reals, entry by entry of its blocks. -/
module

public import proofs.«01_k».proof.Proof.PoolGradRun
public import proofs.«01_k».proof.Proof.PoolGrad

@[expose] public section

set_option maxRecDepth 16384

noncomputable section

namespace Cert.Kernel13Ideal.PoolGrad

open Idealize.ShloMosaic Idealize.ShloMosaic.TcCoe Idealize.SL.Sem
open Cert.Kernel13Ideal.Gen Cert.Rows Cert.Norm Cert.Output Cert.PoolGrad

section
variable (x0 : Vec Ideal S1x256x1024 .f32) (x1 : Vec Ideal S1x1x8x1024 .f32) (x2 x3 : Vec Ideal S1x256x1024 .bf16) (x4 : Vec Ideal S4x256x256 .bf16)
  (x5 : Vec Ideal S1x1024 .f32) (x6 : Vec Ideal S1024x1024 .bf16) (x7 : Vec Ideal S1x256x1024 .bf16) (u : FVec Ideal S256x1024 .bf16)
  (v p : FVec Ideal S256x1024 .f32) (r : Fin 256) (l : Fin 1024)

theorem outGrad_apply : (outGrad (F := Ideal) x0 x1 : S256x1024.Idx → EReal) (ix2 r l)
    = (x1 : S1x1x8x1024.Idx → EReal) (ix4 0 0 2 l) * (x0 : S1x256x1024.Idx → EReal) (ix3 0 r l) := by
  unfold outGrad k0_pay6 k0_pay2 blockRow
  pointwise
  rfl

theorem mixGrad_apply : (mixGrad (F := Ideal) u x6 : S256x1024.Idx → EReal) (ix2 r l)
    = ∑ k : Fin 1024, (u : S256x1024.Idx → EReal) (ix2 r k) * (x6 : S1024x1024.Idx → EReal) (ix2 l k) := by
  unfold mixGrad k0_pay8
  pointwise

theorem stored_apply : (k0_pay7 (F := Ideal) u : S1x256x1024.Idx → EReal) (ix3 0 r l) = (u : S256x1024.Idx → EReal) (ix2 r l) := by
  unfold k0_pay7
  pointwise

/-- The four groups' products side by side. -/
theorem four_groups (f : Fin 1024 → EReal) (w : (⟨3, ![4, 256, 256]⟩ : Shape).Idx → EReal) :
    (if h : l.val < 256 then ∑ k : Fin 256, f ⟨k.val, by omega⟩ * w (ix3 0 k ⟨l.val, h⟩)
      else if h : l.val - 256 < 256 then ∑ k : Fin 256, f ⟨256 + k.val, by omega⟩ * w (ix3 1 k ⟨l.val - 256, h⟩)
      else if h : l.val - 256 - 256 < 256 then ∑ k : Fin 256, f ⟨512 + k.val, by omega⟩ * w (ix3 2 k ⟨l.val - 256 - 256, h⟩)
      else ∑ k : Fin 256, f ⟨768 + k.val, by omega⟩ * w (ix3 3 k ⟨l.val - 256 - 256 - 256, by omega⟩)) = grouped f w l := by
  have hl : l.val < 1024 := l.isLt
  split
  · next h =>
    exact grouped_at f w l 0 ⟨l.val, h⟩ (by show l.val = 0 * 256 + l.val; omega) _ _
      (fun k => congrArg f (Fin.ext (by show k.val = 0 * 256 + k.val; omega))) (fun _ => rfl)
  split
  · next h => exact grouped_at f w l 1 ⟨l.val - 256, h⟩ (by show l.val = 1 * 256 + (l.val - 256); omega) _ _ (fun _ => rfl) (fun _ => rfl)
  split
  · next h => exact grouped_at f w l 2 ⟨l.val - 256 - 256, h⟩ (by show l.val = 2 * 256 + (l.val - 256 - 256); omega) _ _ (fun _ => rfl) (fun _ => rfl)
  · exact grouped_at f w l 3 ⟨l.val - 256 - 256 - 256, by omega⟩ (by show l.val = 3 * 256 + (l.val - 256 - 256 - 256); omega) _ _ (fun _ => rfl) (fun _ => rfl)

theorem groupedRows_apply : (groupedRows (F := Ideal) x2 x4 : S256x1024.Idx → EReal) (ix2 r l)
    = grouped (fun k => (x2 : S1x256x1024.Idx → EReal) (ix3 0 r k)) x4 l := by
  unfold groupedRows k0_pay9 plane
  pointwise
  exact four_groups l (fun k => (x2 : S1x256x1024.Idx → EReal) (ix3 0 r k)) x4

theorem sigmoid_apply : (k0_pay12 (F := Ideal) (k0_pay11 x3) (1 : EReal) : S256x1024.Idx → EReal) (ix2 r l)
    = sigmoid ((x3 : S1x256x1024.Idx → EReal) (ix3 0 r l)) := by
  rw [← sigmoid_sub]
  unfold k0_pay12 k0_pay11 k0_pay10
  pointwise

theorem opened_apply : (k0_pay10 (F := Ideal) x3 : S256x1024.Idx → EReal) (ix2 r l) = (x3 : S1x256x1024.Idx → EReal) (ix3 0 r l) := by
  unfold k0_pay10
  pointwise

theorem gated_apply : (k0_pay13 (F := Ideal) v (k0_pay10 x3) (k0_pay11 x3) (1 : EReal) : S256x1024.Idx → EReal) (ix2 r l)
    = (v : S256x1024.Idx → EReal) (ix2 r l) * silu ((x3 : S1x256x1024.Idx → EReal) (ix3 0 r l)) := by
  unfold k0_pay13
  pointwise
  rw [sigmoid_apply, opened_apply]
  rfl

/-- The gate's rows' gradient. -/
theorem leftGate_apply : (leftGate (F := Ideal) v p x3 x5 : S1x256x1024.Idx → EReal) (ix3 0 r l)
    = (v : S256x1024.Idx → EReal) (ix2 r l) * ((p : S256x1024.Idx → EReal) (ix2 r l) * (x5 : S1x1024.Idx → EReal) (ix2 0 l))
        * siluSlope ((x3 : S1x256x1024.Idx → EReal) (ix3 0 r l)) := by
  unfold leftGate k0_pay14 siluSlope
  pointwise
  rw [sigmoid_apply, opened_apply]

theorem scaled_apply : (k0_pay16 (F := Ideal) v x5 (k0_pay10 x3) (k0_pay11 x3) (1 : EReal) : S256x1024.Idx → EReal) (ix2 r l)
    = (v : S256x1024.Idx → EReal) (ix2 r l) * silu ((x3 : S1x256x1024.Idx → EReal) (ix3 0 r l)) * (x5 : S1x1024.Idx → EReal) (ix2 0 l) := by
  unfold k0_pay16
  pointwise
  rw [gated_apply]

/-- The grouped rows' gradient. -/
theorem leftGrouped_apply : (leftGrouped (F := Ideal) v x3 x5 : S1x256x1024.Idx → EReal) (ix3 0 r l)
    = (k0_pay16 (F := Ideal) v x5 (k0_pay10 x3) (k0_pay11 x3) (1 : EReal) : S256x1024.Idx → EReal) (ix2 r l) := by
  unfold leftGrouped k0_pay17
  pointwise

/-- The pooled rows' gradient, from the grouped rows'. -/
theorem leftPooled_apply : (leftPooled (F := Ideal) v x3 x4 x5 : S1x256x1024.Idx → EReal) (ix3 0 r l)
    = grouped (fun k => (k0_pay16 (F := Ideal) v x5 (k0_pay10 x3) (k0_pay11 x3) (1 : EReal) : S256x1024.Idx → EReal) (ix2 r k)) (turned x4) l := by
  unfold leftPooled k0_pay1 k0_pay18 k0_pay19 plane
  pointwise
  exact four_groups l (fun k => (k0_pay16 (F := Ideal) v x5 (k0_pay10 x3) (k0_pay11 x3) (1 : EReal) : S256x1024.Idx → EReal) (ix2 r k)) (turned x4)

theorem noMod_apply (j : S1x1x8x1024.Idx) : (k0_pay3 (F := Ideal) : S1x1x8x1024.Idx → EReal) j = 0 := by
  obtain ⟨a, b, r, l, rfl⟩ : ∃ (a b : Fin 1) (r : Fin 8) (l : Fin 1024), j = ix4 a b r l := ⟨j 0, j 1, j 2, j 3, eq_ix4 j⟩
  unfold k0_pay3
  pointwise

theorem noScale_apply (j : S8x1024.Idx) : (k0_pay4 (F := Ideal) : S8x1024.Idx → EReal) j = 0 := by
  rw [eq_ix2 j]
  unfold k0_pay4
  pointwise

theorem modRow_apply (w : Vec Ideal S1x1x1x1024 .f32) : (k0_pay5 (F := Ideal) x0 w x7 : S1x1x1x1024.Idx → EReal) (ix4 0 0 0 l)
    = (w : S1x1x1x1024.Idx → EReal) (ix4 0 0 0 l)
        + ∑ k : Fin 256, (x0 : S1x256x1024.Idx → EReal) (ix3 0 k l) * (x7 : S1x256x1024.Idx → EReal) (ix3 0 k l) := by
  unfold k0_pay5 k0_pay2
  pointwise

theorem scaleRow_apply (w : Vec Ideal S1x1024 .f32) :
    (k0_pay15 (F := Ideal) v p (k0_pay10 x3) (k0_pay11 x3) one w : S1x1024.Idx → EReal) (ix2 0 l)
      = (w : S1x1024.Idx → EReal) (ix2 0 l)
          + ∑ k : Fin 256, (v : S256x1024.Idx → EReal) (ix2 k l) * silu ((x3 : S1x256x1024.Idx → EReal) (ix3 0 k l)) * (p : S256x1024.Idx → EReal) (ix2 k l) := by
  unfold k0_pay15
  pointwise
  exact congrArg (fun e : EReal => (w : S1x1024.Idx → EReal) (ix2 0 l) + e) (Finset.sum_congr rfl fun k _ =>
    congrArg (fun e : EReal => e * (p : S256x1024.Idx → EReal) (ix2 k l)) (gated_apply x3 v k l))

end

/-! ## The sums a step raises -/

/-- The step's block of the modulation's gradient, its first row raised by a sum of parts of the step's rows. -/
theorem mod_step {N : ℕ} (t : Fin N) (q : Parts) (x0 : Vec Ideal S1x256x1024 .f32) (x7 : Vec Ideal S1x256x1024 .bf16)
    (hq : ∀ (k : Fin 256) (l : Fin 1024), (x0 : S1x256x1024.Idx → EReal) (ix3 0 k l) * (x7 : S1x256x1024.Idx → EReal) (ix3 0 k l) = q (seqOf t) l (rowAt t k))
    (s : Prop) [Decidable s] (hs : s ↔ t.val % 17 ≤ 1) (d : S1x1x8x1024.Idx → EReal) (r : Fin 8) (l : Fin 1024) :
    (leftMod (F := Ideal) s x0 x7 d : S1x1x8x1024.Idx → EReal) (ix4 0 0 r l)
      = if r.val = 1 then (if t.val % 17 ≤ 1 then 0 else d (ix4 0 0 1 l)) + ∑ _k : Fin 256, (0 : EReal)
        else if r.val = 0 then (if t.val % 17 ≤ 1 then 0 else d (ix4 0 0 0 l)) + ∑ k : Fin 256, q (seqOf t) l (rowAt t k)
        else if t.val % 17 ≤ 1 then 0 else d (ix4 0 0 r l) := by
  have key (d' : S1x1x8x1024.Idx → EReal) : (setFirst (Val := Elt Ideal) (e := .f32) (n := 1024) d'
      (k0_pay5 (F := Ideal) x0 (blockRow 0 d') x7) : S1x1x8x1024.Idx → EReal) (ix4 0 0 r l)
      = if r.val = 1 then d' (ix4 0 0 1 l) + ∑ _k : Fin 256, (0 : EReal)
        else if r.val = 0 then d' (ix4 0 0 0 l) + ∑ k : Fin 256, q (seqOf t) l (rowAt t k)
        else d' (ix4 0 0 r l) := by
    have h0 : (k0_pay5 (F := Ideal) x0 (blockRow 0 d') x7 : S1x1x1x1024.Idx → EReal) (ix4 0 0 0 l)
        = d' (ix4 0 0 0 l) + ∑ k : Fin 256, q (seqOf t) l (rowAt t k) :=
      (modRow_apply _ _ l _).trans (congrArg (fun x : EReal => d' (ix4 0 0 0 l) + x) (Finset.sum_congr rfl fun k _ => hq k l))
    unfold setFirst
    rw [Finset.sum_const_zero, add_zero]
    by_cases h1 : r.val = 1
    · rw [if_pos h1, show (1 : Fin 8) = r from Fin.ext h1.symm]
      exact if_neg (by show ¬ r.val = 0; omega)
    · rw [if_neg h1]
      exact if_congr Iff.rfl h0 rfl
  unfold leftMod
  by_cases h : t.val % 17 ≤ 1
  · simp only [if_pos (hs.mpr h), if_pos h]
    refine (key _).trans ?_
    simp only [noMod_apply]
  · simp only [if_neg (fun e => h (hs.mp e)), if_neg h]
    exact key d

/-- The step's gradient of the scale, its first row raised by a sum of parts of the step's rows. -/
theorem scale_step {N : ℕ} (t : Fin N) (q : Fin 1024 → Fin 2 → Fin 4352 → EReal) (v p : FVec Ideal S256x1024 .f32) (x3 : Vec Ideal S1x256x1024 .bf16)
    (hq : ∀ (k : Fin 256) (l : Fin 1024), (v : S256x1024.Idx → EReal) (ix2 k l) * silu ((x3 : S1x256x1024.Idx → EReal) (ix3 0 k l))
      * (p : S256x1024.Idx → EReal) (ix2 k l) = q l (seqOf t) (rowAt t k))
    (s : Prop) [Decidable s] (hs : s ↔ t.val = 0) (d : S8x1024.Idx → EReal) (r : Fin 8) (l : Fin 1024) :
    (leftScale (F := Ideal) s v p x3 d : S8x1024.Idx → EReal) (ix2 r l)
      = if r.val = 0 then (if t.val = 0 then 0 else d (ix2 0 l)) + ∑ k : Fin 256, q l (seqOf t) (rowAt t k)
        else if t.val = 0 then 0 else d (ix2 r l) := by
  have key (d' : S8x1024.Idx → EReal) : (setEight (Val := Elt Ideal) (e := .f32) (n := 1024) d'
      (k0_pay15 (F := Ideal) v p (k0_pay10 x3) (k0_pay11 x3) one (eightRow d')) : S8x1024.Idx → EReal) (ix2 r l)
      = if r.val = 0 then d' (ix2 0 l) + ∑ k : Fin 256, q l (seqOf t) (rowAt t k) else d' (ix2 r l) := by
    have h0 : (k0_pay15 (F := Ideal) v p (k0_pay10 x3) (k0_pay11 x3) one (eightRow d') : S1x1024.Idx → EReal) (ix2 0 l)
        = d' (ix2 0 l) + ∑ k : Fin 256, q l (seqOf t) (rowAt t k) :=
      (scaleRow_apply _ _ _ l _).trans (congrArg (fun x : EReal => d' (ix2 0 l) + x) (Finset.sum_congr rfl fun k _ => hq k l))
    unfold setEight
    exact if_congr Iff.rfl h0 rfl
  unfold leftScale
  by_cases h : t.val = 0
  · simp only [if_pos (hs.mpr h), if_pos h]
    refine (key _).trans ?_
    simp only [noScale_apply]
  · simp only [if_neg (fun e => h (hs.mp e)), if_neg h]
    exact key d

end Cert.Kernel13Ideal.PoolGrad

end
-- ==== Proof.PoolGradArray.lean ====
/- The arrays the odd layers' backward kernel before the pooling leaves over the reals: the gradients of `PoolGrad`. -/
module

public import proofs.«01_k».proof.Proof.PoolGradFrame
public import proofs.«01_k».proof.Proof.PoolGradBlocks

@[expose] public section

set_option maxRecDepth 16384

noncomputable section

namespace Cert.Kernel13Ideal.PoolGrad

open Idealize.ShloMosaic Idealize.ShloMosaic.TcCoe Idealize.SL.Sem
open Cert.Kernel13Ideal.Gen Cert.Rows Cert.Norm Cert.Output Cert.PoolGrad

variable (m : (ℓ : Loc nD τ sig) → Buf (Elt Ideal) ℓ) (ρ : Dev nD → PrngReg)

abbrev a0 (c : Dev nD) : RowsOf := m ((c : Thread nD τ).loc main_arg0)
abbrev a1 (c : Dev nD) : Modulation := m ((c : Thread nD τ).loc main_arg1)
abbrev a2 (c : Dev nD) : RowsOf := m ((c : Thread nD τ).loc main_arg2)
abbrev a3 (c : Dev nD) : RowsOf := m ((c : Thread nD τ).loc main_arg3)
abbrev a4 (c : Dev nD) : S4x256x256.Idx → EReal := m ((c : Thread nD τ).loc main_arg4)
abbrev a5 (c : Dev nD) : Gain := m ((c : Thread nD τ).loc main_arg5)
abbrev a6 (c : Dev nD) : S1024x1024.Idx → EReal := m ((c : Thread nD τ).loc main_arg6)
abbrev a7 (c : Dev nD) : RowsOf := m ((c : Thread nD τ).loc main_arg7)

/-- The gradients of the launch's product and mixture, its grouped rows and their gradient. -/
abbrev dProduct (c : Dev nD) : RowsOf := ofProduct (a0 m c) (a1 m c)
abbrev dMixture (c : Dev nD) : RowsOf := ofMixture (dProduct m c) (a6 m c)
abbrev rowsGrouped (c : Dev nD) : RowsOf := groupedArr (a2 m c) (a4 m c)
abbrev dGrouped (c : Dev nD) : RowsOf := ofGrouped (dMixture m c) (a3 m c) (a5 m c)

/-! ## The blocks of a step -/

/-- Where the blocks of a step lie. -/
theorem idx_rows : ∀ t : Fin cfg0.N,
    (win0_0.index t 0 = t.val / 17 % 2 ∧ win0_0.index t 1 = t.val % 17 ∧ win0_0.index t 2 = 0)
    ∧ (win0_2.index t 0 = t.val / 17 % 2 ∧ win0_2.index t 1 = t.val % 17 ∧ win0_2.index t 2 = 0)
    ∧ (win0_3.index t 0 = t.val / 17 % 2 ∧ win0_3.index t 1 = t.val % 17 ∧ win0_3.index t 2 = 0)
    ∧ (win0_7.index t 0 = t.val / 17 % 2 ∧ win0_7.index t 1 = t.val % 17 ∧ win0_7.index t 2 = 0) :=
  (by decide +kernel : ∀ t : Fin grid0.N, _)

theorem idx_whole : ∀ t : Fin cfg0.N,
    (win0_1.index t 0 = t.val / 17 % 2 ∧ win0_1.index t 1 = min (t.val % 17) 1 ∧ win0_1.index t 2 = 0 ∧ win0_1.index t 3 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, _)

theorem idx_out : ∀ t : Fin cfg0.N,
    (win0_8.index t 0 = t.val / 17 % 2 ∧ win0_8.index t 1 = t.val % 17 ∧ win0_8.index t 2 = 0)
    ∧ (win0_9.index t 0 = t.val / 17 % 2 ∧ win0_9.index t 1 = t.val % 17 ∧ win0_9.index t 2 = 0)
    ∧ (win0_10.index t 0 = t.val / 17 % 2 ∧ win0_10.index t 1 = t.val % 17 ∧ win0_10.index t 2 = 0)
    ∧ (win0_11.index t 0 = t.val / 17 % 2 ∧ win0_11.index t 1 = t.val % 17 ∧ win0_11.index t 2 = 0)
    ∧ (win0_12.index t 0 = t.val / 17 % 2 ∧ win0_12.index t 1 = min (t.val % 17) 1 ∧ win0_12.index t 2 = 0 ∧ win0_12.index t 3 = 0)
    ∧ (win0_13.index t 0 = 0 ∧ win0_13.index t 1 = 0) :=
  (by decide +kernel : ∀ t : Fin grid0.N, _)

theorem iblk0_apply (c : Dev nD) (t : Fin cfg0.N) (r : Fin 256) (l : Fin 1024) :
    (iblk m c 0 t : S1x256x1024.Idx → EReal) (ix3 0 r l) = a0 m c (ix3 (seqOf t) (rowAt t r) l) :=
  congrArg (a0 m c) (rows_idx t r l ((win0_0.rect t).emb (ix3 0 r l)) _ _ _ (idx_rows t).1
    (win0_0.rect_emb_val t _ 0) (win0_0.rect_emb_val t _ 1) (win0_0.rect_emb_val t _ 2))

theorem iblk2_apply (c : Dev nD) (t : Fin cfg0.N) (r : Fin 256) (l : Fin 1024) :
    (iblk m c 2 t : S1x256x1024.Idx → EReal) (ix3 0 r l) = a2 m c (ix3 (seqOf t) (rowAt t r) l) :=
  congrArg (a2 m c) (rows_idx t r l ((win0_2.rect t).emb (ix3 0 r l)) _ _ _ (idx_rows t).2.1
    (win0_2.rect_emb_val t _ 0) (win0_2.rect_emb_val t _ 1) (win0_2.rect_emb_val t _ 2))

theorem iblk3_apply (c : Dev nD) (t : Fin cfg0.N) (r : Fin 256) (l : Fin 1024) :
    (iblk m c 3 t : S1x256x1024.Idx → EReal) (ix3 0 r l) = a3 m c (ix3 (seqOf t) (rowAt t r) l) :=
  congrArg (a3 m c) (rows_idx t r l ((win0_3.rect t).emb (ix3 0 r l)) _ _ _ (idx_rows t).2.2.1
    (win0_3.rect_emb_val t _ 0) (win0_3.rect_emb_val t _ 1) (win0_3.rect_emb_val t _ 2))

theorem iblk7_apply (c : Dev nD) (t : Fin cfg0.N) (r : Fin 256) (l : Fin 1024) :
    (iblk m c 7 t : S1x256x1024.Idx → EReal) (ix3 0 r l) = a7 m c (ix3 (seqOf t) (rowAt t r) l) :=
  congrArg (a7 m c) (rows_idx t r l ((win0_7.rect t).emb (ix3 0 r l)) _ _ _ (idx_rows t).2.2.2
    (win0_7.rect_emb_val t _ 0) (win0_7.rect_emb_val t _ 1) (win0_7.rect_emb_val t _ 2))

theorem iblk1_apply (c : Dev nD) (t : Fin cfg0.N) (r : Fin 8) (l : Fin 1024) :
    (iblk m c 1 t : S1x1x8x1024.Idx → EReal) (ix4 0 0 r l) = a1 m c (ix4 (seqOf t) (segOf t) r l) :=
  congrArg (a1 m c) (segs_idx t r l ((win0_1.rect t).emb (ix4 0 0 r l)) _ _ _ _ (idx_whole t).1
    (win0_1.rect_emb_val t _ 0) (win0_1.rect_emb_val t _ 1) (win0_1.rect_emb_val t _ 2) (win0_1.rect_emb_val t _ 3))

theorem iblk4_eq (c : Dev nD) (t : Fin cfg0.N) : (iblk m c 4 t : S4x256x256.Idx → EReal) = a4 m c := by
  obtain ⟨e0, e1, e2⟩ := (idx_whole t).2.1
  funext i
  refine congrArg (a4 m c) ((group_idx (i 0) (i 1) (i 2) ((win0_4.rect t).emb i) ?_ ?_ ?_).trans (eq_ix3 i).symm)
  · exact (win0_4.rect_emb_val t i 0).trans (by rw [e0, Nat.zero_mul, Nat.zero_add])
  · exact (win0_4.rect_emb_val t i 1).trans (by rw [e1, Nat.zero_mul, Nat.zero_add])
  · exact (win0_4.rect_emb_val t i 2).trans (by rw [e2, Nat.zero_mul, Nat.zero_add])

theorem iblk5_apply (c : Dev nD) (t : Fin cfg0.N) (l : Fin 1024) : (iblk m c 5 t : S1x1024.Idx → EReal) (ix2 0 l) = a5 m c (ix2 0 l) :=
  congrArg (a5 m c) (whole_idx 0 l ((win0_5.rect t).emb (ix2 0 l)) _ _ (idx_whole t).2.2.1 (win0_5.rect_emb_val t _ 0) (win0_5.rect_emb_val t _ 1))

theorem iblk6_apply (c : Dev nD) (t : Fin cfg0.N) (l k : Fin 1024) : (iblk m c 6 t : S1024x1024.Idx → EReal) (ix2 l k) = a6 m c (ix2 l k) :=
  congrArg (a6 m c) (whole_idx l k ((win0_6.rect t).emb (ix2 l k)) _ _ (idx_whole t).2.2.2 (win0_6.rect_emb_val t _ 0) (win0_6.rect_emb_val t _ 1))

/-! ## The step's rows of the gradients -/

theorem product_step (c : Dev nD) (t : Fin cfg0.N) (r : Fin 256) (l : Fin 1024) :
    (outAt m c t : S256x1024.Idx → EReal) (ix2 r l) = dProduct m c (ix3 (seqOf t) (rowAt t r) l) := by
  refine (outGrad_apply _ _ r l).trans ?_
  show _ = a1 m c (ix4 (seqOf t) (seg (rowAt t r)) 2 l) * a0 m c (ix3 (seqOf t) (rowAt t r) l)
  rw [seg_rowAt]
  exact congrArg₂ (fun a b : EReal => a * b) (iblk1_apply m c t 2 l) (iblk0_apply m c t r l)

theorem mixture_step (c : Dev nD) (t : Fin cfg0.N) (r : Fin 256) (l : Fin 1024) :
    (mixAt m c t : S256x1024.Idx → EReal) (ix2 r l) = dMixture m c (ix3 (seqOf t) (rowAt t r) l) :=
  (mixGrad_apply _ _ r l).trans (Finset.sum_congr rfl fun k _ =>
    congrArg₂ (fun a b : EReal => a * b) (product_step m c t r k) (iblk6_apply m c t l k))

theorem rows_step (c : Dev nD) (t : Fin cfg0.N) (r : Fin 256) (l : Fin 1024) :
    (groupedAt m c t : S256x1024.Idx → EReal) (ix2 r l) = rowsGrouped m c (ix3 (seqOf t) (rowAt t r) l) := by
  refine (groupedRows_apply _ _ r l).trans ?_
  rw [show (fun k => (iblk m c 2 t : S1x256x1024.Idx → EReal) (ix3 0 r k)) = rowOf (a2 m c) (seqOf t) (rowAt t r) from
    funext fun k => iblk2_apply m c t r k, iblk4_eq]
  rfl

/-- The block of the grouped rows' gradient, before it is stored. -/
theorem grouped_step (c : Dev nD) (t : Fin cfg0.N) (r : Fin 256) (l : Fin 1024) :
    (k0_pay16 (F := Ideal) (mixAt m c t) (iblk m c 5 t) (k0_pay10 (iblk m c 3 t)) (k0_pay11 (iblk m c 3 t)) (1 : EReal) : S256x1024.Idx → EReal) (ix2 r l)
      = dGrouped m c (ix3 (seqOf t) (rowAt t r) l) := by
  refine (scaled_apply _ _ _ r l).trans ?_
  rw [mixture_step, iblk3_apply, iblk5_apply]
  rfl

theorem gate_at (c : Dev nD) (t : Fin cfg0.N) (r : Fin 256) (l : Fin 1024) :
    (gateAfter m c t : S1x256x1024.Idx → EReal) (ix3 0 r l)
      = ofGate (dMixture m c) (rowsGrouped m c) (a3 m c) (a5 m c) (ix3 (seqOf t) (rowAt t r) l) := by
  refine (leftGate_apply _ _ _ _ r l).trans ?_
  rw [mixture_step, rows_step, iblk3_apply, iblk5_apply]
  rfl

theorem product_at (c : Dev nD) (t : Fin cfg0.N) (r : Fin 256) (l : Fin 1024) :
    (outAfter m c t : S1x256x1024.Idx → EReal) (ix3 0 r l) = dProduct m c (ix3 (seqOf t) (rowAt t r) l) :=
  (stored_apply _ r l).trans (product_step m c t r l)

theorem grouped_at (c : Dev nD) (t : Fin cfg0.N) (r : Fin 256) (l : Fin 1024) :
    (groupedAfter m c t : S1x256x1024.Idx → EReal) (ix3 0 r l) = dGrouped m c (ix3 (seqOf t) (rowAt t r) l) :=
  (leftGrouped_apply _ _ _ r l).trans (grouped_step m c t r l)

theorem pooled_at (c : Dev nD) (t : Fin cfg0.N) (r : Fin 256) (l : Fin 1024) :
    (pooledAfter m c t : S1x256x1024.Idx → EReal) (ix3 0 r l) = ofPooled (dGrouped m c) (a4 m c) (ix3 (seqOf t) (rowAt t r) l) := by
  refine (leftPooled_apply _ _ _ _ r l).trans ?_
  rw [funext fun k => grouped_step m c t r k, iblk4_eq]
  rfl

theorem raises_mod (c : Dev nD) : RaisesRows (fun _ _ _ => 0) (modPart (a0 m c) (a7 m c)) (stepMod m c) := fun t d r l =>
  mod_step t (modPart (a0 m c) (a7 m c)) _ _
    (fun k l => congrArg₂ (fun a b : EReal => a * b) (iblk0_apply m c t k l) (iblk7_apply m c t k l)) _ (startsMod_iff t) d r l

theorem raises_scale (c : Dev nD) : RaisesFirst (scalePart (dMixture m c) (rowsGrouped m c) (a3 m c)) (stepScale m c) := fun t d r l =>
  scale_step t (scalePart (dMixture m c) (rowsGrouped m c) (a3 m c)) _ _ _
    (fun k l => by rw [mixture_step, rows_step, iblk3_apply]; rfl) _ (startsScale_iff t) d r l

/-! ## The arrays -/

theorem final_pooled (c : Dev nD) : (dats m 0 c).arrAt 8 cfg0.N = ofPooled (dGrouped m c) (a4 m c) := by
  refine (dats m 0 c).arrAt_eq_of_cover 8 _ (fun t _ => ?_) (fun i => ?_)
  · show (cfg0.win 8).cut (grid0.coords t) ((dats m 0 c).after 8 t) = _
    rw [after_8]
    funext x
    exact rows_block t (pooledAfter m c t) (ofPooled (dGrouped m c) (a4 m c)) (pooled_at m c t) _ _ _ (idx_out t).1
      ((cfg0.win 8).xinj (grid0.coords t) x) (((cfg0.win 8).blk t).view.emb x) rfl rfl rfl
  · obtain ⟨t, h⟩ := rows_covered N_0 i
    refine ⟨t, flush0_8 t, ?_⟩
    show i ∈ ((View.whole main_v0_0).slice (win0_8.rect t)).set
    rw [View.set_slice_whole, Rect.mem_set_unit]
    exact rows_inside t i (win0_8.index t) (idx_out t).1 h

theorem final_gate (c : Dev nD) : (dats m 0 c).arrAt 9 cfg0.N = ofGate (dMixture m c) (rowsGrouped m c) (a3 m c) (a5 m c) := by
  refine (dats m 0 c).arrAt_eq_of_cover 9 _ (fun t _ => ?_) (fun i => ?_)
  · show (cfg0.win 9).cut (grid0.coords t) ((dats m 0 c).after 9 t) = _
    rw [after_9]
    funext x
    exact rows_block t (gateAfter m c t) (ofGate (dMixture m c) (rowsGrouped m c) (a3 m c) (a5 m c)) (gate_at m c t) _ _ _ (idx_out t).2.1
      ((cfg0.win 9).xinj (grid0.coords t) x) (((cfg0.win 9).blk t).view.emb x) rfl rfl rfl
  · obtain ⟨t, h⟩ := rows_covered N_0 i
    refine ⟨t, flush0_9 t, ?_⟩
    show i ∈ ((View.whole main_v0_1).slice (win0_9.rect t)).set
    rw [View.set_slice_whole, Rect.mem_set_unit]
    exact rows_inside t i (win0_9.index t) (idx_out t).2.1 h

theorem final_product (c : Dev nD) : (dats m 0 c).arrAt 10 cfg0.N = dProduct m c := by
  refine (dats m 0 c).arrAt_eq_of_cover 10 _ (fun t _ => ?_) (fun i => ?_)
  · show (cfg0.win 10).cut (grid0.coords t) ((dats m 0 c).after 10 t) = _
    rw [after_10]
    funext x
    exact rows_block t (outAfter m c t) (dProduct m c) (product_at m c t) _ _ _ (idx_out t).2.2.1
      ((cfg0.win 10).xinj (grid0.coords t) x) (((cfg0.win 10).blk t).view.emb x) rfl rfl rfl
  · obtain ⟨t, h⟩ := rows_covered N_0 i
    refine ⟨t, flush0_10 t, ?_⟩
    show i ∈ ((View.whole main_v0_2).slice (win0_10.rect t)).set
    rw [View.set_slice_whole, Rect.mem_set_unit]
    exact rows_inside t i (win0_10.index t) (idx_out t).2.2.1 h

theorem final_grouped (c : Dev nD) : (dats m 0 c).arrAt 11 cfg0.N = dGrouped m c := by
  refine (dats m 0 c).arrAt_eq_of_cover 11 _ (fun t _ => ?_) (fun i => ?_)
  · show (cfg0.win 11).cut (grid0.coords t) ((dats m 0 c).after 11 t) = _
    rw [after_11]
    funext x
    exact rows_block t (groupedAfter m c t) (dGrouped m c) (grouped_at m c t) _ _ _ (idx_out t).2.2.2.1
      ((cfg0.win 11).xinj (grid0.coords t) x) (((cfg0.win 11).blk t).view.emb x) rfl rfl rfl
  · obtain ⟨t, h⟩ := rows_covered N_0 i
    refine ⟨t, flush0_11 t, ?_⟩
    show i ∈ ((View.whole main_v0_3).slice (win0_11.rect t)).set
    rw [View.set_slice_whole, Rect.mem_set_unit]
    exact rows_inside t i (win0_11.index t) (idx_out t).2.2.2.1 h

theorem final_mod (c : Dev nD) : (dats m 0 c).arrAt 12 cfg0.N = ofModulation (a0 m c) (a7 m c) := by
  refine (dats m 0 c).arrAt_eq_of_cover 12 _ (fun t hf => ?_) (fun i => ?_)
  · show (cfg0.win 12).cut (grid0.coords t) ((dats m 0 c).after 12 t) = _
    rw [after_12]
    funext y
    have hy0 : (y 0).val < 1 := (y 0).isLt
    have hy1 : (y 1).val < 1 := (y 1).isLt
    show (modAfter m c t.val t.isLt : S1x1x8x1024.Idx → EReal) ((cfg0.win 12).xinj (grid0.coords t) y) = ofModulation _ _ (((cfg0.win 12).blk t).view.emb y)
    rw [segment_idx ⟨(y 2).val, (y 2).isLt⟩ ⟨(y 3).val, (y 3).isLt⟩ ((cfg0.win 12).xinj (grid0.coords t) y) rfl rfl,
      segs_idx t ⟨(y 2).val, (y 2).isLt⟩ ⟨(y 3).val, (y 3).isLt⟩ (((cfg0.win 12).blk t).view.emb y) _ _ _ _ (idx_out t).2.2.2.2.1
        (by show win0_12.index t 0 * 1 + 1 * (y 0).val = win0_12.index t 0 * 1 + 0; omega) (by show win0_12.index t 1 * 1 + 1 * (y 1).val = win0_12.index t 1 * 1 + 0; omega)
        (by show win0_12.index t 2 * 8 + 1 * (y 2).val = win0_12.index t 2 * 8 + (y 2).val; omega) (by show win0_12.index t 3 * 1024 + 1 * (y 3).val = win0_12.index t 3 * 1024 + (y 3).val; omega)]
    exact rows_at _ N_0 (raises_mod m c) t ((flush_mod t).mp hf) _ _
  · have h2 : (i 2).val < 8 := (i 2).isLt
    have h3 : (i 3).val < 1024 := (i 3).isLt
    obtain ⟨t, hf, h0, h1⟩ := segs_covered N_0 i
    obtain ⟨-, -, -, -, ⟨e0, e1, e2, e3⟩, -⟩ := idx_out t
    refine ⟨t, (flush_mod t).mpr hf, ?_⟩
    show i ∈ ((View.whole main_v0_4).slice (win0_12.rect t)).set
    rw [View.set_slice_whole, Rect.mem_set_unit]
    intro a
    match a with
    | ⟨0, _⟩ => show win0_12.index t 0 * 1 ≤ (i 0).val ∧ (i 0).val < win0_12.index t 0 * 1 + 1; omega
    | ⟨1, _⟩ => show win0_12.index t 1 * 1 ≤ (i 1).val ∧ (i 1).val < win0_12.index t 1 * 1 + 1; omega
    | ⟨2, _⟩ => show win0_12.index t 2 * 8 ≤ (i 2).val ∧ (i 2).val < win0_12.index t 2 * 8 + 8; omega
    | ⟨3, _⟩ => show win0_12.index t 3 * 1024 ≤ (i 3).val ∧ (i 3).val < win0_12.index t 3 * 1024 + 1024; omega

theorem final_scale (c : Dev nD) : (dats m 0 c).arrAt 13 cfg0.N = ofScale (dMixture m c) (rowsGrouped m c) (a3 m c) := by
  refine (dats m 0 c).arrAt_eq_of_cover 13 _ (fun t hf => ?_) (fun i => ?_)
  · show (cfg0.win 13).cut (grid0.coords t) ((dats m 0 c).after 13 t) = _
    rw [after_13]
    obtain ⟨-, -, -, -, -, e0, e1⟩ := idx_out t
    funext y
    obtain ⟨r, l, rfl⟩ : ∃ (r : Fin 8) (l : Fin 1024), y = ix2 r l := ⟨y 0, y 1, eq_ix2 y⟩
    have er : ((cfg0.win 13).blk t).view.emb (ix2 r l) = ix2 r l := by
      funext a; apply Fin.ext
      match a with
      | ⟨0, _⟩ => show win0_13.index t 0 * 8 + 1 * r.val = r.val; omega
      | ⟨1, _⟩ => show win0_13.index t 1 * 1024 + 1 * l.val = l.val; omega
    show (scaleAfter m c t.val t.isLt : S8x1024.Idx → EReal) (ix2 r l) = ofScale _ _ _ (((cfg0.win 13).blk t).view.emb (ix2 r l))
    rw [er]
    exact first_at _ N_0 (raises_scale m c) t ((flush0_13 t).mp hf) _ _
  · have h0 : (i 0).val < 8 := (i 0).isLt
    have h1 : (i 1).val < 1024 := (i 1).isLt
    have hN : 33 < cfg0.N := by show 33 < 34; omega
    obtain ⟨-, -, -, -, -, e0, e1⟩ := idx_out ⟨33, hN⟩
    refine ⟨⟨33, hN⟩, (flush0_13 _).mpr rfl, ?_⟩
    show i ∈ ((View.whole main_v0_5).slice (win0_13.rect ⟨33, hN⟩)).set
    rw [View.set_slice_whole, Rect.mem_set_unit]
    intro a
    match a with
    | ⟨0, _⟩ => show win0_13.index ⟨33, hN⟩ 0 * 8 ≤ (i 0).val ∧ (i 0).val < win0_13.index ⟨33, hN⟩ 0 * 8 + 8; omega
    | ⟨1, _⟩ => show win0_13.index ⟨33, hN⟩ 1 * 1024 ≤ (i 1).val ∧ (i 1).val < win0_13.index ⟨33, hN⟩ 1 * 1024 + 1024; omega

/-- The run, read: the six results are the gradients. -/
theorem run_results : θ_run defs (onTc (τ := τ) (main (F := Ideal))) ⟨m, fun _ => 0, ρ⟩ fun r => ∀ c : Dev nD,
      r.2.mem ((c : Thread nD τ).loc main_v0_0) = ofPooled (dGrouped m c) (a4 m c)
      ∧ r.2.mem ((c : Thread nD τ).loc main_v0_1) = ofGate (dMixture m c) (rowsGrouped m c) (a3 m c) (a5 m c)
      ∧ r.2.mem ((c : Thread nD τ).loc main_v0_2) = dProduct m c
      ∧ r.2.mem ((c : Thread nD τ).loc main_v0_3) = dGrouped m c
      ∧ r.2.mem ((c : Thread nD τ).loc main_v0_4) = ofModulation (a0 m c) (a7 m c)
      ∧ r.2.mem ((c : Thread nD τ).loc main_v0_5) = ofScale (dMixture m c) (rowsGrouped m c) (a3 m c) :=
  (θ_run defs _ _).mono (fun _ h c => ⟨((h.1 c).1 8).trans (final_pooled m c), ((h.1 c).1 9).trans (final_gate m c), ((h.1 c).1 10).trans (final_product m c), ((h.1 c).1 11).trans (final_grouped m c), ((h.1 c).1 12).trans (final_mod m c), ((h.1 c).1 13).trans (final_scale m c)⟩) (run_main m ρ)

end Cert.Kernel13Ideal.PoolGrad

end
-- ==== Proof.PoolGradRef.lean ====
/- The reference's gradients before the pooling of the odd layers, stage by stage, are those of `PoolGrad`. -/
module

public import proofs.«01_k».proof.Proof.PoolGrad
public import proofs.«01_k».proof.Proof.NormRef
public import proofs.«01_k».proof.Proof.Gen.Reference13Ideal.Read

@[expose] public section

set_option maxRecDepth 16384

noncomputable section

namespace Cert.Reference13Ideal.PoolGrad

open Cert.Reference13Ideal Cert.Reference13Ideal.Gen Cert.Reference13Ideal.Read Cert.Norm Cert.Output Cert.PoolGrad
open Cert.KernelIdeal.Band (IsReal)
open Idealize.ShloMosaic Idealize.ShloMosaic.TcCoe Idealize.SL.Sem

variable (x0 : S2x4352x1024.Idx → EReal) (x1 : S2x2x8x1024.Idx → EReal) (x2 x3 : S2x4352x1024.Idx → EReal) (x4 : S4x256x256.Idx → EReal)
  (x5 : S1x1024.Idx → EReal) (x6 : S1024x1024.Idx → EReal) (x7 : S2x4352x1024.Idx → EReal)

/-- The mixture's gradient. -/
abbrev mixture : RowsOf := ofMixture (ofProduct x0 x1) x6

theorem gate (b : Fin 2) (t : Fin 4352) (l : Fin 1024) : val_main_v22 (F := Ideal) x1 (ix3 b t l) = x1 (ix4 b (seg t) 2 l) := by
  pointwise [val_main_v22, val_main_v21, val_main_v20, val_main_v19, val_main_v18, val_main_v17, val_main_v16]
  unfold seg
  by_cases h : t.val < 256
  · rw [dif_pos h, if_pos h]
  · rw [dif_neg h, if_neg h]

theorem product (b : Fin 2) (t : Fin 4352) (l : Fin 1024) : val_main_v24 (F := Ideal) x0 x1 (ix3 b t l) = ofProduct x0 x1 (ix3 b t l) := by
  pointwise [val_main_v24]
  exact congrArg (fun e : EReal => e * x0 (ix3 b t l)) (gate x1 b t l)

theorem mixture_eq (b : Fin 2) (t : Fin 4352) (l : Fin 1024) :
    val_main_v35 (F := Ideal) x0 x1 x6 (ix3 b t l) = mixture x0 x1 x6 (ix3 b t l) := by
  pointwise [val_main_v35, val_main_v3]
  exact Finset.sum_congr rfl fun k _ => congrArg (fun e : EReal => e * x6 (ix2 l k)) (product x0 x1 b t k)

theorem sigmoid_eq (b : Fin 2) (t : Fin 4352) (l : Fin 1024) : val_main_v13_2 (F := Ideal) x3 (ix3 b t l) = sigmoid (x3 (ix3 b t l)) := by
  unfold sigmoid
  pointwise [val_main_v13_2, val_main_call0_v4, val_main_call0_v3, val_main_call0_v2, val_main_call0_v1, val_main_call0_v0,
    val_main_call0_cst, val_main_call0_cst_0, val_main_v1]

theorem slope_eq (b : Fin 2) (t : Fin 4352) (l : Fin 1024) :
    val_main_v13_1 (F := Ideal) x3 (ix3 b t l) = sigmoid (x3 (ix3 b t l)) * (1 - sigmoid (x3 (ix3 b t l))) := by
  pointwise [val_main_v13_1, val_main_call0_v7, val_main_call0_v6, val_main_call0_cst_1]
  rw [sigmoid_eq]

theorem silu_eq (b : Fin 2) (t : Fin 4352) (l : Fin 1024) : val_main_v13_0 (F := Ideal) x3 (ix3 b t l) = silu (x3 (ix3 b t l)) := by
  pointwise [val_main_v13_0, val_main_call0_v0, val_main_v1]
  rw [sigmoid_eq]
  rfl

theorem grouped_eq (b : Fin 2) (t : Fin 4352) (l : Fin 1024) : val_main_v8 (F := Ideal) x2 x4 (ix3 b t l) = groupedArr x2 x4 (ix3 b t l) := by
  pointwise [val_main_v8, val_main_v7, val_main_v6, val_main_v5, val_main_v2, val_main_v0]
  exact Finset.sum_congr rfl fun k _ => mul_comm _ _

theorem gatedGrad (b : Fin 2) (t : Fin 4352) (l : Fin 1024) :
    val_main_v37 (F := Ideal) x0 x1 x3 x6 (ix3 b t l) = mixture x0 x1 x6 (ix3 b t l) * silu (x3 (ix3 b t l)) := by
  pointwise [val_main_v37]
  rw [mixture_eq, silu_eq]

theorem groupedGrad (b : Fin 2) (t : Fin 4352) (l : Fin 1024) :
    val_main_v43 (F := Ideal) x0 x1 x3 x5 x6 (ix3 b t l) = ofGrouped (mixture x0 x1 x6) x3 x5 (ix3 b t l) := by
  pointwise [val_main_v43, val_main_v42, val_main_v10, val_main_v9]
  rw [gatedGrad]
  rfl

theorem gateGrad (hd : ∀ i, IsReal (mixture x0 x1 x6 i * (groupedArr x2 x4 i * x5 (ix2 0 (i 2)))))
    (b : Fin 2) (t : Fin 4352) (l : Fin 1024) :
    val_main_v38 (F := Ideal) x0 x1 x2 x3 x4 x5 x6 (ix3 b t l) = ofGate (mixture x0 x1 x6) (groupedArr x2 x4) x3 x5 (ix3 b t l) := by
  have h36 : val_main_v36 (F := Ideal) x0 x1 x2 x4 x5 x6 (ix3 b t l)
      = mixture x0 x1 x6 (ix3 b t l) * (groupedArr x2 x4 (ix3 b t l) * x5 (ix2 0 l)) := by
    pointwise [val_main_v36, val_main_v12, val_main_v11, val_main_v10, val_main_v9]
    rw [grouped_eq, mixture_eq, mul_comm]
  pointwise [val_main_v38, val_main_call1_v2, val_main_call1_v1, val_main_call1_v0, val_main_v1]
  rw [h36, sigmoid_eq, slope_eq]
  exact slope_parts (hd (ix3 b t l)) _

theorem pooled_eq : val_main_v49 (F := Ideal) x0 x1 x3 x4 x5 x6 = ofPooled (ofGrouped (mixture x0 x1 x6) x3 x5) x4 := by
  funext i
  obtain ⟨b, t, l, rfl⟩ : ∃ b t l, i = ix3 b t l := ⟨i 0, i 1, i 2, eq_ix3 i⟩
  pointwise [val_main_v49, val_main_v48, val_main_v47, val_main_v46, val_main_v45, val_main_v2]
  exact Finset.sum_congr rfl fun k _ => congrArg (fun e : EReal => e * _) (groupedGrad x0 x1 x3 x5 x6 b t _)

theorem gate_eq (hd : ∀ i, IsReal (mixture x0 x1 x6 i * (groupedArr x2 x4 i * x5 (ix2 0 (i 2))))) :
    val_main_v50 (F := Ideal) x0 x1 x2 x3 x4 x5 x6 = ofGate (mixture x0 x1 x6) (groupedArr x2 x4) x3 x5 := by
  funext i
  obtain ⟨b, t, l, rfl⟩ : ∃ b t l, i = ix3 b t l := ⟨i 0, i 1, i 2, eq_ix3 i⟩
  pointwise [val_main_v50]
  exact gateGrad x0 x1 x2 x3 x4 x5 x6 hd b t l

theorem product_eq : val_main_v51 (F := Ideal) x0 x1 = ofProduct x0 x1 := by
  funext i
  obtain ⟨b, t, l, rfl⟩ : ∃ b t l, i = ix3 b t l := ⟨i 0, i 1, i 2, eq_ix3 i⟩
  pointwise [val_main_v51]
  exact product x0 x1 b t l

theorem group_eq : val_main_v52 (F := Ideal) x0 x1 x3 x5 x6 = ofGrouped (mixture x0 x1 x6) x3 x5 := by
  funext i
  obtain ⟨b, t, l, rfl⟩ : ∃ b t l, i = ix3 b t l := ⟨i 0, i 1, i 2, eq_ix3 i⟩
  pointwise [val_main_v52]
  exact groupedGrad x0 x1 x3 x5 x6 b t l

theorem segment_eq (b : Fin 2) (s : Fin 2) (l : Fin 1024) : val_main_v34 (F := Ideal) x0 x7 (ix3 b s l) = segSum (modPart x0 x7 b l) s := by
  pointwise [val_main_v34, val_main_v33, val_main_v32, val_main_v31, val_main_v30, val_main_v29, val_main_v28, val_main_v27, val_main_v26,
    val_main_v25, val_main_v4, val_main_cst, val_main_cst_0, val_main_cst_1, val_main_cst_2]
  exact Cert.Reference3Ideal.Norm.segments (fun t => x0 (ix3 b t l) * x7 (ix3 b t l)) _ (fun _ => rfl) s

theorem modulation_eq : val_main_v55 (F := Ideal) x0 x7 = ofModulation x0 x7 := by
  funext i
  obtain ⟨b, s, r, l, rfl⟩ : ∃ b s r l, i = ix4 b s r l := ⟨i 0, i 1, i 2, i 3, eq_ix4 i⟩
  pointwise [val_main_v55, val_main_v53, val_main_v54, val_main_cst_5]
  show _ = if r.val = 1 then segSum (fun _ => 0) s else if r.val = 0 then segSum (modPart x0 x7 b l) s else 0
  rw [segment_eq]
  have hz : segSum (fun _ => 0) s = 0 := by
    unfold segSum
    rw [Finset.sum_const_zero, Finset.sum_const_zero, ite_self]
  rw [hz]
  by_cases h0 : r.val = 0
  · rw [dif_pos (by omega), if_neg (by omega), if_pos h0]
  · rw [dif_neg (by omega), if_neg h0, ite_self]

theorem summed (l : Fin 1024) : val_main_v44 (F := Ideal) x0 x1 x2 x3 x4 x6 (ix1 l)
    = ∑ b : Fin 2, ∑ t : Fin 4352, scalePart (mixture x0 x1 x6) (groupedArr x2 x4) x3 l b t := by
  have e : val_main_v41 (F := Ideal) x0 x1 x2 x3 x4 x6 (ix3 0 0 l) = val_main_v40 (F := Ideal) x0 x1 x2 x3 x4 x6 (ix1 l) := by
    unfold val_main_v41
    generalize val_main_v40 (F := Ideal) x0 x1 x2 x3 x4 x6 = y
    pointwise
  refine (Cert.Reference3Ideal.Norm.sum_first_two _ _ _ l).trans ?_
  have z : (val_main_cst_4 (F := Ideal)) (Shape.Idx.first h_S_) = 0 := by pointwise [val_main_cst_4]
  rw [z, zero_add, Fin.sum_univ_one, Fin.sum_univ_one, e]
  refine (Cert.Reference3Ideal.Norm.sum_first_two _ _ _ l).trans ?_
  have z' : (val_main_cst_3 (F := Ideal)) (Shape.Idx.first h_S_) = 0 := by pointwise [val_main_cst_3]
  rw [z', zero_add]
  refine Finset.sum_congr rfl fun b _ => Finset.sum_congr rfl fun t _ => ?_
  pointwise [val_main_v39]
  rw [grouped_eq, gatedGrad, mul_comm]
  rfl

theorem scale_eq : val_main_v58 (F := Ideal) x0 x1 x2 x3 x4 x6 = ofScale (mixture x0 x1 x6) (groupedArr x2 x4) x3 := by
  funext i
  obtain ⟨r, l, rfl⟩ : ∃ r l, i = ix2 r l := ⟨i 0, i 1, eq_ix2 i⟩
  pointwise [val_main_v58, val_main_v56, val_main_v57, val_main_cst_6, val_main_v45]
  show _ = if r.val = 0 then ∑ b : Fin 2, ∑ t : Fin 4352, scalePart (mixture x0 x1 x6) (groupedArr x2 x4) x3 l b t else 0
  rw [summed]
  by_cases h0 : r.val = 0
  · rw [dif_pos (by omega), if_pos h0]
  · rw [dif_neg (by omega), if_neg h0]

end Cert.Reference13Ideal.PoolGrad

end
-- ==== Proof.PoolGradFinite.lean ====
/- What the precondition of the backward kernel before the odd layers' pooling says over the reals: every element of the rows' gradient,
   of the modulation's gate, of the pooled rows, the weights and the scale is a real number, and so is every cotangent of the gate's `silu`. -/
module

public import proofs.«01_k».proof.Pre_finite13
public import proofs.«01_k».proof.Proof.NormFinite
public import proofs.«01_k».proof.Proof.PoolGrad

@[expose] public section

noncomputable section

namespace Cert.PoolGradFinite

open Idealize.ShloMosaic Cert.Norm Cert.Finite Cert.NormFinite Cert.PoolGrad Cert.Output
open Cert.KernelIdeal.Band (IsReal)

instance [Cert.Pre_finite13.Facts] : Subsingleton Cert.Pre_finite13.S_.Idx := ⟨fun _ _ => funext fun a => a.elim0⟩

/-- The precondition, argument by argument. -/
theorem isReal_of_pre [Cert.Pre_finite13.Facts] (x0 : Cert.Pre_finite13.S2x4352x1024.Idx → EReal)
    (x1 : Cert.Pre_finite13.S2x2x8x1024.Idx → EReal) (x2 x3 : Cert.Pre_finite13.S2x4352x1024.Idx → EReal)
    (x4 : Cert.Pre_finite13.S4x256x256.Idx → EReal) (x5 : Cert.Pre_finite13.S1x1024.Idx → EReal)
    (x6 : Cert.Pre_finite13.S1024x1024.Idx → EReal) (x7 : Cert.Pre_finite13.S2x4352x1024.Idx → EReal)
    (h : Cert.Pre_finite13.fn (F := Ideal) x0 x1 x2 x3 x4 x5 x6 x7 = fun _ => 1#1) :
    (∀ i, IsReal (x0 i)) ∧ (∀ b s l, IsReal (x1 (ix4 b s 2 l))) ∧ (∀ i, IsReal (x2 i)) ∧ (∀ i, IsReal (x4 i)) ∧ (∀ i, IsReal (x5 i))
      ∧ (∀ i, IsReal (x6 i)) := by
  have e := congrFun h ix0
  unfold Cert.Pre_finite13.fn Cert.Pre_finite13.fn_part1 at e
  obtain ⟨e, h6⟩ := (ands _ _).mp e
  obtain ⟨e, h5⟩ := (ands _ _).mp e
  obtain ⟨e, h4⟩ := (ands _ _).mp e
  obtain ⟨e, h2⟩ := (ands _ _).mp e
  obtain ⟨h0, h1⟩ := (ands _ _).mp e
  refine ⟨fun i => ?_, fun b s l => ?_, fun i => ?_, fun i => ?_, fun i => ?_, fun i => ?_⟩
  · have q := Host.reduce_andi_all _ _ _ _ _ h0 i
    revert q; pointwise; exact isReal_of_olt _
  · have q := Host.reduce_andi_all _ _ _ _ _ h1 (ix3 b s l)
    revert q; pointwise; exact isReal_of_olt _
  · have q := Host.reduce_andi_all _ _ _ _ _ h2 i
    revert q; pointwise; exact isReal_of_olt _
  · have q := Host.reduce_andi_all _ _ _ _ _ h4 i
    revert q; pointwise; exact isReal_of_olt _
  · have q := Host.reduce_andi_all _ _ _ _ _ h5 i
    revert q; pointwise; exact isReal_of_olt _
  · have q := Host.reduce_andi_all _ _ _ _ _ h6 i
    revert q; pointwise; exact isReal_of_olt _

/-- Real arguments make the cotangent of the gate's `silu` real. -/
theorem cotangent_real (dh : RowsOf) (md : Modulation) (p : RowsOf) (w : (⟨3, ![4, 256, 256]⟩ : Shape).Idx → EReal) (s : Gain)
    (v : (⟨2, ![1024, 1024]⟩ : Shape).Idx → EReal) (h0 : ∀ i, IsReal (dh i)) (h1 : ∀ b s l, IsReal (md (ix4 b s 2 l))) (h2 : ∀ i, IsReal (p i))
    (h4 : ∀ i, IsReal (w i)) (h5 : ∀ i, IsReal (s i)) (h6 : ∀ i, IsReal (v i)) (i : (⟨3, ![2, 4352, 1024]⟩ : Shape).Idx) :
    IsReal (ofMixture (ofProduct dh md) v i * (groupedArr p w i * s (ix2 0 (i 2)))) := by
  have hp : IsReal (groupedArr p w i) := by
    unfold groupedArr grouped rowOf
    exact isReal_sum fun _ => (h2 _).mul (h4 _)
  exact (isReal_sum fun _ => ((h1 _ _ _).mul (h0 _)).mul (h6 _)).mul (hp.mul (h5 _))

end Cert.PoolGradFinite

end
-- ==== Proof.PoolGradClaim.lean ====
/- The claims about the odd layers' backward kernel before the pooling: the kernel's bodies are the same at both interpretations, and over
   the extended reals its six results are the reference's. -/
module

public import proofs.«01_k».proof.Defs
public import proofs.«01_k».proof.Proof.PoolGradArray
public import proofs.«01_k».proof.Proof.PoolGradFrame
public import proofs.«01_k».proof.Proof.PoolGradRef
public import proofs.«01_k».proof.Proof.PoolGradFinite
public import proofs.«01_k».proof.Proof.Gen.Kernel13
public import proofs.«01_k».proof.Proof.Gen.Reference13Ideal.Run
public import proofs.«01_k».proof.Proof.Gen.Reference13Ideal.Read
public import Idealize.ShloMosaic.Lib.Quiescent

@[expose] public section

set_option maxRecDepth 16384

noncomputable section

namespace Cert.PoolGradClaim

open Idealize.ShloMosaic Idealize.ShloMosaic.TcCoe Idealize.SL.Sem Cert.Norm Cert.PoolGrad Cert.Kernel13Ideal.PoolGrad

theorem bodies : @Cert.Kernel13.defs₀ Bits _ _ = @Cert.Kernel13Ideal.defs₀ Bits _ _ := by
  refine congrArg Defs.onTc ?_
  funext l a
  match l, a with
  | 0, (t, s) => rfl

theorem tables : @Cert.Kernel13.defs Bits _ _ = @Cert.Kernel13Ideal.defs Bits _ _ :=
  congrArg (Pipeline.defs Cert.Kernel13Ideal.pcfgs) bodies

theorem frame_kernel : Cert.quiescent_Kernel13 := by
  intro m ρ _
  rw [tables]
  exact Cert.Kernel13Ideal.PoolGrad.frame (F := Bits) m ρ

theorem frame_reference : Cert.quiescent_Reference13Ideal := fun m ρ _ =>
  (θ_run Cert.Reference13Ideal.defs _ _).mono
    (fun r h => ⟨fun c => (h c).2.2.2.2.2.2, sem_eq_zero_of_no_sems (by decide) r.2⟩)
    (Cert.Reference13Ideal.Value.run (F := Ideal) m ρ)

theorem algebraic [Cert.Pre_finite13.Facts] : Cert.algebraic_Kernel13Ideal_Reference13Ideal_pre_finite13 := by
  intro m ρ m' ρ' hp hagree
  refine ⟨fun c => ofPooled (dGrouped m c) (a4 m c), fun c => ofGate (dMixture m c) (rowsGrouped m c) (a3 m c) (a5 m c),
    fun c => dProduct m c, fun c => dGrouped m c, fun c => ofModulation (a0 m c) (a7 m c),
    fun c => ofScale (dMixture m c) (rowsGrouped m c) (a3 m c), ?_, ?_⟩
  · refine (θ_run Cert.Kernel13Ideal.defs _ _).mono (fun _ h c => ?_)
      (θ_run_and (Cert.Kernel13Ideal.PoolGrad.run_results m ρ) (Cert.Kernel13Ideal.PoolGrad.frame m ρ))
    obtain ⟨r0, r1, r2, r3, r4, r5⟩ := h.1 c
    exact ⟨r0, r1, r2, r3, r4, r5, h.2.1 c⟩
  · refine (θ_run Cert.Reference13Ideal.defs _ _).mono (fun _ h c => ?_) (Cert.Reference13Ideal.Value.run (F := Ideal) m' ρ')
    obtain ⟨r0, r1, r2, r3, r4, r5, rest⟩ := h c
    obtain ⟨h0, h1, h2, h3, h4, h5, h6, h7⟩ := hagree c
    obtain ⟨f0, f1, f2, f4, f5, f6⟩ := Cert.PoolGradFinite.isReal_of_pre _ _ _ _ _ _ _ _ (hp c)
    refine ⟨r0.trans ?_, r1.trans ?_, r2.trans ?_, r3.trans ?_, r4.trans ?_, r5.trans ?_, rest⟩
    · refine (Cert.Reference13Ideal.Read.val_main_v49_eq _ _ _ _ _ _).trans ?_
      rw [h0, h1, h3, h4, h5, h6]
      exact Cert.Reference13Ideal.PoolGrad.pooled_eq _ _ _ _ _ _
    · refine (Cert.Reference13Ideal.Read.val_main_v50_eq m' c).trans ?_
      rw [h0, h1, h2, h3, h4, h5, h6]
      exact Cert.Reference13Ideal.PoolGrad.gate_eq _ _ _ _ _ _ _
        (Cert.PoolGradFinite.cotangent_real _ _ _ _ _ _ f0 f1 f2 f4 f5 f6)
    · refine (Cert.Reference13Ideal.Read.val_main_v51_eq _ _).trans ?_
      rw [h0, h1]
      exact Cert.Reference13Ideal.PoolGrad.product_eq _ _
    · refine (Cert.Reference13Ideal.Read.val_main_v52_eq _ _ _ _ _).trans ?_
      rw [h0, h1, h3, h5, h6]
      exact Cert.Reference13Ideal.PoolGrad.group_eq _ _ _ _ _
    · refine (Cert.Reference13Ideal.Read.val_main_v55_eq _ _).trans ?_
      rw [h0, h7]
      exact Cert.Reference13Ideal.PoolGrad.modulation_eq _ _
    · refine (Cert.Reference13Ideal.Read.val_main_v58_eq _ _ _ _ _ _).trans ?_
      rw [h0, h1, h2, h3, h4, h6]
      exact Cert.Reference13Ideal.PoolGrad.scale_eq _ _ _ _ _ _

end Cert.PoolGradClaim

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel3.Frame
public import proofs.«01_k».proof.Proof.Gen.Kernel3Ideal.Skeleton
public import proofs.«01_k».proof.Proof.Gen.Kernel3Ideal.Frame
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel8.Frame
public import proofs.«01_k».proof.Proof.Gen.Kernel8Ideal.Skeleton
public import proofs.«01_k».proof.Proof.Gen.Kernel8Ideal.Frame
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference13Ideal.Run
public import proofs.«01_k».proof.Proof.Gen.Reference13Ideal.Read
public import proofs.«01_k».proof.Proof.Gen.Pre_finite13
public import proofs.«01_k».proof.Proof.Gen.Kernel13.Frame
public import proofs.«01_k».proof.Proof.Gen.Kernel13Ideal.Skeleton
public import proofs.«01_k».proof.Proof.Gen.Kernel13Ideal.Frame
public import proofs.«01_k».proof.Proof.Gen.Pre_finite
public import proofs.«01_k».proof.Proof.BandClaim
public import proofs.«01_k».proof.Proof.NormClaim
public import proofs.«01_k».proof.Proof.EvenClaim
public import proofs.«01_k».proof.Proof.WeightClaim
public import proofs.«01_k».proof.Proof.OutWeight
public import proofs.«01_k».proof.Proof.EvenWeight
public import proofs.«01_k».proof.Proof.GluWeight
public import proofs.«01_k».proof.Proof.ForwardClaim
public import proofs.«01_k».proof.Proof.OutputClaim
public import proofs.«01_k».proof.Proof.PoolGradClaim

@[expose] public section

namespace Cert.Proof

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts, Cert.Pre_finite3.Gen.facts, Cert.Pre_finite8.Gen.facts, Cert.Pre_finite13.Gen.facts,
    fun m ρ _ => Cert.Kernel.Gen.frame m ρ,
    fun m ρ _ => Cert.KernelIdeal.Gen.frame m ρ,
    fun m ρ _ => Cert.KernelIdeal.Gen.frame m ρ,
    Cert.Band.frame_reference,
    fun m ρ _ => Cert.Band.frame_reference m ρ trivial,
    Cert.NormClaim.frame_kernel,
    fun m ρ _ => Cert.Kernel3Ideal.Norm.frame m ρ,
    fun m ρ _ => Cert.Kernel3Ideal.Norm.frame m ρ,
    Cert.NormClaim.frame_reference,
    fun m ρ _ => Cert.NormClaim.frame_reference m ρ trivial,
    fun m ρ _ => Cert.Kernel4.Gen.frame m ρ,
    fun m ρ _ => Cert.Kernel4Ideal.Gen.frame m ρ,
    Cert.Weight.frame_reference,
    fun m ρ _ => Cert.Kernel5.Gen.frame m ρ,
    fun m ρ _ => Cert.Kernel5Ideal.Gen.frame m ρ,
    Cert.Kernel5Ideal.Weight.frame_reference,
    fun m ρ _ => Cert.Kernel6.Gen.frame m ρ,
    fun m ρ _ => Cert.Kernel6Ideal.Gen.frame m ρ,
    Cert.Kernel6Ideal.Weight.frame_reference,
    fun m ρ _ => Cert.Kernel7.Gen.frame m ρ,
    fun m ρ _ => Cert.Kernel7Ideal.Gen.frame m ρ,
    Cert.Kernel7Ideal.Weight.frame_reference,
    Cert.EvenClaim.frame_kernel,
    fun m ρ _ => Cert.Kernel8Ideal.Norm.frame m ρ,
    fun m ρ _ => Cert.Kernel8Ideal.Norm.frame m ρ,
    Cert.EvenClaim.frame_reference,
    fun m ρ _ => Cert.EvenClaim.frame_reference m ρ trivial,
    fun m ρ _ => Cert.Kernel9.Gen.frame m ρ,
    fun m ρ _ => Cert.Kernel9Ideal.Gen.frame m ρ,
    Cert.ForwardClaim.frame_reference_odd,
    fun m ρ _ => Cert.Kernel10.Gen.frame m ρ,
    fun m ρ _ => Cert.Kernel10Ideal.Gen.frame m ρ,
    Cert.ForwardClaim.frame_reference_even,
    fun m ρ _ => Cert.Kernel11.Gen.frame m ρ,
    fun m ρ _ => Cert.Kernel11Ideal.Gen.frame m ρ,
    Cert.OutputClaim.frame_reference_odd,
    fun m ρ _ => Cert.Kernel12.Gen.frame m ρ,
    fun m ρ _ => Cert.Kernel12Ideal.Gen.frame m ρ,
    Cert.OutputClaim.frame_reference_even,
    Cert.PoolGradClaim.frame_kernel,
    fun m ρ _ => Cert.Kernel13Ideal.PoolGrad.frame m ρ,
    fun m ρ _ => Cert.Kernel13Ideal.PoolGrad.frame m ρ,
    Cert.PoolGradClaim.frame_reference,
    fun m ρ _ => Cert.PoolGradClaim.frame_reference m ρ trivial,
    trivial,
    Cert.Band.algebraic,
    trivial,
    Cert.NormClaim.algebraic,
    trivial,
    Cert.Weight.algebraic,
    trivial,
    Cert.Kernel5Ideal.Weight.algebraic,
    trivial,
    Cert.Kernel6Ideal.Weight.algebraic,
    trivial,
    Cert.Kernel7Ideal.Weight.algebraic,
    trivial,
    Cert.EvenClaim.algebraic,
    trivial,
    Cert.ForwardClaim.algebraic_odd,
    trivial,
    Cert.ForwardClaim.algebraic_even,
    trivial,
    Cert.OutputClaim.algebraic_odd,
    trivial,
    Cert.OutputClaim.algebraic_even,
    trivial,
    Cert.PoolGradClaim.algebraic⟩

end Cert.Proof
